-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_KvRows (m : (ℓ : Loc Cert.KvRows.nD Cert.KvRows.τ Cert.KvRows.sig) → Buf (Elt Bits) ℓ) : Prop :=
  True

def Pre_KvRowsIdeal (m : (ℓ : Loc Cert.KvRowsIdeal.nD Cert.KvRowsIdeal.τ Cert.KvRowsIdeal.sig) → Buf (Elt Ideal) ℓ) : Prop :=
  True

def Pre_KvRowsReferenceIdeal (m : (ℓ : Loc Cert.KvRowsReferenceIdeal.nD Cert.KvRowsReferenceIdeal.τ Cert.KvRowsReferenceIdeal.sig) → Buf (Elt Ideal) ℓ) : Prop :=
  True

def Pre_WinRows (m : (ℓ : Loc Cert.WinRows.nD Cert.WinRows.τ Cert.WinRows.sig) → Buf (Elt Bits) ℓ) : Prop :=
  True

def Pre_WinRowsIdeal (m : (ℓ : Loc Cert.WinRowsIdeal.nD Cert.WinRowsIdeal.τ Cert.WinRowsIdeal.sig) → Buf (Elt Ideal) ℓ) : Prop :=
  True

def Pre_WinRowsReferenceIdeal (m : (ℓ : Loc Cert.WinRowsReferenceIdeal.nD Cert.WinRowsReferenceIdeal.τ Cert.WinRowsReferenceIdeal.sig) → Buf (Elt Ideal) ℓ) : Prop :=
  True

def Pre_NormGates (m : (ℓ : Loc Cert.NormGates.nD Cert.NormGates.τ Cert.NormGates.sig) → Buf (Elt Bits) ℓ) : Prop :=
  True

def Pre_NormGatesIdeal (m : (ℓ : Loc Cert.NormGatesIdeal.nD Cert.NormGatesIdeal.τ Cert.NormGatesIdeal.sig) → Buf (Elt Ideal) ℓ) : Prop :=
  True

def Pre_NormGatesReferenceIdeal (m : (ℓ : Loc Cert.NormGatesReferenceIdeal.nD Cert.NormGatesReferenceIdeal.τ Cert.NormGatesReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_KvRows [hKvRows : Cert.KvRows.Facts] : Prop :=
  ∀ (m : (ℓ : Loc Cert.KvRows.nD Cert.KvRows.τ Cert.KvRows.sig) → Buf (Elt Bits) ℓ) (g : Dev Cert.KvRows.nD → PrngReg), Pre_KvRows m →
    θ_run (Cert.KvRows.defs (F := Bits)) (onTc (τ := Cert.KvRows.τ) (Cert.KvRows.main (F := Bits))) ⟨m, fun _ => 0, g⟩ (fun r => (∀ c : Dev Cert.KvRows.nD,
      r.2.mem ((c.tc : Thread Cert.KvRows.nD Cert.KvRows.τ).loc Cert.KvRows.main_arg0) = m ((c.tc : Thread Cert.KvRows.nD Cert.KvRows.τ).loc Cert.KvRows.main_arg0)
      ∧ r.2.mem ((c.tc : Thread Cert.KvRows.nD Cert.KvRows.τ).loc Cert.KvRows.main_arg1) = m ((c.tc : Thread Cert.KvRows.nD Cert.KvRows.τ).loc Cert.KvRows.main_arg1))
      ∧ r.2.sem = fun _ => 0)

def quiescent_KvRowsIdeal [hKvRowsIdeal : Cert.KvRowsIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg), Pre_KvRowsIdeal m →
    θ_run (Cert.KvRowsIdeal.defs (F := Ideal)) (onTc (τ := Cert.KvRowsIdeal.τ) (Cert.KvRowsIdeal.main (F := Ideal))) ⟨m, fun _ => 0, g⟩ (fun r => (∀ c : Dev Cert.KvRowsIdeal.nD,
      r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
      ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1))
      ∧ r.2.sem = fun _ => 0)

def quiescent_KvRowsReferenceIdeal [hKvRowsReferenceIdeal : Cert.KvRowsReferenceIdeal.Facts] : Prop :=
  ∀ (m : (ℓ : Loc Cert.KvRowsReferenceIdeal.nD Cert.KvRowsReferenceIdeal.τ Cert.KvRowsReferenceIdeal.sig) → Buf (Elt Ideal) ℓ) (g : Dev Cert.KvRowsReferenceIdeal.nD → PrngReg), Pre_KvRowsReferenceIdeal m →
    θ_run (Cert.KvRowsReferenceIdeal.defs (F := Ideal)) (onTc (τ := Cert.KvRowsReferenceIdeal.τ) (Cert.KvRowsReferenceIdeal.main (F := Ideal))) ⟨m, fun _ => 0, g⟩ (fun r => (∀ c : Dev Cert.KvRowsReferenceIdeal.nD,
      r.2.mem ((c.tc : Thread Cert.KvRowsReferenceIdeal.nD Cert.KvRowsReferenceIdeal.τ).loc Cert.KvRowsReferenceIdeal.main_arg0) = m ((c.tc : Thread Cert.KvRowsReferenceIdeal.nD Cert.KvRowsReferenceIdeal.τ).loc Cert.KvRowsReferenceIdeal.main_arg0)
      ∧ r.2.mem ((c.tc : Thread Cert.KvRowsReferenceIdeal.nD Cert.KvRowsReferenceIdeal.τ).loc Cert.KvRowsReferenceIdeal.main_arg1) = m ((c.tc : Thread Cert.KvRowsReferenceIdeal.nD Cert.KvRowsReferenceIdeal.τ).loc Cert.KvRowsReferenceIdeal.main_arg1))
      ∧ r.2.sem = fun _ => 0)

def quiescent_WinRows [hWinRows : Cert.WinRows.Facts] : Prop :=
  ∀ (m : (ℓ : Loc Cert.WinRows.nD Cert.WinRows.τ Cert.WinRows.sig) → Buf (Elt Bits) ℓ) (g : Dev Cert.WinRows.nD → PrngReg), Pre_WinRows m →
    θ_run (Cert.WinRows.defs (F := Bits)) (onTc (τ := Cert.WinRows.τ) (Cert.WinRows.main (F := Bits))) ⟨m, fun _ => 0, g⟩ (fun r => (∀ c : Dev Cert.WinRows.nD,
      r.2.mem ((c.tc : Thread Cert.WinRows.nD Cert.WinRows.τ).loc Cert.WinRows.main_arg0) = m ((c.tc : Thread Cert.WinRows.nD Cert.WinRows.τ).loc Cert.WinRows.main_arg0)
      ∧ r.2.mem ((c.tc : Thread Cert.WinRows.nD Cert.WinRows.τ).loc Cert.WinRows.main_arg1) = m ((c.tc : Thread Cert.WinRows.nD Cert.WinRows.τ).loc Cert.WinRows.main_arg1))
      ∧ r.2.sem = fun _ => 0)

def quiescent_WinRowsIdeal [hWinRowsIdeal : Cert.WinRowsIdeal.Facts] : Prop :=
  ∀ (m : (ℓ : Loc Cert.WinRowsIdeal.nD Cert.WinRowsIdeal.τ Cert.WinRowsIdeal.sig) → Buf (Elt Ideal) ℓ) (g : Dev Cert.WinRowsIdeal.nD → PrngReg), Pre_WinRowsIdeal m →
    θ_run (Cert.WinRowsIdeal.defs (F := Ideal)) (onTc (τ := Cert.WinRowsIdeal.τ) (Cert.WinRowsIdeal.main (F := Ideal))) ⟨m, fun _ => 0, g⟩ (fun r => (∀ c : Dev Cert.WinRowsIdeal.nD,
      r.2.mem ((c.tc : Thread Cert.WinRowsIdeal.nD Cert.WinRowsIdeal.τ).loc Cert.WinRowsIdeal.main_arg0) = m ((c.tc : Thread Cert.WinRowsIdeal.nD Cert.WinRowsIdeal.τ).loc Cert.WinRowsIdeal.main_arg0)
      ∧ r.2.mem ((c.tc : Thread Cert.WinRowsIdeal.nD Cert.WinRowsIdeal.τ).loc Cert.WinRowsIdeal.main_arg1) = m ((c.tc : Thread Cert.WinRowsIdeal.nD Cert.WinRowsIdeal.τ).loc Cert.WinRowsIdeal.main_arg1))
      ∧ r.2.sem = fun _ => 0)

def quiescent_WinRowsReferenceIdeal [hWinRowsReferenceIdeal : Cert.WinRowsReferenceIdeal.Facts] : Prop :=
  ∀ (m : (ℓ : Loc Cert.WinRowsReferenceIdeal.nD Cert.WinRowsReferenceIdeal.τ Cert.WinRowsReferenceIdeal.sig) → Buf (Elt Ideal) ℓ) (g : Dev Cert.WinRowsReferenceIdeal.nD → PrngReg), Pre_WinRowsReferenceIdeal m →
    θ_run (Cert.WinRowsReferenceIdeal.defs (F := Ideal)) (onTc (τ := Cert.WinRowsReferenceIdeal.τ) (Cert.WinRowsReferenceIdeal.main (F := Ideal))) ⟨m, fun _ => 0, g⟩ (fun r => (∀ c : Dev Cert.WinRowsReferenceIdeal.nD,
      r.2.mem ((c.tc : Thread Cert.WinRowsReferenceIdeal.nD Cert.WinRowsReferenceIdeal.τ).loc Cert.WinRowsReferenceIdeal.main_arg0) = m ((c.tc : Thread Cert.WinRowsReferenceIdeal.nD Cert.WinRowsReferenceIdeal.τ).loc Cert.WinRowsReferenceIdeal.main_arg0)
      ∧ r.2.mem ((c.tc : Thread Cert.WinRowsReferenceIdeal.nD Cert.WinRowsReferenceIdeal.τ).loc Cert.WinRowsReferenceIdeal.main_arg1) = m ((c.tc : Thread Cert.WinRowsReferenceIdeal.nD Cert.WinRowsReferenceIdeal.τ).loc Cert.WinRowsReferenceIdeal.main_arg1))
      ∧ r.2.sem = fun _ => 0)

def quiescent_NormGates [hNormGates : Cert.NormGates.Facts] : Prop :=
  ∀ (m : (ℓ : Loc Cert.NormGates.nD Cert.NormGates.τ Cert.NormGates.sig) → Buf (Elt Bits) ℓ) (g : Dev Cert.NormGates.nD → PrngReg), Pre_NormGates m →
    θ_run (Cert.NormGates.defs (F := Bits)) (onTc (τ := Cert.NormGates.τ) (Cert.NormGates.main (F := Bits))) ⟨m, fun _ => 0, g⟩ (fun r => (∀ c : Dev Cert.NormGates.nD,
      r.2.mem ((c.tc : Thread Cert.NormGates.nD Cert.NormGates.τ).loc Cert.NormGates.main_arg0) = m ((c.tc : Thread Cert.NormGates.nD Cert.NormGates.τ).loc Cert.NormGates.main_arg0)
      ∧ r.2.mem ((c.tc : Thread Cert.NormGates.nD Cert.NormGates.τ).loc Cert.NormGates.main_arg1) = m ((c.tc : Thread Cert.NormGates.nD Cert.NormGates.τ).loc Cert.NormGates.main_arg1)
      ∧ r.2.mem ((c.tc : Thread Cert.NormGates.nD Cert.NormGates.τ).loc Cert.NormGates.main_arg2) = m ((c.tc : Thread Cert.NormGates.nD Cert.NormGates.τ).loc Cert.NormGates.main_arg2))
      ∧ r.2.sem = fun _ => 0)

def quiescent_NormGatesIdeal [hNormGatesIdeal : Cert.NormGatesIdeal.Facts] : Prop :=
  ∀ (m : (ℓ : Loc Cert.NormGatesIdeal.nD Cert.NormGatesIdeal.τ Cert.NormGatesIdeal.sig) → Buf (Elt Ideal) ℓ) (g : Dev Cert.NormGatesIdeal.nD → PrngReg), Pre_NormGatesIdeal m →
    θ_run (Cert.NormGatesIdeal.defs (F := Ideal)) (onTc (τ := Cert.NormGatesIdeal.τ) (Cert.NormGatesIdeal.main (F := Ideal))) ⟨m, fun _ => 0, g⟩ (fun r => (∀ c : Dev Cert.NormGatesIdeal.nD,
      r.2.mem ((c.tc : Thread Cert.NormGatesIdeal.nD Cert.NormGatesIdeal.τ).loc Cert.NormGatesIdeal.main_arg0) = m ((c.tc : Thread Cert.NormGatesIdeal.nD Cert.NormGatesIdeal.τ).loc Cert.NormGatesIdeal.main_arg0)
      ∧ r.2.mem ((c.tc : Thread Cert.NormGatesIdeal.nD Cert.NormGatesIdeal.τ).loc Cert.NormGatesIdeal.main_arg1) = m ((c.tc : Thread Cert.NormGatesIdeal.nD Cert.NormGatesIdeal.τ).loc Cert.NormGatesIdeal.main_arg1)
      ∧ r.2.mem ((c.tc : Thread Cert.NormGatesIdeal.nD Cert.NormGatesIdeal.τ).loc Cert.NormGatesIdeal.main_arg2) = m ((c.tc : Thread Cert.NormGatesIdeal.nD Cert.NormGatesIdeal.τ).loc Cert.NormGatesIdeal.main_arg2))
      ∧ r.2.sem = fun _ => 0)

def quiescent_NormGatesReferenceIdeal [hNormGatesReferenceIdeal : Cert.NormGatesReferenceIdeal.Facts] : Prop :=
  ∀ (m : (ℓ : Loc Cert.NormGatesReferenceIdeal.nD Cert.NormGatesReferenceIdeal.τ Cert.NormGatesReferenceIdeal.sig) → Buf (Elt Ideal) ℓ) (g : Dev Cert.NormGatesReferenceIdeal.nD → PrngReg), Pre_NormGatesReferenceIdeal m →
    θ_run (Cert.NormGatesReferenceIdeal.defs (F := Ideal)) (onTc (τ := Cert.NormGatesReferenceIdeal.τ) (Cert.NormGatesReferenceIdeal.main (F := Ideal))) ⟨m, fun _ => 0, g⟩ (fun r => (∀ c : Dev Cert.NormGatesReferenceIdeal.nD,
      r.2.mem ((c.tc : Thread Cert.NormGatesReferenceIdeal.nD Cert.NormGatesReferenceIdeal.τ).loc Cert.NormGatesReferenceIdeal.main_arg0) = m ((c.tc : Thread Cert.NormGatesReferenceIdeal.nD Cert.NormGatesReferenceIdeal.τ).loc Cert.NormGatesReferenceIdeal.main_arg0)
      ∧ r.2.mem ((c.tc : Thread Cert.NormGatesReferenceIdeal.nD Cert.NormGatesReferenceIdeal.τ).loc Cert.NormGatesReferenceIdeal.main_arg1) = m ((c.tc : Thread Cert.NormGatesReferenceIdeal.nD Cert.NormGatesReferenceIdeal.τ).loc Cert.NormGatesReferenceIdeal.main_arg1)
      ∧ r.2.mem ((c.tc : Thread Cert.NormGatesReferenceIdeal.nD Cert.NormGatesReferenceIdeal.τ).loc Cert.NormGatesReferenceIdeal.main_arg2) = m ((c.tc : Thread Cert.NormGatesReferenceIdeal.nD Cert.NormGatesReferenceIdeal.τ).loc Cert.NormGatesReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v11) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v5) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v6) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v11) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_KvRows_KvRowsIdeal : Prop :=
  True

def algebraic_KvRowsIdeal_KvRowsReferenceIdeal [hKvRowsIdeal : Cert.KvRowsIdeal.Facts] [hKvRowsReferenceIdeal : Cert.KvRowsReferenceIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg)
    (m' : (ℓ : Loc Cert.KvRowsReferenceIdeal.nD Cert.KvRowsReferenceIdeal.τ Cert.KvRowsReferenceIdeal.sig) → Buf (Elt Ideal) ℓ) (g' : Dev Cert.KvRowsReferenceIdeal.nD → PrngReg), Pre_KvRowsIdeal m →
    (∀ c : Dev Cert.KvRowsIdeal.nD,
      m' ((c.tc : Thread Cert.KvRowsReferenceIdeal.nD Cert.KvRowsReferenceIdeal.τ).loc Cert.KvRowsReferenceIdeal.main_arg0) = m ((c.tc : Thread Cert.KvRowsIdeal.nD Cert.KvRowsIdeal.τ).loc Cert.KvRowsIdeal.main_arg0)
      ∧ m' ((c.tc : Thread Cert.KvRowsReferenceIdeal.nD Cert.KvRowsReferenceIdeal.τ).loc Cert.KvRowsReferenceIdeal.main_arg1) = m ((c.tc : Thread Cert.KvRowsIdeal.nD Cert.KvRowsIdeal.τ).loc Cert.KvRowsIdeal.main_arg1)) →
    ∃ (v0 : (c : Dev Cert.KvRowsIdeal.nD) → Buf (Elt Ideal) ((c.tc : Thread Cert.KvRowsIdeal.nD Cert.KvRowsIdeal.τ).loc Cert.KvRowsIdeal.main_v0)),
      θ_run (Cert.KvRowsIdeal.defs (F := Ideal)) (onTc (τ := Cert.KvRowsIdeal.τ) (Cert.KvRowsIdeal.main (F := Ideal))) ⟨m, fun _ => 0, g⟩ (fun r => ∀ c : Dev Cert.KvRowsIdeal.nD,
          r.2.mem ((c.tc : Thread Cert.KvRowsIdeal.nD Cert.KvRowsIdeal.τ).loc Cert.KvRowsIdeal.main_v0) = v0 c
          ∧ r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
          ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1))
      ∧ θ_run (Cert.KvRowsReferenceIdeal.defs (F := Ideal)) (onTc (τ := Cert.KvRowsReferenceIdeal.τ) (Cert.KvRowsReferenceIdeal.main (F := Ideal))) ⟨m', fun _ => 0, g'⟩ (fun r => ∀ c : Dev Cert.KvRowsReferenceIdeal.nD,
          r.2.mem ((c.tc : Thread Cert.KvRowsReferenceIdeal.nD Cert.KvRowsReferenceIdeal.τ).loc Cert.KvRowsReferenceIdeal.main_v6) = v0 c
          ∧ r.2.mem ((c.tc : Thread Cert.KvRowsReferenceIdeal.nD Cert.KvRowsReferenceIdeal.τ).loc Cert.KvRowsReferenceIdeal.main_arg0) = m' ((c.tc : Thread Cert.KvRowsReferenceIdeal.nD Cert.KvRowsReferenceIdeal.τ).loc Cert.KvRowsReferenceIdeal.main_arg0)
          ∧ r.2.mem ((c.tc : Thread Cert.KvRowsReferenceIdeal.nD Cert.KvRowsReferenceIdeal.τ).loc Cert.KvRowsReferenceIdeal.main_arg1) = m' ((c.tc : Thread Cert.KvRowsReferenceIdeal.nD Cert.KvRowsReferenceIdeal.τ).loc Cert.KvRowsReferenceIdeal.main_arg1))

def preserves_WinRows_WinRowsIdeal : Prop :=
  True

def algebraic_WinRowsIdeal_WinRowsReferenceIdeal [hWinRowsIdeal : Cert.WinRowsIdeal.Facts] [hWinRowsReferenceIdeal : Cert.WinRowsReferenceIdeal.Facts] : Prop :=
  ∀ (m : (ℓ : Loc Cert.WinRowsIdeal.nD Cert.WinRowsIdeal.τ Cert.WinRowsIdeal.sig) → Buf (Elt Ideal) ℓ) (g : Dev Cert.WinRowsIdeal.nD → PrngReg)
    (m' : (ℓ : Loc Cert.WinRowsReferenceIdeal.nD Cert.WinRowsReferenceIdeal.τ Cert.WinRowsReferenceIdeal.sig) → Buf (Elt Ideal) ℓ) (g' : Dev Cert.WinRowsReferenceIdeal.nD → PrngReg), Pre_WinRowsIdeal m →
    (∀ c : Dev Cert.WinRowsIdeal.nD,
      m' ((c.tc : Thread Cert.WinRowsReferenceIdeal.nD Cert.WinRowsReferenceIdeal.τ).loc Cert.WinRowsReferenceIdeal.main_arg0) = m ((c.tc : Thread Cert.WinRowsIdeal.nD Cert.WinRowsIdeal.τ).loc Cert.WinRowsIdeal.main_arg0)
      ∧ m' ((c.tc : Thread Cert.WinRowsReferenceIdeal.nD Cert.WinRowsReferenceIdeal.τ).loc Cert.WinRowsReferenceIdeal.main_arg1) = m ((c.tc : Thread Cert.WinRowsIdeal.nD Cert.WinRowsIdeal.τ).loc Cert.WinRowsIdeal.main_arg1)) →
    ∃ (v0 : (c : Dev Cert.WinRowsIdeal.nD) → Buf (Elt Ideal) ((c.tc : Thread Cert.WinRowsIdeal.nD Cert.WinRowsIdeal.τ).loc Cert.WinRowsIdeal.main_v0)),
      θ_run (Cert.WinRowsIdeal.defs (F := Ideal)) (onTc (τ := Cert.WinRowsIdeal.τ) (Cert.WinRowsIdeal.main (F := Ideal))) ⟨m, fun _ => 0, g⟩ (fun r => ∀ c : Dev Cert.WinRowsIdeal.nD,
          r.2.mem ((c.tc : Thread Cert.WinRowsIdeal.nD Cert.WinRowsIdeal.τ).loc Cert.WinRowsIdeal.main_v0) = v0 c
          ∧ r.2.mem ((c.tc : Thread Cert.WinRowsIdeal.nD Cert.WinRowsIdeal.τ).loc Cert.WinRowsIdeal.main_arg0) = m ((c.tc : Thread Cert.WinRowsIdeal.nD Cert.WinRowsIdeal.τ).loc Cert.WinRowsIdeal.main_arg0)
          ∧ r.2.mem ((c.tc : Thread Cert.WinRowsIdeal.nD Cert.WinRowsIdeal.τ).loc Cert.WinRowsIdeal.main_arg1) = m ((c.tc : Thread Cert.WinRowsIdeal.nD Cert.WinRowsIdeal.τ).loc Cert.WinRowsIdeal.main_arg1))
      ∧ θ_run (Cert.WinRowsReferenceIdeal.defs (F := Ideal)) (onTc (τ := Cert.WinRowsReferenceIdeal.τ) (Cert.WinRowsReferenceIdeal.main (F := Ideal))) ⟨m', fun _ => 0, g'⟩ (fun r => ∀ c : Dev Cert.WinRowsReferenceIdeal.nD,
          r.2.mem ((c.tc : Thread Cert.WinRowsReferenceIdeal.nD Cert.WinRowsReferenceIdeal.τ).loc Cert.WinRowsReferenceIdeal.main_v8) = v0 c
          ∧ r.2.mem ((c.tc : Thread Cert.WinRowsReferenceIdeal.nD Cert.WinRowsReferenceIdeal.τ).loc Cert.WinRowsReferenceIdeal.main_arg0) = m' ((c.tc : Thread Cert.WinRowsReferenceIdeal.nD Cert.WinRowsReferenceIdeal.τ).loc Cert.WinRowsReferenceIdeal.main_arg0)
          ∧ r.2.mem ((c.tc : Thread Cert.WinRowsReferenceIdeal.nD Cert.WinRowsReferenceIdeal.τ).loc Cert.WinRowsReferenceIdeal.main_arg1) = m' ((c.tc : Thread Cert.WinRowsReferenceIdeal.nD Cert.WinRowsReferenceIdeal.τ).loc Cert.WinRowsReferenceIdeal.main_arg1))

def preserves_NormGates_NormGatesIdeal : Prop :=
  True

def algebraic_NormGatesIdeal_NormGatesReferenceIdeal [hNormGatesIdeal : Cert.NormGatesIdeal.Facts] [hNormGatesReferenceIdeal : Cert.NormGatesReferenceIdeal.Facts] : Prop :=
  ∀ (m : (ℓ : Loc Cert.NormGatesIdeal.nD Cert.NormGatesIdeal.τ Cert.NormGatesIdeal.sig) → Buf (Elt Ideal) ℓ) (g : Dev Cert.NormGatesIdeal.nD → PrngReg)
    (m' : (ℓ : Loc Cert.NormGatesReferenceIdeal.nD Cert.NormGatesReferenceIdeal.τ Cert.NormGatesReferenceIdeal.sig) → Buf (Elt Ideal) ℓ) (g' : Dev Cert.NormGatesReferenceIdeal.nD → PrngReg), Pre_NormGatesIdeal m →
    (∀ c : Dev Cert.NormGatesIdeal.nD,
      m' ((c.tc : Thread Cert.NormGatesReferenceIdeal.nD Cert.NormGatesReferenceIdeal.τ).loc Cert.NormGatesReferenceIdeal.main_arg0) = m ((c.tc : Thread Cert.NormGatesIdeal.nD Cert.NormGatesIdeal.τ).loc Cert.NormGatesIdeal.main_arg0)
      ∧ m' ((c.tc : Thread Cert.NormGatesReferenceIdeal.nD Cert.NormGatesReferenceIdeal.τ).loc Cert.NormGatesReferenceIdeal.main_arg1) = m ((c.tc : Thread Cert.NormGatesIdeal.nD Cert.NormGatesIdeal.τ).loc Cert.NormGatesIdeal.main_arg1)
      ∧ m' ((c.tc : Thread Cert.NormGatesReferenceIdeal.nD Cert.NormGatesReferenceIdeal.τ).loc Cert.NormGatesReferenceIdeal.main_arg2) = m ((c.tc : Thread Cert.NormGatesIdeal.nD Cert.NormGatesIdeal.τ).loc Cert.NormGatesIdeal.main_arg2)) →
    ∃ (v0 : (c : Dev Cert.NormGatesIdeal.nD) → Buf (Elt Ideal) ((c.tc : Thread Cert.NormGatesIdeal.nD Cert.NormGatesIdeal.τ).loc Cert.NormGatesIdeal.main_v0_0)) (v1 : (c : Dev Cert.NormGatesIdeal.nD) → Buf (Elt Ideal) ((c.tc : Thread Cert.NormGatesIdeal.nD Cert.NormGatesIdeal.τ).loc Cert.NormGatesIdeal.main_v0_1)),
      θ_run (Cert.NormGatesIdeal.defs (F := Ideal)) (onTc (τ := Cert.NormGatesIdeal.τ) (Cert.NormGatesIdeal.main (F := Ideal))) ⟨m, fun _ => 0, g⟩ (fun r => ∀ c : Dev Cert.NormGatesIdeal.nD,
          r.2.mem ((c.tc : Thread Cert.NormGatesIdeal.nD Cert.NormGatesIdeal.τ).loc Cert.NormGatesIdeal.main_v0_0) = v0 c
          ∧ r.2.mem ((c.tc : Thread Cert.NormGatesIdeal.nD Cert.NormGatesIdeal.τ).loc Cert.NormGatesIdeal.main_v0_1) = v1 c
          ∧ r.2.mem ((c.tc : Thread Cert.NormGatesIdeal.nD Cert.NormGatesIdeal.τ).loc Cert.NormGatesIdeal.main_arg0) = m ((c.tc : Thread Cert.NormGatesIdeal.nD Cert.NormGatesIdeal.τ).loc Cert.NormGatesIdeal.main_arg0)
          ∧ r.2.mem ((c.tc : Thread Cert.NormGatesIdeal.nD Cert.NormGatesIdeal.τ).loc Cert.NormGatesIdeal.main_arg1) = m ((c.tc : Thread Cert.NormGatesIdeal.nD Cert.NormGatesIdeal.τ).loc Cert.NormGatesIdeal.main_arg1)
          ∧ r.2.mem ((c.tc : Thread Cert.NormGatesIdeal.nD Cert.NormGatesIdeal.τ).loc Cert.NormGatesIdeal.main_arg2) = m ((c.tc : Thread Cert.NormGatesIdeal.nD Cert.NormGatesIdeal.τ).loc Cert.NormGatesIdeal.main_arg2))
      ∧ θ_run (Cert.NormGatesReferenceIdeal.defs (F := Ideal)) (onTc (τ := Cert.NormGatesReferenceIdeal.τ) (Cert.NormGatesReferenceIdeal.main (F := Ideal))) ⟨m', fun _ => 0, g'⟩ (fun r => ∀ c : Dev Cert.NormGatesReferenceIdeal.nD,
          r.2.mem ((c.tc : Thread Cert.NormGatesReferenceIdeal.nD Cert.NormGatesReferenceIdeal.τ).loc Cert.NormGatesReferenceIdeal.main_v12) = v0 c
          ∧ r.2.mem ((c.tc : Thread Cert.NormGatesReferenceIdeal.nD Cert.NormGatesReferenceIdeal.τ).loc Cert.NormGatesReferenceIdeal.main_v23) = v1 c
          ∧ r.2.mem ((c.tc : Thread Cert.NormGatesReferenceIdeal.nD Cert.NormGatesReferenceIdeal.τ).loc Cert.NormGatesReferenceIdeal.main_arg0) = m' ((c.tc : Thread Cert.NormGatesReferenceIdeal.nD Cert.NormGatesReferenceIdeal.τ).loc Cert.NormGatesReferenceIdeal.main_arg0)
          ∧ r.2.mem ((c.tc : Thread Cert.NormGatesReferenceIdeal.nD Cert.NormGatesReferenceIdeal.τ).loc Cert.NormGatesReferenceIdeal.main_arg1) = m' ((c.tc : Thread Cert.NormGatesReferenceIdeal.nD Cert.NormGatesReferenceIdeal.τ).loc Cert.NormGatesReferenceIdeal.main_arg1)
          ∧ r.2.mem ((c.tc : Thread Cert.NormGatesReferenceIdeal.nD Cert.NormGatesReferenceIdeal.τ).loc Cert.NormGatesReferenceIdeal.main_arg2) = m' ((c.tc : Thread Cert.NormGatesReferenceIdeal.nD Cert.NormGatesReferenceIdeal.τ).loc Cert.NormGatesReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0_0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v31) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hOutProj : Cert.OutProj.Facts) (hOutProjIdeal : Cert.OutProjIdeal.Facts) (hOutProjReferenceIdeal : Cert.OutProjReferenceIdeal.Facts) (hNorm : Cert.Norm.Facts) (hNormIdeal : Cert.NormIdeal.Facts) (hNormReferenceIdeal : Cert.NormReferenceIdeal.Facts) (hKvRows : Cert.KvRows.Facts) (hKvRowsIdeal : Cert.KvRowsIdeal.Facts) (hKvRowsReferenceIdeal : Cert.KvRowsReferenceIdeal.Facts) (hWinRows : Cert.WinRows.Facts) (hWinRowsIdeal : Cert.WinRowsIdeal.Facts) (hWinRowsReferenceIdeal : Cert.WinRowsReferenceIdeal.Facts) (hNormGates : Cert.NormGates.Facts) (hNormGatesIdeal : Cert.NormGatesIdeal.Facts) (hNormGatesReferenceIdeal : Cert.NormGatesReferenceIdeal.Facts) (hInProj : Cert.InProj.Facts) (hInProjIdeal : Cert.InProjIdeal.Facts) (hInProjReferenceIdeal : Cert.InProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_KvRows (hKvRows := hKvRows)
    ∧ quiescent_KvRowsIdeal (hKvRowsIdeal := hKvRowsIdeal)
    ∧ quiescent_KvRowsReferenceIdeal (hKvRowsReferenceIdeal := hKvRowsReferenceIdeal)
    ∧ quiescent_WinRows (hWinRows := hWinRows)
    ∧ quiescent_WinRowsIdeal (hWinRowsIdeal := hWinRowsIdeal)
    ∧ quiescent_WinRowsReferenceIdeal (hWinRowsReferenceIdeal := hWinRowsReferenceIdeal)
    ∧ quiescent_NormGates (hNormGates := hNormGates)
    ∧ quiescent_NormGatesIdeal (hNormGatesIdeal := hNormGatesIdeal)
    ∧ quiescent_NormGatesReferenceIdeal (hNormGatesReferenceIdeal := hNormGatesReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Norm_NormIdeal
    ∧ algebraic_NormIdeal_NormReferenceIdeal (hNormIdeal := hNormIdeal) (hNormReferenceIdeal := hNormReferenceIdeal)
    ∧ preserves_KvRows_KvRowsIdeal
    ∧ algebraic_KvRowsIdeal_KvRowsReferenceIdeal (hKvRowsIdeal := hKvRowsIdeal) (hKvRowsReferenceIdeal := hKvRowsReferenceIdeal)
    ∧ preserves_WinRows_WinRowsIdeal
    ∧ algebraic_WinRowsIdeal_WinRowsReferenceIdeal (hWinRowsIdeal := hWinRowsIdeal) (hWinRowsReferenceIdeal := hWinRowsReferenceIdeal)
    ∧ preserves_NormGates_NormGatesIdeal
    ∧ algebraic_NormGatesIdeal_NormGatesReferenceIdeal (hNormGatesIdeal := hNormGatesIdeal) (hNormGatesReferenceIdeal := hNormGatesReferenceIdeal)
    ∧ preserves_InProj_InProjIdeal
    ∧ algebraic_InProjIdeal_InProjReferenceIdeal (hInProjIdeal := hInProjIdeal) (hInProjReferenceIdeal := hInProjReferenceIdeal)
-- ==== Pre_finite.lean ====
abbrev S4x2048x9216 : Shape := ⟨3, ![4, 2048, 9216]⟩
abbrev S4x2048x512 : Shape := ⟨3, ![4, 2048, 512]⟩
abbrev S4x128x512 : Shape := ⟨3, ![4, 128, 512]⟩
abbrev S4x2048x2048 : Shape := ⟨3, ![4, 2048, 2048]⟩
abbrev S4x127x512 : Shape := ⟨3, ![4, 127, 512]⟩
abbrev S_ : Shape := ⟨0, ![]⟩

class Facts : Prop where
  slices_S4x2048x9216_S4x2048x2048_0_0_4096 : S4x2048x9216.Slices ![0, 0, 4096] S4x2048x2048
  slices_S4x2048x9216_S4x2048x512_0_0_7168 : S4x2048x9216.Slices ![0, 0, 7168] S4x2048x512
  slices_S4x2048x9216_S4x2048x512_0_0_8192 : S4x2048x9216.Slices ![0, 0, 8192] S4x2048x512
  slices_S4x128x512_S4x127x512_0_1_0 : S4x128x512.Slices ![0, 1, 0] S4x127x512
  bitsLt_bf16_f32 : FTy.bits .bf16 < FTy.bits .f32
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S4x127x512 : S_.BroadcastsInDim S4x127x512 (![] : Fin 0 → Fin S4x127x512.rank)
  reducesTo_S4x127x512_S_d0_1_2 : S4x127x512.ReducesTo [0, 1, 2] S_

variable [Facts]

def fn_part1 {F : FTy → Type} [FloatOps F] (main_v4 : FVec F S4x127x512 .f32) (main_v13 : IVec S_ 1) (main_v17 : IVec S_ 1) : IVec S_ 1 :=
  let main_v18 : IVec S_ 1 := andi main_v13 main_v17
  let main_v19 : FVec F S4x127x512 .f32 := Host.absf main_v4
  let main_cst_4 : FVec F S_ .f32 := constant S_ .f32 0x7F800000#32
  let main_v20 : FVec F S4x127x512 .f32 := broadcastInDim S4x127x512 ![] bcast_S_S4x127x512 main_cst_4
  let main_v21 : IVec S4x127x512 1 := cmpf .olt main_v19 main_v20
  let main_c_5 : IVec S_ 1 := constantI S_ 1 1#1
  let main_v22 : IVec S_ 1 := (fun x v => Host.reduce IntOp.andi x v reducesTo_S4x127x512_S_d0_1_2 h_S_) main_v21 main_c_5
  let main_v23 : IVec S_ 1 := andi main_v18 main_v22
  main_v23

def fn {F : FTy → Type} [FloatOps F] (main_arg0 : FVec F S4x2048x9216 .f32) (main_arg1 : FVec F S4x2048x512 .f32) (main_arg2 : FVec F S4x128x512 .bf16) (main_arg3 : FVec F S4x128x512 .bf16) : IVec S_ 1 :=
  let main_v0 : FVec F S4x2048x2048 .f32 := (extractStridedSlice S4x2048x2048 ![0, 0, 4096] · slices_S4x2048x9216_S4x2048x2048_0_0_4096) main_arg0
  let main_v1 : FVec F S4x2048x512 .f32 := (extractStridedSlice S4x2048x512 ![0, 0, 7168] · slices_S4x2048x9216_S4x2048x512_0_0_7168) main_arg0
  let main_v2 : FVec F S4x2048x512 .f32 := (extractStridedSlice S4x2048x512 ![0, 0, 8192] · slices_S4x2048x9216_S4x2048x512_0_0_8192) main_arg0
  let main_v3 : FVec F S4x127x512 .bf16 := (extractStridedSlice S4x127x512 ![0, 1, 0] · slices_S4x128x512_S4x127x512_0_1_0) main_arg2
  let main_v4 : FVec F S4x127x512 .f32 := (extf .f32 · bitsLt_bf16_f32) main_v3
  let main_v5 : FVec F S4x2048x2048 .f32 := Host.absf main_v0
  let main_cst : FVec F S_ .f32 := constant S_ .f32 0x7F800000#32
  let main_v6 : FVec F S4x2048x2048 .f32 := broadcastInDim S4x2048x2048 ![] bcast_S_S4x2048x2048 main_cst
  let main_v7 : IVec S4x2048x2048 1 := cmpf .olt main_v5 main_v6
  let main_c : IVec S_ 1 := constantI S_ 1 1#1
  let main_v8 : IVec S_ 1 := (fun x v => Host.reduce IntOp.andi x v reducesTo_S4x2048x2048_S_d0_1_2 h_S_) main_v7 main_c
  let main_v9 : FVec F S4x2048x512 .f32 := Host.absf main_v1
  let main_cst_0 : FVec F S_ .f32 := constant S_ .f32 0x7F800000#32
  let main_v10 : FVec F S4x2048x512 .f32 := broadcastInDim S4x2048x512 ![] bcast_S_S4x2048x512 main_cst_0
  let main_v11 : IVec S4x2048x512 1 := cmpf .olt main_v9 main_v10
  let main_c_1 : IVec S_ 1 := constantI S_ 1 1#1
  let main_v12 : IVec S_ 1 := (fun x v => Host.reduce IntOp.andi x v reducesTo_S4x2048x512_S_d0_1_2 h_S_) main_v11 main_c_1
  let main_v13 : IVec S_ 1 := andi main_v8 main_v12
  let main_v14 : FVec F S4x2048x512 .f32 := Host.absf main_v2
  let main_cst_2 : FVec F S_ .f32 := constant S_ .f32 0x7F800000#32
  let main_v15 : FVec F S4x2048x512 .f32 := broadcastInDim S4x2048x512 ![] bcast_S_S4x2048x512 main_cst_2
  let main_v16 : IVec S4x2048x512 1 := cmpf .olt main_v14 main_v15
  let main_c_3 : IVec S_ 1 := constantI S_ 1 1#1
  let main_v17 : IVec S_ 1 := (fun x v => Host.reduce IntOp.andi x v reducesTo_S4x2048x512_S_d0_1_2 h_S_) main_v16 main_c_3
  fn_part1 (F := F) main_v4 main_v13 main_v17
-- ==== Kernel.lean ====
abbrev S4x2048x9216 : Shape := ⟨3, ![4, 2048, 9216]⟩
abbrev S4x2048x512 : Shape := ⟨3, ![4, 2048, 512]⟩
abbrev S4x128x512 : Shape := ⟨3, ![4, 128, 512]⟩
abbrev S4x2048x2048 : Shape := ⟨3, ![4, 2048, 2048]⟩
abbrev S1x128x512 : Shape := ⟨3, ![1, 128, 512]⟩
abbrev S1x128x128 : Shape := ⟨3, ![1, 128, 128]⟩
abbrev S1x2048x128 : Shape := ⟨3, ![1, 2048, 128]⟩
abbrev S2048x128 : Shape := ⟨2, ![2048, 128]⟩
abbrev S512x2048 : Shape := ⟨2, ![512, 2048]⟩
abbrev S512x128 : Shape := ⟨2, ![512, 128]⟩
abbrev S128x512 : Shape := ⟨2, ![128, 512]⟩
abbrev S128x128 : Shape := ⟨2, ![128, 128]⟩
abbrev S4x128x128 : Shape := ⟨3, ![4, 128, 128]⟩
abbrev S4x128 : Shape := ⟨2, ![4, 128]⟩
abbrev S4x128x1 : Shape := ⟨3, ![4, 128, 1]⟩
abbrev S32x128 : Shape := ⟨2, ![32, 128]⟩
abbrev S1x128 : Shape := ⟨2, ![1, 128]⟩
abbrev S96x128 : Shape := ⟨2, ![96, 128]⟩
abbrev S512x512 : Shape := ⟨2, ![512, 512]⟩
abbrev S512 : Shape := ⟨1, ![512]⟩
abbrev S512x1 : Shape := ⟨2, ![512, 1]⟩
abbrev S128x640 : Shape := ⟨2, ![128, 640]⟩
abbrev S640x128 : Shape := ⟨2, ![640, 128]⟩
abbrev S512x640 : Shape := ⟨2, ![512, 640]⟩
abbrev S4x128x640 : Shape := ⟨3, ![4, 128, 640]⟩
abbrev S1x128x640 : Shape := ⟨3, ![1, 128, 640]⟩
abbrev S128x1 : Shape := ⟨2, ![128, 1]⟩

abbrev nBuf : Space → Nat
  | .hbm => 5
  | .vmem => 26
  | .smem => 0
  | _ => 0

abbrev bufTy : (tb : Table) → Fin (tcTables nBuf tb) → BufTy
  | .hbm, ⟨0, _⟩ => ⟨S4x2048x9216, .f32⟩
  | .hbm, ⟨1, _⟩ => ⟨S4x2048x512, .f32⟩
  | .hbm, ⟨2, _⟩ => ⟨S4x128x512, .bf16⟩
  | .hbm, ⟨3, _⟩ => ⟨S4x128x512, .bf16⟩
  | .hbm, ⟨4, _⟩ => ⟨S4x2048x2048, .bf16⟩
  | .local _ .vmem, ⟨0, _⟩ => ⟨S1x128x512, .f32⟩
  | .local _ .vmem, ⟨1, _⟩ => ⟨S1x128x512, .f32⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x128x128, .f32⟩
  | .local _ .vmem, ⟨15, _⟩ => ⟨S1x128x128, .f32⟩
  | .local _ .vmem, ⟨16, _⟩ => ⟨S1x128x512, .bf16⟩
  | .local _ .vmem, ⟨17, _⟩ => ⟨S1x128x512, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S512x2048, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S4x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c128_i32_215 : BitVec 32 := 128#32
  let v686 : BitVec 32 := Scalar.muli arg2 c128_i32_215
  let c128_i32_216 : BitVec 32 := 128#32
  let v687 : BitVec 32 := Scalar.addi v686 c128_i32_216
  let c640_i32 : BitVec 32 := 640#32
  let v688 : BitVec 32 := Scalar.subi v687 c640_i32
  let c0_i32_217 : BitVec 32 := 0#32
  let v689 : BitVec 32 := Scalar.maxsi v688 c0_i32_217
  v689
def k0_off1 (i : grid0.Coords) : Fin 2 → Nat :=
  let arg2 : BitVec 32 := BitVec.ofNat 32 (i 2).val
  let c128_i32_215 : BitVec 32 := 128#32
  let v686 : BitVec 32 := Scalar.muli arg2 c128_i32_215
  let c128_i32_216 : BitVec 32 := 128#32
  let v687 : BitVec 32 := Scalar.addi v686 c128_i32_216
  let c640_i32 : BitVec 32 := 640#32
  let v688 : BitVec 32 := Scalar.subi v687 c640_i32
  let c0_i32_217 : BitVec 32 := 0#32
  let v689 : BitVec 32 := Scalar.maxsi v688 c0_i32_217
  let v690 : BitVec 32 := v689
  let v707 : Index := Scalar.indexCast v690
  let c0_223 : Index := 0#32
  ![v707.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c60_i32 : BitVec 32 := 60#32
  let v0 : BitVec 32 := Scalar.addi c60_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c68_i32 : BitVec 32 := 68#32
  let v0 : BitVec 32 := Scalar.addi c68_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "neg" => some ⊥
  | "qscale" => some (((Real.sqrt 128)⁻¹ * (Real.log 2)⁻¹ : ℝ) : EReal)
  | _ => none
-- ==== ReferenceIdeal.lean ====
abbrev S4x2048x9216 : Shape := ⟨3, ![4, 2048, 9216]⟩
abbrev S4x2048x512 : Shape := ⟨3, ![4, 2048, 512]⟩
abbrev S4x128x512 : Shape := ⟨3, ![4, 128, 512]⟩
abbrev S4x2048x2048 : Shape := ⟨3, ![4, 2048, 2048]⟩
abbrev S4x2048x4x4x128 : Shape := ⟨5, ![4, 2048, 4, 4, 128]⟩
abbrev S4x2048x3072 : Shape := ⟨3, ![4, 2048, 3072]⟩
abbrev S4x2048x6x4x128 : Shape := ⟨5, ![4, 2048, 6, 4, 128]⟩
abbrev S4x2048x1x4x128 : Shape := ⟨5, ![4, 2048, 1, 4, 128]⟩
abbrev S4x2048x4x128 : Shape := ⟨4, ![4, 2048, 4, 128]⟩
abbrev S4x127x512 : Shape := ⟨3, ![4, 127, 512]⟩
abbrev S4x127x4x128 : Shape := ⟨4, ![4, 127, 4, 128]⟩
abbrev S4x2048x4x12 : Shape := ⟨4, ![4, 2048, 4, 12]⟩
abbrev S4x2048x4x3x4 : Shape := ⟨5, ![4, 2048, 4, 3, 4]⟩
abbrev S2048 : Shape := ⟨1, ![2048]⟩
abbrev S127 : Shape := ⟨1, ![127]⟩
abbrev S_ : Shape := ⟨0, ![]⟩
abbrev S4x4x127x2048x4 : Shape := ⟨5, ![4, 4, 127, 2048, 4]⟩
abbrev S4x2048x4x4x127 : Shape := ⟨5, ![4, 2048, 4, 4, 127]⟩
abbrev S1x127 : Shape := ⟨2, ![1, 127]⟩
abbrev S2048x1 : Shape := ⟨2, ![2048, 1]⟩
abbrev S2048x127 : Shape := ⟨2, ![2048, 127]⟩
abbrev S1x2048x1x1x127 : Shape := ⟨5, ![1, 2048, 1, 1, 127]⟩
abbrev S4x2048x4x4 : Shape := ⟨4, ![4, 2048, 4, 4]⟩
abbrev S4x2048x4x4x1 : Shape := ⟨5, ![4, 2048, 4, 4, 1]⟩
abbrev S4x4x128x2048x4 : Shape := ⟨5, ![4, 4, 128, 2048, 4]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S4x2048x4x127 : Shape := ⟨4, ![4, 2048, 4, 127]⟩
abbrev S4x2048x4x32 : Shape := ⟨4, ![4, 2048, 4, 32]⟩
abbrev S2048x32 : Shape := ⟨2, ![2048, 32]⟩
abbrev S1x2048x1x32 : Shape := ⟨4, ![1, 2048, 1, 32]⟩
abbrev S4x2048x4x16 : Shape := ⟨4, ![4, 2048, 4, 16]⟩
abbrev S4x2048x4x16x1 : Shape := ⟨5, ![4, 2048, 4, 16, 1]⟩
abbrev S1x1x1x1x32 : Shape := ⟨5, ![1, 1, 1, 1, 32]⟩
abbrev S4x2048x4x16x32 : Shape := ⟨5, ![4, 2048, 4, 16, 32]⟩
abbrev S1x2048 : Shape := ⟨2, ![1, 2048]⟩
abbrev S2048x2048 : Shape := ⟨2, ![2048, 2048]⟩
abbrev S4x2048x4x32x64 : Shape := ⟨5, ![4, 2048, 4, 32, 64]⟩
abbrev S4x2048x4x2048 : Shape := ⟨4, ![4, 2048, 4, 2048]⟩
abbrev S1x2048x1x2048 : Shape := ⟨4, ![1, 2048, 1, 2048]⟩
abbrev S4x4x2048x2048x4 : Shape := ⟨5, ![4, 4, 2048, 2048, 4]⟩
abbrev S4x2048x4x4x2048 : Shape := ⟨5, ![4, 2048, 4, 4, 2048]⟩
abbrev S4x2048x4x1x2048 : Shape := ⟨5, ![4, 2048, 4, 1, 2048]⟩
abbrev S1x2048x1x1x2048 : Shape := ⟨5, ![1, 2048, 1, 1, 2048]⟩
abbrev S4x2048x4x1x4 : Shape := ⟨5, ![4, 2048, 4, 1, 4]⟩

abbrev nBuf : Space → Nat
  | .hbm => 222
  | .vmem => 0
  | .smem => 0
  | _ => 0

abbrev hbmTy0_0 (i : Nat) : BufTy := match i % 128 with
  | 0 => ⟨S4x2048x9216, .f32⟩
  | 1 => ⟨S4x2048x512, .f32⟩
  | 2 => ⟨S4x128x512, .bf16⟩
  | 3 => ⟨S4x128x512, .bf16⟩
  | 4 => ⟨S4x2048x2048, .f32⟩
  | 5 => ⟨S4x2048x4x4x128, .f32⟩
  | 6 => ⟨S4x2048x3072, .f32⟩
  | 7 => ⟨S4x2048x6x4x128, .f32⟩
  | 8 => ⟨S4x2048x1x4x128, .f32⟩
  | 9 => ⟨S4x2048x4x128, .f32⟩
  | 10 => ⟨S4x2048x1x4x128, .f32⟩
  | 11 => ⟨S4x2048x4x128, .f32⟩
  | 12 => ⟨S4x2048x1x4x128, .f32⟩
  | 13 => ⟨S4x2048x4x128, .f32⟩
  | 14 => ⟨S4x2048x1x4x128, .f32⟩
  | 15 => ⟨S4x2048x4x128, .f32⟩
  | 16 => ⟨S4x127x512, .bf16⟩
  | 17 => ⟨S4x127x512, .f32⟩
  | 18 => ⟨S4x127x4x128, .f32⟩
  | 19 => ⟨S4x127x512, .bf16⟩
  | 20 => ⟨S4x127x512, .f32⟩
  | 21 => ⟨S4x127x4x128, .f32⟩
  | 22 => ⟨S4x2048x4x128, .f32⟩
  | 23 => ⟨S4x2048x4x12, .f32⟩
  | 24 => ⟨S4x2048x4x3x4, .f32⟩
  | 25 => ⟨S2048, .i32⟩
  | 26 => ⟨S127, .i32⟩
  | 27 => ⟨S_, .i32⟩
  | 28 => ⟨S127, .i32⟩
  | 29 => ⟨S127, .i32⟩
  | 30 => ⟨S_, .i32⟩
  | 31 => ⟨S127, .i32⟩
  | 32 => ⟨S127, .i32⟩
  | 33 => ⟨S_, .i32⟩
  | 34 => ⟨S127, .i32⟩
  | 35 => ⟨S127, .i32⟩
  | 36 => ⟨S4x4x127x2048x4, .f32⟩
  | 37 => ⟨S4x2048x4x4x127, .f32⟩
  | 38 => ⟨S_, .f32⟩
  | 39 => ⟨S_, .f32⟩
  | 40 => ⟨S4x2048x4x4x127, .f32⟩
  | 41 => ⟨S4x2048x4x4x127, .f32⟩
  | 42 => ⟨S1x127, .i32⟩
  | 43 => ⟨S2048x1, .i32⟩
  | 44 => ⟨S2048x127, .i32⟩
  | 45 => ⟨S2048x127, .i32⟩
  | 46 => ⟨S2048x127, .i1⟩
  | 47 => ⟨S1x2048x1x1x127, .i1⟩
  | 48 => ⟨S4x2048x4x4x127, .i1⟩
  | 49 => ⟨S_, .f32⟩
  | 50 => ⟨S4x2048x4x4x127, .f32⟩
  | 51 => ⟨S4x2048x4x4x127, .f32⟩
  | 52 => ⟨S_, .f32⟩
  | 53 => ⟨S4x2048x4x4, .f32⟩
  | 54 => ⟨S4x2048x4x4x1, .f32⟩
  | 55 => ⟨S4x2048x4x4x127, .f32⟩
  | 56 => ⟨S4x2048x4x4x127, .f32⟩
  | 57 => ⟨S4x2048x4x4x127, .f32⟩
  | 58 => ⟨S_, .f32⟩
  | 59 => ⟨S4x2048x4x4, .f32⟩
  | 60 => ⟨S4x2048x4x4x1, .f32⟩
  | 61 => ⟨S4x2048x4x4x127, .f32⟩
  | 62 => ⟨S4x2048x4x4x127, .f32⟩
  | 63 => ⟨S_, .f32⟩
  | 64 => ⟨S4x2048x4x4x127, .f32⟩
  | 65 => ⟨S4x2048x4x4x127, .f32⟩
  | 66 => ⟨S4x4x128x2048x4, .f32⟩
  | 67 => ⟨S4x2048x4x4x128, .f32⟩
  | 68 => ⟨S32, .i32⟩
  | 69 => ⟨S127, .i32⟩
  | 70 => ⟨S127x1, .i32⟩
  | 71 => ⟨S_, .i32⟩
  | 72 => ⟨S127x1, .i32⟩
  | 73 => ⟨S127x1, .i32⟩
  | 74 => ⟨S1x32, .i32⟩
  | 75 => ⟨S_, .i32⟩
  | 76 => ⟨S1x32, .i32⟩
  | 77 => ⟨S1x32, .i32⟩
  | 78 => ⟨S_, .i32⟩
  | 79 => ⟨S1x32, .i32⟩
  | 80 => ⟨S1x32, .i32⟩
  | 81 => ⟨S127x32, .i32⟩
  | 82 => ⟨S127x32, .i32⟩
  | 83 => ⟨S127x32, .i1⟩
  | 84 => ⟨S_, .i32⟩
  | 85 => ⟨S127x1, .i32⟩
  | 86 => ⟨S127x1, .i32⟩
  | 87 => ⟨S127x32, .i32⟩
  | 88 => ⟨S127x32, .i32⟩
  | 89 => ⟨S127x32, .i1⟩
  | 90 => ⟨S127x32, .i1⟩
  | 91 => ⟨S127x32, .f32⟩
  | 92 => ⟨S_, .f32⟩
  | 93 => ⟨S4x2048x4x127, .f32⟩
  | 94 => ⟨S4x2048x4x32, .f32⟩
  | 95 => ⟨S2048x1, .i32⟩
  | 96 => ⟨S2048x32, .i32⟩
  | 97 => ⟨S2048x32, .i32⟩
  | 98 => ⟨S2048x32, .i32⟩
  | 99 => ⟨S1x32, .i32⟩
  | 100 => ⟨S_, .i32⟩
  | 101 => ⟨S1x32, .i32⟩
  | 102 => ⟨S1x32, .i1⟩
  | 103 => ⟨S_, .i32⟩
  | 104 => ⟨S2048x32, .i32⟩
  | 105 => ⟨S2048x32, .i1⟩
  | 106 => ⟨S2048x32, .i1⟩
  | 107 => ⟨S2048x32, .i1⟩
  | 108 => ⟨S1x2048x1x32, .i1⟩
  | 109 => ⟨S4x2048x4x32, .i1⟩
  | 110 => ⟨S_, .f32⟩
  | 111 => ⟨S4x2048x4x32, .f32⟩
  | 112 => ⟨S4x2048x4x32, .f32⟩
  | 113 => ⟨S_, .i32⟩
  | 114 => ⟨S2048x32, .i32⟩
  | 115 => ⟨S2048x32, .i1⟩
  | 116 => ⟨S1x2048x1x32, .i1⟩
  | 117 => ⟨S4x2048x4x32, .i1⟩
  | 118 => ⟨S_, .f32⟩
  | 119 => ⟨S4x2048x4x32, .f32⟩
  | 120 => ⟨S4x2048x4x32, .f32⟩
  | 121 => ⟨S4x2048x4x16, .f32⟩
  | 122 => ⟨S4x2048x4x16, .i32⟩
  | 123 => ⟨S4x2048x4x16x1, .i32⟩
  | 124 => ⟨S1x1x1x1x32, .i32⟩
  | 125 => ⟨S4x2048x4x16x32, .i32⟩
  | 126 => ⟨S4x2048x4x16x32, .i32⟩
  | 127 => ⟨S4x2048x4x16x32, .i1⟩
  | _ => ⟨S4x2048x9216, .f32⟩

abbrev hbmTy0_1 (i : Nat) : BufTy := match i % 128 with
  | 0 => ⟨S_, .i1⟩
  | 1 => ⟨S4x2048x4x32, .i1⟩
  | 2 => ⟨S1x2048, .i32⟩
  | 3 => ⟨S2048x1, .i32⟩
  | 4 => ⟨S2048x2048, .i32⟩
  | 5 => ⟨S2048x2048, .i32⟩
  | 6 => ⟨S2048x2048, .i1⟩
  | 7 => ⟨S4x2048x4x32x64, .i1⟩
  | 8 => ⟨S4x2048x4x2048, .i1⟩
  | 9 => ⟨S1x2048x1x2048, .i1⟩
  | 10 => ⟨S4x2048x4x2048, .i1⟩
  | 11 => ⟨S4x2048x4x2048, .i1⟩
  | 12 => ⟨S4x4x2048x2048x4, .f32⟩
  | 13 => ⟨S4x2048x4x4x2048, .f32⟩
  | 14 => ⟨S_, .f32⟩
  | 15 => ⟨S_, .f32⟩
  | 16 => ⟨S4x2048x4x4x2048, .f32⟩
  | 17 => ⟨S4x2048x4x4x2048, .f32⟩
  | 18 => ⟨S4x2048x4x1x2048, .i1⟩
  | 19 => ⟨S4x2048x4x4x2048, .i1⟩
  | 20 => ⟨S_, .f32⟩
  | 21 => ⟨S4x2048x4x4x2048, .f32⟩
  | 22 => ⟨S4x2048x4x4x2048, .f32⟩
  | 23 => ⟨S_, .f32⟩
  | 24 => ⟨S4x2048x4x4, .f32⟩
  | 25 => ⟨S4x2048x4x4x1, .f32⟩
  | 26 => ⟨S4x2048x4x4x2048, .f32⟩
  | 27 => ⟨S4x2048x4x4x2048, .f32⟩
  | 28 => ⟨S4x2048x4x4x2048, .f32⟩
  | 29 => ⟨S_, .f32⟩
  | 30 => ⟨S4x2048x4x4, .f32⟩
  | 31 => ⟨S4x2048x4x4x1, .f32⟩
  | 32 => ⟨S4x2048x4x4x2048, .f32⟩
  | 33 => ⟨S4x2048x4x4x2048, .f32⟩
  | 34 => ⟨S_, .f32⟩
  | 35 => ⟨S4x2048x4x4x2048, .f32⟩
  | 36 => ⟨S4x2048x4x4x2048, .f32⟩
  | 37 => ⟨S4x4x128x2048x4, .f32⟩
  | 38 => ⟨S4x2048x4x4x128, .f32⟩
  | 39 => ⟨S4x4x2048x2048x4, .f32⟩
  | 40 => ⟨S4x2048x4x4x2048, .f32⟩
  | 41 => ⟨S_, .f32⟩
  | 42 => ⟨S_, .f32⟩
  | 43 => ⟨S4x2048x4x4x2048, .f32⟩
  | 44 => ⟨S4x2048x4x4x2048, .f32⟩
  | 45 => ⟨S2048x1, .i32⟩
  | 46 => ⟨S1x2048, .i32⟩
  | 47 => ⟨S2048x2048, .i32⟩
  | 48 => ⟨S2048x2048, .i32⟩
  | 49 => ⟨S2048x2048, .i32⟩
  | 50 => ⟨S_, .i32⟩
  | 51 => ⟨S2048x2048, .i32⟩
  | 52 => ⟨S2048x2048, .i1⟩
  | 53 => ⟨S2048x2048, .i1⟩
  | 54 => ⟨S1x2048x1x1x2048, .i1⟩
  | 55 => ⟨S4x2048x4x4x2048, .i1⟩
  | 56 => ⟨S_, .f32⟩
  | 57 => ⟨S4x2048x4x4x2048, .f32⟩
  | 58 => ⟨S4x2048x4x4x2048, .f32⟩
  | 59 => ⟨S_, .f32⟩
  | 60 => ⟨S4x2048x4x4, .f32⟩
  | 61 => ⟨S4x2048x4x4x1, .f32⟩
  | 62 => ⟨S4x2048x4x4x2048, .f32⟩
  | 63 => ⟨S4x2048x4x4x2048, .f32⟩
  | 64 => ⟨S4x2048x4x4x2048, .f32⟩
  | 65 => ⟨S_, .f32⟩
  | 66 => ⟨S4x2048x4x4, .f32⟩
  | 67 => ⟨S4x2048x4x4x1, .f32⟩
  | 68 => ⟨S4x2048x4x4x2048, .f32⟩
  | 69 => ⟨S4x2048x4x4x2048, .f32⟩
  | 70 => ⟨S_, .f32⟩
  | 71 => ⟨S4x2048x4x4x2048, .f32⟩
  | 72 => ⟨S4x2048x4x4x2048, .f32⟩
  | 73 => ⟨S4x4x128x2048x4, .f32⟩
  | 74 => ⟨S4x2048x4x4x128, .f32⟩
  | 75 => ⟨S4x2048x4x1x4, .f32⟩
  | 76 => ⟨S4x2048x4x4, .f32⟩
  | 77 => ⟨S4x2048x4x4x1, .f32⟩
  | 78 => ⟨S4x2048x4x4x128, .f32⟩
  | 79 => ⟨S4x2048x4x4x128, .f32⟩
  | 80 => ⟨S4x2048x4x1x4, .f32⟩
  | 81 => ⟨S4x2048x4x4, .f32⟩
  | 82 => ⟨S4x2048x4x4x1, .f32⟩
  | 83 => ⟨S4x2048x4x4x128, .f32⟩
  | 84 => ⟨S4x2048x4x4x128, .f32⟩
  | 85 => ⟨S4x2048x4x4x128, .f32⟩
  | 86 => ⟨S4x2048x4x1x4, .f32⟩
  | 87 => ⟨S4x2048x4x4, .f32⟩
  | 88 => ⟨S4x2048x4x4x1, .f32⟩
  | 89 => ⟨S4x2048x4x4x128, .f32⟩
  | 90 => ⟨S4x2048x4x4x128, .f32⟩
  | 91 => ⟨S4x2048x4x4x128, .f32⟩
  | 92 => ⟨S4x2048x2048, .f32⟩
  | 93 => ⟨S4x2048x2048, .bf16⟩
  | _ => ⟨S4x2048x9216, .f32⟩

abbrev hbmTy (i : Nat) : BufTy := match i / 128 with
  | 0 => hbmTy0_0 i
  | 1 => hbmTy0_1 i
  | _ => ⟨S4x2048x9216, .f32⟩

abbrev bufTy : (tb : Table) → Fin (tcTables nBuf tb) → BufTy
  | .hbm, ⟨i, _⟩ => hbmTy i
  | _, _ => ⟨S4x2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_c_0 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_7 : Ref sig .tc := ⟨.hbm, 75, rfl⟩
abbrev main_v62 : Ref sig .tc := ⟨.hbm, 76, rfl⟩
abbrev main_v63 : Ref sig .tc := ⟨.hbm, 77, rfl⟩
abbrev main_c_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_c_11 : Ref sig .tc := ⟨.hbm, 100, rfl⟩
abbrev main_v83 : Ref sig .tc := ⟨.hbm, 101, rfl⟩
abbrev main_v84 : Ref sig .tc := ⟨.hbm, 102, rfl⟩
abbrev main_c_12 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_v91 : Ref sig .tc := ⟨.hbm, 111, rfl⟩
abbrev main_v92 : Ref sig .tc := ⟨.hbm, 112, rfl⟩
abbrev main_c_14 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_15 : Ref sig .tc := ⟨.hbm, 118, rfl⟩
abbrev main_v97 : Ref sig .tc := ⟨.hbm, 119, rfl⟩
abbrev main_v98 : Ref sig .tc := ⟨.hbm, 120, rfl⟩
abbrev main_values : Ref sig .tc := ⟨.hbm, 121, rfl⟩
abbrev main_indices : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_c_16 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_17 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_18 : Ref sig .tc := ⟨.hbm, 148, rfl⟩
abbrev main_v122 : Ref sig .tc := ⟨.hbm, 149, rfl⟩
abbrev main_v123 : Ref sig .tc := ⟨.hbm, 150, rfl⟩
abbrev main_cst_19 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_20 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_21 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_22 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_c_23 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_24 : Ref sig .tc := ⟨.hbm, 184, rfl⟩
abbrev main_v152 : Ref sig .tc := ⟨.hbm, 185, rfl⟩
abbrev main_v153 : Ref sig .tc := ⟨.hbm, 186, rfl⟩
abbrev main_cst_25 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_26 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_cst_27 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩

abbrev nD : Nat := 1
abbrev τ : Topo := Topo.v7x

variable {F : FTy → Type} [FloatOps F]
-- ==== FfnUp.lean ====
abbrev S8192x4096 : Shape := ⟨2, ![8192, 4096]⟩
abbrev S2x4096x11008 : Shape := ⟨3, ![2, 4096, 11008]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .bf16⟩
  | .hbm, ⟨2, _⟩ => ⟨S2x4096x11008, .bf16⟩
  | .hbm, ⟨3, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S2048x256, .bf16⟩
  | .local _ .vmem, ⟨7, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpReferenceIdeal.lean ====
abbrev S8192x4096 : Shape := ⟨2, ![8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .bf16⟩
  | .hbm, ⟨2, _⟩ => ⟨S2x4096x11008, .bf16⟩
  | .hbm, ⟨3, _⟩ => ⟨S8192x4096, .f32⟩
  | .hbm, ⟨4, _⟩ => ⟨S1x4096x11008, .bf16⟩
  | .hbm, ⟨5, _⟩ => ⟨S4096x11008, .bf16⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S1x4096x11008, .bf16⟩
  | .hbm, ⟨18, _⟩ => ⟨S4096x11008, .bf16⟩
  | .hbm, ⟨19, _⟩ => ⟨S4096x11008, .f32⟩
  | .hbm, ⟨20, _⟩ => ⟨S8192x11008, .f32⟩
  | .hbm, ⟨21, _⟩ => ⟨S8192x11008, .f32⟩
  | .hbm, ⟨22, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S8192x11008 : Shape := ⟨2, ![8192, 11008]⟩
abbrev S2x11008x4096 : Shape := ⟨3, ![2, 11008, 4096]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .bf16⟩
  | .hbm, ⟨2, _⟩ => ⟨S8192x4096, .f32⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .bf16⟩
  | .hbm, ⟨2, _⟩ => ⟨S8192x4096, .f32⟩
  | .hbm, ⟨3, _⟩ => ⟨S8192x11008, .f32⟩
  | .hbm, ⟨4, _⟩ => ⟨S1x11008x4096, .bf16⟩
  | .hbm, ⟨5, _⟩ => ⟨S11008x4096, .bf16⟩
  | .hbm, ⟨6, _⟩ => ⟨S11008x4096, .f32⟩
  | .hbm, ⟨7, _⟩ => ⟨S8192x4096, .f32⟩
  | .hbm, ⟨8, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S8192x2048 : Shape := ⟨2, ![8192, 2048]⟩
abbrev S2x4096x4096 : Shape := ⟨3, ![2, 4096, 4096]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x4096, .bf16⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjReferenceIdeal.lean ====
abbrev S8192x2048 : Shape := ⟨2, ![8192, 2048]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x4096, .bf16⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S8192x4096, .f32⟩
  | .hbm, ⟨10, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Norm.lean ====
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KvRows.lean ====
abbrev S8192x9216 : Shape := ⟨2, ![8192, 9216]⟩
abbrev S2x8192x16x128 : Shape := ⟨4, ![2, 8192, 16, 128]⟩
abbrev S512x2048 : Shape := ⟨2, ![512, 2048]⟩
abbrev S1x512x16x128 : Shape := ⟨4, ![1, 512, 16, 128]⟩
abbrev S512x128 : Shape := ⟨2, ![512, 128]⟩
abbrev S1x512x1x128 : Shape := ⟨4, ![1, 512, 1, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x9216, .f32⟩
  | .hbm, ⟨1, _⟩ => ⟨S8192x9216, .f32⟩
  | .hbm, ⟨2, _⟩ => ⟨S2x8192x16x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512x16x128, .f32⟩
  | .local _ .vmem, ⟨5, _⟩ => ⟨S1x512x16x128, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c3_i32 : BitVec 32 := 3#32
  let c0_i32_1 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c3_i32 : BitVec 32 := 3#32
  let c0_i32_0 : BitVec 32 := 0#32
  ![v1.toNat, c3_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRowsReferenceIdeal.lean ====
abbrev S8192x9216 : Shape := ⟨2, ![8192, 9216]⟩
abbrev S8192x2048 : Shape := ⟨2, ![8192, 2048]⟩
abbrev S8192x16x128 : Shape := ⟨3, ![8192, 16, 128]⟩
abbrev S1x8192x16x128 : Shape := ⟨4, ![1, 8192, 16, 128]⟩
abbrev S2x8192x16x128 : Shape := ⟨4, ![2, 8192, 16, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S8192x9216, .f32⟩
  | .hbm, ⟨2, _⟩ => ⟨S8192x2048, .f32⟩
  | .hbm, ⟨3, _⟩ => ⟨S8192x16x128, .f32⟩
  | .hbm, ⟨4, _⟩ => ⟨S8192x2048, .f32⟩
  | .hbm, ⟨5, _⟩ => ⟨S8192x16x128, .f32⟩
  | .hbm, ⟨6, _⟩ => ⟨S1x8192x16x128, .f32⟩
  | .hbm, ⟨7, _⟩ => ⟨S1x8192x16x128, .f32⟩
  | .hbm, ⟨8, _⟩ => ⟨S2x8192x16x128, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== WinRows.lean ====
abbrev S8192x9216 : Shape := ⟨2, ![8192, 9216]⟩
abbrev S2x2048x8x128 : Shape := ⟨4, ![2, 2048, 8, 128]⟩
abbrev S512x1024 : Shape := ⟨2, ![512, 1024]⟩
abbrev S1x512x8x128 : Shape := ⟨4, ![1, 512, 8, 128]⟩
abbrev S512x128 : Shape := ⟨2, ![512, 128]⟩
abbrev S1x512x1x128 : Shape := ⟨4, ![1, 512, 1, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x9216, .f32⟩
  | .hbm, ⟨1, _⟩ => ⟨S8192x9216, .f32⟩
  | .hbm, ⟨2, _⟩ => ⟨S2x2048x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x8x128, .f32⟩
  | .local _ .vmem, ⟨5, _⟩ => ⟨S1x512x8x128, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.muli arg1 c4_i32
  let c4_i32_0 : BitVec 32 := 4#32
  let v2 : BitVec 32 := Scalar.addi v1 c4_i32_0
  let c1_i32 : BitVec 32 := 1#32
  let v3 : BitVec 32 := Scalar.subi v2 c1_i32
  let c0_i32_1 : BitVec 32 := 0#32
  let v4 : BitVec 32 := Scalar.select v0 v3 c0_i32_1
  let c8_i32 : BitVec 32 := 8#32
  let c0_i32_2 : BitVec 32 := 0#32
  ![v4.toNat, c8_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let v1 : BitVec 32 := Scalar.muli arg1 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v4 : BitVec 32 := Scalar.select v0 v3 c0_i32
  let c8_i32 : BitVec 32 := 8#32
  let c0_i32_2 : BitVec 32 := 0#32
  ![v4.toNat, c8_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinRowsReferenceIdeal.lean ====
abbrev S8192x9216 : Shape := ⟨2, ![8192, 9216]⟩
abbrev S4x2048x9216 : Shape := ⟨3, ![4, 2048, 9216]⟩
abbrev S4x512x1024 : Shape := ⟨3, ![4, 512, 1024]⟩
abbrev S2048x8x128 : Shape := ⟨3, ![2048, 8, 128]⟩
abbrev S1x2048x8x128 : Shape := ⟨4, ![1, 2048, 8, 128]⟩
abbrev S2x2048x8x128 : Shape := ⟨4, ![2, 2048, 8, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S8192x9216, .f32⟩
  | .hbm, ⟨2, _⟩ => ⟨S4x2048x9216, .f32⟩
  | .hbm, ⟨3, _⟩ => ⟨S4x512x1024, .f32⟩
  | .hbm, ⟨4, _⟩ => ⟨S2048x8x128, .f32⟩
  | .hbm, ⟨5, _⟩ => ⟨S4x2048x9216, .f32⟩
  | .hbm, ⟨6, _⟩ => ⟨S4x512x1024, .f32⟩
  | .hbm, ⟨7, _⟩ => ⟨S2048x8x128, .f32⟩
  | .hbm, ⟨8, _⟩ => ⟨S1x2048x8x128, .f32⟩
  | .hbm, ⟨9, _⟩ => ⟨S1x2048x8x128, .f32⟩
  | .hbm, ⟨10, _⟩ => ⟨S2x2048x8x128, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== NormGates.lean ====
abbrev S8192x4096 : Shape := ⟨2, ![8192, 4096]⟩
abbrev S1x4096 : Shape := ⟨2, ![1, 4096]⟩
abbrev S2x4096x512 : Shape := ⟨3, ![2, 4096, 512]⟩
abbrev S8192x512 : Shape := ⟨2, ![8192, 512]⟩
abbrev S256x4096 : Shape := ⟨2, ![256, 4096]⟩
abbrev S1x4096x512 : Shape := ⟨3, ![1, 4096, 512]⟩
abbrev S256x512 : Shape := ⟨2, ![256, 512]⟩
abbrev S256 : Shape := ⟨1, ![256]⟩
abbrev S256x1 : Shape := ⟨2, ![256, 1]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S2x4096x512, .bf16⟩
  | .hbm, ⟨3, _⟩ => ⟨S8192x4096, .bf16⟩
  | .hbm, ⟨4, _⟩ => ⟨S8192x512, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096x512, .bf16⟩
  | .local _ .vmem, ⟨4, _⟩ => ⟨S256x4096, .bf16⟩
  | .local _ .vmem, ⟨5, _⟩ => ⟨S256x4096, .bf16⟩
  | .local _ .vmem, ⟨6, _⟩ => ⟨S256x512, .f32⟩
  | .local _ .vmem, ⟨7, _⟩ => ⟨S256x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormGatesReferenceIdeal.lean ====
abbrev S8192x4096 : Shape := ⟨2, ![8192, 4096]⟩
abbrev S1x4096 : Shape := ⟨2, ![1, 4096]⟩
abbrev S2x4096x512 : Shape := ⟨3, ![2, 4096, 512]⟩
abbrev S_ : Shape := ⟨0, ![]⟩
abbrev S8192 : Shape := ⟨1, ![8192]⟩
abbrev S8192x1 : Shape := ⟨2, ![8192, 1]⟩
abbrev S1x4096x512 : Shape := ⟨3, ![1, 4096, 512]⟩
abbrev S4096x512 : Shape := ⟨2, ![4096, 512]⟩
abbrev S8192x512 : Shape := ⟨2, ![8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S2x4096x512, .bf16⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | .hbm, ⟨19, _⟩ => ⟨S8192x4096, .f32⟩
  | .hbm, ⟨20, _⟩ => ⟨S1x4096x512, .bf16⟩
  | .hbm, ⟨21, _⟩ => ⟨S4096x512, .bf16⟩
  | .hbm, ⟨22, _⟩ => ⟨S4096x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== InProj.lean ====
abbrev S8192x4096 : Shape := ⟨2, ![8192, 4096]⟩
abbrev S2x4096x9216 : Shape := ⟨3, ![2, 4096, 9216]⟩
abbrev S2048x128 : Shape := ⟨2, ![2048, 128]⟩
abbrev S8192x9216 : Shape := ⟨2, ![8192, 9216]⟩
abbrev S8192x8x128 : Shape := ⟨3, ![8192, 8, 128]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S1024x8x128 : Shape := ⟨3, ![1024, 8, 128]⟩
abbrev S4096x512 : Shape := ⟨2, ![4096, 512]⟩
abbrev S1024x1x128 : Shape := ⟨3, ![1024, 1, 128]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S2x4096x9216, .bf16⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x9216, .f32⟩
  | .hbm, ⟨6, _⟩ => ⟨S8192x8x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .f32⟩
  | .local _ .vmem, ⟨11, _⟩ => ⟨S1024x512, .f32⟩
  | .local _ .vmem, ⟨12, _⟩ => ⟨S1024x8x128, .f32⟩
  | .local _ .vmem, ⟨13, _⟩ => ⟨S1024x8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 18], ![false, false]⟩

def k0_cond1 (i : grid0.Coords) : BitVec 1 :=
  let arg1 : BitVec 32 := BitVec.ofNat 32 (i 1).val
  let c8_i32 : BitVec 32 := 8#32
  let v4 : BitVec 1 := Scalar.cmpi .sge arg1 c8_i32
  let c12_i32 : BitVec 32 := 12#32
  let v5 : BitVec 1 := Scalar.cmpi .sle arg1 c12_i32
  let v6 : BitVec 1 := Scalar.andi v4 v5
  let c14_i32 : BitVec 32 := 14#32
  let v7 : BitVec 1 := Scalar.cmpi .eq arg1 c14_i32
  let v8 : BitVec 1 := Scalar.ori v6 v7
  let c16_i32 : BitVec 32 := 16#32
  let v9 : BitVec 1 := Scalar.cmpi .eq arg1 c16_i32
  let v10 : BitVec 1 := Scalar.ori v8 v9
  let v11 : BitVec 32 := Scalar.extui v10
  let c0_i32 : BitVec 32 := 0#32
  let v12 : BitVec 1 := Scalar.cmpi .ne v11 c0_i32
  v12

def k0_cond3 (i : grid0.Coords) : BitVec 1 :=
  let arg1 : BitVec 32 := BitVec.ofNat 32 (i 1).val
  let c8_i32 : BitVec 32 := 8#32
  let v4 : BitVec 1 := Scalar.cmpi .sge arg1 c8_i32
  let c12_i32 : BitVec 32 := 12#32
  let v5 : BitVec 1 := Scalar.cmpi .sle arg1 c12_i32
  let v6 : BitVec 1 := Scalar.andi v4 v5
  let c14_i32 : BitVec 32 := 14#32
  let v7 : BitVec 1 := Scalar.cmpi .eq arg1 c14_i32
  let v8 : BitVec 1 := Scalar.ori v6 v7
  let c16_i32 : BitVec 32 := 16#32
  let v9 : BitVec 1 := Scalar.cmpi .eq arg1 c16_i32
  let v10 : BitVec 1 := Scalar.ori v8 v9
  let v_true : BitVec 1 := 1#1
  let v13 : BitVec 1 := Scalar.xori v10 v_true
  let v14 : BitVec 32 := Scalar.extui v13
  let c0_i32_4 : BitVec 32 := 0#32
  let v15 : BitVec 1 := Scalar.cmpi .ne v14 c0_i32_4
  v15

def k0_cond2 (i : grid0.Coords) : BitVec 1 :=
  let arg1 : BitVec 32 := BitVec.ofNat 32 (i 1).val
  let c12_i32_23 : BitVec 32 := 12#32
  let v55 : BitVec 1 := Scalar.cmpi .eq arg1 c12_i32_23
  let v56 : BitVec 32 := Scalar.extui v55
  let c0_i32_24 : BitVec 32 := 0#32
  let v57 : BitVec 1 := Scalar.cmpi .ne v56 c0_i32_24
  v57

def k0_cond4 (i : grid0.Coords) : BitVec 1 :=
  let arg1 : BitVec 32 := BitVec.ofNat 32 (i 1).val
  let c13_i32 : BitVec 32 := 13#32
  let v17 : BitVec 1 := Scalar.cmpi .eq arg1 c13_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InProjReferenceIdeal.lean ====
abbrev S8192x4096 : Shape := ⟨2, ![8192, 4096]⟩
abbrev S2x4096x9216 : Shape := ⟨3, ![2, 4096, 9216]⟩
abbrev S2048x128 : Shape := ⟨2, ![2048, 128]⟩
abbrev S1x4096x9216 : Shape := ⟨3, ![1, 4096, 9216]⟩
abbrev S4096x9216 : Shape := ⟨2, ![4096, 9216]⟩
abbrev S8192x9216 : Shape := ⟨2, ![8192, 9216]⟩
abbrev S4x2048x72x128 : Shape := ⟨4, ![4, 2048, 72, 128]⟩
abbrev S4x2048x72x16 : Shape := ⟨4, ![4, 2048, 72, 16]⟩
abbrev S4x2048x72x112 : Shape := ⟨4, ![4, 2048, 72, 112]⟩
abbrev S1x2048x1x128 : Shape := ⟨4, ![1, 2048, 1, 128]⟩
abbrev S4x2048x32x128 : Shape := ⟨4, ![4, 2048, 32, 128]⟩
abbrev S4x2048x20x128 : Shape := ⟨4, ![4, 2048, 20, 128]⟩
abbrev S4x2048x4x128 : Shape := ⟨4, ![4, 2048, 4, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x9216, .bf16⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x4096, .f32⟩
  | .hbm, ⟨6, _⟩ => ⟨S1x4096x9216, .bf16⟩
  | .hbm, ⟨7, _⟩ => ⟨S4096x9216, .bf16⟩
  | .hbm, ⟨8, _⟩ => ⟨S4096x9216, .f32⟩
  | .hbm, ⟨9, _⟩ => ⟨S8192x9216, .f32⟩
  | .hbm, ⟨10, _⟩ => ⟨S4x2048x72x128, .f32⟩
  | .hbm, ⟨11, _⟩ => ⟨S4x2048x72x16, .f32⟩
  | .hbm, ⟨12, _⟩ => ⟨S4x2048x72x112, .f32⟩
  | .hbm, ⟨13, _⟩ => ⟨S4x2048x72x128, .f32⟩
  | .hbm, ⟨14, _⟩ => ⟨S4x2048x72x112, .f32⟩
  | .hbm, ⟨15, _⟩ => ⟨S4x2048x72x16, .f32⟩
  | .hbm, ⟨16, _⟩ => ⟨S4x2048x72x128, .f32⟩
  | .hbm, ⟨17, _⟩ => ⟨S1x2048x1x128, .f32⟩
  | .hbm, ⟨18, _⟩ => ⟨S4x2048x72x128, .f32⟩
  | .hbm, ⟨19, _⟩ => ⟨S4x2048x72x128, .f32⟩
  | .hbm, ⟨20, _⟩ => ⟨S1x2048x1x128, .f32⟩
  | .hbm, ⟨21, _⟩ => ⟨S4x2048x72x128, .f32⟩
  | .hbm, ⟨22, _⟩ => ⟨S4x2048x72x128, .f32⟩
  | .hbm, ⟨23, _⟩ => ⟨S4x2048x72x128, .f32⟩
  | .hbm, ⟨24, _⟩ => ⟨S1x2048x1x128, .f32⟩
  | .hbm, ⟨25, _⟩ => ⟨S4x2048x72x128, .f32⟩
  | .hbm, ⟨26, _⟩ => ⟨S4x2048x72x128, .f32⟩
  | .hbm, ⟨27, _⟩ => ⟨S4x2048x72x128, .f32⟩
  | .hbm, ⟨28, _⟩ => ⟨S4x2048x32x128, .f32⟩
  | .hbm, ⟨29, _⟩ => ⟨S4x2048x20x128, .f32⟩
  | .hbm, ⟨30, _⟩ => ⟨S4x2048x4x128, .f32⟩
  | .hbm, ⟨31, _⟩ => ⟨S4x2048x4x128, .f32⟩
  | .hbm, ⟨32, _⟩ => ⟨S4x2048x4x128, .f32⟩
  | .hbm, ⟨33, _⟩ => ⟨S4x2048x4x128, .f32⟩
  | .hbm, ⟨34, _⟩ => ⟨S4x2048x4x128, .f32⟩
  | .hbm, ⟨35, _⟩ => ⟨S4x2048x72x128, .f32⟩
  | .hbm, ⟨36, _⟩ => ⟨S8192x9216, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.Runs.lean ====
/- What the five runs of the attention kernel's body share: the conditions of its regions in closed form over the
   grid points, the staging memrefs and the scratch memrefs. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 16 % 4 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sge (Scalar.muli (BitVec.ofNat 32 (i 2).val) 128#32) 0#32)) 0#32) = 1#1
/-- It holds at every point — decided over the grid. -/
theorem hcond0_1 : ∀ t : Fin cfg0.N, cond0_1 (grid0.coords t) :=
  (by decide +kernel : ∀ t : Fin grid0.N, cond0_1 (grid0.coords t))

/-- The condition of the body's `scf.if` 2 (`k0_h3`), from the grid coordinates (the skeleton's scalar
    chain substituted). -/
abbrev cond0_2 (i : grid0.Coords) : Prop := (Scalar.cmpi .ne (Scalar.extui (Scalar.cmpi .sge (Scalar.muli (BitVec.ofNat 32 (i 2).val) 128#32) 512#32)) 0#32) = 1#1
/-- It holds at the points whose coordinates have 4 ≤ i2 — decided over the grid. -/
theorem hcond0_2 : ∀ t : Fin cfg0.N, cond0_2 (grid0.coords t) ↔ 4 ≤ t.val % 16 :=
  (by decide +kernel : ∀ t : Fin grid0.N, cond0_2 (grid0.coords t) ↔ 4 ≤ t.val % 16)

/-- The condition of the body's `scf.if` 3 (`k0_h4`), from the grid coordinates (the skeleton's scalar
    chain substituted). -/
abbrev cond0_3 (i : grid0.Coords) : Prop := (Scalar.cmpi .ne (Scalar.extui (Scalar.cmpi .sge (Scalar.muli (BitVec.ofNat 32 (i 2).val) 128#32) 1024#32)) 0#32) = 1#1
/-- It holds at the points whose coordinates have 8 ≤ i2 — decided over the grid. -/
theorem hcond0_3 : ∀ t : Fin cfg0.N, cond0_3 (grid0.coords t) ↔ 8 ≤ t.val % 16 :=
  (by decide +kernel : ∀ t : Fin grid0.N, cond0_3 (grid0.coords t) ↔ 8 ≤ t.val % 16)

/-- The condition of the body's `scf.if` 4 (`k0_h5`), from the grid coordinates (the skeleton's scalar
    chain substituted). -/
abbrev cond0_4 (i : grid0.Coords) : Prop := (Scalar.cmpi .ne (Scalar.extui (Scalar.cmpi .sge (Scalar.muli (BitVec.ofNat 32 (i 2).val) 128#32) 1536#32)) 0#32) = 1#1
/-- It holds at the points whose coordinates have 12 ≤ i2 — decided over the grid. -/
theorem hcond0_4 : ∀ t : Fin cfg0.N, cond0_4 (grid0.coords t) ↔ 12 ≤ t.val % 16 :=
  (by decide +kernel : ∀ t : Fin grid0.N, cond0_4 (grid0.coords t) ↔ 12 ≤ t.val % 16)

/-- The condition of the body's `scf.if` 5 (`k0_h6`), from the grid coordinates (the skeleton's scalar
    chain substituted). -/
abbrev cond0_5 (i : grid0.Coords) : Prop := (Scalar.cmpi .ne (Scalar.extui (Scalar.cmpi .sge (Scalar.muli (BitVec.ofNat 32 (i 2).val) 128#32) 0#32)) 0#32) = 1#1
/-- It holds at every point — decided over the grid. -/
theorem hcond0_5 : ∀ t : Fin cfg0.N, cond0_5 (grid0.coords t) :=
  (by decide +kernel : ∀ t : Fin grid0.N, cond0_5 (grid0.coords t))

/-- The condition of the body's `scf.if` 6 (`k0_h7`), from the grid coordinates (the skeleton's scalar
    chain substituted). -/
abbrev cond0_6 (i : grid0.Coords) : Prop := (Scalar.cmpi .ne (Scalar.extui (Scalar.cmpi .sge (Scalar.muli (BitVec.ofNat 32 (i 2).val) 128#32) 512#32)) 0#32) = 1#1
/-- It holds at the points whose coordinates have 4 ≤ i2 — decided over the grid. -/
theorem hcond0_6 : ∀ t : Fin cfg0.N, cond0_6 (grid0.coords t) ↔ 4 ≤ t.val % 16 :=
  (by decide +kernel : ∀ t : Fin grid0.N, cond0_6 (grid0.coords t) ↔ 4 ≤ t.val % 16)

/-- The condition of the body's `scf.if` 7 (`k0_h8`), from the grid coordinates (the skeleton's scalar
    chain substituted). -/
abbrev cond0_7 (i : grid0.Coords) : Prop := (Scalar.cmpi .ne (Scalar.extui (Scalar.cmpi .sge (Scalar.muli (BitVec.ofNat 32 (i 2).val) 128#32) 1024#32)) 0#32) = 1#1
/-- It holds at the points whose coordinates have 8 ≤ i2 — decided over the grid. -/
theorem hcond0_7 : ∀ t : Fin cfg0.N, cond0_7 (grid0.coords t) ↔ 8 ≤ t.val % 16 :=
  (by decide +kernel : ∀ t : Fin grid0.N, cond0_7 (grid0.coords t) ↔ 8 ≤ t.val % 16)

/-- The condition of the body's `scf.if` 8 (`k0_h9`), from the grid coordinates (the skeleton's scalar
    chain substituted). -/
abbrev cond0_8 (i : grid0.Coords) : Prop := (Scalar.cmpi .ne (Scalar.extui (Scalar.cmpi .sge (Scalar.muli (BitVec.ofNat 32 (i 2).val) 128#32) 1536#32)) 0#32) = 1#1
/-- It holds at the points whose coordinates have 12 ≤ i2 — decided over the grid. -/
theorem hcond0_8 : ∀ t : Fin cfg0.N, cond0_8 (grid0.coords t) ↔ 12 ≤ t.val % 16 :=
  (by decide +kernel : ∀ t : Fin grid0.N, cond0_8 (grid0.coords t) ↔ 12 ≤ t.val % 16)

/-! ## The kernel body on any staging memrefs: a subtype the run finds -/

/-- Each window's current staging memref at point `t`, spelled as the pipeline passes it (`bodyAt0`), and its wholeness. -/
abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x512 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S2048x128 .bf16 := Memref.whole cc0_scratch3
abbrev scM0_4 : Memref sig .tc .vmem S512x2048 .f32 := Memref.whole cc0_scratch4
abbrev scM0_5 : Memref sig .tc .vmem S512x128 .f32 := Memref.whole cc0_scratch5
abbrev scM0_6 : Memref sig .tc .vmem S512x128 .f32 := Memref.whole cc0_scratch6
abbrev scM0_7 : Memref sig .tc .vmem S512x128 .f32 := Memref.whole cc0_scratch7
/-- The scratch `arg12` the kernel carries between points, as a view: what it holds is stated through it. -/
abbrev VS0_0 : View sig .tc .vmem S2048x128 .bf16 := scM0_0.view
/-- The scratch `arg13` the kernel carries between points, as a view. -/
abbrev VS0_1 : View sig .tc .vmem S2048x128 .bf16 := scM0_1.view
/-- The scratch `arg14` the kernel carries between points, as a view. -/
abbrev VS0_2 : View sig .tc .vmem S2048x128 .bf16 := scM0_2.view
/-- The scratch `arg15` the kernel carries between points, as a view. -/
abbrev VS0_3 : View sig .tc .vmem S2048x128 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The first key row of the window a block of queries looks at, in closed form: its 128 rows and the 512 before
    them, the rows before the first left out. -/
theorem off1_eq (i : grid0.Coords) : k0_off1 i = ![128 * (i 2).val - 512, 0] := by
  have h : ∀ n : Fin 16, (Scalar.indexCast (Scalar.maxsi (Scalar.subi (Scalar.addi (Scalar.muli (BitVec.ofNat 32 n.val) 128#32) 128#32) 640#32) 0#32)).toNat = 128 * n.val - 512 := by
    decide +kernel
  have := h ⟨(i 2).val, (i 2).isLt⟩
  funext j; fin_cases j
  · exact this
  · rfl
instance closedOff1 (i : grid0.Coords) : ClosedOff (k0_off1 i) := ⟨![128 * (i 2).val - 512, 0], off1_eq i⟩

end Cert.KernelIdeal.Gen

end
-- ==== Proof.Body.lean ====
/- What one point of the attention kernel computes, as plain functions of the blocks it is handed: the three branches and
   the four column pieces of its output block. -/
module

public import proofs.«01_k».proof.Proof.Runs
public import Idealize.ShloMosaic.Lib.WholeRead
public import Idealize.ShloMosaic.Lib.Pipeline.ReadBack
public import Idealize.ShloMosaic.Lib.Pipeline.ValueKit.Acc

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The scaled queries of the four heads of the group, one below the other. -/
def qAll (x0 : Vec F S1x128x512 .f32) : FVec F S512x128 .bf16 := k0_pay19 x0

/-- The compressed branch. -/
def oCmp (i : grid0.Coords) (x0 : Vec F S1x128x512 .f32) (x1 x2 : Vec F S1x128x128 .bf16) : FVec F S512x128 .f32 :=
  k0_pay26 (k0_pay22 i) (k0_pay23 x0 x1) (k0_pay24 i) x2

/-- The compressed branch's weights summed over the group. -/
def pSum (i : grid0.Coords) (x0 : Vec F S1x128x512 .f32) (x1 : Vec F S1x128x128 .bf16) : FVec F S128x128 .f32 :=
  k0_pay27 (k0_pay22 i) (k0_pay23 x0 x1) (k0_pay24 i)

/-- The block scores, block by query. -/
def scoreT (i : grid0.Coords) (x0 : Vec F S1x128x512 .f32) (x1 : Vec F S1x128x128 .bf16) : FVec F S128x128 .f32 :=
  k0_pay30 (iota .tc S128x128 32 [1] iota_S128x128_d1_w32) (k0_pay20 i) (pSum i x0 x1)
    (iota .tc S128x128 32 [1] iota_S128x128_d1_w32) k0_pay28 k0_pay29

/-- One where a block is among the sixteen best of its query, else zero, query by block: the ranks counted block by
    block, three or four at a time. -/
def selOf (v : FVec F S128x128 .f32) : FVec F S128x128 .f32 :=
  let s : FVec F S32x128 .f32 := k0_pay31 v
  let j : IVec S32x128 32 := iota .tc S32x128 32 [0] iota_S32x128_d0_w32
  let a0 := k0_pay36 s j (k0_pay32 v) (k0_pay34 v) (k0_pay35 v)
  let a1 := k0_pay40 s j a0 (k0_pay38 s) (k0_pay39 s j)
  let a2 := k0_pay44 s j a1 (k0_pay42 s) (k0_pay43 s j)
  let a3 := k0_pay48 s j a2 (k0_pay46 s) (k0_pay47 s j)
  let a4 := k0_pay52 s j a3 (k0_pay50 s) (k0_pay51 s j)
  let a5 := k0_pay56 s j a4 (k0_pay54 s) (k0_pay55 s j)
  let a6 := k0_pay60 s j a5 (k0_pay58 s) (k0_pay59 s j)
  let a7 := k0_pay64 s j a6 (k0_pay62 s) (k0_pay63 s j)
  let a8 := k0_pay68 s j a7 (k0_pay66 s) (k0_pay67 s j)
  k0_pay72 s j a8 (k0_pay70 s) (k0_pay71 s j)

/-- The selection, as the kernel's products take it. -/
def selM (i : grid0.Coords) (x0 : Vec F S1x128x512 .f32) (x1 : Vec F S1x128x128 .bf16) : FVec F S128x128 .bf16 :=
  k0_pay73 (selOf (scoreT i x0 x1))

/-- The key rows of each block of 512. -/
def rows0 (x : Vec F S2048x128 .bf16) : Vec F S512x128 .bf16 :=
  View.ld x (Rect.unit (s := S2048x128) ![0, 0] S512x128.size inb_S2048x128_S512x128_0_0)
def rows1 (x : Vec F S2048x128 .bf16) : Vec F S512x128 .bf16 :=
  View.ld x (Rect.unit (s := S2048x128) ![512, 0] S512x128.size inb_S2048x128_S512x128_512_0)
def rows2 (x : Vec F S2048x128 .bf16) : Vec F S512x128 .bf16 :=
  View.ld x (Rect.unit (s := S2048x128) ![1024, 0] S512x128.size inb_S2048x128_S512x128_1024_0)
def rows3 (x : Vec F S2048x128 .bf16) : Vec F S512x128 .bf16 :=
  View.ld x (Rect.unit (s := S2048x128) ![1536, 0] S512x128.size inb_S2048x128_S512x128_1536_0)

/-- The biased scores of each block of keys. -/
def sc0 (i : grid0.Coords) (q : FVec F S512x128 .bf16) (sel : FVec F S128x128 .bf16) (ks : Vec F S2048x128 .bf16) : FVec F S512x512 .f32 :=
  k0_pay4 q sel (iota .tc S128x512 32 [0] iota_S128x512_d0_w32) (iota .tc S128x512 32 [1] iota_S128x512_d1_w32) (k0_pay77 (BitVec.ofNat 32 (i 2).val)) (rows0 ks)
def sc1 (i : grid0.Coords) (q : FVec F S512x128 .bf16) (sel : FVec F S128x128 .bf16) (ks : Vec F S2048x128 .bf16) : FVec F S512x512 .f32 :=
  k0_pay7 q sel (iota .tc S128x512 32 [0] iota_S128x512_d0_w32) (iota .tc S128x512 32 [1] iota_S128x512_d1_w32) (k0_pay77 (BitVec.ofNat 32 (i 2).val)) (rows1 ks)
def sc2 (i : grid0.Coords) (q : FVec F S512x128 .bf16) (sel : FVec F S128x128 .bf16) (ks : Vec F S2048x128 .bf16) : FVec F S512x512 .f32 :=
  k0_pay10 q sel (iota .tc S128x512 32 [0] iota_S128x512_d0_w32) (iota .tc S128x512 32 [1] iota_S128x512_d1_w32) (k0_pay77 (BitVec.ofNat 32 (i 2).val)) (rows2 ks)
def sc3 (i : grid0.Coords) (q : FVec F S512x128 .bf16) (sel : FVec F S128x128 .bf16) (ks : Vec F S2048x128 .bf16) : FVec F S512x512 .f32 :=
  k0_pay13 q sel (iota .tc S128x512 32 [0] iota_S128x512_d0_w32) (iota .tc S128x512 32 [1] iota_S128x512_d1_w32) (k0_pay77 (BitVec.ofNat 32 (i 2).val)) (rows3 ks)

/-- The running maximum, lane by lane, after each block of keys. -/
def mx1 (i : grid0.Coords) (q : FVec F S512x128 .bf16) (sel : FVec F S128x128 .bf16) (ks : Vec F S2048x128 .bf16) : FVec F S512x128 .f32 :=
  k0_pay78 (k0_pay5 q sel (iota .tc S128x512 32 [0] iota_S128x512_d0_w32) (iota .tc S128x512 32 [1] iota_S128x512_d1_w32) (k0_pay77 (BitVec.ofNat 32 (i 2).val)) (rows0 ks) k0_pay74)
def mx2 (i : grid0.Coords) (q : FVec F S512x128 .bf16) (sel : FVec F S128x128 .bf16) (ks : Vec F S2048x128 .bf16) : FVec F S512x128 .f32 :=
  k0_pay79 (k0_pay8 q sel (iota .tc S128x512 32 [0] iota_S128x512_d0_w32) (iota .tc S128x512 32 [1] iota_S128x512_d1_w32) (k0_pay77 (BitVec.ofNat 32 (i 2).val)) (rows1 ks) (mx1 i q sel ks))
def mx3 (i : grid0.Coords) (q : FVec F S512x128 .bf16) (sel : FVec F S128x128 .bf16) (ks : Vec F S2048x128 .bf16) : FVec F S512x128 .f32 :=
  k0_pay80 (k0_pay11 q sel (iota .tc S128x512 32 [0] iota_S128x512_d0_w32) (iota .tc S128x512 32 [1] iota_S128x512_d1_w32) (k0_pay77 (BitVec.ofNat 32 (i 2).val)) (rows2 ks) (mx2 i q sel ks))
def mx4 (i : grid0.Coords) (q : FVec F S512x128 .bf16) (sel : FVec F S128x128 .bf16) (ks : Vec F S2048x128 .bf16) : FVec F S512x128 .f32 :=
  k0_pay81 (k0_pay14 q sel (iota .tc S128x512 32 [0] iota_S128x512_d0_w32) (iota .tc S128x512 32 [1] iota_S128x512_d1_w32) (k0_pay77 (BitVec.ofNat 32 (i 2).val)) (rows3 ks) (mx3 i q sel ks))

/-- The running sums of weights and of weighted values after each block of keys, by the maxima `m`. -/
def ls1 (i : grid0.Coords) (q : FVec F S512x128 .bf16) (sel : FVec F S128x128 .bf16) (ks : Vec F S2048x128 .bf16) (m : Vec F S512x128 .f32) : FVec F S512x128 .f32 :=
  k0_pay84 m (sc0 i q sel ks) k0_pay75
def ac1 (i : grid0.Coords) (q : FVec F S512x128 .bf16) (sel : FVec F S128x128 .bf16) (ks vs : Vec F S2048x128 .bf16) (m : Vec F S512x128 .f32) : FVec F S512x128 .f32 :=
  k0_pay85 m (sc0 i q sel ks) k0_pay76 (rows0 vs)
def ls2 (i : grid0.Coords) (q : FVec F S512x128 .bf16) (sel : FVec F S128x128 .bf16) (ks : Vec F S2048x128 .bf16) (m : Vec F S512x128 .f32) : FVec F S512x128 .f32 :=
  k0_pay87 m (sc1 i q sel ks) (ls1 i q sel ks m)
def ac2 (i : grid0.Coords) (q : FVec F S512x128 .bf16) (sel : FVec F S128x128 .bf16) (ks vs : Vec F S2048x128 .bf16) (m : Vec F S512x128 .f32) : FVec F S512x128 .f32 :=
  k0_pay88 m (sc1 i q sel ks) (ac1 i q sel ks vs m) (rows1 vs)
def ls3 (i : grid0.Coords) (q : FVec F S512x128 .bf16) (sel : FVec F S128x128 .bf16) (ks : Vec F S2048x128 .bf16) (m : Vec F S512x128 .f32) : FVec F S512x128 .f32 :=
  k0_pay90 m (sc2 i q sel ks) (ls2 i q sel ks m)
def ac3 (i : grid0.Coords) (q : FVec F S512x128 .bf16) (sel : FVec F S128x128 .bf16) (ks vs : Vec F S2048x128 .bf16) (m : Vec F S512x128 .f32) : FVec F S512x128 .f32 :=
  k0_pay91 m (sc2 i q sel ks) (ac2 i q sel ks vs m) (rows2 vs)
def ls4 (i : grid0.Coords) (q : FVec F S512x128 .bf16) (sel : FVec F S128x128 .bf16) (ks : Vec F S2048x128 .bf16) (m : Vec F S512x128 .f32) : FVec F S512x128 .f32 :=
  k0_pay93 m (sc3 i q sel ks) (ls3 i q sel ks m)
def ac4 (i : grid0.Coords) (q : FVec F S512x128 .bf16) (sel : FVec F S128x128 .bf16) (ks vs : Vec F S2048x128 .bf16) (m : Vec F S512x128 .f32) : FVec F S512x128 .f32 :=
  k0_pay94 m (sc3 i q sel ks) (ac3 i q sel ks vs m) (rows3 vs)

/-- The selected branch over the first one, two, three or four blocks of keys. -/
def oSlc1 (i : grid0.Coords) (q : FVec F S512x128 .bf16) (sel : FVec F S128x128 .bf16) (ks vs : Vec F S2048x128 .bf16) : FVec F S512x128 .f32 :=
  k0_pay95 (ac1 i q sel ks vs (mx1 i q sel ks)) (ls1 i q sel ks (mx1 i q sel ks))
def oSlc2 (i : grid0.Coords) (q : FVec F S512x128 .bf16) (sel : FVec F S128x128 .bf16) (ks vs : Vec F S2048x128 .bf16) : FVec F S512x128 .f32 :=
  k0_pay95 (ac2 i q sel ks vs (mx2 i q sel ks)) (ls2 i q sel ks (mx2 i q sel ks))
def oSlc3 (i : grid0.Coords) (q : FVec F S512x128 .bf16) (sel : FVec F S128x128 .bf16) (ks vs : Vec F S2048x128 .bf16) : FVec F S512x128 .f32 :=
  k0_pay95 (ac3 i q sel ks vs (mx3 i q sel ks)) (ls3 i q sel ks (mx3 i q sel ks))
def oSlc4 (i : grid0.Coords) (q : FVec F S512x128 .bf16) (sel : FVec F S128x128 .bf16) (ks vs : Vec F S2048x128 .bf16) : FVec F S512x128 .f32 :=
  k0_pay95 (ac4 i q sel ks vs (mx4 i q sel ks)) (ls4 i q sel ks (mx4 i q sel ks))

/-- The window's rows of a copy. -/
def rowsW (i : grid0.Coords) (x : Vec F S2048x128 .bf16) : Vec F S640x128 .bf16 :=
  View.ld x (Rect.unit (s := S2048x128) (k0_off1 i) S640x128.size (k0_off1_inb i))
/-- The window branch. -/
def oWin (i : grid0.Coords) (q : FVec F S512x128 .bf16) (kw vw : Vec F S2048x128 .bf16) : FVec F S512x128 .f32 :=
  k0_pay96 (BitVec.ofNat 32 (i 2).val) q (Scalar.addi (Scalar.muli (BitVec.ofNat 32 (i 2).val) 128#32) 128#32)
    (rowsW i kw) (rowsW i vw)

/-- The output block's four column pieces, last stored first. -/
def outPieces (oc os ow : FVec F S512x128 .f32) (g : Vec F S1x128x128 .f32) : List (View.Piece (Elt F) S1x128x512 .bf16) :=
  [⟨Rect.unit (s := S1x128x512) ![0, 0, 384] ![1, 128, 128] inb_S1x128x512_S1x128x128_0_0_384, k0_pay2 oc os ow (k0_pay97 g)⟩,
   ⟨Rect.unit (s := S1x128x512) ![0, 0, 256] ![1, 128, 128] inb_S1x128x512_S1x128x128_0_0_256, k0_pay1 (k0_pay100 oc os ow g)⟩,
   ⟨Rect.unit (s := S1x128x512) ![0, 0, 128] S1x128x128.size inb_S1x128x512_S1x128x128_0_0_128, k0_pay99 oc os ow g⟩,
   ⟨Rect.unit (s := S1x128x512) ![0, 0, 0] S1x128x128.size inb_S1x128x512_S1x128x128_0_0_0, k0_pay98 oc os ow g⟩]

/-- The selected branch over the blocks of keys the point looks at: those up to its own rows'. -/
def oSlc (i : grid0.Coords) (q : FVec F S512x128 .bf16) (sel : FVec F S128x128 .bf16) (ks vs : Vec F S2048x128 .bf16) : FVec F S512x128 .f32 :=
  if (i 2).val < 4 then oSlc1 i q sel ks vs else if (i 2).val < 8 then oSlc2 i q sel ks vs
  else if (i 2).val < 12 then oSlc3 i q sel ks vs else oSlc4 i q sel ks vs

/-- The output block. -/
def outBlk (i : grid0.Coords) (x0 : Vec F S1x128x512 .f32) (x1 x2 : Vec F S1x128x128 .bf16) (g : Vec F S1x128x128 .f32)
    (ks vs kw vw : Vec F S2048x128 .bf16) : Vec F S1x128x512 .bf16 :=
  View.canon (outPieces (oCmp i x0 x1 x2) (oSlc i (qAll x0) (selM i x0 x1) ks vs) (oWin i (qAll x0) kw vw) g)

/-- The output's four pieces cover its block. -/
theorem outPieces_cover (oc os ow : FVec F S512x128 .f32) (g : Vec F S1x128x128 .f32) (y : S1x128x512.Idx) :
    ∃ pc ∈ outPieces oc os ow g, y ∈ pc.1.set :=
  View.cover_of_tiled (outPieces oc os ow g) S1x128x128.size (by sl_kernel_rfl) y

/-- A load through a rectangle of a whole memref held at the contents that read `X` reads `X` there. -/
theorem readAt_unread_ld {sig : RefSig} {Val : EltTy → Type} {κ : Kind} {sp : Space} {s : Shape} {e : EltTy} {m : Memref sig κ sp s e}
    (h : m.IsWhole) (X : s.Idx → Val e) (r : Rect s) :
    View.readAt Val m.view r.toLoadRect (h.unread X) = View.ld X r := funext fun x => Memref.IsWhole.readAt_unread h X _ x

/-- The same of a memref stored whole and nothing else. -/
theorem readAt_fill_ld {sig : RefSig} {Val : EltTy → Type} [∀ e, Nonempty (Val e)] {κ : Kind} {sp : Space} {s : Shape} {e : EltTy} (v : View sig κ sp s e)
    {off : Fin s.rank → ℕ} (inb : ∀ a, off a + s.size a ≤ s.size a) (Z : s.Idx → Val e) (r : Rect s) (h : ∀ a, off a = 0) :
    v.readAt Val r.toLoadRect (v.writes Val v.junk [⟨Rect.unit off (no_index s.size) inb, Z⟩]) = View.ld Z r :=
  View.readCov_fill v inb Z [] r h

/-- The point's third coordinate. -/
theorem coords2 : ∀ t : Fin cfg0.N, (grid0.coords t 2).val = t.val % 16 :=
  (by decide +kernel : ∀ t : Fin grid0.N, (grid0.coords t 2).val = t.val % 16)

end Cert.KernelIdeal.Gen

end
-- ==== Proof.RunA.lean ====
/- The run of the attention kernel's whole body in case A of its branch conditions, the pieces its output and its
   carried scratch end with found by the run. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces the body's stores leave in the output (last first) in case A, and in the four scratch copies it fills here, with the proof that on whole staging
    memrefs the body runs from the inputs' contents to the same contents and the four copies' pieces and the output's pieces written. -/
noncomputable def kernelRun0_A (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) :
    Σ' (L8 : List (View.Piece (Elt F) S1x128x512 .bf16)) (LS0 : List (View.Piece (Elt F) S2048x128 .bf16)) (LS1 : List (View.Piece (Elt F) S2048x128 .bf16)) (LS2 : List (View.Piece (Elt F) S2048x128 .bf16)), { LS3 : List (View.Piece (Elt F) S2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.PiecesA.lean ====
/- Case A: the pieces its run writes are the body's pure functions of the blocks. -/
module

public import proofs.«01_k».proof.Proof.Body
public import proofs.«01_k».proof.Proof.RunA

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runA_sel (c : Dev nD) (i : grid0.Coords) (arg3 : Memref sig .tc .vmem S1x128x512 .f32) (harg3 : arg3.IsWhole) (arg4 : Memref sig .tc .vmem S1x128x128 .bf16) (harg4 : arg4.IsWhole) (x0 : Vec F S1x128x512 .f32) (x1 : Vec F S1x128x128 .bf16) :
    kernelRun0_A.sl.r_36 (F := F) c i arg3 harg3 arg4 harg4 x0 x1 = selOf (scoreT i x0 x1) := by
  have h : kernelRun0_A.sl.r_36 (F := F) c i arg3 harg3 arg4 harg4 x0 x1 = selOf (kernelRun0_A.sl.r_4 (F := F) c i arg3 harg3 arg4 harg4 x0 x1) := rfl
  rw [h]
  simp (disch := decide) only [kernelRun0_A.sl.r_4, kernelRun0_A.sl.r_3, kernelRun0_A.sl.r_1, kernelRun0_A.sl.v14, readAt_unread_ld, View.ld_unit_lit']
  rfl

theorem runA_pieces  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).1
      = outPieces (oCmp i x0 x1 x2) (oSlc1 i (qAll x0) (selM i x0 x1) (k0_pay15 x3) (k0_pay16 x4)) (oWin i (qAll x0) (k0_pay17 x5) (k0_pay18 x6)) x7 := by
  simp (disch := decide) only [kernelRun0_A, kernelRun0_A.sl.HS0_1, kernelRun0_A.sl.HS1_1, kernelRun0_A.sl.HS2_1, kernelRun0_A.sl.HS3_1, kernelRun0_A.sl.HS4_1, kernelRun0_A.sl.HS5_1, kernelRun0_A.sl.HS5_2, kernelRun0_A.sl.HS6_1, kernelRun0_A.sl.HS6_2, kernelRun0_A.sl.HS7_1, kernelRun0_A.sl.HS7_2, kernelRun0_A.sl.r, kernelRun0_A.sl.r_1, kernelRun0_A.sl.r_2, kernelRun0_A.sl.r_3, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.v0, kernelRun0_A.sl.v1, kernelRun0_A.sl.v131, kernelRun0_A.sl.v14, kernelRun0_A.sl.v2, kernelRun0_A.sl.v637, kernelRun0_A.sl.v638, kernelRun0_A.sl.v643, kernelRun0_A.sl.v644, kernelRun0_A.sl.v645, kernelRun0_A.sl.v646, kernelRun0_A.sl.v648, kernelRun0_A.sl.v649, kernelRun0_A.sl.v650, kernelRun0_A.sl.v652, kernelRun0_A.sl.v653, kernelRun0_A.sl.v654, kernelRun0_A.sl.v656, kernelRun0_A.sl.v657, kernelRun0_A.sl.v658, kernelRun0_A.sl.v659, kernelRun0_A.sl.v678, kernelRun0_A.sl.v679, kernelRun0_A.sl.v687, kernelRun0_A.sl.v805, kernelRun0_A.sl.v809, kernelRun0_A.sl.v821, kernelRun0_A.sl.v823, kernelRun0_A.sl.v825, kernelRun0_A.sl.v835, runA_sel, readAt_unread_ld, View.ld_unit_lit', ↓View.readCov_cons_toLoadRect, ↓View.readCov_skip, ↓View.readCov_fill, readAt_fill_ld,
    oCmp, qAll, selM, oWin, rowsW, oSlc1, mx1, ls1, ac1, sc0, rows0]
  rfl

/-- What the run leaves in the output's buffer. -/
theorem runA_read  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (hi : (i 2).val < 4) (f : arg11.view.ty.Contents (Elt F)) :
    arg11.view.read (Elt F) (arg11.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).1) = outBlk i x0 x1 x2 x7 (k0_pay15 x3) (k0_pay16 x4) (k0_pay17 x5) (k0_pay18 x6) := by
  rw [runA_pieces, View.read_writes_eq_canon _ _ _ (outPieces_cover _ _ _ _)]
  unfold outBlk oSlc
  rw [if_pos hi]

/-- What the run leaves in the copy `arg12`. -/
theorem runA_copy0  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (f : arg12.view.ty.Contents (Elt F)) :
    arg12.view.read (Elt F) (arg12.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.1) = k0_pay15 x3 := by
  have h : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.1 = [⟨Rect.unit (s := S2048x128) ![0, 0] S2048x128.size inb_S2048x128_S2048x128_0_0, k0_pay15 x3⟩] := by
    simp (disch := decide) only [kernelRun0_A, kernelRun0_A.sl.HS0_1, readAt_unread_ld, View.ld_unit_lit']
  rw [h, View.read_writes_eq_canon _ _ _ (View.cover_of_tiled (Val := Elt F) (e := .bf16) [⟨Rect.unit (s := S2048x128) ![0, 0] S2048x128.size inb_S2048x128_S2048x128_0_0, k0_pay15 x3⟩] S2048x128.size (by sl_kernel_rfl)),
    View.canon_cons_unit_lit' _ _ _ (by decide)]

/-- What the run leaves in the copy `arg13`. -/
theorem runA_copy1  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (f : arg13.view.ty.Contents (Elt F)) :
    arg13.view.read (Elt F) (arg13.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.2.1) = k0_pay16 x4 := by
  have h : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.2.1 = [⟨Rect.unit (s := S2048x128) ![0, 0] S2048x128.size inb_S2048x128_S2048x128_0_0, k0_pay16 x4⟩] := by
    simp (disch := decide) only [kernelRun0_A, kernelRun0_A.sl.HS1_1, readAt_unread_ld, View.ld_unit_lit']
  rw [h, View.read_writes_eq_canon _ _ _ (View.cover_of_tiled (Val := Elt F) (e := .bf16) [⟨Rect.unit (s := S2048x128) ![0, 0] S2048x128.size inb_S2048x128_S2048x128_0_0, k0_pay16 x4⟩] S2048x128.size (by sl_kernel_rfl)),
    View.canon_cons_unit_lit' _ _ _ (by decide)]

/-- What the run leaves in the copy `arg14`. -/
theorem runA_copy2  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (f : arg14.view.ty.Contents (Elt F)) :
    arg14.view.read (Elt F) (arg14.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.2.2.1) = k0_pay17 x5 := by
  have h : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.2.2.1 = [⟨Rect.unit (s := S2048x128) ![0, 0] S2048x128.size inb_S2048x128_S2048x128_0_0, k0_pay17 x5⟩] := by
    simp (disch := decide) only [kernelRun0_A, kernelRun0_A.sl.HS2_1, readAt_unread_ld, View.ld_unit_lit']
  rw [h, View.read_writes_eq_canon _ _ _ (View.cover_of_tiled (Val := Elt F) (e := .bf16) [⟨Rect.unit (s := S2048x128) ![0, 0] S2048x128.size inb_S2048x128_S2048x128_0_0, k0_pay17 x5⟩] S2048x128.size (by sl_kernel_rfl)),
    View.canon_cons_unit_lit' _ _ _ (by decide)]

/-- What the run leaves in the copy `arg15`. -/
theorem runA_copy3  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (f : arg15.view.ty.Contents (Elt F)) :
    arg15.view.read (Elt F) (arg15.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.2.2.2.1) = k0_pay18 x6 := by
  have h : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7).2.2.2.2.1 = [⟨Rect.unit (s := S2048x128) ![0, 0] S2048x128.size inb_S2048x128_S2048x128_0_0, k0_pay18 x6⟩] := by
    simp (disch := decide) only [kernelRun0_A, kernelRun0_A.sl.HS3_1, readAt_unread_ld, View.ld_unit_lit']
  rw [h, View.read_writes_eq_canon _ _ _ (View.cover_of_tiled (Val := Elt F) (e := .bf16) [⟨Rect.unit (s := S2048x128) ![0, 0] S2048x128.size inb_S2048x128_S2048x128_0_0, k0_pay18 x6⟩] S2048x128.size (by sl_kernel_rfl)),
    View.canon_cons_unit_lit' _ _ _ (by decide)]

end Cert.KernelIdeal.Gen

end
-- ==== Proof.RunB.lean ====
/- The run of the attention kernel's whole body in case B of its branch conditions, the pieces its output and its
   carried scratch end with found by the run. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces the body's stores leave in the output (last first) in case B with the proof that on whole staging
    memrefs the body runs from the inputs' contents to the same contents, the four scratch copies as they were, and the output's pieces written. -/
noncomputable def kernelRun0_B (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    { L8 : List (View.Piece (Elt F) S1x128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1; obtain rfl := harg14.eq_unread hfs2; obtain rfl := harg15.eq_unread hfs3
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.PiecesB.lean ====
/- Case B: the pieces its run writes are the body's pure functions of the blocks. -/
module

public import proofs.«01_k».proof.Proof.Body
public import proofs.«01_k».proof.Proof.RunB

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runB_sel (c : Dev nD) (i : grid0.Coords) (arg3 : Memref sig .tc .vmem S1x128x512 .f32) (harg3 : arg3.IsWhole) (arg4 : Memref sig .tc .vmem S1x128x128 .bf16) (harg4 : arg4.IsWhole) (x0 : Vec F S1x128x512 .f32) (x1 : Vec F S1x128x128 .bf16) :
    kernelRun0_B.sl.r_36 (F := F) c i arg3 harg3 arg4 harg4 x0 x1 = selOf (scoreT i x0 x1) := by
  have h : kernelRun0_B.sl.r_36 (F := F) c i arg3 harg3 arg4 harg4 x0 x1 = selOf (kernelRun0_B.sl.r_4 (F := F) c i arg3 harg3 arg4 harg4 x0 x1) := rfl
  rw [h]
  simp (disch := decide) only [kernelRun0_B.sl.r_4, kernelRun0_B.sl.r_3, kernelRun0_B.sl.r_1, kernelRun0_B.sl.v14, readAt_unread_ld, View.ld_unit_lit']
  rfl

theorem runB_pieces  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1
      = outPieces (oCmp i x0 x1 x2) (oSlc1 i (qAll x0) (selM i x0 x1) xs0 xs1) (oWin i (qAll x0) xs2 xs3) x7 := by
  simp (disch := decide) only [kernelRun0_B, kernelRun0_B.sl.HS4_1, kernelRun0_B.sl.HS5_1, kernelRun0_B.sl.HS5_2, kernelRun0_B.sl.HS6_1, kernelRun0_B.sl.HS6_2, kernelRun0_B.sl.HS7_1, kernelRun0_B.sl.HS7_2, kernelRun0_B.sl.r, kernelRun0_B.sl.r_1, kernelRun0_B.sl.r_2, kernelRun0_B.sl.r_3, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.v0, kernelRun0_B.sl.v1, kernelRun0_B.sl.v131, kernelRun0_B.sl.v14, kernelRun0_B.sl.v2, kernelRun0_B.sl.v637, kernelRun0_B.sl.v638, kernelRun0_B.sl.v643, kernelRun0_B.sl.v644, kernelRun0_B.sl.v645, kernelRun0_B.sl.v646, kernelRun0_B.sl.v648, kernelRun0_B.sl.v649, kernelRun0_B.sl.v650, kernelRun0_B.sl.v652, kernelRun0_B.sl.v653, kernelRun0_B.sl.v654, kernelRun0_B.sl.v656, kernelRun0_B.sl.v657, kernelRun0_B.sl.v658, kernelRun0_B.sl.v659, kernelRun0_B.sl.v678, kernelRun0_B.sl.v679, kernelRun0_B.sl.v687, kernelRun0_B.sl.v805, kernelRun0_B.sl.v809, kernelRun0_B.sl.v821, kernelRun0_B.sl.v835, runB_sel, readAt_unread_ld, View.ld_unit_lit', ↓View.readCov_cons_toLoadRect, ↓View.readCov_skip, ↓View.readCov_fill, readAt_fill_ld,
    oCmp, qAll, selM, oWin, rowsW, oSlc1, mx1, ls1, ac1, sc0, rows0]
  rfl

/-- What the run leaves in the output's buffer. -/
theorem runB_read  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) (hi : (i 2).val < 4) (f : arg11.view.ty.Contents (Elt F)) :
    arg11.view.read (Elt F) (arg11.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1) = outBlk i x0 x1 x2 x7 xs0 xs1 xs2 xs3 := by
  rw [runB_pieces, View.read_writes_eq_canon _ _ _ (outPieces_cover _ _ _ _)]
  unfold outBlk oSlc
  rw [if_pos hi]

end Cert.KernelIdeal.Gen

end
-- ==== Proof.RunC.lean ====
/- The run of the attention kernel's whole body in case C of its branch conditions, the pieces its output and its
   carried scratch end with found by the run. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces the body's stores leave in the output (last first) in case C with the proof that on whole staging
    memrefs the body runs from the inputs' contents to the same contents, the four scratch copies as they were, and the output's pieces written. -/
noncomputable def kernelRun0_C (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : ¬cond0_3 i) (hc4 : ¬cond0_4 i) (hc5 : cond0_5 i) (hc6 : cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    { L8 : List (View.Piece (Elt F) S1x128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part2_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1; obtain rfl := harg14.eq_unread hfs2; obtain rfl := harg15.eq_unread hfs3
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.PiecesC.lean ====
/- Case C: the pieces its run writes are the body's pure functions of the blocks. -/
module

public import proofs.«01_k».proof.Proof.Body
public import proofs.«01_k».proof.Proof.RunC

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runC_sel (c : Dev nD) (i : grid0.Coords) (arg3 : Memref sig .tc .vmem S1x128x512 .f32) (harg3 : arg3.IsWhole) (arg4 : Memref sig .tc .vmem S1x128x128 .bf16) (harg4 : arg4.IsWhole) (x0 : Vec F S1x128x512 .f32) (x1 : Vec F S1x128x128 .bf16) :
    kernelRun0_C.sl.r_36 (F := F) c i arg3 harg3 arg4 harg4 x0 x1 = selOf (scoreT i x0 x1) := by
  have h : kernelRun0_C.sl.r_36 (F := F) c i arg3 harg3 arg4 harg4 x0 x1 = selOf (kernelRun0_C.sl.r_4 (F := F) c i arg3 harg3 arg4 harg4 x0 x1) := rfl
  rw [h]
  simp (disch := decide) only [kernelRun0_C.sl.r_4, kernelRun0_C.sl.r_3, kernelRun0_C.sl.r_1, kernelRun0_C.sl.v14, readAt_unread_ld, View.ld_unit_lit']
  rfl

theorem runC_pieces  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : ¬cond0_3 i) (hc4 : ¬cond0_4 i) (hc5 : cond0_5 i) (hc6 : cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1
      = outPieces (oCmp i x0 x1 x2) (oSlc2 i (qAll x0) (selM i x0 x1) xs0 xs1) (oWin i (qAll x0) xs2 xs3) x7 := by
  simp (disch := decide) only [kernelRun0_C, kernelRun0_C.sl.HS4_2, kernelRun0_C.sl.HS5_1, kernelRun0_C.sl.HS5_2, kernelRun0_C.sl.HS5_3, kernelRun0_C.sl.HS6_1, kernelRun0_C.sl.HS6_2, kernelRun0_C.sl.HS6_3, kernelRun0_C.sl.HS7_1, kernelRun0_C.sl.HS7_2, kernelRun0_C.sl.HS7_3, kernelRun0_C.sl.r, kernelRun0_C.sl.r_1, kernelRun0_C.sl.r_2, kernelRun0_C.sl.r_3, kernelRun0_C.sl.r_37, kernelRun0_C.sl.r_38, kernelRun0_C.sl.r_39, kernelRun0_C.sl.r_4, kernelRun0_C.sl.r_40, kernelRun0_C.sl.r_41, kernelRun0_C.sl.r_42, kernelRun0_C.sl.r_43, kernelRun0_C.sl.r_44, kernelRun0_C.sl.v0, kernelRun0_C.sl.v1, kernelRun0_C.sl.v131, kernelRun0_C.sl.v14, kernelRun0_C.sl.v2, kernelRun0_C.sl.v637, kernelRun0_C.sl.v638, kernelRun0_C.sl.v643, kernelRun0_C.sl.v644, kernelRun0_C.sl.v645, kernelRun0_C.sl.v646, kernelRun0_C.sl.v648, kernelRun0_C.sl.v649, kernelRun0_C.sl.v650, kernelRun0_C.sl.v652, kernelRun0_C.sl.v653, kernelRun0_C.sl.v654, kernelRun0_C.sl.v656, kernelRun0_C.sl.v657, kernelRun0_C.sl.v658, kernelRun0_C.sl.v659, kernelRun0_C.sl.v678, kernelRun0_C.sl.v679, kernelRun0_C.sl.v687, kernelRun0_C.sl.v805, kernelRun0_C.sl.v805_1, kernelRun0_C.sl.v809, kernelRun0_C.sl.v809_1, kernelRun0_C.sl.v821, kernelRun0_C.sl.v821_1, kernelRun0_C.sl.v835, kernelRun0_C.sl.v835_1, runC_sel, readAt_unread_ld, View.ld_unit_lit', ↓View.readCov_cons_toLoadRect, ↓View.readCov_skip, ↓View.readCov_fill, readAt_fill_ld,
    oCmp, qAll, selM, oWin, rowsW, oSlc2, mx1, mx2, ls1, ls2, ac1, ac2, sc0, sc1, rows0, rows1]
  rfl

/-- What the run leaves in the output's buffer. -/
theorem runC_read  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : ¬cond0_3 i) (hc4 : ¬cond0_4 i) (hc5 : cond0_5 i) (hc6 : cond0_6 i) (hc7 : ¬cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) (hi : 4 ≤ (i 2).val) (hi2 : (i 2).val < 8) (f : arg11.view.ty.Contents (Elt F)) :
    arg11.view.read (Elt F) (arg11.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1) = outBlk i x0 x1 x2 x7 xs0 xs1 xs2 xs3 := by
  rw [runC_pieces, View.read_writes_eq_canon _ _ _ (outPieces_cover _ _ _ _)]
  unfold outBlk oSlc
  rw [if_neg (by omega), if_pos hi2]

end Cert.KernelIdeal.Gen

end
-- ==== Proof.RunD.lean ====
/- The run of the attention kernel's whole body in case D of its branch conditions, the pieces its output and its
   carried scratch end with found by the run. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces the body's stores leave in the output (last first) in case D with the proof that on whole staging
    memrefs the body runs from the inputs' contents to the same contents, the four scratch copies as they were, and the output's pieces written. -/
noncomputable def kernelRun0_D (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : cond0_3 i) (hc4 : ¬cond0_4 i) (hc5 : cond0_5 i) (hc6 : cond0_6 i) (hc7 : cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    { L8 : List (View.Piece (Elt F) S1x128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part2_eq_skeleton, k0_part3_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1; obtain rfl := harg14.eq_unread hfs2; obtain rfl := harg15.eq_unread hfs3
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.PiecesD.lean ====
/- Case D: the pieces its run writes are the body's pure functions of the blocks. -/
module

public import proofs.«01_k».proof.Proof.Body
public import proofs.«01_k».proof.Proof.RunD

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runD_sel (c : Dev nD) (i : grid0.Coords) (arg3 : Memref sig .tc .vmem S1x128x512 .f32) (harg3 : arg3.IsWhole) (arg4 : Memref sig .tc .vmem S1x128x128 .bf16) (harg4 : arg4.IsWhole) (x0 : Vec F S1x128x512 .f32) (x1 : Vec F S1x128x128 .bf16) :
    kernelRun0_D.sl.r_36 (F := F) c i arg3 harg3 arg4 harg4 x0 x1 = selOf (scoreT i x0 x1) := by
  have h : kernelRun0_D.sl.r_36 (F := F) c i arg3 harg3 arg4 harg4 x0 x1 = selOf (kernelRun0_D.sl.r_4 (F := F) c i arg3 harg3 arg4 harg4 x0 x1) := rfl
  rw [h]
  simp (disch := decide) only [kernelRun0_D.sl.r_4, kernelRun0_D.sl.r_3, kernelRun0_D.sl.r_1, kernelRun0_D.sl.v14, readAt_unread_ld, View.ld_unit_lit']
  rfl

theorem runD_pieces  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : cond0_3 i) (hc4 : ¬cond0_4 i) (hc5 : cond0_5 i) (hc6 : cond0_6 i) (hc7 : cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1
      = outPieces (oCmp i x0 x1 x2) (oSlc3 i (qAll x0) (selM i x0 x1) xs0 xs1) (oWin i (qAll x0) xs2 xs3) x7 := by
  simp (disch := decide) only [kernelRun0_D, kernelRun0_D.sl.HS4_3, kernelRun0_D.sl.HS5_1, kernelRun0_D.sl.HS5_2, kernelRun0_D.sl.HS5_3, kernelRun0_D.sl.HS5_4, kernelRun0_D.sl.HS6_1, kernelRun0_D.sl.HS6_2, kernelRun0_D.sl.HS6_3, kernelRun0_D.sl.HS6_4, kernelRun0_D.sl.HS7_1, kernelRun0_D.sl.HS7_2, kernelRun0_D.sl.HS7_3, kernelRun0_D.sl.HS7_4, kernelRun0_D.sl.r, kernelRun0_D.sl.r_1, kernelRun0_D.sl.r_2, kernelRun0_D.sl.r_3, kernelRun0_D.sl.r_37, kernelRun0_D.sl.r_38, kernelRun0_D.sl.r_39, kernelRun0_D.sl.r_4, kernelRun0_D.sl.r_40, kernelRun0_D.sl.r_41, kernelRun0_D.sl.r_42, kernelRun0_D.sl.r_43, kernelRun0_D.sl.r_44, kernelRun0_D.sl.r_45, kernelRun0_D.sl.v0, kernelRun0_D.sl.v1, kernelRun0_D.sl.v131, kernelRun0_D.sl.v14, kernelRun0_D.sl.v2, kernelRun0_D.sl.v637, kernelRun0_D.sl.v638, kernelRun0_D.sl.v643, kernelRun0_D.sl.v644, kernelRun0_D.sl.v645, kernelRun0_D.sl.v646, kernelRun0_D.sl.v648, kernelRun0_D.sl.v649, kernelRun0_D.sl.v650, kernelRun0_D.sl.v652, kernelRun0_D.sl.v653, kernelRun0_D.sl.v654, kernelRun0_D.sl.v656, kernelRun0_D.sl.v657, kernelRun0_D.sl.v658, kernelRun0_D.sl.v659, kernelRun0_D.sl.v678, kernelRun0_D.sl.v679, kernelRun0_D.sl.v687, kernelRun0_D.sl.v805, kernelRun0_D.sl.v805_1, kernelRun0_D.sl.v805_2, kernelRun0_D.sl.v809, kernelRun0_D.sl.v809_1, kernelRun0_D.sl.v809_2, kernelRun0_D.sl.v821, kernelRun0_D.sl.v821_1, kernelRun0_D.sl.v821_2, kernelRun0_D.sl.v835, kernelRun0_D.sl.v835_1, kernelRun0_D.sl.v835_2, runD_sel, readAt_unread_ld, View.ld_unit_lit', ↓View.readCov_cons_toLoadRect, ↓View.readCov_skip, ↓View.readCov_fill, readAt_fill_ld,
    oCmp, qAll, selM, oWin, rowsW, oSlc3, mx1, mx2, mx3, ls1, ls2, ls3, ac1, ac2, ac3, sc0, sc1, sc2, rows0, rows1, rows2]
  rfl

/-- What the run leaves in the output's buffer. -/
theorem runD_read  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : cond0_3 i) (hc4 : ¬cond0_4 i) (hc5 : cond0_5 i) (hc6 : cond0_6 i) (hc7 : cond0_7 i) (hc8 : ¬cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) (hi : 8 ≤ (i 2).val) (hi2 : (i 2).val < 12) (f : arg11.view.ty.Contents (Elt F)) :
    arg11.view.read (Elt F) (arg11.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1) = outBlk i x0 x1 x2 x7 xs0 xs1 xs2 xs3 := by
  rw [runD_pieces, View.read_writes_eq_canon _ _ _ (outPieces_cover _ _ _ _)]
  unfold outBlk oSlc
  rw [if_neg (by omega), if_neg (by omega), if_pos hi2]

end Cert.KernelIdeal.Gen

end
-- ==== Proof.RunE.lean ====
/- The run of the attention kernel's whole body in case E of its branch conditions, the pieces its output and its
   carried scratch end with found by the run. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces the body's stores leave in the output (last first) in case E with the proof that on whole staging
    memrefs the body runs from the inputs' contents to the same contents, the four scratch copies as they were, and the output's pieces written. -/
noncomputable def kernelRun0_E (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    { L8 : List (View.Piece (Elt F) S1x128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ owns (c : Thread nD τ) arg13 fullShare xs1 ∗ owns (c : Thread nD τ) arg14 fullShare xs2 ∗ owns (c : Thread nD τ) arg15 fullShare xs3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part2_eq_skeleton, k0_part3_eq_skeleton, k0_part20_eq_skeleton, k0_part4_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1; obtain rfl := harg14.eq_unread hfs2; obtain rfl := harg15.eq_unread hfs3
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.PiecesE.lean ====
/- Case E: the pieces its run writes are the body's pure functions of the blocks. -/
module

public import proofs.«01_k».proof.Proof.Body
public import proofs.«01_k».proof.Proof.RunE

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runE_sel (c : Dev nD) (i : grid0.Coords) (arg3 : Memref sig .tc .vmem S1x128x512 .f32) (harg3 : arg3.IsWhole) (arg4 : Memref sig .tc .vmem S1x128x128 .bf16) (harg4 : arg4.IsWhole) (x0 : Vec F S1x128x512 .f32) (x1 : Vec F S1x128x128 .bf16) :
    kernelRun0_E.sl.r_36 (F := F) c i arg3 harg3 arg4 harg4 x0 x1 = selOf (scoreT i x0 x1) := by
  have h : kernelRun0_E.sl.r_36 (F := F) c i arg3 harg3 arg4 harg4 x0 x1 = selOf (kernelRun0_E.sl.r_4 (F := F) c i arg3 harg3 arg4 harg4 x0 x1) := rfl
  rw [h]
  simp (disch := decide) only [kernelRun0_E.sl.r_4, kernelRun0_E.sl.r_3, kernelRun0_E.sl.r_1, kernelRun0_E.sl.v14, readAt_unread_ld, View.ld_unit_lit']
  rfl

theorem runE_pieces  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1
      = outPieces (oCmp i x0 x1 x2) (oSlc4 i (qAll x0) (selM i x0 x1) xs0 xs1) (oWin i (qAll x0) xs2 xs3) x7 := by
  simp (disch := decide) only [kernelRun0_E, kernelRun0_E.sl.HS4_4, kernelRun0_E.sl.HS5_1, kernelRun0_E.sl.HS5_2, kernelRun0_E.sl.HS5_3, kernelRun0_E.sl.HS5_4, kernelRun0_E.sl.HS5_5, kernelRun0_E.sl.HS6_1, kernelRun0_E.sl.HS6_2, kernelRun0_E.sl.HS6_3, kernelRun0_E.sl.HS6_4, kernelRun0_E.sl.HS6_5, kernelRun0_E.sl.HS7_1, kernelRun0_E.sl.HS7_2, kernelRun0_E.sl.HS7_3, kernelRun0_E.sl.HS7_4, kernelRun0_E.sl.HS7_5, kernelRun0_E.sl.r, kernelRun0_E.sl.r_1, kernelRun0_E.sl.r_2, kernelRun0_E.sl.r_3, kernelRun0_E.sl.r_37, kernelRun0_E.sl.r_38, kernelRun0_E.sl.r_39, kernelRun0_E.sl.r_4, kernelRun0_E.sl.r_40, kernelRun0_E.sl.r_41, kernelRun0_E.sl.r_42, kernelRun0_E.sl.r_43, kernelRun0_E.sl.r_44, kernelRun0_E.sl.r_45, kernelRun0_E.sl.r_46, kernelRun0_E.sl.v0, kernelRun0_E.sl.v1, kernelRun0_E.sl.v131, kernelRun0_E.sl.v14, kernelRun0_E.sl.v2, kernelRun0_E.sl.v637, kernelRun0_E.sl.v638, kernelRun0_E.sl.v643, kernelRun0_E.sl.v644, kernelRun0_E.sl.v645, kernelRun0_E.sl.v646, kernelRun0_E.sl.v648, kernelRun0_E.sl.v649, kernelRun0_E.sl.v650, kernelRun0_E.sl.v652, kernelRun0_E.sl.v653, kernelRun0_E.sl.v654, kernelRun0_E.sl.v656, kernelRun0_E.sl.v657, kernelRun0_E.sl.v658, kernelRun0_E.sl.v659, kernelRun0_E.sl.v678, kernelRun0_E.sl.v679, kernelRun0_E.sl.v687, kernelRun0_E.sl.v805, kernelRun0_E.sl.v805_1, kernelRun0_E.sl.v805_2, kernelRun0_E.sl.v805_3, kernelRun0_E.sl.v809, kernelRun0_E.sl.v809_1, kernelRun0_E.sl.v809_2, kernelRun0_E.sl.v809_3, kernelRun0_E.sl.v821, kernelRun0_E.sl.v821_1, kernelRun0_E.sl.v821_2, kernelRun0_E.sl.v821_3, kernelRun0_E.sl.v835, kernelRun0_E.sl.v835_1, kernelRun0_E.sl.v835_2, kernelRun0_E.sl.v835_3, runE_sel, readAt_unread_ld, View.ld_unit_lit', ↓View.readCov_cons_toLoadRect, ↓View.readCov_skip, ↓View.readCov_fill, readAt_fill_ld,
    oCmp, qAll, selM, oWin, rowsW, oSlc4, mx1, mx2, mx3, mx4, ls1, ls2, ls3, ls4, ac1, ac2, ac3, ac4, sc0, sc1, sc2, sc3, rows0, rows1, rows2, rows3]
  rfl

/-- What the run leaves in the output's buffer. -/
theorem runE_read  (c : Dev nD) (i : grid0.Coords) (arg3 : Memref sig .tc .vmem S1x128x512 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x128x128 .f32) (harg10 : arg10.IsWhole) (arg11 : Memref sig .tc .vmem S1x128x512 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x2048 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec F S1x128x512 .f32) (x1 : Vec F S1x128x128 .bf16) (x2 : Vec F S1x128x128 .bf16) (x3 : Vec F S1x2048x128 .f32) (x4 : Vec F S1x2048x128 .f32) (x5 : Vec F S1x2048x128 .f32) (x6 : Vec F S1x2048x128 .f32) (x7 : Vec F S1x128x128 .f32) (xs0 : Vec F S2048x128 .bf16) (xs1 : Vec F S2048x128 .bf16) (xs2 : Vec F S2048x128 .bf16) (xs3 : Vec F S2048x128 .bf16) (hi : 12 ≤ (i 2).val) (f : arg11.view.ty.Contents (Elt F)) :
    arg11.view.read (Elt F) (arg11.view.writes (Elt F) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 hc8 x0 x1 x2 x3 x4 x5 x6 x7 xs0 xs1 xs2 xs3).1) = outBlk i x0 x1 x2 x7 xs0 xs1 xs2 xs3 := by
  rw [runE_pieces, View.read_writes_eq_canon _ _ _ (outPieces_cover _ _ _ _)]
  unfold outBlk oSlc
  rw [if_neg (by omega), if_neg (by omega), if_neg (by omega)]

end Cert.KernelIdeal.Gen

end
-- ==== Proof.Whole.lean ====
/- What every point of the attention kernel leaves, and the run of the whole kernel with its result named. -/
module

public import proofs.«01_k».proof.Proof.PiecesA
public import proofs.«01_k».proof.Proof.PiecesB
public import proofs.«01_k».proof.Proof.PiecesC
public import proofs.«01_k».proof.Proof.PiecesD
public import proofs.«01_k».proof.Proof.PiecesE
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The copy `scM0_0` at point `t`: the rows of its window, rounded. -/
def copy0 (c : Dev nD) (t : Fin cfg0.N) : Vec F S2048x128 .bf16 := k0_pay15 (iblk m c 3 t)
/-- The copy `scM0_1` at point `t`: the rows of its window, rounded. -/
def copy1 (c : Dev nD) (t : Fin cfg0.N) : Vec F S2048x128 .bf16 := k0_pay16 (iblk m c 4 t)
/-- The copy `scM0_2` at point `t`: the rows of its window, rounded. -/
def copy2 (c : Dev nD) (t : Fin cfg0.N) : Vec F S2048x128 .bf16 := k0_pay17 (iblk m c 5 t)
/-- The copy `scM0_3` at point `t`: the rows of its window, rounded. -/
def copy3 (c : Dev nD) (t : Fin cfg0.N) : Vec F S2048x128 .bf16 := k0_pay18 (iblk m c 6 t)
/-- The output block of point `t`. -/
def outAt (c : Dev nD) (t : Fin cfg0.N) : Vec F S1x128x512 .bf16 :=
  outBlk (grid0.coords t) (iblk m c 0 t) (iblk m c 1 t) (iblk m c 2 t) (iblk m c 7 t) (copy0 m c t) (copy1 m c t) (copy2 m c t) (copy3 m c t)

/-- The invariant: before the first point anything, after a point the four copies of that point. -/
def PhiS (c : Dev nD) : (n : ℕ) → n ≤ cfg0.N → sProp 𝕄
  | 0, _ => Pipeline.ΦA spec0 c
  | n + 1, hn => iprop(iprop(owns (c : Thread nD τ) scM0_0 fullShare (copy0 m c ⟨n, hn⟩) ∗ owns (c : Thread nD τ) scM0_1 fullShare (copy1 m c ⟨n, hn⟩) ∗ owns (c : Thread nD τ) scM0_2 fullShare (copy2 m c ⟨n, hn⟩) ∗ owns (c : Thread nD τ) scM0_3 fullShare (copy3 m c ⟨n, hn⟩) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (copy0 m c ⟨n, hn⟩) ∗ owns (c : Thread nD τ) scM0_1 fullShare (copy1 m c ⟨n, hn⟩) ∗ owns (c : Thread nD τ) scM0_2 fullShare (copy2 m c ⟨n, hn⟩) ∗ owns (c : Thread nD τ) scM0_3 fullShare (copy3 m c ⟨n, hn⟩) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (copy0 m c ⟨n - 1, by omega⟩) ∗ owns (c : Thread nD τ) scM0_1 fullShare (copy1 m c ⟨n - 1, by omega⟩) ∗ owns (c : Thread nD τ) scM0_2 fullShare (copy2 m c ⟨n - 1, by omega⟩) ∗ owns (c : Thread nD τ) scM0_3 fullShare (copy3 m c ⟨n - 1, by omega⟩) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-- The pipeline's proof data: the arrays as found, every input window at its block, the output at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! A window that follows the batch and the head alone stays within its sixteen points. -/

theorem copy0_prev (c : Dev nD) (t : Fin cfg0.N) (h0 : ¬ t.val % 16 = 0) : copy0 m c ⟨t.val - 1, by have := t.isLt; omega⟩ = copy0 m c t := by
  have hf : (cfg0.win 3).fetch t = false := by
    rw [← Bool.not_eq_true]; exact fun h => h0 ((fetch0_3 t).mp h)
  obtain ⟨ht, hix⟩ := (cfg0.win 3).index_eq_of_fetch rfl t hf
  have hb : ∀ t', (dats m 0 c).fetched 3 t' (iblk m c 3 t) = iblk m c 3 t' := fun t' => by
    unfold Dat.fetched Dat.blockOf iblk; rw [A_eq m c 3]; try rfl
  have h := (dats m 0 c).fetched_congr 3 hix.symm rfl (iblk m c 3 t)
  rw [hb, hb] at h
  unfold copy0; rw [← h]

theorem copy1_prev (c : Dev nD) (t : Fin cfg0.N) (h0 : ¬ t.val % 16 = 0) : copy1 m c ⟨t.val - 1, by have := t.isLt; omega⟩ = copy1 m c t := by
  have hf : (cfg0.win 4).fetch t = false := by
    rw [← Bool.not_eq_true]; exact fun h => h0 ((fetch0_4 t).mp h)
  obtain ⟨ht, hix⟩ := (cfg0.win 4).index_eq_of_fetch rfl t hf
  have hb : ∀ t', (dats m 0 c).fetched 4 t' (iblk m c 4 t) = iblk m c 4 t' := fun t' => by
    unfold Dat.fetched Dat.blockOf iblk; rw [A_eq m c 4]; try rfl
  have h := (dats m 0 c).fetched_congr 4 hix.symm rfl (iblk m c 4 t)
  rw [hb, hb] at h
  unfold copy1; rw [← h]

theorem copy2_prev (c : Dev nD) (t : Fin cfg0.N) (h0 : ¬ t.val % 16 = 0) : copy2 m c ⟨t.val - 1, by have := t.isLt; omega⟩ = copy2 m c t := by
  have hf : (cfg0.win 5).fetch t = false := by
    rw [← Bool.not_eq_true]; exact fun h => h0 ((fetch0_5 t).mp h)
  obtain ⟨ht, hix⟩ := (cfg0.win 5).index_eq_of_fetch rfl t hf
  have hb : ∀ t', (dats m 0 c).fetched 5 t' (iblk m c 5 t) = iblk m c 5 t' := fun t' => by
    unfold Dat.fetched Dat.blockOf iblk; rw [A_eq m c 5]; try rfl
  have h := (dats m 0 c).fetched_congr 5 hix.symm rfl (iblk m c 5 t)
  rw [hb, hb] at h
  unfold copy2; rw [← h]

theorem copy3_prev (c : Dev nD) (t : Fin cfg0.N) (h0 : ¬ t.val % 16 = 0) : copy3 m c ⟨t.val - 1, by have := t.isLt; omega⟩ = copy3 m c t := by
  have hf : (cfg0.win 6).fetch t = false := by
    rw [← Bool.not_eq_true]; exact fun h => h0 ((fetch0_6 t).mp h)
  obtain ⟨ht, hix⟩ := (cfg0.win 6).index_eq_of_fetch rfl t hf
  have hb : ∀ t', (dats m 0 c).fetched 6 t' (iblk m c 6 t) = iblk m c 6 t' := fun t' => by
    unfold Dat.fetched Dat.blockOf iblk; rw [A_eq m c 6]; try rfl
  have h := (dats m 0 c).fetched_congr 6 hix.symm rfl (iblk m c 6 t)
  rw [hb, hb] at h
  unfold copy3; rw [← h]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 32000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ, PhiS_castSucc m c t]
  unfold outAt
  have hN : t.val < 256 := lt_of_lt_of_eq t.isLt (show cfg0.N = 256 from N_0)
  by_cases h0 : t.val % 16 = 0
  · by_cases hz : t.val = 0
    · rw [PhiS_zero m c _ _ hz, PhiA0_eq]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ _ _ _ _ ((hcond0_0 t).mpr h0) (hcond0_1 t) (fun h => absurd ((hcond0_2 t).mp h) (by omega)) (fun h => absurd ((hcond0_3 t).mp h) (by omega)) (fun h => absurd ((hcond0_4 t).mp h) (by omega)) (hcond0_5 t) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, ⟨%g8, H8⟩, ⟨%g0, HS0⟩, ⟨%g1, HS1⟩, ⟨%g2, HS2⟩, ⟨%g3, HS3⟩, HS4, HS5, HS6, HS7⟩
      isplitl [HS0 HS1 HS2 HS3 HS4 HS5 HS6 HS7 Hg]
      · isplitl [HS0 HS1 HS2 HS3 HS4 HS5 HS6 HS7]
        · isplitl [HS0]
          · unfold owns; iexists _; isplitr; swap; · iexact HS0
            ipureintro; exact runA_copy0 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS1]
          · unfold owns; iexists _; isplitr; swap; · iexact HS1
            ipureintro; exact runA_copy1 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS2]
          · unfold owns; iexists _; isplitr; swap; · iexact HS2
            ipureintro; exact runA_copy2 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS3]
          · unfold owns; iexists _; isplitr; swap; · iexact HS3
            ipureintro; exact runA_copy3 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr; swap; · iexact H8
      ipureintro; exact runA_read c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (by rw [coords2]; omega) _
    · rw [PhiS_pos m c _ _ hz]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ _ _ _ _ ((hcond0_0 t).mpr h0) (hcond0_1 t) (fun h => absurd ((hcond0_2 t).mp h) (by omega)) (fun h => absurd ((hcond0_3 t).mp h) (by omega)) (fun h => absurd ((hcond0_4 t).mp h) (by omega)) (hcond0_5 t) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      isplitl [HS2]; · iexists _; iexact HS2
      isplitl [HS3]; · iexists _; iexact HS3
      isplitl [HS4]; · iexact HS4
      isplitl [HS5]; · iexact HS5
      isplitl [HS6]; · iexact HS6
      isplitl [HS7]; · iexact HS7
      iintro ⟨H0, H1, H2, H3, H4, H5, H6, H7, ⟨%g8, H8⟩, ⟨%g0, HS0⟩, ⟨%g1, HS1⟩, ⟨%g2, HS2⟩, ⟨%g3, HS3⟩, HS4, HS5, HS6, HS7⟩
      isplitl [HS0 HS1 HS2 HS3 HS4 HS5 HS6 HS7 Hg]
      · isplitl [HS0 HS1 HS2 HS3 HS4 HS5 HS6 HS7]
        · isplitl [HS0]
          · unfold owns; iexists _; isplitr; swap; · iexact HS0
            ipureintro; exact runA_copy0 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS1]
          · unfold owns; iexists _; isplitr; swap; · iexact HS1
            ipureintro; exact runA_copy1 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS2]
          · unfold owns; iexists _; isplitr; swap; · iexact HS2
            ipureintro; exact runA_copy2 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS3]
          · unfold owns; iexists _; isplitr; swap; · iexact HS3
            ipureintro; exact runA_copy3 c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr; swap; · iexact H8
      ipureintro; exact runA_read c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (by rw [coords2]; omega) _
  · have hz : t.val ≠ 0 := by rintro h; exact h0 (by rw [h])
    rw [PhiS_pos m c _ _ hz, copy0_prev m c t h0, copy1_prev m c t h0, copy2_prev m c t h0, copy3_prev m c t h0]
    by_cases h2 : 4 ≤ t.val % 16
    · by_cases h3 : 8 ≤ t.val % 16
      · by_cases h4 : 12 ≤ t.val % 16
        · skip
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_E c (grid0.coords t) _ _ _ _ _ _ _ _ _ _ _ _ _ _ _ _ _ _ _ _ _ _ _ _ _ _ _ _ _ _ _ _ _ _ (fun h => h0 ((hcond0_0 t).mp h)) (hcond0_1 t) ((hcond0_2 t).mpr (by omega)) ((hcond0_3 t).mpr (by omega)) ((hcond0_4 t).mpr (by omega)) (hcond0_5 t) ((hcond0_6 t).mpr (by omega)) ((hcond0_7 t).mpr (by omega)) ((hcond0_8 t).mpr (by omega)) (iblk m c 0 t) (iblk m c 1 t) (iblk m c 2 t) (iblk m c 3 t) (iblk m c 4 t) (iblk m c 5 t) (iblk m c 6 t) (iblk m c 7 t) (copy0 m c t) (copy1 m c t) (copy2 m c t) (copy3 m c t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, ⟨%g8, H8⟩, HS0, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr; swap; · iexact H8
          ipureintro; exact runE_read c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (copy0 m c t) (copy1 m c t) (copy2 m c t) (copy3 m c t) (by rw [coords2]; omega) _
        · skip
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ _ _ _ _ _ _ _ _ _ _ _ _ _ _ (fun h => h0 ((hcond0_0 t).mp h)) (hcond0_1 t) ((hcond0_2 t).mpr (by omega)) ((hcond0_3 t).mpr (by omega)) (fun h => absurd ((hcond0_4 t).mp h) (by omega)) (hcond0_5 t) ((hcond0_6 t).mpr (by omega)) ((hcond0_7 t).mpr (by omega)) (fun h => absurd ((hcond0_8 t).mp h) (by omega)) (iblk m c 0 t) (iblk m c 1 t) (iblk m c 2 t) (iblk m c 3 t) (iblk m c 4 t) (iblk m c 5 t) (iblk m c 6 t) (iblk m c 7 t) (copy0 m c t) (copy1 m c t) (copy2 m c t) (copy3 m c t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, ⟨%g8, H8⟩, HS0, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr; swap; · iexact H8
          ipureintro; exact runD_read c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (copy0 m c t) (copy1 m c t) (copy2 m c t) (copy3 m c t) (by rw [coords2]; omega) (by rw [coords2]; omega) _
      · skip
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ _ _ _ _ _ _ _ _ _ _ (fun h => h0 ((hcond0_0 t).mp h)) (hcond0_1 t) ((hcond0_2 t).mpr (by omega)) (fun h => absurd ((hcond0_3 t).mp h) (by omega)) (fun h => absurd ((hcond0_4 t).mp h) (by omega)) (hcond0_5 t) ((hcond0_6 t).mpr (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) (copy0 m c t) (copy1 m c t) (copy2 m c t) (copy3 m c t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, ⟨%g8, H8⟩, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr; swap; · iexact H8
        ipureintro; exact runC_read c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (copy0 m c t) (copy1 m c t) (copy2 m c t) (copy3 m c t) (by rw [coords2]; omega) (by rw [coords2]; omega) _
    · skip
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ _ _ _ _ _ _ (fun h => h0 ((hcond0_0 t).mp h)) (hcond0_1 t) (fun h => absurd ((hcond0_2 t).mp h) (by omega)) (fun h => absurd ((hcond0_3 t).mp h) (by omega)) (fun h => absurd ((hcond0_4 t).mp h) (by omega)) (hcond0_5 t) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) (copy0 m c t) (copy1 m c t) (copy2 m c t) (copy3 m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, ⟨%g8, H8⟩, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr; swap; · iexact H8
      ipureintro; exact runB_read c _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (copy0 m c t) (copy1 m c t) (copy2 m c t) (copy3 m c t) (by rw [coords2]; omega) _

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨⟨HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexact HS6
    iexact HS7
  iexact Hg

set_option backward.isDefEq.respectTransparency.types false in
/-- Every run of the kernel ends, with the inputs as they were, the output at its blocks and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Bits.Whole.lean ====
/- The frame of the attention kernel: every point runs, whatever the scratch holds. -/
module

public import proofs.«01_k».proof.Proof.Bits.RunA
public import proofs.«01_k».proof.Proof.Bits.RunB
public import proofs.«01_k».proof.Proof.Bits.RunC
public import proofs.«01_k».proof.Proof.Bits.RunD
public import proofs.«01_k».proof.Proof.Bits.RunE
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stated of what the output holds. -/
def forgets0 : Fin 9 → Bool := fun w => w.val == 8

/-- The pipeline's proof data: the arrays as found, every input window at its block, the output at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ t := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 32000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA0_eq]
  have hN : t.val < 256 := lt_of_lt_of_eq t.isLt (show cfg0.N = 256 from N_0)
  by_cases h0 : t.val % 16 = 0
  · skip
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ _ _ _ _ _ _ _ _ _ _ _ _ ((hcond0_0 t).mpr h0) (hcond0_1 t) (fun h => absurd ((hcond0_2 t).mp h) (by omega)) (fun h => absurd ((hcond0_3 t).mp h) (by omega)) (fun h => absurd ((hcond0_4 t).mp h) (by omega)) (hcond0_5 t) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, ⟨%g8, H8⟩, ⟨%g0, HS0⟩, ⟨%g1, HS1⟩, ⟨%g2, HS2⟩, ⟨%g3, HS3⟩, HS4, HS5, HS6, HS7⟩
    isplitl [HS0 HS1 HS2 HS3 HS4 HS5 HS6 HS7 Hg]
    · isplitl [HS0 HS1 HS2 HS3 HS4 HS5 HS6 HS7]
      · isplitl [HS0]
        · unfold owns; iexists _, _; isplitr; swap; · iexact HS0
          ipureintro; rfl
        isplitl [HS1]
        · unfold owns; iexists _, _; isplitr; swap; · iexact HS1
          ipureintro; rfl
        isplitl [HS2]
        · unfold owns; iexists _, _; isplitr; swap; · iexact HS2
          ipureintro; rfl
        isplitl [HS3]
        · unfold owns; iexists _, _; isplitr; swap; · iexact HS3
          ipureintro; rfl
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _, _; isplitr; swap; · iexact H8
    ipureintro; rfl
  · by_cases h2 : 4 ≤ t.val % 16
    · by_cases h3 : 8 ≤ t.val % 16
      · by_cases h4 : 12 ≤ t.val % 16
        · skip
          iintro ⟨⟨⟨⟨%e0, HS0⟩, ⟨%e1, HS1⟩, ⟨%e2, HS2⟩, ⟨%e3, HS3⟩, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_E c (grid0.coords t) _ _ _ _ _ _ _ _ _ _ _ _ _ _ _ _ _ _ _ _ _ _ _ _ _ _ _ _ _ _ _ _ _ _ (fun h => h0 ((hcond0_0 t).mp h)) (hcond0_1 t) ((hcond0_2 t).mpr (by omega)) ((hcond0_3 t).mpr (by omega)) ((hcond0_4 t).mpr (by omega)) (hcond0_5 t) ((hcond0_6 t).mpr (by omega)) ((hcond0_7 t).mpr (by omega)) ((hcond0_8 t).mpr (by omega)) (iblk m c 0 t) (iblk m c 1 t) (iblk m c 2 t) (iblk m c 3 t) (iblk m c 4 t) (iblk m c 5 t) (iblk m c 6 t) (iblk m c 7 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, ⟨%g8, H8⟩, HS0, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]; · iexists _; iexact HS0
              isplitl [HS1]; · iexists _; iexact HS1
              isplitl [HS2]; · iexists _; iexact HS2
              isplitl [HS3]; · iexists _; iexact HS3
              isplitl [HS4]; · iexact HS4
              isplitl [HS5]; · iexact HS5
              isplitl [HS6]; · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _, _; isplitr; swap; · iexact H8
          ipureintro; rfl
        · skip
          iintro ⟨⟨⟨⟨%e0, HS0⟩, ⟨%e1, HS1⟩, ⟨%e2, HS2⟩, ⟨%e3, HS3⟩, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ _ _ _ _ _ _ _ _ _ _ _ _ _ _ (fun h => h0 ((hcond0_0 t).mp h)) (hcond0_1 t) ((hcond0_2 t).mpr (by omega)) ((hcond0_3 t).mpr (by omega)) (fun h => absurd ((hcond0_4 t).mp h) (by omega)) (hcond0_5 t) ((hcond0_6 t).mpr (by omega)) ((hcond0_7 t).mpr (by omega)) (fun h => absurd ((hcond0_8 t).mp h) (by omega)) (iblk m c 0 t) (iblk m c 1 t) (iblk m c 2 t) (iblk m c 3 t) (iblk m c 4 t) (iblk m c 5 t) (iblk m c 6 t) (iblk m c 7 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, ⟨%g8, H8⟩, HS0, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]; · iexists _; iexact HS0
              isplitl [HS1]; · iexists _; iexact HS1
              isplitl [HS2]; · iexists _; iexact HS2
              isplitl [HS3]; · iexists _; iexact HS3
              isplitl [HS4]; · iexact HS4
              isplitl [HS5]; · iexact HS5
              isplitl [HS6]; · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _, _; isplitr; swap; · iexact H8
          ipureintro; rfl
      · skip
        iintro ⟨⟨⟨⟨%e0, HS0⟩, ⟨%e1, HS1⟩, ⟨%e2, HS2⟩, ⟨%e3, HS3⟩, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ _ _ _ _ _ _ _ _ _ _ (fun h => h0 ((hcond0_0 t).mp h)) (hcond0_1 t) ((hcond0_2 t).mpr (by omega)) (fun h => absurd ((hcond0_3 t).mp h) (by omega)) (fun h => absurd ((hcond0_4 t).mp h) (by omega)) (hcond0_5 t) ((hcond0_6 t).mpr (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, ⟨%g8, H8⟩, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]; · iexists _; iexact HS0
            isplitl [HS1]; · iexists _; iexact HS1
            isplitl [HS2]; · iexists _; iexact HS2
            isplitl [HS3]; · iexists _; iexact HS3
            isplitl [HS4]; · iexact HS4
            isplitl [HS5]; · iexact HS5
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _, _; isplitr; swap; · iexact H8
        ipureintro; rfl
    · skip
      iintro ⟨⟨⟨⟨%e0, HS0⟩, ⟨%e1, HS1⟩, ⟨%e2, HS2⟩, ⟨%e3, HS3⟩, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ _ _ _ _ _ _ (fun h => h0 ((hcond0_0 t).mp h)) (hcond0_1 t) (fun h => absurd ((hcond0_2 t).mp h) (by omega)) (fun h => absurd ((hcond0_3 t).mp h) (by omega)) (fun h => absurd ((hcond0_4 t).mp h) (by omega)) (hcond0_5 t) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) _ _ _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, ⟨%g8, H8⟩, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexists _; iexact HS0
          isplitl [HS1]; · iexists _; iexact HS1
          isplitl [HS2]; · iexists _; iexact HS2
          isplitl [HS3]; · iexists _; iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _, _; isplitr; swap; · iexact H8
      ipureintro; rfl

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run of the kernel ends, with the inputs as they were, the output at anything and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The pipeline's post, read at the four argument arrays. -/
theorem args_of_post (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 6 rfl).trans ((hA c 6).trans (V_main_arg0 m c)),
      (Pipeline.RDat.FramePost.arr_in h c 7 rfl).trans ((hA c 7).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_of_post m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Up.lean ====
/- The feed-forward's first half: what the launch leaves is the reference's gated product, element by element. -/
module

public import proofs.«01_k».proof.Proof.Gen.FfnUpIdeal.Value
public import proofs.«01_k».proof.Proof.Gen.FfnUpReferenceIdeal.Read
public import Idealize.ShloMosaic.Lib.Pointwise
public import proofs.«01_k».proof.Defs
public import proofs.«01_k».proof.Proof.Gen.FfnUp.Frame
public import proofs.«01_k».proof.Proof.Gen.FfnUpReferenceIdeal.Run
public import Idealize.ShloMosaic.Lib.Claim

@[expose] public section

noncomputable section

namespace Cert.FfnUpIdeal.Value

open Cert.FfnUpIdeal Cert.FfnUpIdeal.Gen Idealize.ShloMosaic Idealize.ShloMosaic.TcCoe Idealize.SL.Sem
open Idealize.ShloMosaic.Pipeline (Dat)

/-- One element of a block: the gate product, its logistic, the up product. -/
theorem pay_apply (a : Vec Ideal S2048x4096 .bf16) (g u : Vec Ideal S1x4096x256 .bf16) (r : Fin 2048) (l : Fin 256) :
    k0_pay1 (F := Ideal) a g u (ix2 r l)
      = (∑ k : Fin 4096, a (ix2 r k) * g (ix3 0 k l)) * Ideal.div 1 (1 + Ideal.exp (-(∑ k : Fin 4096, a (ix2 r k) * g (ix3 0 k l))))
        * ∑ k : Fin 4096, a (ix2 r k) * u (ix3 0 k l) := by
  pointwise [k0_pay1]
  rfl

theorem ref_apply (a : Vec Ideal S8192x4096 .bf16) (g u : Vec Ideal S2x4096x11008 .bf16) (r : Fin 8192) (l : Fin 11008) :
    Cert.FfnUpReferenceIdeal.Read.val_main_v11 (F := Ideal) a g u (ix2 r l)
      = (∑ k : Fin 4096, a (ix2 r k) * g (ix3 0 k l)) * Ideal.div 1 (1 + Ideal.exp (-(∑ k : Fin 4096, a (ix2 r k) * g (ix3 0 k l))))
        * ∑ k : Fin 4096, a (ix2 r k) * u (ix3 0 k l) := by
  pointwise [Cert.FfnUpReferenceIdeal.Read.val_main_v11, Cert.FfnUpReferenceIdeal.Read.val_main_v10, Cert.FfnUpReferenceIdeal.Read.val_main_v9, Cert.FfnUpReferenceIdeal.Read.val_main_v8, Cert.FfnUpReferenceIdeal.Read.val_main_v7, Cert.FfnUpReferenceIdeal.Read.val_main_v6, Cert.FfnUpReferenceIdeal.Read.val_main_v5, Cert.FfnUpReferenceIdeal.Read.val_main_call0_v5, Cert.FfnUpReferenceIdeal.Read.val_main_call0_v4, Cert.FfnUpReferenceIdeal.Read.val_main_call0_v3, Cert.FfnUpReferenceIdeal.Read.val_main_call0_v2, Cert.FfnUpReferenceIdeal.Read.val_main_call0_v1, Cert.FfnUpReferenceIdeal.Read.val_main_call0_v0, Cert.FfnUpReferenceIdeal.Read.val_main_call0_cst, Cert.FfnUpReferenceIdeal.Read.val_main_call0_cst_0, Cert.FfnUpReferenceIdeal.Read.val_main_v4, Cert.FfnUpReferenceIdeal.Read.val_main_v3, Cert.FfnUpReferenceIdeal.Read.val_main_v2, Cert.FfnUpReferenceIdeal.Read.val_main_v1, Cert.FfnUpReferenceIdeal.Read.val_main_v0]

variable (m : (ℓ : Loc nD τ sig) → Buf (Elt Ideal) ℓ) (ρ : Dev nD → PrngReg)

/-- The reference's array, from the arguments as launched. -/
abbrev G (c : Dev nD) : Buf (Elt Ideal) ((c : Thread nD τ).loc main_v0) :=
  Cert.FfnUpReferenceIdeal.Read.val_main_v11 (F := Ideal) (m ((c : Thread nD τ).loc main_arg0))
    (m ((c : Thread nD τ).loc main_arg1)) (m ((c : Thread nD τ).loc main_arg2))

/-- Where the blocks of a point lie. -/
theorem idx_facts : ∀ t : Fin cfg0.N, win0_0.index t 0 = t.val / 43 ∧ win0_0.index t 1 = 0
    ∧ win0_1.index t 0 = 0 ∧ win0_1.index t 1 = 0 ∧ win0_1.index t 2 = t.val % 43
    ∧ win0_2.index t 0 = 0 ∧ win0_2.index t 1 = 0 ∧ win0_2.index t 2 = t.val % 43
    ∧ win0_3.index t 0 = t.val / 43 ∧ win0_3.index t 1 = t.val % 43 :=
  (by decide +kernel : ∀ t : Fin grid0.N, win0_0.index t 0 = t.val / 43 ∧ win0_0.index t 1 = 0
    ∧ win0_1.index t 0 = 0 ∧ win0_1.index t 1 = 0 ∧ win0_1.index t 2 = t.val % 43
    ∧ win0_2.index t 0 = 0 ∧ win0_2.index t 1 = 0 ∧ win0_2.index t 2 = t.val % 43
    ∧ win0_3.index t 0 = t.val / 43 ∧ win0_3.index t 1 = t.val % 43)

theorem lt_N (t : Fin cfg0.N) : t.val < 172 := Nat.lt_of_lt_of_eq t.isLt N_0

/-- The rows of the first operand. -/
theorem blk0 (c : Dev nD) (t : Fin cfg0.N) (r : Fin 2048) (k : Fin 4096) :
    (iblk m c 0 t : Vec Ideal S2048x4096 .bf16) (ix2 r k)
      = (m ((c : Thread nD τ).loc main_arg0) : Vec Ideal S8192x4096 .bf16) (ix2 ⟨t.val / 43 * 2048 + r.val, by have := lt_N t; have := r.isLt; omega⟩ k) := by
  have e := idx_facts t
  refine (congrFun (V_main_arg0 m c) _).trans (congrArg (m ((c : Thread nD τ).loc main_arg0)) (funext fun a => Fin.ext ?_))
  match a with
  | ⟨0, _⟩ => show win0_0.index t 0 * 2048 + 1 * r.val = t.val / 43 * 2048 + r.val; rw [e.1]; omega
  | ⟨1, _⟩ => show win0_0.index t 1 * 4096 + 1 * k.val = k.val; rw [e.2.1]; omega

/-- The columns of the gate's weights. -/
theorem blk1 (c : Dev nD) (t : Fin cfg0.N) (k : Fin 4096) (l : Fin 256) :
    (iblk m c 1 t : Vec Ideal S1x4096x256 .bf16) (ix3 0 k l)
      = (m ((c : Thread nD τ).loc main_arg1) : Vec Ideal S2x4096x11008 .bf16) (ix3 0 k ⟨t.val % 43 * 256 + l.val, by have := l.isLt; omega⟩) := by
  have e := idx_facts t
  refine (congrFun (V_main_arg1 m c) _).trans (congrArg (m ((c : Thread nD τ).loc main_arg1)) (funext fun a => Fin.ext ?_))
  match a with
  | ⟨0, _⟩ => show win0_1.index t 0 * 1 + 1 * 0 = 0; rw [e.2.2.1]
  | ⟨1, _⟩ => show win0_1.index t 1 * 4096 + 1 * k.val = k.val; rw [e.2.2.2.1]; omega
  | ⟨2, _⟩ => show win0_1.index t 2 * 256 + 1 * l.val = t.val % 43 * 256 + l.val; rw [e.2.2.2.2.1]; omega

/-- The columns of the other weights. -/
theorem blk2 (c : Dev nD) (t : Fin cfg0.N) (k : Fin 4096) (l : Fin 256) :
    (iblk m c 2 t : Vec Ideal S1x4096x256 .bf16) (ix3 0 k l)
      = (m ((c : Thread nD τ).loc main_arg2) : Vec Ideal S2x4096x11008 .bf16) (ix3 0 k ⟨t.val % 43 * 256 + l.val, by have := l.isLt; omega⟩) := by
  have e := idx_facts t
  refine (congrFun (V_main_arg2 m c) _).trans (congrArg (m ((c : Thread nD τ).loc main_arg2)) (funext fun a => Fin.ext ?_))
  match a with
  | ⟨0, _⟩ => show win0_2.index t 0 * 1 + 1 * 0 = 0; rw [e.2.2.2.2.2.1]
  | ⟨1, _⟩ => show win0_2.index t 1 * 4096 + 1 * k.val = k.val; rw [e.2.2.2.2.2.2.1]; omega
  | ⟨2, _⟩ => show win0_2.index t 2 * 256 + 1 * l.val = t.val % 43 * 256 + l.val; rw [e.2.2.2.2.2.2.2.1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block is the payload of the loaded ones. -/
theorem out_eq (x0 : Vec Ideal S2048x4096 .bf16) (x1 x2 : Vec Ideal S1x4096x256 .bf16) : out0_3 (F := Ideal) x0 x1 x2 = k0_pay1 x0 x1 x2 := by
  unfold out0_3
  rw [View.canon_unit_zero hz2, View.ld_unit_zero hz2, View.ld_unit_zero hz3, View.ld_unit_zero hz3]

/-- What a point writes back is its block of the reference's array. -/
theorem flushed_eq (c : Dev nD) (t : Fin cfg0.N) :
    (dats m 0 c).flushed 3 t = ((cfg0.win 3).blk t).view.read (Elt Ideal) (G m c) := by
  rw [flushed3, out_eq]
  refine funext fun (j : S2048x256.Idx) => ?_
  have hj : j = ix2 (j 0) (j 1) := by ext a; match a with | ⟨0, _⟩ => rfl | ⟨1, _⟩ => rfl
  have ht := lt_N t
  have e := idx_facts t
  have h0 : (j 0).val < 2048 := (j 0).isLt
  have h1 : (j 1).val < 256 := (j 1).isLt
  have hr : ((cfg0.win 3).blk t).view.read (Elt Ideal) (G m c) j
      = G m c (ix2 ⟨t.val / 43 * 2048 + (j 0).val, by omega⟩ ⟨t.val % 43 * 256 + (j 1).val, by omega⟩) := by
    refine congrArg (G m c) (funext fun a => Fin.ext ?_)
    match a with
    | ⟨0, _⟩ => show win0_3.index t 0 * 2048 + 1 * (j 0).val = t.val / 43 * 2048 + (j 0).val; rw [e.2.2.2.2.2.2.2.2.1]; omega
    | ⟨1, _⟩ => show win0_3.index t 1 * 256 + 1 * (j 1).val = t.val % 43 * 256 + (j 1).val; rw [e.2.2.2.2.2.2.2.2.2]; omega
  rw [hr]
  show k0_pay1 (F := Ideal) (iblk m c 0 t) (iblk m c 1 t) (iblk m c 2 t) j = _
  refine (congrArg (k0_pay1 (F := Ideal) (iblk m c 0 t) (iblk m c 1 t) (iblk m c 2 t)) hj).trans ((pay_apply _ _ _ (j 0) (j 1)).trans ?_)
  refine Eq.trans ?_ (ref_apply _ _ _ _ _).symm
  have s1 := Finset.sum_congr (rfl : (Finset.univ : Finset (Fin 4096)) = Finset.univ)
    (fun k _ => congrArg₂ (fun x y : EReal => x * y) (blk0 m c t (j 0) k) (blk1 m c t k (j 1)))
  have s2 := Finset.sum_congr (rfl : (Finset.univ : Finset (Fin 4096)) = Finset.univ)
    (fun k _ => congrArg₂ (fun x y : EReal => x * y) (blk0 m c t (j 0) k) (blk2 m c t k (j 1)))
  exact congrArg₂ (fun A U : EReal => A * Ideal.div 1 (1 + Ideal.exp (-A)) * U) s1 s2

/-- An index of the result is in the block of a point. -/
theorem mem_blk (t : Fin cfg0.N) (i : S8192x11008.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v0).slice (win0_3.rect t)).set ↔ _
  rw [View.set_slice_whole, Rect.mem_set_unit]
  exact Iff.rfl

theorem cover (i : S8192x11008.Idx) :
    ∃ t : Fin cfg0.N, (cfg0.win 3).flush t = true ∧ i ∈ ((cfg0.win 3).blk t).view.set := by
  have h0 : (i 0).val < 8192 := (i 0).isLt
  have h1 : (i 1).val < 11008 := (i 1).isLt
  have hN : cfg0.N = 172 := N_0
  refine ⟨⟨(i 0).val / 2048 * 43 + (i 1).val / 256, by omega⟩, flush0_3 _, ?_⟩
  have e := idx_facts ⟨(i 0).val / 2048 * 43 + (i 1).val / 256, by omega⟩
  rw [mem_blk]
  intro a
  match a with
  | ⟨0, _⟩ =>
    show win0_3.index _ 0 * 2048 ≤ (i 0).val ∧ (i 0).val < win0_3.index _ 0 * 2048 + 2048
    rw [e.2.2.2.2.2.2.2.2.1]; dsimp only; omega
  | ⟨1, _⟩ =>
    show win0_3.index _ 1 * 256 ≤ (i 1).val ∧ (i 1).val < win0_3.index _ 1 * 256 + 256
    rw [e.2.2.2.2.2.2.2.2.2]; dsimp only; omega

/-- The result array ends holding the reference's. -/
theorem final (c : Dev nD) : (dats m 0 c).arrAt 3 cfg0.N = G m c :=
  (dats m 0 c).arrAt_eq_of_cover 3 (G m c) (fun t _ => flushed_eq m c t) cover

end Cert.FfnUpIdeal.Value

namespace Cert.Proof

open Idealize.ShloMosaic Idealize.SL.Sem

/-- The launch on machine words: it ends, its arguments unchanged, every counter at zero. -/
theorem frame_up : Cert.quiescent_FfnUp (hFfnUp := Cert.FfnUp.Gen.facts) := fun m ρ _ => Cert.FfnUp.Gen.frame (F := Bits) m ρ
theorem frame_upIdeal : Cert.quiescent_FfnUpIdeal (hFfnUpIdeal := Cert.FfnUpIdeal.Gen.facts) := fun m ρ _ => Cert.FfnUpIdeal.Gen.frame (F := Ideal) m ρ
theorem frame_upReference : Cert.quiescent_FfnUpReferenceIdeal (hFfnUpReferenceIdeal := Cert.FfnUpReferenceIdeal.Gen.facts) := fun m ρ _ =>
  (θ_run Cert.FfnUpReferenceIdeal.defs _ _).mono (fun r h => ⟨fun c => (h c).2,
      Idealize.ShloMosaic.sem_eq_zero_of_no_sems (by decide) r.2⟩)
    (Cert.FfnUpReferenceIdeal.Value.run (F := Ideal) m ρ)

/-- The launch and the reference leave the same array. -/
theorem algebraic_up : Cert.algebraic_FfnUpIdeal_FfnUpReferenceIdeal (hFfnUpIdeal := Cert.FfnUpIdeal.Gen.facts)
    (hFfnUpReferenceIdeal := Cert.FfnUpReferenceIdeal.Gen.facts) := by
  intro m ρ m' ρ' _ hag
  refine ⟨fun c => Cert.FfnUpIdeal.Value.G m c, ?_, ?_⟩
  · exact (θ_run Cert.FfnUpIdeal.defs _ _).mono
      (fun r h c => ⟨(h c).1.trans (Cert.FfnUpIdeal.Value.final m c), (h c).2⟩) (Cert.FfnUpIdeal.Value.run_blocks (F := Ideal) m ρ)
  · refine (θ_run Cert.FfnUpReferenceIdeal.defs _ _).mono
      (fun r h c => ⟨(h c).1.trans ((Cert.FfnUpReferenceIdeal.Read.val_main_v11_eq _ _ _).trans ?_), (h c).2⟩)
      (Cert.FfnUpReferenceIdeal.Value.run (F := Ideal) m' ρ')
    rw [(hag c).1, (hag c).2.1, (hag c).2.2]

end Cert.Proof

end
-- ==== Proof.Down.lean ====
/- The feed-forward's second half: what the launch leaves is the residual plus the reference's product. -/
module

public import proofs.«01_k».proof.Proof.Gen.FfnDownIdeal.Value
public import proofs.«01_k».proof.Proof.Gen.FfnDownReferenceIdeal.Read
public import Idealize.ShloMosaic.Lib.Pointwise
public import proofs.«01_k».proof.Defs
public import proofs.«01_k».proof.Proof.Gen.FfnDown.Frame
public import proofs.«01_k».proof.Proof.Gen.FfnDownReferenceIdeal.Run
public import Idealize.ShloMosaic.Lib.Claim

@[expose] public section

noncomputable section

namespace Cert.FfnDownIdeal.Value

open Cert.FfnDownIdeal Cert.FfnDownIdeal.Gen Idealize.ShloMosaic Idealize.ShloMosaic.TcCoe Idealize.SL.Sem
open Idealize.ShloMosaic.Pipeline (Dat)

theorem pay_apply (x0 : Vec Ideal S512x11008 .bf16) (w : Vec Ideal S1x11008x512 .bf16) (x2 : Vec Ideal S512x512 .f32) (r l : Fin 512) :
    k0_pay2 (F := Ideal) x2 x0 w (ix2 r l) = x2 (ix2 r l) + ∑ k : Fin 11008, x0 (ix2 r k) * w (ix3 0 k l) := by
  pointwise [k0_pay2]

theorem ref_apply (a : Vec Ideal S8192x11008 .bf16) (w : Vec Ideal S2x11008x4096 .bf16) (x : Vec Ideal S8192x4096 .f32) (r : Fin 8192) (l : Fin 4096) :
    Cert.FfnDownReferenceIdeal.Read.val_main_v5 (F := Ideal) a w x (ix2 r l)
      = x (ix2 r l) + ∑ k : Fin 11008, a (ix2 r k) * w (ix3 0 k l) := by
  pointwise [Cert.FfnDownReferenceIdeal.Read.val_main_v5, Cert.FfnDownReferenceIdeal.Read.val_main_v4, Cert.FfnDownReferenceIdeal.Read.val_main_v3, Cert.FfnDownReferenceIdeal.Read.val_main_v2, Cert.FfnDownReferenceIdeal.Read.val_main_v1, Cert.FfnDownReferenceIdeal.Read.val_main_v0]

variable (m : (ℓ : Loc nD τ sig) → Buf (Elt Ideal) ℓ) (ρ : Dev nD → PrngReg)

/-- The reference's array, from the arguments as launched. -/
abbrev G (c : Dev nD) : Buf (Elt Ideal) ((c : Thread nD τ).loc main_v0) :=
  Cert.FfnDownReferenceIdeal.Read.val_main_v5 (F := Ideal) (m ((c : Thread nD τ).loc main_arg0)) (m ((c : Thread nD τ).loc main_arg1)) (m ((c : Thread nD τ).loc main_arg2))

/-- Where the blocks of a point lie. -/
theorem idx_facts : ∀ t : Fin cfg0.N, win0_0.index t 0 = t.val / 8
    ∧ win0_0.index t 1 = 0
    ∧ win0_1.index t 0 = 0
    ∧ win0_1.index t 1 = 0
    ∧ win0_1.index t 2 = t.val % 8
    ∧ win0_2.index t 0 = t.val / 8
    ∧ win0_2.index t 1 = t.val % 8
    ∧ win0_3.index t 0 = t.val / 8
    ∧ win0_3.index t 1 = t.val % 8 :=
  (by decide +kernel : ∀ t : Fin grid0.N, win0_0.index t 0 = t.val / 8
    ∧ win0_0.index t 1 = 0
    ∧ win0_1.index t 0 = 0
    ∧ win0_1.index t 1 = 0
    ∧ win0_1.index t 2 = t.val % 8
    ∧ win0_2.index t 0 = t.val / 8
    ∧ win0_2.index t 1 = t.val % 8
    ∧ win0_3.index t 0 = t.val / 8
    ∧ win0_3.index t 1 = t.val % 8)

theorem lt_N (t : Fin cfg0.N) : t.val < 128 := Nat.lt_of_lt_of_eq t.isLt N_0

/-- The rows of the first operand. -/
theorem blk0 (c : Dev nD) (t : Fin cfg0.N) (r : Fin 512) (k : Fin 11008) :
    (iblk m c 0 t : Vec Ideal S512x11008 .bf16) (ix2 r k)
      = (m ((c : Thread nD τ).loc main_arg0) : Vec Ideal S8192x11008 .bf16) (ix2 ⟨t.val / 8 * 512 + r.val, by have := lt_N t; have := r.isLt; omega⟩ k) := by
  have e := idx_facts t
  refine (congrFun (V_main_arg0 m c) _).trans (congrArg (m ((c : Thread nD τ).loc main_arg0)) (funext fun a => Fin.ext ?_))
  match a with
  | ⟨0, _⟩ => show win0_0.index t 0 * 512 + 1 * r.val = t.val / 8 * 512 + r.val; rw [e.1]; try omega
  | ⟨1, _⟩ => show win0_0.index t 1 * 11008 + 1 * k.val = k.val; rw [e.2.1]; try omega

/-- The columns of the weights. -/
theorem blk1 (c : Dev nD) (t : Fin cfg0.N) (k : Fin 11008) (l : Fin 512) :
    (iblk m c 1 t : Vec Ideal S1x11008x512 .bf16) (ix3 0 k l)
      = (m ((c : Thread nD τ).loc main_arg1) : Vec Ideal S2x11008x4096 .bf16) (ix3 0 k ⟨t.val % 8 * 512 + l.val, by have := l.isLt; omega⟩) := by
  have e := idx_facts t
  refine (congrFun (V_main_arg1 m c) _).trans (congrArg (m ((c : Thread nD τ).loc main_arg1)) (funext fun a => Fin.ext ?_))
  match a with
  | ⟨0, _⟩ => show win0_1.index t 0 * 1 + 1 * 0 = 0; rw [e.2.2.1]; try omega
  | ⟨1, _⟩ => show win0_1.index t 1 * 11008 + 1 * k.val = k.val; rw [e.2.2.2.1]; try omega
  | ⟨2, _⟩ => show win0_1.index t 2 * 512 + 1 * l.val = t.val % 8 * 512 + l.val; rw [e.2.2.2.2.1]; try omega

/-- The residual's block. -/
theorem blk2 (c : Dev nD) (t : Fin cfg0.N) (r l : Fin 512) :
    (iblk m c 2 t : Vec Ideal S512x512 .f32) (ix2 r l)
      = (m ((c : Thread nD τ).loc main_arg2) : Vec Ideal S8192x4096 .f32) (ix2 ⟨t.val / 8 * 512 + r.val, by have := lt_N t; have := r.isLt; omega⟩ ⟨t.val % 8 * 512 + l.val, by have := l.isLt; omega⟩) := by
  have e := idx_facts t
  refine (congrFun (V_main_arg2 m c) _).trans (congrArg (m ((c : Thread nD τ).loc main_arg2)) (funext fun a => Fin.ext ?_))
  match a with
  | ⟨0, _⟩ => show win0_2.index t 0 * 512 + 1 * r.val = t.val / 8 * 512 + r.val; rw [e.2.2.2.2.2.1]; try omega
  | ⟨1, _⟩ => show win0_2.index t 1 * 512 + 1 * l.val = t.val % 8 * 512 + l.val; rw [e.2.2.2.2.2.2.1]; try omega

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block is the payload of the loaded ones. -/
theorem out_eq (c : Dev nD) (i : grid0.Coords) (arg3 : Memref sig .tc .vmem S512x11008 .bf16) (h3 : arg3.IsWhole)
    (arg4 : Memref sig .tc .vmem S1x11008x512 .bf16) (h4 : arg4.IsWhole) (arg5 : Memref sig .tc .vmem S512x512 .f32) (h5 : arg5.IsWhole)
    (arg6 : Memref sig .tc .vmem S512x512 .f32) (h6 : arg6.IsWhole) (arg7 : Memref sig .tc .vmem S512x512 .f32) (h7 : arg7.IsWhole)
    (hc0 : cond0_0 i) (hc1 : cond0_1 i) (x0 : Vec Ideal S512x11008 .bf16) (x1 : Vec Ideal S1x11008x512 .bf16) (x2 : Vec Ideal S512x512 .f32) :
    out0_A_3 (F := Ideal) c i arg3 h3 arg4 h4 arg5 h5 arg6 h6 arg7 h7 hc0 hc1 x0 x1 x2 = k0_pay2 x2 x0 x1 := by
  unfold out0_A_3
  rw [View.read_writes_eq_canon _ _ _ (cover0_A_3 c i arg3 h3 arg4 h4 arg5 h5 arg6 h6 arg7 h7 hc0 hc1 x0 x1 x2)]
  unfold kernelRun0_A
  dsimp only
  sl_unfold_words
  rw [View.canon_cons_unit_zero (S := S512x512) hz2]
  simp only [View.readCov_unit_zero (S := S512x512) _ hz2, View.readCov_cons_toLoadRect]
  unfold k0_pay1
  simp only [View.readAt_eq_ld, h3.read_unread, h4.read_unread, h5.read_unread, View.ld_unit_zero (S := S512x512) hz2,
    View.ld_unit_zero (S := S512x11008) hz2, View.ld_unit_zero (S := S1x11008x512) hz3, shapeCast_self]

/-- What a point writes back is its block of the reference's array. -/
theorem flushed_eq (c : Dev nD) (t : Fin cfg0.N) :
    (dats m 0 c).flushed 3 t = ((cfg0.win 3).blk t).view.read (Elt Ideal) (G m c) := by
  rw [flushed3_A, out_eq]
  refine funext fun (j : S512x512.Idx) => ?_
  have hj : j = ix2 (j 0) (j 1) := by ext a; match a with | ⟨0, _⟩ => rfl | ⟨1, _⟩ => rfl
  have ht := lt_N t
  have e := idx_facts t
  have h0 : (j 0).val < 512 := (j 0).isLt
  have h1 : (j 1).val < 512 := (j 1).isLt
  have hr : ((cfg0.win 3).blk t).view.read (Elt Ideal) (G m c) j
      = G m c (ix2 ⟨t.val / 8 * 512 + (j 0).val, by omega⟩ ⟨t.val % 8 * 512 + (j 1).val, by omega⟩) := by
    refine congrArg (G m c) (funext fun a => Fin.ext ?_)
    match a with
    | ⟨0, _⟩ => show win0_3.index t 0 * 512 + 1 * (j 0).val = t.val / 8 * 512 + (j 0).val; rw [e.2.2.2.2.2.2.2.1]; omega
    | ⟨1, _⟩ => show win0_3.index t 1 * 512 + 1 * (j 1).val = t.val % 8 * 512 + (j 1).val; rw [e.2.2.2.2.2.2.2.2]; omega
  rw [hr]
  show k0_pay2 (F := Ideal) (iblk m c 2 t) (iblk m c 0 t) (iblk m c 1 t) j = _
  refine (congrArg (k0_pay2 (F := Ideal) (iblk m c 2 t) (iblk m c 0 t) (iblk m c 1 t)) hj).trans ((pay_apply _ _ _ (j 0) (j 1)).trans ?_)
  refine Eq.trans ?_ (ref_apply _ _ _ _ _).symm
  have s1 := Finset.sum_congr (rfl : (Finset.univ : Finset (Fin 11008)) = Finset.univ)
    (fun k _ => congrArg₂ (fun x y : EReal => x * y) (blk0 m c t (j 0) k) (blk1 m c t k (j 1)))
  exact congrArg₂ (fun A U : EReal => A + U) (blk2 m c t (j 0) (j 1)) s1

/-- An index of the result is in the block of a point. -/
theorem mem_blk (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0).slice (win0_3.rect t)).set ↔ _
  rw [View.set_slice_whole, Rect.mem_set_unit]
  exact Iff.rfl

theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  refine ⟨⟨(i 0).val / 512 * 8 + (i 1).val / 512, by omega⟩, flush0_3 _, ?_⟩
  have e := idx_facts ⟨(i 0).val / 512 * 8 + (i 1).val / 512, by omega⟩
  rw [mem_blk]
  intro a
  match a with
  | ⟨0, _⟩ =>
    show win0_3.index _ 0 * 512 ≤ (i 0).val ∧ (i 0).val < win0_3.index _ 0 * 512 + 512
    rw [e.2.2.2.2.2.2.2.1]; dsimp only; omega
  | ⟨1, _⟩ =>
    show win0_3.index _ 1 * 512 ≤ (i 1).val ∧ (i 1).val < win0_3.index _ 1 * 512 + 512
    rw [e.2.2.2.2.2.2.2.2]; dsimp only; omega

/-- The result array ends holding the reference's. -/
theorem final (c : Dev nD) : (dats m 0 c).arrAt 3 cfg0.N = G m c :=
  (dats m 0 c).arrAt_eq_of_cover 3 (G m c) (fun t _ => flushed_eq m c t) cover

end Cert.FfnDownIdeal.Value

namespace Cert.Proof

open Idealize.ShloMosaic Idealize.SL.Sem

/-- The launch on machine words: it ends, its arguments unchanged, every counter at zero. -/
theorem frame_down : Cert.quiescent_FfnDown (hFfnDown := Cert.FfnDown.Gen.facts) := fun m ρ _ => Cert.FfnDown.Gen.frame (F := Bits) m ρ
theorem frame_downIdeal : Cert.quiescent_FfnDownIdeal (hFfnDownIdeal := Cert.FfnDownIdeal.Gen.facts) := fun m ρ _ => Cert.FfnDownIdeal.Gen.frame (F := Ideal) m ρ
theorem frame_downReference : Cert.quiescent_FfnDownReferenceIdeal (hFfnDownReferenceIdeal := Cert.FfnDownReferenceIdeal.Gen.facts) := fun m ρ _ =>
  (θ_run Cert.FfnDownReferenceIdeal.defs _ _).mono (fun r h => ⟨fun c => (h c).2,
      Idealize.ShloMosaic.sem_eq_zero_of_no_sems (by decide) r.2⟩)
    (Cert.FfnDownReferenceIdeal.Value.run (F := Ideal) m ρ)

/-- The launch and the reference leave the same array. -/
theorem algebraic_down : Cert.algebraic_FfnDownIdeal_FfnDownReferenceIdeal (hFfnDownIdeal := Cert.FfnDownIdeal.Gen.facts)
    (hFfnDownReferenceIdeal := Cert.FfnDownReferenceIdeal.Gen.facts) := by
  intro m ρ m' ρ' _ hag
  refine ⟨fun c => Cert.FfnDownIdeal.Value.G m c, ?_, ?_⟩
  · exact (θ_run Cert.FfnDownIdeal.defs _ _).mono
      (fun r h c => ⟨(h c).1.trans (Cert.FfnDownIdeal.Value.final m c), (h c).2⟩) (Cert.FfnDownIdeal.Value.run_blocks (F := Ideal) m ρ)
  · refine (θ_run Cert.FfnDownReferenceIdeal.defs _ _).mono
      (fun r h c => ⟨(h c).1.trans ((Cert.FfnDownReferenceIdeal.Read.val_main_v5_eq _ _ _ ).trans ?_), (h c).2⟩)
      (Cert.FfnDownReferenceIdeal.Value.run (F := Ideal) m' ρ')
    rw [(hag c).1, (hag c).2.1, (hag c).2.2]

end Cert.Proof

end
-- ==== Proof.Out.lean ====
/- The output projection: what the launch leaves is the residual plus the reference's product with the joined rows. -/
module

public import proofs.«01_k».proof.Proof.Gen.OutProjIdeal.Value
public import proofs.«01_k».proof.Proof.Gen.OutProjReferenceIdeal.Read
public import Idealize.ShloMosaic.Lib.Pointwise
public import proofs.«01_k».proof.Defs
public import proofs.«01_k».proof.Proof.Gen.OutProj.Frame
public import proofs.«01_k».proof.Proof.Gen.OutProjReferenceIdeal.Run
public import Idealize.ShloMosaic.Lib.Claim

@[expose] public section

noncomputable section

namespace Cert.OutProjIdeal.Value

open Cert.OutProjIdeal Cert.OutProjIdeal.Gen Idealize.ShloMosaic Idealize.ShloMosaic.TcCoe Idealize.SL.Sem
open Idealize.ShloMosaic.Pipeline (Dat)

theorem pay_apply (x : Vec Ideal S1024x512 .f32) (a b : Vec Ideal S1024x2048 .bf16) (u v : Vec Ideal S1x2048x512 .bf16) (r : Fin 1024) (l : Fin 512) :
    k0_pay1 (F := Ideal) x a u b v (ix2 r l)
      = x (ix2 r l) + ∑ k : Fin 2048, a (ix2 r k) * u (ix3 0 k l) + ∑ k : Fin 2048, b (ix2 r k) * v (ix3 0 k l) := by
  pointwise [k0_pay1]

theorem ref_apply' (a b : Vec Ideal S8192x2048 .bf16) (w : Vec Ideal S2x4096x4096 .bf16) (x : Vec Ideal S8192x4096 .f32) (r : Fin 8192) (l : Fin 4096) :
    Cert.OutProjReferenceIdeal.Read.val_main_v6 (F := Ideal) a b w x (ix2 r l)
      = x (ix2 r l) + ∑ k : Fin 4096, Cert.OutProjReferenceIdeal.Read.val_main_v0 (F := Ideal) a b (ix2 r k) * w (ix3 0 k l) := by
  pointwise [Cert.OutProjReferenceIdeal.Read.val_main_v6, Cert.OutProjReferenceIdeal.Read.val_main_v5, Cert.OutProjReferenceIdeal.Read.val_main_v4, Cert.OutProjReferenceIdeal.Read.val_main_v3, Cert.OutProjReferenceIdeal.Read.val_main_v2, Cert.OutProjReferenceIdeal.Read.val_main_v1]

/-- The joined rows' left half. -/
theorem cat_left (a b : Vec Ideal S8192x2048 .bf16) (r : Fin 8192) (k : Fin 2048) :
    Cert.OutProjReferenceIdeal.Read.val_main_v0 (F := Ideal) a b (ix2 r (Fin.castAdd 2048 k)) = a (ix2 r k) := by
  pointwise [Cert.OutProjReferenceIdeal.Read.val_main_v0]
  exact dif_pos k.isLt

/-- The joined rows' right half. -/
theorem cat_right (a b : Vec Ideal S8192x2048 .bf16) (r : Fin 8192) (k : Fin 2048) :
    Cert.OutProjReferenceIdeal.Read.val_main_v0 (F := Ideal) a b (ix2 r (Fin.natAdd 2048 k)) = b (ix2 r k) := by
  pointwise [Cert.OutProjReferenceIdeal.Read.val_main_v0]
  refine (dif_neg (by rw [Fin.val_natAdd]; omega)).trans (congrArg (fun q => b (ix2 r q)) (Fin.ext ?_))
  show 2048 + k.val - 2048 = k.val
  omega

/-- The product with the joined rows is the sum of the two halves' products. -/
theorem ref_apply (a b : Vec Ideal S8192x2048 .bf16) (w : Vec Ideal S2x4096x4096 .bf16) (x : Vec Ideal S8192x4096 .f32) (r : Fin 8192) (l : Fin 4096) :
    Cert.OutProjReferenceIdeal.Read.val_main_v6 (F := Ideal) a b w x (ix2 r l)
      = x (ix2 r l) + ∑ k : Fin 2048, a (ix2 r k) * w (ix3 0 (Fin.castAdd 2048 k) l)
          + ∑ k : Fin 2048, b (ix2 r k) * w (ix3 0 (Fin.natAdd 2048 k) l) := by
  have hs := Fin.sum_univ_add (M := EReal) (a := 2048) (b := 2048)
    (fun k => Cert.OutProjReferenceIdeal.Read.val_main_v0 (F := Ideal) a b (ix2 r k) * w (ix3 0 k l))
  refine (ref_apply' a b w x r l).trans ?_
  refine (congrArg (fun s : EReal => x (ix2 r l) + s) hs).trans ?_
  refine (add_assoc (G := EReal) _ _ _).symm.trans ?_
  have s1 := Finset.sum_congr (rfl : (Finset.univ : Finset (Fin 2048)) = Finset.univ)
    (fun k _ => congrArg (fun y : EReal => y * w (ix3 0 (Fin.castAdd 2048 k) l)) (cat_left a b r k))
  have s2 := Finset.sum_congr (rfl : (Finset.univ : Finset (Fin 2048)) = Finset.univ)
    (fun k _ => congrArg (fun y : EReal => y * w (ix3 0 (Fin.natAdd 2048 k) l)) (cat_right a b r k))
  exact congrArg₂ (fun A U : EReal => x (ix2 r l) + A + U) s1 s2

variable (m : (ℓ : Loc nD τ sig) → Buf (Elt Ideal) ℓ) (ρ : Dev nD → PrngReg)

/-- The reference's array, from the arguments as launched. -/
abbrev G (c : Dev nD) : Buf (Elt Ideal) ((c : Thread nD τ).loc main_v0) :=
  Cert.OutProjReferenceIdeal.Read.val_main_v6 (F := Ideal) (m ((c : Thread nD τ).loc main_arg0)) (m ((c : Thread nD τ).loc main_arg1)) (m ((c : Thread nD τ).loc main_arg2)) (m ((c : Thread nD τ).loc main_arg3))

/-- Where the blocks of a point lie. -/
theorem idx_facts : ∀ t : Fin cfg0.N, win0_0.index t 0 = t.val / 8
    ∧ win0_0.index t 1 = 0
    ∧ win0_1.index t 0 = t.val / 8
    ∧ win0_1.index t 1 = 0
    ∧ win0_2.index t 0 = 0
    ∧ win0_2.index t 1 = 0
    ∧ win0_2.index t 2 = t.val % 8
    ∧ win0_3.index t 0 = 0
    ∧ win0_3.index t 1 = 1
    ∧ win0_3.index t 2 = t.val % 8
    ∧ win0_4.index t 0 = t.val / 8
    ∧ win0_4.index t 1 = t.val % 8
    ∧ win0_5.index t 0 = t.val / 8
    ∧ win0_5.index t 1 = t.val % 8 :=
  (by decide +kernel : ∀ t : Fin grid0.N, win0_0.index t 0 = t.val / 8
    ∧ win0_0.index t 1 = 0
    ∧ win0_1.index t 0 = t.val / 8
    ∧ win0_1.index t 1 = 0
    ∧ win0_2.index t 0 = 0
    ∧ win0_2.index t 1 = 0
    ∧ win0_2.index t 2 = t.val % 8
    ∧ win0_3.index t 0 = 0
    ∧ win0_3.index t 1 = 1
    ∧ win0_3.index t 2 = t.val % 8
    ∧ win0_4.index t 0 = t.val / 8
    ∧ win0_4.index t 1 = t.val % 8
    ∧ win0_5.index t 0 = t.val / 8
    ∧ win0_5.index t 1 = t.val % 8)

theorem lt_N (t : Fin cfg0.N) : t.val < 64 := Nat.lt_of_lt_of_eq t.isLt N_0

/-- The rows of the first operand. -/
theorem blk0 (c : Dev nD) (t : Fin cfg0.N) (r : Fin 1024) (k : Fin 2048) :
    (iblk m c 0 t : Vec Ideal S1024x2048 .bf16) (ix2 r k)
      = (m ((c : Thread nD τ).loc main_arg0) : Vec Ideal S8192x2048 .bf16) (ix2 ⟨t.val / 8 * 1024 + r.val, by have := lt_N t; have := r.isLt; omega⟩ k) := by
  have e := idx_facts t
  refine (congrFun (V_main_arg0 m c) _).trans (congrArg (m ((c : Thread nD τ).loc main_arg0)) (funext fun a => Fin.ext ?_))
  match a with
  | ⟨0, _⟩ => show win0_0.index t 0 * 1024 + 1 * r.val = t.val / 8 * 1024 + r.val; rw [e.1]; try omega
  | ⟨1, _⟩ => show win0_0.index t 1 * 2048 + 1 * k.val = k.val; rw [e.2.1]; try omega

/-- The rows of the second operand. -/
theorem blk1 (c : Dev nD) (t : Fin cfg0.N) (r : Fin 1024) (k : Fin 2048) :
    (iblk m c 1 t : Vec Ideal S1024x2048 .bf16) (ix2 r k)
      = (m ((c : Thread nD τ).loc main_arg1) : Vec Ideal S8192x2048 .bf16) (ix2 ⟨t.val / 8 * 1024 + r.val, by have := lt_N t; have := r.isLt; omega⟩ k) := by
  have e := idx_facts t
  refine (congrFun (V_main_arg1 m c) _).trans (congrArg (m ((c : Thread nD τ).loc main_arg1)) (funext fun a => Fin.ext ?_))
  match a with
  | ⟨0, _⟩ => show win0_1.index t 0 * 1024 + 1 * r.val = t.val / 8 * 1024 + r.val; rw [e.2.2.1]; try omega
  | ⟨1, _⟩ => show win0_1.index t 1 * 2048 + 1 * k.val = k.val; rw [e.2.2.2.1]; try omega

/-- The upper half of the weights' rows. -/
theorem blk2 (c : Dev nD) (t : Fin cfg0.N) (k : Fin 2048) (l : Fin 512) :
    (iblk m c 2 t : Vec Ideal S1x2048x512 .bf16) (ix3 0 k l)
      = (m ((c : Thread nD τ).loc main_arg2) : Vec Ideal S2x4096x4096 .bf16) (ix3 0 (Fin.castAdd 2048 k) ⟨t.val % 8 * 512 + l.val, by have := l.isLt; omega⟩) := by
  have e := idx_facts t
  refine (congrFun (V_main_arg2 m c) _).trans (congrArg (m ((c : Thread nD τ).loc main_arg2)) (funext fun a => Fin.ext ?_))
  match a with
  | ⟨0, _⟩ => show win0_2.index t 0 * 1 + 1 * 0 = 0; rw [e.2.2.2.2.1]; try omega
  | ⟨1, _⟩ => show win0_2.index t 1 * 2048 + 1 * k.val = k.val; rw [e.2.2.2.2.2.1]; try omega
  | ⟨2, _⟩ => show win0_2.index t 2 * 512 + 1 * l.val = t.val % 8 * 512 + l.val; rw [e.2.2.2.2.2.2.1]; try omega

/-- The lower half of the weights' rows. -/
theorem blk3 (c : Dev nD) (t : Fin cfg0.N) (k : Fin 2048) (l : Fin 512) :
    (iblk m c 3 t : Vec Ideal S1x2048x512 .bf16) (ix3 0 k l)
      = (m ((c : Thread nD τ).loc main_arg2) : Vec Ideal S2x4096x4096 .bf16) (ix3 0 (Fin.natAdd 2048 k) ⟨t.val % 8 * 512 + l.val, by have := l.isLt; omega⟩) := by
  have e := idx_facts t
  refine (congrFun (V_main_arg2 m c) _).trans (congrArg (m ((c : Thread nD τ).loc main_arg2)) (funext fun a => Fin.ext ?_))
  match a with
  | ⟨0, _⟩ => show win0_3.index t 0 * 1 + 1 * 0 = 0; rw [e.2.2.2.2.2.2.2.1]; try omega
  | ⟨1, _⟩ => show win0_3.index t 1 * 2048 + 1 * k.val = 2048 + k.val; rw [e.2.2.2.2.2.2.2.2.1]; try omega
  | ⟨2, _⟩ => show win0_3.index t 2 * 512 + 1 * l.val = t.val % 8 * 512 + l.val; rw [e.2.2.2.2.2.2.2.2.2.1]; try omega

/-- The residual's block. -/
theorem blk4 (c : Dev nD) (t : Fin cfg0.N) (r : Fin 1024) (l : Fin 512) :
    (iblk m c 4 t : Vec Ideal S1024x512 .f32) (ix2 r l)
      = (m ((c : Thread nD τ).loc main_arg3) : Vec Ideal S8192x4096 .f32) (ix2 ⟨t.val / 8 * 1024 + r.val, by have := lt_N t; have := r.isLt; omega⟩ ⟨t.val % 8 * 512 + l.val, by have := l.isLt; omega⟩) := by
  have e := idx_facts t
  refine (congrFun (V_main_arg3 m c) _).trans (congrArg (m ((c : Thread nD τ).loc main_arg3)) (funext fun a => Fin.ext ?_))
  match a with
  | ⟨0, _⟩ => show win0_4.index t 0 * 1024 + 1 * r.val = t.val / 8 * 1024 + r.val; rw [e.2.2.2.2.2.2.2.2.2.2.1]; try omega
  | ⟨1, _⟩ => show win0_4.index t 1 * 512 + 1 * l.val = t.val % 8 * 512 + l.val; rw [e.2.2.2.2.2.2.2.2.2.2.2.1]; try omega

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block is the payload of the loaded ones. -/
theorem out_eq (x0 x1 : Vec Ideal S1024x2048 .bf16) (x2 x3 : Vec Ideal S1x2048x512 .bf16) (x4 : Vec Ideal S1024x512 .f32) :
    out0_5 (F := Ideal) x0 x1 x2 x3 x4 = k0_pay1 x4 x0 x2 x1 x3 := by
  unfold out0_5
  rw [View.canon_unit_zero hz2, View.ld_unit_zero hz2, View.ld_unit_zero hz2, View.ld_unit_zero hz3, View.ld_unit_zero hz2, View.ld_unit_zero hz3]

/-- What a point writes back is its block of the reference's array. -/
theorem flushed_eq (c : Dev nD) (t : Fin cfg0.N) :
    (dats m 0 c).flushed 5 t = ((cfg0.win 5).blk t).view.read (Elt Ideal) (G m c) := by
  rw [flushed5, out_eq]
  refine funext fun (j : S1024x512.Idx) => ?_
  have hj : j = ix2 (j 0) (j 1) := by ext a; match a with | ⟨0, _⟩ => rfl | ⟨1, _⟩ => rfl
  have ht := lt_N t
  have e := idx_facts t
  have h0 : (j 0).val < 1024 := (j 0).isLt
  have h1 : (j 1).val < 512 := (j 1).isLt
  have hr : ((cfg0.win 5).blk t).view.read (Elt Ideal) (G m c) j
      = G m c (ix2 ⟨t.val / 8 * 1024 + (j 0).val, by omega⟩ ⟨t.val % 8 * 512 + (j 1).val, by omega⟩) := by
    refine congrArg (G m c) (funext fun a => Fin.ext ?_)
    match a with
    | ⟨0, _⟩ => show win0_5.index t 0 * 1024 + 1 * (j 0).val = t.val / 8 * 1024 + (j 0).val; rw [e.2.2.2.2.2.2.2.2.2.2.2.2.1]; omega
    | ⟨1, _⟩ => show win0_5.index t 1 * 512 + 1 * (j 1).val = t.val % 8 * 512 + (j 1).val; rw [e.2.2.2.2.2.2.2.2.2.2.2.2.2]; omega
  rw [hr]
  show k0_pay1 (F := Ideal) (iblk m c 4 t) (iblk m c 0 t) (iblk m c 2 t) (iblk m c 1 t) (iblk m c 3 t) j = _
  refine (congrArg (k0_pay1 (F := Ideal) (iblk m c 4 t) (iblk m c 0 t) (iblk m c 2 t) (iblk m c 1 t) (iblk m c 3 t)) hj).trans
    ((pay_apply _ _ _ _ _ (j 0) (j 1)).trans ?_)
  refine Eq.trans ?_ (ref_apply _ _ _ _ _ _).symm
  have s1 := Finset.sum_congr (rfl : (Finset.univ : Finset (Fin 2048)) = Finset.univ)
    (fun k _ => congrArg₂ (fun x y : EReal => x * y) (blk0 m c t (j 0) k) (blk2 m c t k (j 1)))
  have s2 := Finset.sum_congr (rfl : (Finset.univ : Finset (Fin 2048)) = Finset.univ)
    (fun k _ => congrArg₂ (fun x y : EReal => x * y) (blk1 m c t (j 0) k) (blk3 m c t k (j 1)))
  exact congrArg₂ (fun A U : EReal => A + U) (congrArg₂ (fun A U : EReal => A + U) (blk4 m c t (j 0) (j 1)) s1) s2

/-- An index of the result is in the block of a point. -/
theorem mem_blk (t : Fin cfg0.N) (i : S8192x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v0).slice (win0_5.rect t)).set ↔ _
  rw [View.set_slice_whole, Rect.mem_set_unit]
  exact Iff.rfl

theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 64 := N_0
  refine ⟨⟨(i 0).val / 1024 * 8 + (i 1).val / 512, by omega⟩, flush0_5 _, ?_⟩
  have e := idx_facts ⟨(i 0).val / 1024 * 8 + (i 1).val / 512, by omega⟩
  rw [mem_blk]
  intro a
  match a with
  | ⟨0, _⟩ =>
    show win0_5.index _ 0 * 1024 ≤ (i 0).val ∧ (i 0).val < win0_5.index _ 0 * 1024 + 1024
    rw [e.2.2.2.2.2.2.2.2.2.2.2.2.1]; dsimp only; omega
  | ⟨1, _⟩ =>
    show win0_5.index _ 1 * 512 ≤ (i 1).val ∧ (i 1).val < win0_5.index _ 1 * 512 + 512
    rw [e.2.2.2.2.2.2.2.2.2.2.2.2.2]; dsimp only; omega

/-- The result array ends holding the reference's. -/
theorem final (c : Dev nD) : (dats m 0 c).arrAt 5 cfg0.N = G m c :=
  (dats m 0 c).arrAt_eq_of_cover 5 (G m c) (fun t _ => flushed_eq m c t) cover

end Cert.OutProjIdeal.Value

namespace Cert.Proof

open Idealize.ShloMosaic Idealize.SL.Sem

/-- The launch on machine words: it ends, its arguments unchanged, every counter at zero. -/
theorem frame_out : Cert.quiescent_OutProj (hOutProj := Cert.OutProj.Gen.facts) := fun m ρ _ => Cert.OutProj.Gen.frame (F := Bits) m ρ
theorem frame_outIdeal : Cert.quiescent_OutProjIdeal (hOutProjIdeal := Cert.OutProjIdeal.Gen.facts) := fun m ρ _ => Cert.OutProjIdeal.Gen.frame (F := Ideal) m ρ
theorem frame_outReference : Cert.quiescent_OutProjReferenceIdeal (hOutProjReferenceIdeal := Cert.OutProjReferenceIdeal.Gen.facts) := fun m ρ _ =>
  (θ_run Cert.OutProjReferenceIdeal.defs _ _).mono (fun r h => ⟨fun c => (h c).2,
      Idealize.ShloMosaic.sem_eq_zero_of_no_sems (by decide) r.2⟩)
    (Cert.OutProjReferenceIdeal.Value.run (F := Ideal) m ρ)

/-- The launch and the reference leave the same array. -/
theorem algebraic_out : Cert.algebraic_OutProjIdeal_OutProjReferenceIdeal (hOutProjIdeal := Cert.OutProjIdeal.Gen.facts)
    (hOutProjReferenceIdeal := Cert.OutProjReferenceIdeal.Gen.facts) := by
  intro m ρ m' ρ' _ hag
  refine ⟨fun c => Cert.OutProjIdeal.Value.G m c, ?_, ?_⟩
  · exact (θ_run Cert.OutProjIdeal.defs _ _).mono
      (fun r h c => ⟨(h c).1.trans (Cert.OutProjIdeal.Value.final m c), (h c).2⟩) (Cert.OutProjIdeal.Value.run_blocks (F := Ideal) m ρ)
  · refine (θ_run Cert.OutProjReferenceIdeal.defs _ _).mono
      (fun r h c => ⟨(h c).1.trans ((Cert.OutProjReferenceIdeal.Read.val_main_v6_eq _ _ _ _ ).trans ?_), (h c).2⟩)
      (Cert.OutProjReferenceIdeal.Value.run (F := Ideal) m' ρ')
    rw [(hag c).1, (hag c).2.1, (hag c).2.2.1, (hag c).2.2.2]

end Cert.Proof

end
-- ==== Proof.Norm.lean ====
/- The norm of the rows: what the launch leaves is the reference's. -/
module

public import proofs.«01_k».proof.Proof.Gen.NormIdeal.Value
public import proofs.«01_k».proof.Proof.Gen.NormReferenceIdeal.Read
public import Idealize.ShloMosaic.Lib.Pointwise
public import proofs.«01_k».proof.Defs
public import proofs.«01_k».proof.Proof.Gen.Norm.Frame
public import proofs.«01_k».proof.Proof.Gen.NormReferenceIdeal.Run
public import Idealize.ShloMosaic.Lib.Claim

@[expose] public section

noncomputable section

namespace Cert.NormIdeal.Value

open Cert.NormIdeal Cert.NormIdeal.Gen Idealize.ShloMosaic Idealize.ShloMosaic.TcCoe Idealize.SL.Sem
open Idealize.ShloMosaic.Pipeline (Dat)

theorem pay_apply (x : Vec Ideal S256x4096 .f32) (g : Vec Ideal S1x4096 .f32) (r : Fin 256) (l : Fin 4096) :
    k0_pay1 (F := Ideal) x g (ix2 r l) = x (ix2 r l) * Ideal.rsqrt (Ideal.div (∑ k : Fin 4096, x (ix2 r k) * x (ix2 r k)) (FloatOps.ofBits (F := Ideal) .f32 0x45800000#32)
        + FloatOps.ofBits (F := Ideal) .f32 0x358637BD#32) * g (ix2 0 l) := by
  pointwise [k0_pay1]

theorem ref_apply (x : Vec Ideal S8192x4096 .f32) (g : Vec Ideal S1x4096 .f32) (r : Fin 8192) (l : Fin 4096) :
    Cert.NormReferenceIdeal.Read.val_main_v11 (F := Ideal) x g (ix2 r l) = x (ix2 r l) * Ideal.rsqrt (Ideal.div (∑ k : Fin 4096, x (ix2 r k) * x (ix2 r k)) (FloatOps.ofBits (F := Ideal) .f32 0x45800000#32)
        + FloatOps.ofBits (F := Ideal) .f32 0x358637BD#32) * g (ix2 0 l) := by
  pointwise [Cert.NormReferenceIdeal.Read.val_main_v11, Cert.NormReferenceIdeal.Read.val_main_v10, Cert.NormReferenceIdeal.Read.val_main_v9, Cert.NormReferenceIdeal.Read.val_main_v8, Cert.NormReferenceIdeal.Read.val_main_v7, Cert.NormReferenceIdeal.Read.val_main_v6, Cert.NormReferenceIdeal.Read.val_main_v5, Cert.NormReferenceIdeal.Read.val_main_v4, Cert.NormReferenceIdeal.Read.val_main_v3, Cert.NormReferenceIdeal.Read.val_main_v2, Cert.NormReferenceIdeal.Read.val_main_v1, Cert.NormReferenceIdeal.Read.val_main_v0, Cert.NormReferenceIdeal.Read.val_main_cst, Cert.NormReferenceIdeal.Read.val_main_cst_0, Cert.NormReferenceIdeal.Read.val_main_cst_1]

variable (m : (ℓ : Loc nD τ sig) → Buf (Elt Ideal) ℓ) (ρ : Dev nD → PrngReg)

/-- The reference's array, from the arguments as launched. -/
abbrev G (c : Dev nD) : Buf (Elt Ideal) ((c : Thread nD τ).loc main_v0) :=
  Cert.NormReferenceIdeal.Read.val_main_v11 (F := Ideal) (m ((c : Thread nD τ).loc main_arg0)) (m ((c : Thread nD τ).loc main_arg1))

/-- Where the blocks of a point lie. -/
theorem idx_facts : ∀ t : Fin cfg0.N, win0_0.index t 0 = t.val / 1
    ∧ win0_0.index t 1 = 0
    ∧ win0_1.index t 0 = 0
    ∧ win0_1.index t 1 = 0
    ∧ win0_2.index t 0 = t.val / 1
    ∧ win0_2.index t 1 = t.val % 1 :=
  (by decide +kernel : ∀ t : Fin grid0.N, win0_0.index t 0 = t.val / 1
    ∧ win0_0.index t 1 = 0
    ∧ win0_1.index t 0 = 0
    ∧ win0_1.index t 1 = 0
    ∧ win0_2.index t 0 = t.val / 1
    ∧ win0_2.index t 1 = t.val % 1)

theorem lt_N (t : Fin cfg0.N) : t.val < 32 := Nat.lt_of_lt_of_eq t.isLt N_0

/-- The rows. -/
theorem blk0 (c : Dev nD) (t : Fin cfg0.N) (r : Fin 256) (k : Fin 4096) :
    (iblk m c 0 t : Vec Ideal S256x4096 .f32) (ix2 r k)
      = (m ((c : Thread nD τ).loc main_arg0) : Vec Ideal S8192x4096 .f32) (ix2 ⟨t.val / 1 * 256 + r.val, by have := lt_N t; have := r.isLt; omega⟩ k) := by
  have e := idx_facts t
  refine (congrFun (V_main_arg0 m c) _).trans (congrArg (m ((c : Thread nD τ).loc main_arg0)) (funext fun a => Fin.ext ?_))
  match a with
  | ⟨0, _⟩ => show win0_0.index t 0 * 256 + 1 * r.val = t.val / 1 * 256 + r.val; rw [e.1]; try omega
  | ⟨1, _⟩ => show win0_0.index t 1 * 4096 + 1 * k.val = k.val; rw [e.2.1]; try omega

/-- The weights. -/
theorem blk1 (c : Dev nD) (t : Fin cfg0.N) (k : Fin 4096) :
    (iblk m c 1 t : Vec Ideal S1x4096 .f32) (ix2 0 k)
      = (m ((c : Thread nD τ).loc main_arg1) : Vec Ideal S1x4096 .f32) (ix2 0 k) := by
  have e := idx_facts t
  refine (congrFun (V_main_arg1 m c) _).trans (congrArg (m ((c : Thread nD τ).loc main_arg1)) (funext fun a => Fin.ext ?_))
  match a with
  | ⟨0, _⟩ => show win0_1.index t 0 * 1 + 1 * 0 = 0; rw [e.2.2.1]; try omega
  | ⟨1, _⟩ => show win0_1.index t 1 * 4096 + 1 * k.val = k.val; rw [e.2.2.2.1]; try omega

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block is the payload of the loaded ones. -/
theorem out_eq (x0 : Vec Ideal S256x4096 .f32) (x1 : Vec Ideal S1x4096 .f32) :
    out0_2 (F := Ideal) x0 x1 = k0_pay1 x0 x1 := by
  unfold out0_2
  rw [View.canon_unit_zero hz2, View.ld_unit_zero hz2, View.ld_unit_zero hz2]

/-- What a point writes back is its block of the reference's array. -/
theorem flushed_eq (c : Dev nD) (t : Fin cfg0.N) :
    (dats m 0 c).flushed 2 t = ((cfg0.win 2).blk t).view.read (Elt Ideal) (G m c) := by
  rw [flushed2, out_eq]
  refine funext fun (j : S256x4096.Idx) => ?_
  have hj : j = ix2 (j 0) (j 1) := by ext a; match a with | ⟨0, _⟩ => rfl | ⟨1, _⟩ => rfl
  have ht := lt_N t
  have e := idx_facts t
  have h0 : (j 0).val < 256 := (j 0).isLt
  have h1 : (j 1).val < 4096 := (j 1).isLt
  have hr : ((cfg0.win 2).blk t).view.read (Elt Ideal) (G m c) j
      = G m c (ix2 ⟨t.val / 1 * 256 + (j 0).val, by omega⟩ ⟨t.val % 1 * 4096 + (j 1).val, by omega⟩) := by
    refine congrArg (G m c) (funext fun a => Fin.ext ?_)
    match a with
    | ⟨0, _⟩ => show win0_2.index t 0 * 256 + 1 * (j 0).val = t.val / 1 * 256 + (j 0).val; rw [e.2.2.2.2.1]; omega
    | ⟨1, _⟩ => show win0_2.index t 1 * 4096 + 1 * (j 1).val = t.val % 1 * 4096 + (j 1).val; rw [e.2.2.2.2.2]; omega
  rw [hr]
  show k0_pay1 (F := Ideal) (iblk m c 0 t) (iblk m c 1 t) j = _
  refine (congrArg (k0_pay1 (F := Ideal) (iblk m c 0 t) (iblk m c 1 t)) hj).trans ((pay_apply _ _ (j 0) (j 1)).trans ?_)
  refine Eq.trans ?_ (ref_apply _ _ _ _).symm
  have hl : (⟨t.val % 1 * 4096 + (j 1).val, by omega⟩ : Fin 4096) = j 1 := Fin.ext (by show t.val % 1 * 4096 + (j 1).val = (j 1).val; omega)
  rw [hl]
  have s1 := Finset.sum_congr (rfl : (Finset.univ : Finset (Fin 4096)) = Finset.univ)
    (fun k _ => congrArg₂ (fun x y : EReal => x * y) (blk0 m c t (j 0) k) (blk0 m c t (j 0) k))
  exact congrArg₂ (fun x y : EReal => x * y) (congrArg₂ (fun x s : EReal =>
    x * Ideal.rsqrt (Ideal.div s (FloatOps.ofBits (F := Ideal) .f32 0x45800000#32) + FloatOps.ofBits (F := Ideal) .f32 0x358637BD#32))
      (blk0 m c t (j 0) (j 1)) s1) (blk1 m c t (j 1))

/-- An index of the result is in the block of a point. -/
theorem mem_blk (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 32 := N_0
  refine ⟨⟨(i 0).val / 256 * 1 + (i 1).val / 4096, by omega⟩, flush0_2 _, ?_⟩
  have e := idx_facts ⟨(i 0).val / 256 * 1 + (i 1).val / 4096, by omega⟩
  rw [mem_blk]
  intro a
  match a with
  | ⟨0, _⟩ =>
    show win0_2.index _ 0 * 256 ≤ (i 0).val ∧ (i 0).val < win0_2.index _ 0 * 256 + 256
    rw [e.2.2.2.2.1]; dsimp only; omega
  | ⟨1, _⟩ =>
    show win0_2.index _ 1 * 4096 ≤ (i 1).val ∧ (i 1).val < win0_2.index _ 1 * 4096 + 4096
    rw [e.2.2.2.2.2]; dsimp only; omega

/-- The result array ends holding the reference's. -/
theorem final (c : Dev nD) : (dats m 0 c).arrAt 2 cfg0.N = G m c :=
  (dats m 0 c).arrAt_eq_of_cover 2 (G m c) (fun t _ => flushed_eq m c t) cover

end Cert.NormIdeal.Value

namespace Cert.Proof

open Idealize.ShloMosaic Idealize.SL.Sem

/-- The launch on machine words: it ends, its arguments unchanged, every counter at zero. -/
theorem frame_norm : Cert.quiescent_Norm (hNorm := Cert.Norm.Gen.facts) := fun m ρ _ => Cert.Norm.Gen.frame (F := Bits) m ρ
theorem frame_normIdeal : Cert.quiescent_NormIdeal (hNormIdeal := Cert.NormIdeal.Gen.facts) := fun m ρ _ => Cert.NormIdeal.Gen.frame (F := Ideal) m ρ
theorem frame_normReference : Cert.quiescent_NormReferenceIdeal (hNormReferenceIdeal := Cert.NormReferenceIdeal.Gen.facts) := fun m ρ _ =>
  (θ_run Cert.NormReferenceIdeal.defs _ _).mono (fun r h => ⟨fun c => (h c).2,
      Idealize.ShloMosaic.sem_eq_zero_of_no_sems (by decide) r.2⟩)
    (Cert.NormReferenceIdeal.Value.run (F := Ideal) m ρ)

/-- The launch and the reference leave the same array. -/
theorem algebraic_norm : Cert.algebraic_NormIdeal_NormReferenceIdeal (hNormIdeal := Cert.NormIdeal.Gen.facts)
    (hNormReferenceIdeal := Cert.NormReferenceIdeal.Gen.facts) := by
  intro m ρ m' ρ' _ hag
  refine ⟨fun c => Cert.NormIdeal.Value.G m c, ?_, ?_⟩
  · exact (θ_run Cert.NormIdeal.defs _ _).mono
      (fun r h c => ⟨(h c).1.trans (Cert.NormIdeal.Value.final m c), (h c).2⟩) (Cert.NormIdeal.Value.run_blocks (F := Ideal) m ρ)
  · refine (θ_run Cert.NormReferenceIdeal.defs _ _).mono
      (fun r h c => ⟨(h c).1.trans ((Cert.NormReferenceIdeal.Read.val_main_v11_eq _ _ ).trans ?_), (h c).2⟩)
      (Cert.NormReferenceIdeal.Value.run (F := Ideal) m' ρ')
    rw [(hag c).1, (hag c).2]

end Cert.Proof

end
-- ==== Proof.Math.lean ====
module

public import Idealize.ShloMosaic.Lib.Pointwise
public import proofs.«01_k».proof.Proof.Body

@[expose] public section

noncomputable section

namespace Cert.Attn

open Idealize.ShloMosaic

/-! ### Small integers in 32-bit words -/

theorem ofNat_eq (n : ℕ) : BitVec.ofNat 32 n = BitVec.ofInt 32 (n : ℤ) := (BitVec.ofInt_natCast 32 n).symm

theorem addi_eq (x y : ℤ) : IntOp.addi (BitVec.ofInt 32 x) (BitVec.ofInt 32 y) = BitVec.ofInt 32 (x + y) :=
  (BitVec.ofInt_add x y).symm

theorem muli_eq (x y : ℤ) : IntOp.muli (BitVec.ofInt 32 x) (BitVec.ofInt 32 y) = BitVec.ofInt 32 (x * y) :=
  (BitVec.ofInt_mul x y).symm

theorem toInt_eq {x : ℤ} (h : -2147483648 ≤ x ∧ x < 2147483648) : (BitVec.ofInt 32 x).toInt = x := by
  rw [BitVec.toInt_ofInt, Int.bmod_def]
  norm_num
  split_ifs <;> omega

theorem subi_eq (x y : ℤ) : IntOp.subi (BitVec.ofInt 32 x) (BitVec.ofInt 32 y) = BitVec.ofInt 32 (x - y) := by
  show BitVec.ofInt 32 x - BitVec.ofInt 32 y = _
  rw [sub_eq_add_neg x y, BitVec.ofInt_add, BitVec.ofInt_neg, BitVec.sub_eq_add_neg]

theorem sle_eq {x y : ℤ} (hx : -2147483648 ≤ x ∧ x < 2147483648) (hy : -2147483648 ≤ y ∧ y < 2147483648) :
    IntOp.cmpi .sle (BitVec.ofInt 32 x) (BitVec.ofInt 32 y) = 1#1 ↔ x ≤ y := by
  simp only [IntOp.cmpi, BitVec.sle, toInt_eq hx, toInt_eq hy]
  by_cases h : x ≤ y <;> simp [h]

theorem slt_eq {x y : ℤ} (hx : -2147483648 ≤ x ∧ x < 2147483648) (hy : -2147483648 ≤ y ∧ y < 2147483648) :
    IntOp.cmpi .slt (BitVec.ofInt 32 x) (BitVec.ofInt 32 y) = 1#1 ↔ x < y := by
  simp only [IntOp.cmpi, BitVec.slt, toInt_eq hx, toInt_eq hy]
  by_cases h : x < y <;> simp [h]

theorem sgt_eq {x y : ℤ} (hx : -2147483648 ≤ x ∧ x < 2147483648) (hy : -2147483648 ≤ y ∧ y < 2147483648) :
    IntOp.cmpi .sgt (BitVec.ofInt 32 x) (BitVec.ofInt 32 y) = 1#1 ↔ y < x := slt_eq hy hx

theorem sge_eq {x y : ℤ} (hx : -2147483648 ≤ x ∧ x < 2147483648) (hy : -2147483648 ≤ y ∧ y < 2147483648) :
    IntOp.cmpi .sge (BitVec.ofInt 32 x) (BitVec.ofInt 32 y) = 1#1 ↔ y ≤ x := sle_eq hy hx

theorem eq_eq {x y : ℤ} (hx : -2147483648 ≤ x ∧ x < 2147483648) (hy : -2147483648 ≤ y ∧ y < 2147483648) :
    IntOp.cmpi .eq (BitVec.ofInt 32 x) (BitVec.ofInt 32 y) = 1#1 ↔ x = y := by
  rw [IntOp.cmpi_eq]
  refine ⟨fun h => ?_, fun h => by rw [h]⟩
  rw [← toInt_eq hx, ← toInt_eq hy, h]

theorem shr_eq {x : ℤ} (hx : 0 ≤ x ∧ x < 2147483648) :
    IntOp.shrsi .vector (BitVec.ofInt 32 x) 6#32 = BitVec.ofInt 32 (x / 64) := by
  apply BitVec.eq_of_toInt_eq
  rw [toInt_eq (by omega)]
  unfold IntOp.shrsi
  simp [BitVec.toInt_sshiftRight, toInt_eq (x := x) (by omega), Int.shiftRight_eq_div_pow]

theorem max_eq {x y : ℤ} (hx : -2147483648 ≤ x ∧ x < 2147483648) (hy : -2147483648 ≤ y ∧ y < 2147483648) :
    Scalar.maxsi (BitVec.ofInt 32 x) (BitVec.ofInt 32 y) = BitVec.ofInt 32 (max x y) := by
  apply BitVec.eq_of_toInt_eq
  rw [toInt_eq (by omega)]
  unfold Scalar.maxsi IntOp.maxsi
  simp only [BitVec.slt, BitVec.sle, toInt_eq hx, toInt_eq hy]
  split_ifs with h <;> simp [toInt_eq hx, toInt_eq hy] at * <;> omega

theorem andi_eq (a b : BitVec 1) : IntOp.andi a b = 1#1 ↔ a = 1#1 ∧ b = 1#1 := by
  revert a b; decide

theorem ori_eq (a b : BitVec 1) : IntOp.ori a b = 1#1 ↔ a = 1#1 ∨ b = 1#1 := by
  revert a b; decide

theorem ofBool_eq (p : Prop) [Decidable p] : BitVec.ofBool (decide p) = 1#1 ↔ p := by
  by_cases h : p <;> simp [h]

theorem select_eq {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg (fun hc => hp (h.1 hc))

/-! ### Sums and largest values of reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_real {ι : Type*} [Fintype ι] (S : ι → EReal) (ht : ∀ i, S i ≠ ⊤) (hb : ∃ i, S i ≠ ⊥) :
    ∃ r : ℝ, Finset.univ.fold max ⊥ S = (r : EReal) := by
  have h1 : Finset.univ.fold max ⊥ S ≠ ⊤ := by
    have : Finset.univ.fold max ⊥ S < ⊤ :=
      (Finset.fold_max_lt ⊤).2 ⟨bot_lt_top, fun i _ => lt_top_iff_ne_top.2 (ht i)⟩
    exact this.ne
  have h2 : Finset.univ.fold max ⊥ S ≠ ⊥ := by
    obtain ⟨i, hi⟩ := hb
    have : S i ≤ Finset.univ.fold max ⊥ S := (Finset.le_fold_max _).2 (Or.inr ⟨i, Finset.mem_univ i, le_rfl⟩)
    intro h
    exact hi (le_bot_iff.1 (h ▸ this))
  exact ⟨(Finset.univ.fold max ⊥ S).toReal, (EReal.coe_toReal h1 h2).symm⟩

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_real (x : ℝ) : Ideal.exp (x : EReal) = ((Real.exp x : ℝ) : EReal) := rfl

theorem exp2_real (x : ℝ) : Ideal.exp2 (x : EReal) = (((2 : ℝ) ^ x : ℝ) : EReal) := rfl

/-- The weights of a masked softmax, not yet divided by their sum. -/
def wt {ι : Type*} (m : ι → Prop) [DecidablePred m] (s : ι → ℝ) (i : ι) : ℝ := if m i then Real.exp (s i) else 0

theorem wt_nonneg {ι : Type*} (m : ι → Prop) [DecidablePred m] (s : ι → ℝ) (i : ι) : 0 ≤ wt m s i := by
  unfold wt; split_ifs; exacts [(Real.exp_pos _).le, le_rfl]

theorem wt_sum_pos {ι : Type*} [Fintype ι] (m : ι → Prop) [DecidablePred m] (s : ι → ℝ) (h : ∃ i, m i) :
    0 < ∑ i, wt m s i := by
  obtain ⟨i, hi⟩ := h
  refine Finset.sum_pos' (fun j _ => wt_nonneg m s j) ⟨i, Finset.mem_univ i, ?_⟩
  unfold wt; rw [if_pos hi]; exact Real.exp_pos _

/-- The masked softmax as the reference forms it: scores, masked by the least value, less their largest. -/
theorem soft_ref {ι : Type*} [Fintype ι] (m : ι → Prop) [DecidablePred m] (s : ι → ℝ) (S : ι → EReal)
    (hS : ∀ i, S i = if m i then (s i : EReal) else ⊥) (h : ∃ i, m i) (i : ι) :
    Ideal.div (Ideal.exp (S i - Finset.univ.fold max ⊥ S)) (∑ j, Ideal.exp (S j - Finset.univ.fold max ⊥ S))
      = ((wt m s i / ∑ j, wt m s j : ℝ) : EReal) := by
  obtain ⟨r, hr⟩ := fold_real S (fun i => by rw [hS]; split_ifs; exacts [EReal.coe_ne_top _, bot_ne_top])
    (by obtain ⟨i, hi⟩ := h; exact ⟨i, by rw [hS, if_pos hi]; exact EReal.coe_ne_bot _⟩)
  rw [hr]
  have he : ∀ j, Ideal.exp (S j - (r : EReal)) = ((wt m s j * Real.exp (-r) : ℝ) : EReal) := by
    intro j
    rw [hS]
    unfold wt
    by_cases hj : m j
    · rw [if_pos hj, if_pos hj, ← EReal.coe_sub, exp_real, ← Real.exp_add, sub_eq_add_neg]
    · rw [if_neg hj, if_neg hj, EReal.bot_sub, zero_mul]; rfl
  simp only [he]
  rw [← coe_sum, ← Finset.sum_mul, div_real _ _ (mul_pos (wt_sum_pos m s h) (Real.exp_pos _)).ne']
  rw [mul_div_mul_right _ _ (Real.exp_pos _).ne']

/-- One term of the softmax as the kernel forms it: a power of two, less any real. -/
theorem pow_ker (m : Prop) [Decidable m] (s r : ℝ) :
    Ideal.exp2 ((((Real.log 2)⁻¹ * s : ℝ) : EReal) + (if m then (0 : EReal) else ⊥) - (r : EReal))
      = (((if m then Real.exp s else 0) * (2 : ℝ) ^ (-r) : ℝ) : EReal) := by
  by_cases h : m
  · rw [if_pos h, if_pos h, add_zero, ← EReal.coe_sub, exp2_real, sub_eq_add_neg, Real.rpow_add (by norm_num)]
    congr 2
    rw [Real.rpow_def_of_pos (by norm_num), ← mul_assoc, mul_inv_cancel₀ (Real.log_pos (by norm_num)).ne', one_mul]
  · rw [if_neg h, if_neg h, EReal.add_bot, EReal.bot_sub, zero_mul]; rfl

theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The weighted mean of the values a mask admits. The values may be infinite. -/
def mean {ι : Type*} [Fintype ι] (m : ι → Prop) [DecidablePred m] (s : ι → ℝ) (v : ι → EReal) : EReal :=
  ∑ i, v i * ((wt m s i / ∑ j, wt m s j : ℝ) : EReal)

/-- The kernel's division by the sum of the weights, after the product with the values. -/
theorem mean_ker {ι : Type*} [Fintype ι] (m : ι → Prop) [DecidablePred m] (s : ι → ℝ) (v : ι → EReal) (c : ℝ) (hc : 0 < c) (h : ∃ i, m i) :
    (∑ i, ((wt m s i * c : ℝ) : EReal) * v i) * Ideal.div 1 ((∑ i, wt m s i * c : ℝ) : EReal) = mean m s v := by
  have hp := wt_sum_pos m s h
  have hs : 0 < ∑ i, wt m s i * c := by rw [← Finset.sum_mul]; exact mul_pos hp hc
  rw [← EReal.coe_one, div_real _ _ hs.ne', sum_mul_real _ _ _ (by positivity)]
  unfold mean
  refine Finset.sum_congr rfl fun i _ => ?_
  rw [mul_comm _ (v i), mul_assoc, ← EReal.coe_mul]
  congr 2
  rw [← Finset.sum_mul]
  field_simp

/-- The reference's product of the softmax with the values. -/
theorem mean_ref {ι : Type*} [Fintype ι] (m : ι → Prop) [DecidablePred m] (s : ι → ℝ) (v : ι → EReal) :
    ∑ i, v i * ((if m i then wt m s i / ∑ j, wt m s j else 0 : ℝ) : EReal) = mean m s v := by
  refine Finset.sum_congr rfl fun i _ => ?_
  by_cases h : m i
  · rw [if_pos h]
  · rw [if_neg h]
    have h0 : wt m s i = 0 := if_neg h
    rw [h0, zero_div]

/-! ### The attention of one query row, in the reals -/

/-- The score of a key. -/
def score (q key : Fin 128 → ℝ) : ℝ := (∑ x, key x * q x) / Real.sqrt 128

/-- The compressed blocks a position may see. -/
def mC (t : ℕ) (n : Fin 127) : Prop := 16 * n.val + 31 ≤ t
instance (t : ℕ) : DecidablePred (mC t) := fun _ => inferInstanceAs (Decidable (_ ≤ _))

/-- The weights on the compressed blocks. -/
def pC (q : Fin 4 → Fin 128 → ℝ) (t : ℕ) (kc : Fin 127 → Fin 128 → ℝ) (g : Fin 4) (n : Fin 127) : ℝ :=
  wt (mC t) (fun n => score (q g) (kc n)) n / ∑ j, wt (mC t) (fun n => score (q g) (kc n)) j

/-- The compressed block `n` and the selection block `j` share keys. -/
def over (n : ℕ) (j : ℕ) : Prop := 16 * n < 64 * j + 64 ∧ 64 * j < 16 * n + 32
instance (n : ℕ) : DecidablePred (over n) := fun _ => inferInstanceAs (Decidable (_ ∧ _))

/-- The importance of a selection block. -/
def imp (q : Fin 4 → Fin 128 → ℝ) (t : ℕ) (kc : Fin 127 → Fin 128 → ℝ) (j : Fin 32) : ℝ :=
  ∑ n : Fin 127, (∑ g, pC q t kc g n) * if over n.val j.val then 1 else 0

/-- The score by which selection blocks are chosen. -/
def bs (q : Fin 4 → Fin 128 → ℝ) (t : ℕ) (kc : Fin 127 → Fin 128 → ℝ) (j : Fin 32) : EReal :=
  if 64 * j.val ≤ t then
    if j.val = 0 ∨ t < 128 + 64 * j.val then Ideal.ofBits FTy.f32 1315859240#32 else ((imp q t kc j : ℝ) : EReal)
  else Ideal.ofBits FTy.f32 3212836864#32

/-- How many blocks come before block `j`: those of greater score, and the earlier ones of the same score. -/
def rank (s : Fin 32 → EReal) (j : Fin 32) : ℕ :=
  ∑ i : Fin 32, if s j < s i then 1 else if s i = s j then (if i < j then 1 else 0) else 0

/-- The keys of the chosen blocks a position may see. -/
def mS (q : Fin 4 → Fin 128 → ℝ) (t : ℕ) (kc : Fin 127 → Fin 128 → ℝ) (key : Fin 2048) : Prop :=
  rank (bs q t kc) ⟨key.val / 64, by omega⟩ < 16 ∧ key.val ≤ t
instance (q : Fin 4 → Fin 128 → ℝ) (t : ℕ) (kc : Fin 127 → Fin 128 → ℝ) : DecidablePred (mS q t kc) :=
  fun _ => inferInstanceAs (Decidable (_ ∧ _))

/-- The keys of the window of a position. -/
def mW (t : ℕ) (key : Fin 2048) : Prop := key.val ≤ t ∧ t < 512 + key.val
instance (t : ℕ) : DecidablePred (mW t) := fun _ => inferInstanceAs (Decidable (_ ∧ _))

theorem sqrt128 : Ideal.sqrt (Ideal.ofBits FTy.f32 1124073472#32) = ((Real.sqrt 128 : ℝ) : EReal) := by
  have h : Ideal.ofBits FTy.f32 1124073472#32 = ((128 : ℝ) : EReal) := by
    norm_num [Ideal.ofBits, Ideal.ieee, Nat.shiftRight_eq_div_pow, BitVec.extractLsb']
  rw [h]
  show (if (128 : ℝ) < 0 then (⊥ : EReal) else ((Real.sqrt 128 : ℝ) : EReal)) = _
  rw [if_neg (by norm_num)]

theorem negInf : Ideal.ofBits FTy.f32 4286578688#32 = (⊥ : EReal) := by
  simp [Ideal.ofBits, Ideal.ieee]

theorem big : Ideal.ofBits FTy.f32 1315859240#32 = ((1000000000 : ℝ) : EReal) := by
  norm_num [Ideal.ofBits, Ideal.ieee, Nat.shiftRight_eq_div_pow, BitVec.extractLsb']

theorem negOne : Ideal.ofBits FTy.f32 3212836864#32 = ((-1 : ℝ) : EReal) := by
  norm_num [Ideal.ofBits, Ideal.ieee, Nat.shiftRight_eq_div_pow, BitVec.extractLsb']

theorem tiny : Ideal.ofBits FTy.f32 228737632#32 ≤ (1 : EReal) := by
  norm_num [Ideal.ofBits, Ideal.ieee, Nat.shiftRight_eq_div_pow, BitVec.extractLsb']
  rw [← EReal.coe_one, EReal.coe_le_coe_iff]
  norm_num

theorem half : Ideal.ofBits FTy.f32 1056964608#32 = ((1/2 : ℝ) : EReal) := by
  norm_num [Ideal.ofBits, Ideal.ieee, Nat.shiftRight_eq_div_pow, BitVec.extractLsb']

theorem sixteen : Ideal.ofBits FTy.f32 1098907648#32 = ((16 : ℝ) : EReal) := by
  norm_num [Ideal.ofBits, Ideal.ieee, Nat.shiftRight_eq_div_pow, BitVec.extractLsb']

theorem negTwo : Ideal.ofBits FTy.f32 3221225472#32 = ((-2 : ℝ) : EReal) := by
  norm_num [Ideal.ofBits, Ideal.ieee, Nat.shiftRight_eq_div_pow, BitVec.extractLsb']

/-- The reference's score of a key. -/
theorem score_ref (q key : Fin 128 → ℝ) :
    Ideal.div (∑ x, (key x : EReal) * (q x : EReal)) (Ideal.sqrt (Ideal.ofBits FTy.f32 1124073472#32))
      = ((score q key : ℝ) : EReal) := by
  rw [sqrt128, Finset.sum_congr rfl (fun x _ => (EReal.coe_mul (key x) (q x)).symm), ← coe_sum, div_real _ _ (by positivity)]
  rfl

/-- The kernel's score of a key: the queries are scaled first. -/
theorem score_ker (q key : Fin 128 → ℝ) :
    ∑ x, ((q x : EReal) * (((Real.sqrt 128)⁻¹ * (Real.log 2)⁻¹ : ℝ) : EReal)) * (key x : EReal)
      = (((Real.log 2)⁻¹ * score q key : ℝ) : EReal) := by
  simp only [← EReal.coe_mul]
  rw [← coe_sum]
  congr 1
  unfold score
  rw [Finset.sum_div, Finset.mul_sum]
  refine Finset.sum_congr rfl fun x _ => ?_
  ring

end Cert.Attn

end
-- ==== Proof.Rank.lean ====
module

public import proofs.«01_k».proof.Proof.Math
public import Idealize.ShloMosaic.Lib.SortFacts
public import Idealize.ShloMosaic.Lib.SortPrefix

@[expose] public section

noncomputable section

namespace Cert.Attn

open Idealize.ShloMosaic

/-! ### The place of a block in the order of scores -/

theorem stableSort_position {n : ℕ} (R B : Fin n → Fin n → Bool) (h : ∀ a b, a < b → R b a = B b a)
    (l : List (Fin n)) (hl : l.Pairwise (· < ·)) : stableSort R l = stableSort B l := by
  induction l with
  | nil => rfl
  | cons a l ih =>
    rw [List.pairwise_cons] at hl
    unfold stableSort
    rw [ih hl.2]
    exact insertBefore_congr _ _ _ _ fun b hb => h a b (hl.1 b ((perm_stableSort B l).mem_iff.1 hb))

/-- The order of a stable sort downward: the greater score first, and of equal scores the earlier. -/
def bef {n : ℕ} (s : Fin n → EReal) (i j : Fin n) : Bool := decide (s j < s i) || (decide (s i = s j) && decide (i < j))

theorem bef_strict {n : ℕ} (s : Fin n → EReal) : StrictTotalBefore (bef s) :=
  StrictTotalBefore.of_key_then_position (fun a b : EReal => decide (b < a)) s (by simp)
    (by intro a b c h1 h2; simp only [decide_eq_true_eq] at *; exact h2.trans h1)
    (by intro a b; simp only [decide_eq_true_eq]; rcases lt_trichotomy a b with h | h | h <;> tauto)

theorem sortedFrom_bef {n : ℕ} (s : Fin n → EReal) (R : Fin n → Fin n → Bool) (hR : ∀ i j, R i j = decide (s j < s i)) :
    sortedFrom R = sortedFrom (bef s) := by
  have h : sortPositions n R = sortPositions n (bef s) :=
    stableSort_position R (bef s) (fun a b hab => by
      rw [hR, bef]
      have : ¬ b < a := not_lt.2 hab.le
      simp [this]) _ (List.pairwise_lt_finRange n)
  funext k
  unfold sortedFrom
  rw [List.get_of_eq h]
  rfl

theorem sorted_before {n : ℕ} (s : Fin n → EReal) (i j : Fin n) :
    bef s (sortedFrom (bef s) i) (sortedFrom (bef s) j) = true ↔ i < j := by
  have hB := bef_strict s
  have hno := fun i j hij => sortedFrom_noInversion (bef s) (bef s) (fun a b h => hB.asymm a b h) (fun _ _ h => h) hB.negTrans i j hij
  constructor
  · intro h
    by_contra hij
    rcases (not_lt.1 hij).lt_or_eq with h' | h'
    · rw [hno j i h'] at h; exact absurd h (by decide)
    · subst h'; rw [hB.irrefl] at h; exact absurd h (by decide)
  · intro h
    rcases hB.total (sortedFrom (bef s) i) (sortedFrom (bef s) j) (fun e => h.ne (sortedFrom_injective _ e)) with h' | h'
    · exact h'
    · rw [hno i j h] at h'; exact absurd h' (by decide)

theorem rank_eq (s : Fin 32 → EReal) (j : Fin 32) : rank s j = (Finset.univ.filter fun i => bef s i j = true).card := by
  unfold rank
  rw [Finset.card_filter]
  refine Finset.sum_congr rfl fun i _ => ?_
  unfold bef
  by_cases h1 : s j < s i
  · simp [h1]
  · by_cases h2 : s i = s j
    · by_cases h3 : i < j <;> simp [h2, h3]
    · simp [h1, h2]

/-- The block at place `x` of the sort has rank `x`. -/
theorem rank_sorted (s : Fin 32 → EReal) (x : Fin 32) : rank s (sortedFrom (bef s) x) = x.val := by
  rw [rank_eq]
  have : (Finset.univ.filter fun i => bef s i (sortedFrom (bef s) x) = true) = (Finset.univ.filter fun y => y < x).map ⟨sortedFrom (bef s), sortedFrom_injective _⟩ := by
    ext i
    obtain ⟨y, rfl⟩ := sortedFrom_surjective (bef s) i
    simp only [Finset.mem_filter, Finset.mem_univ, true_and, Finset.mem_map, Function.Embedding.coeFn_mk]
    rw [sorted_before]
    exact ⟨fun h => ⟨y, h, rfl⟩, fun ⟨y', h, e⟩ => sortedFrom_injective _ e ▸ h⟩
  rw [this, Finset.card_map]
  have : (Finset.univ.filter fun y : Fin 32 => y < x) = Finset.Iio x := by ext; simp
  rw [this, Fin.card_Iio]

/-- The first sixteen of the sort are the blocks of rank less than sixteen. -/
theorem rank_lt_iff (s : Fin 32 → EReal) (R : Fin 32 → Fin 32 → Bool) (hR : ∀ i j, R i j = decide (s j < s i)) (j : Fin 32) :
    rank s j < 16 ↔ ∃ x : Fin 16, sortedFrom R ⟨x.val, by omega⟩ = j := by
  rw [sortedFrom_bef s R hR]
  obtain ⟨y, rfl⟩ := sortedFrom_surjective (bef s) j
  rw [rank_sorted]
  exact ⟨fun h => ⟨⟨y.val, h⟩, rfl⟩, fun ⟨x, e⟩ => by have := sortedFrom_injective _ e; rw [← this]; exact x.isLt⟩

/-- Some block has rank zero, and none has a greater score. -/
theorem exists_first (s : Fin 32 → EReal) : ∃ j, rank s j = 0 ∧ ∀ i, s i ≤ s j := by
  refine ⟨sortedFrom (bef s) 0, rank_sorted s 0, fun i => ?_⟩
  obtain ⟨y, rfl⟩ := sortedFrom_surjective (bef s) i
  by_contra h
  have hb : ∀ a b, s b < s a → bef s a b = true := fun a b h => by unfold bef; simp [h]
  have := hb _ _ (not_le.1 h)
  rw [sorted_before] at this
  exact absurd this (by simp)

/-- A position sees the first key of some chosen block. -/
theorem mS_nonempty (q : Fin 4 → Fin 128 → ℝ) (t : ℕ) (kc : Fin 127 → Fin 128 → ℝ) : ∃ key, mS q t kc key := by
  obtain ⟨j, h0, hj⟩ := exists_first (bs q t kc)
  have hle : 64 * j.val ≤ t := by
    by_contra h
    have h1 : bs q t kc j = ((-1 : ℝ) : EReal) := by unfold bs; rw [if_neg h, negOne]
    have h2 : bs q t kc 0 = ((1000000000 : ℝ) : EReal) := by unfold bs; rw [if_pos (by simp), if_pos (by simp), big]
    have := hj 0
    rw [h1, h2, EReal.coe_le_coe_iff] at this
    norm_num at this
  refine ⟨⟨64 * j.val, by omega⟩, ?_, hle⟩
  have : (⟨64 * j.val / 64, by omega⟩ : Fin 32) = j := Fin.ext (by simp)
  show rank _ (⟨64 * j.val / 64, _⟩ : Fin 32) < 16
  rw [this, h0]; norm_num

end Cert.Attn

end
-- ==== Proof.KerCmp.lean ====
module

public import proofs.«01_k».proof.Proof.Rank
public import proofs.«01_k».proof.Proof.Body
public import Idealize.ShloMosaic.Lib.Pointwise

@[expose] public section

noncomputable section

namespace Cert.Attn

open Idealize.ShloMosaic Idealize.ShloMosaic.TcCoe Cert.KernelIdeal Cert.KernelIdeal.Gen

/-! ### The kernel's compressed branch -/

theorem ix3_eq {α : Type} {n₀ n₁ n₂ : ℕ} (x : (⟨3, ![n₀, n₁, n₂]⟩ : Shape).Idx → α) {a a' : Fin n₀} {b b' : Fin n₁} {c c' : Fin n₂}
    (ha : a = a') (hb : b = b') (hc : c = c') : x (ix3 a b c) = x (ix3 a' b' c') := by subst ha hb hc; rfl

theorem ix2_eq {α : Type} {n₀ n₁ : ℕ} (x : (⟨2, ![n₀, n₁]⟩ : Shape).Idx → α) {a a' : Fin n₀} {b b' : Fin n₁}
    (ha : a = a') (hb : b = b') : x (ix2 a b) = x (ix2 a' b') := by subst ha hb; rfl

/-- A row of the stacked heads. -/
def row (g : Fin 4) (r : Fin 128) : Fin 512 := ⟨g.val * 128 + r.val, by omega⟩

theorem row_div (g : Fin 4) (r : Fin 128) : (⟨(row g r).val / 128, by have := (row g r).isLt; omega⟩ : Fin 4) = g := by
  apply Fin.ext; show (g.val * 128 + r.val) / 128 = g.val; omega

theorem row_mod (g : Fin 4) (r : Fin 128) : (⟨(row g r).val % 128, by omega⟩ : Fin 128) = r := by
  apply Fin.ext; show (g.val * 128 + r.val) % 128 = r.val; omega

theorem neg_eq (b : BitVec 32) : Named.named (F := Ideal) (φ := .f32) Cert.KernelIdeal.κ "neg" b = (⊥ : EReal) := rfl

theorem qscale_eq (b : BitVec 32) : Named.named (F := Ideal) (φ := .f32) Cert.KernelIdeal.κ "qscale" b = (((Real.sqrt 128)⁻¹ * (Real.log 2)⁻¹ : ℝ) : EReal) := rfl

theorem p19_at (x : Vec Ideal S1x128x512 .f32) (g : Fin 4) (r : Fin 128) (d : Fin 128) :
    k0_pay19 (F := Ideal) x (ix2 (row g r) d) = x (ix3 0 r ⟨g.val * 128 + d.val, by omega⟩) * (((Real.sqrt 128)⁻¹ * (Real.log 2)⁻¹ : ℝ) : EReal) := by
  have hR : (row g r).val = g.val * 128 + r.val := rfl
  generalize row g r = R at hR
  pointwise [k0_pay19]
  simp only [qscale_eq]
  split_ifs with h1 h2 h3
  all_goals exact congrArg (fun y : EReal => y * _) (ix3_eq x rfl (Fin.ext (by simp only []; omega)) (Fin.ext (by simp only []; omega)))

theorem p23_at (x0 : Vec Ideal S1x128x512 .f32) (x1 : Vec Ideal S1x128x128 .bf16) (q : Fin 128 → Fin 4 → Fin 128 → ℝ) (kb : Fin 128 → Fin 128 → ℝ)
    (hq : ∀ r (g : Fin 4) (x : Fin 128), x0 (ix3 0 r ⟨g.val * 128 + x.val, by omega⟩) = ((q r g x : ℝ) : EReal))
    (hk : ∀ m : Fin 128, m ≠ 0 → ∀ x, x1 (ix3 0 m x) = ((kb m x : ℝ) : EReal)) (g : Fin 4) (r m : Fin 128) (hm : m ≠ 0) :
    k0_pay23 (F := Ideal) x0 x1 (ix3 g r m) = (((Real.log 2)⁻¹ * score (q r g) (kb m) : ℝ) : EReal) := by
  have h : k0_pay23 (F := Ideal) x0 x1 (ix3 g r m) = ∑ x, k0_pay19 (F := Ideal) x0 (ix2 (row g r) x) * x1 (ix3 0 m x) := by
    unfold row
    pointwise [k0_pay23]
  rw [h, ← score_ker]
  simp only [p19_at, hq, hk m hm]

/-- The rows of the compressed keys a position may see: not the first, which holds none. -/
def mK (t : ℕ) (m : Fin 128) : Prop := 1 ≤ m.val ∧ 16 * m.val + 15 ≤ t
instance (t : ℕ) : DecidablePred (mK t) := fun _ => inferInstanceAs (Decidable (_ ∧ _))

theorem valid_iff (i : grid0.Coords) (r m : Fin 128) :
    (IntOp.andi (IntOp.cmpi CmpIPredicate.sge (BitVec.ofNat 32 m.val) 1#32)
        (IntOp.cmpi CmpIPredicate.sle (IntOp.addi (IntOp.muli (BitVec.ofNat 32 m.val) 16#32) 15#32)
          (IntOp.addi (Scalar.muli (BitVec.ofNat 32 (i 2).val) 128#32) (BitVec.ofNat 32 r.val)))) = 1#1 ↔ mK ((i 2).val * 128 + r.val) m := by
  have hi : (i 2).val < 16 := (i 2).isLt
  have hm : Scalar.muli (BitVec.ofNat 32 (i 2).val) 128#32 = IntOp.muli (BitVec.ofNat 32 (i 2).val) 128#32 := rfl
  rw [hm]
  simp only [ofNat_eq, addi_eq, muli_eq]
  rw [andi_eq, sge_eq (by omega) (by omega), sle_eq (by omega) (by omega)]
  unfold mK
  omega

theorem p24_at (i : grid0.Coords) (g : Fin 4) (r m : Fin 128) :
    k0_pay24 (F := Ideal) i (ix3 g r m) = if mK ((i 2).val * 128 + r.val) m then (0 : EReal) else ⊥ := by
  have h : k0_pay24 (F := Ideal) i (ix3 g r m) = Scalar.select
      (IntOp.andi (IntOp.cmpi CmpIPredicate.sge (BitVec.ofNat 32 m.val) 1#32)
        (IntOp.cmpi CmpIPredicate.sle (IntOp.addi (IntOp.muli (BitVec.ofNat 32 m.val) 16#32) 15#32)
          (IntOp.addi (Scalar.muli (BitVec.ofNat 32 (i 2).val) 128#32) (BitVec.ofNat 32 r.val))))
      (0 : EReal) (Named.named (F := Ideal) (φ := .f32) Cert.KernelIdeal.κ "neg" 4048155338#32) := by
    pointwise [k0_pay24, k0_pay21, k0_pay20]
  rw [h, select_eq (valid_iff i r m), neg_eq]

theorem p22_at (i : grid0.Coords) (r m : Fin 128) :
    k0_pay22 (F := Ideal) i (ix2 r m) = if mK ((i 2).val * 128 + r.val) m then (1 : EReal) else 0 := by
  have h : k0_pay22 (F := Ideal) i (ix2 r m) = Scalar.select
      (IntOp.andi (IntOp.cmpi CmpIPredicate.sge (BitVec.ofNat 32 m.val) 1#32)
        (IntOp.cmpi CmpIPredicate.sle (IntOp.addi (IntOp.muli (BitVec.ofNat 32 m.val) 16#32) 15#32)
          (IntOp.addi (Scalar.muli (BitVec.ofNat 32 (i 2).val) 128#32) (BitVec.ofNat 32 r.val))))
      (1 : EReal) 0 := by
    pointwise [k0_pay22, k0_pay21, k0_pay20]
  rw [h, select_eq (valid_iff i r m)]

theorem p25_at (a : FVec Ideal S128x128 .f32) (b c : FVec Ideal S4x128x128 .f32) (g : Fin 4) (r d : Fin 128) :
    k0_pay25 (F := Ideal) a b c (ix3 g r d) =
      Ideal.exp2 (b (ix3 g r d) + c (ix3 g r d) -
            Finset.univ.fold max (Ideal.ofBits FTy.f32 4286578688#32) (fun x => b (ix3 g r x) + c (ix3 g r x))) *
        a (ix2 r d) *
      Ideal.div 1
        (max
          (∑ x,
            Ideal.exp2
                (b (ix3 g r x) + c (ix3 g r x) -
                  Finset.univ.fold max (Ideal.ofBits FTy.f32 4286578688#32) (fun x => b (ix3 g r x) + c (ix3 g r x))) *
              a (ix2 r x))
          (Ideal.ofBits FTy.f32 228737632#32)) := by
  pointwise [k0_pay25]
  rfl

theorem fold_mem {ι : Type*} [Fintype ι] (S : ι → EReal) (h : Finset.univ.fold max ⊥ S ≠ ⊥) : ∃ i, S i = Finset.univ.fold max ⊥ S := by
  by_contra hn
  push Not at hn
  have : Finset.univ.fold max ⊥ S < Finset.univ.fold max ⊥ S :=
    (Finset.fold_max_lt _).2 ⟨bot_lt_iff_ne_bot.2 h, fun i _ => lt_of_le_of_ne ((Finset.le_fold_max _).2 (Or.inr ⟨i, Finset.mem_univ i, le_rfl⟩)) (hn i)⟩
  exact lt_irrefl _ this

/-- The masked softmax as the kernel forms it where no key may be seen: the sum is kept from zero. -/
theorem soft_cmp {ι : Type*} [Fintype ι] (m : ι → Prop) [DecidablePred m] (s : ι → ℝ) (B A : ι → EReal)
    (hB : ∀ i, B i = (((Real.log 2)⁻¹ * s i : ℝ) : EReal) + (if m i then (0 : EReal) else ⊥)) (hA : ∀ i, A i = if m i then (1 : EReal) else 0) (i : ι) :
    Ideal.exp2 (B i - Finset.univ.fold max ⊥ B) * A i * Ideal.div 1 (max (∑ j, Ideal.exp2 (B j - Finset.univ.fold max ⊥ B) * A j) (Ideal.ofBits FTy.f32 228737632#32))
      = ((wt m s i / ∑ j, wt m s j : ℝ) : EReal) := by
  by_cases h : ∃ i, m i
  · obtain ⟨r, hr⟩ := fold_real B (fun i => by
        rw [hB]; split_ifs
        · rw [add_zero]; exact EReal.coe_ne_top _
        · rw [EReal.add_bot]; exact bot_ne_top)
      (by obtain ⟨i, hi⟩ := h; exact ⟨i, by rw [hB, if_pos hi, add_zero]; exact EReal.coe_ne_bot _⟩)
    obtain ⟨i0, hi0⟩ := fold_mem B (by rw [hr]; exact EReal.coe_ne_bot _)
    rw [hr] at hi0
    have hm0 : m i0 := by
      by_contra hn
      rw [hB, if_neg hn, EReal.add_bot] at hi0
      exact EReal.coe_ne_bot _ hi0.symm
    rw [hr]
    have he : ∀ j, Ideal.exp2 (B j - (r : EReal)) * A j = ((wt m s j * (2 : ℝ) ^ (-r) : ℝ) : EReal) := by
      intro j
      rw [hB, hA, pow_ker]
      unfold wt
      by_cases hj : m j
      · simp only [if_pos hj, mul_one]
      · simp only [if_neg hj, mul_zero, zero_mul]; rfl
    simp only [he]
    have h1 : (1 : ℝ) ≤ ∑ j, wt m s j * (2 : ℝ) ^ (-r) := by
      have h2 : wt m s i0 * (2 : ℝ) ^ (-r) = 1 := by
        have h3 := pow_ker (m i0) (s i0) r
        rw [← hB, hi0, ← EReal.coe_sub, sub_self, exp2_real, Real.rpow_zero] at h3
        exact (EReal.coe_injective h3).symm
      rw [← h2]
      exact Finset.single_le_sum (f := fun j => wt m s j * (2 : ℝ) ^ (-r)) (fun j _ => mul_nonneg (wt_nonneg m s j) (Real.rpow_nonneg (by norm_num) _)) (Finset.mem_univ i0)
    rw [← coe_sum, max_eq_left (tiny.trans (by rw [← EReal.coe_one, EReal.coe_le_coe_iff]; exact h1)), ← EReal.coe_one,
      div_real _ _ (by positivity), ← EReal.coe_mul, ← Finset.sum_mul]
    congr 1
    have hp : (0 : ℝ) < (2 : ℝ) ^ (-r) := Real.rpow_pos_of_pos (by norm_num) _
    have hq := wt_sum_pos m s h
    field_simp
  · have hn : ∀ i, ¬ m i := fun i hi => h ⟨i, hi⟩
    have h0 : wt m s i = 0 := if_neg (hn i)
    rw [hA i, if_neg (hn i), mul_zero, zero_mul, h0, zero_div]
    rfl

section
variable (x0 : Vec Ideal S1x128x512 .f32) (x1 : Vec Ideal S1x128x128 .bf16) (q : Fin 128 → Fin 4 → Fin 128 → ℝ) (kb : Fin 128 → Fin 128 → ℝ)
  (hq : ∀ r (g : Fin 4) (x : Fin 128), x0 (ix3 0 r ⟨g.val * 128 + x.val, by omega⟩) = ((q r g x : ℝ) : EReal))
  (hk : ∀ m : Fin 128, m ≠ 0 → ∀ x, x1 (ix3 0 m x) = ((kb m x : ℝ) : EReal)) (i : grid0.Coords)
include hq hk

theorem pK_at (g : Fin 4) (r m : Fin 128) :
    k0_pay25 (F := Ideal) (k0_pay22 i) (k0_pay23 x0 x1) (k0_pay24 i) (ix3 g r m)
      = ((wt (mK ((i 2).val * 128 + r.val)) (fun m => score (q r g) (kb m)) m / ∑ j, wt (mK ((i 2).val * 128 + r.val)) (fun m => score (q r g) (kb m)) j : ℝ) : EReal) := by
  rw [p25_at, negInf]
  exact soft_cmp (mK ((i 2).val * 128 + r.val)) (fun m => score (q r g) (kb m)) (fun m => k0_pay23 (F := Ideal) x0 x1 (ix3 g r m) + k0_pay24 (F := Ideal) i (ix3 g r m))
    (fun m => k0_pay22 (F := Ideal) i (ix2 r m)) (fun m => by
      rw [p24_at]
      by_cases hm : m = 0
      · have h0 : ¬ mK ((i 2).val * 128 + r.val) m := fun h => by have := h.1; rw [hm] at this; exact absurd this (by simp)
        rw [if_neg h0, EReal.add_bot, EReal.add_bot]
      · rw [p23_at x0 x1 q kb hq hk g r m hm]) (fun m => p22_at i r m) m

omit hq hk in
theorem wt_zero (t : ℕ) (s : Fin 128 → ℝ) : wt (mK t) s 0 = 0 := if_neg (fun h => absurd h.1 (by simp))

omit hq hk in
theorem wt_succ (t : ℕ) (s : Fin 128 → ℝ) (n : Fin 127) : wt (mK t) s n.succ = wt (mC t) (fun n => s n.succ) n := by
  unfold wt
  refine if_congr ?_ rfl rfl
  unfold mK mC
  rw [Fin.val_succ]
  omega

theorem pK_zero (g : Fin 4) (r : Fin 128) : k0_pay25 (F := Ideal) (k0_pay22 i) (k0_pay23 x0 x1) (k0_pay24 i) (ix3 g r 0) = 0 := by
  rw [pK_at x0 x1 q kb hq hk, wt_zero, zero_div]; rfl

theorem pK_succ (g : Fin 4) (r : Fin 128) (n : Fin 127) : k0_pay25 (F := Ideal) (k0_pay22 i) (k0_pay23 x0 x1) (k0_pay24 i) (ix3 g r n.succ)
    = ((pC (q r) ((i 2).val * 128 + r.val) (fun n => kb n.succ) g n : ℝ) : EReal) := by
  rw [pK_at x0 x1 q kb hq hk, Fin.sum_univ_succ, wt_zero, zero_add]
  simp only [wt_succ]
  rfl

/-- The kernel's compressed branch. -/
theorem oCmp_at (x2 : Vec Ideal S1x128x128 .bf16) (g : Fin 4) (r d : Fin 128) :
    oCmp (F := Ideal) i x0 x1 x2 (ix2 (row g r) d)
      = ∑ n : Fin 127, x2 (ix3 0 n.succ d) * ((pC (q r) ((i 2).val * 128 + r.val) (fun n => kb n.succ) g n : ℝ) : EReal) := by
  have h : ∀ R : Fin 512, oCmp (F := Ideal) i x0 x1 x2 (ix2 R d) = ∑ x, k0_pay25 (F := Ideal) (k0_pay22 i) (k0_pay23 x0 x1) (k0_pay24 i)
      (ix3 ⟨R.val / 128, by omega⟩ ⟨R.val % 128, by omega⟩ x) * x2 (ix3 0 x d) := by
    intro R
    pointwise [oCmp, k0_pay26]
  rw [h, row_div, row_mod, Fin.sum_univ_succ, pK_zero x0 x1 q kb hq hk, zero_mul, zero_add]
  refine Finset.sum_congr rfl fun n _ => ?_
  rw [pK_succ x0 x1 q kb hq hk, mul_comm]

/-- The weights of the four heads together. -/
theorem pSum_zero (r : Fin 128) : pSum (F := Ideal) i x0 x1 (ix2 r 0) = 0 := by
  have h : pSum (F := Ideal) i x0 x1 (ix2 r 0) = k0_pay25 (F := Ideal) (k0_pay22 i) (k0_pay23 x0 x1) (k0_pay24 i) (ix3 0 r 0)
      + k0_pay25 (F := Ideal) (k0_pay22 i) (k0_pay23 x0 x1) (k0_pay24 i) (ix3 1 r 0)
      + k0_pay25 (F := Ideal) (k0_pay22 i) (k0_pay23 x0 x1) (k0_pay24 i) (ix3 2 r 0)
      + k0_pay25 (F := Ideal) (k0_pay22 i) (k0_pay23 x0 x1) (k0_pay24 i) (ix3 3 r 0) := by
    pointwise [pSum, k0_pay27]
  rw [h]
  simp only [pK_zero x0 x1 q kb hq hk, add_zero]

theorem pSum_succ (r : Fin 128) (n : Fin 127) : pSum (F := Ideal) i x0 x1 (ix2 r n.succ)
    = ((∑ g, pC (q r) ((i 2).val * 128 + r.val) (fun n => kb n.succ) g n : ℝ) : EReal) := by
  have h : ∀ m : Fin 128, pSum (F := Ideal) i x0 x1 (ix2 r m) = k0_pay25 (F := Ideal) (k0_pay22 i) (k0_pay23 x0 x1) (k0_pay24 i) (ix3 0 r m)
      + k0_pay25 (F := Ideal) (k0_pay22 i) (k0_pay23 x0 x1) (k0_pay24 i) (ix3 1 r m)
      + k0_pay25 (F := Ideal) (k0_pay22 i) (k0_pay23 x0 x1) (k0_pay24 i) (ix3 2 r m)
      + k0_pay25 (F := Ideal) (k0_pay22 i) (k0_pay23 x0 x1) (k0_pay24 i) (ix3 3 r m) := by
    intro m
    pointwise [pSum, k0_pay27]
  rw [h]
  simp only [pK_succ x0 x1 q kb hq hk, ← EReal.coe_add, Fin.sum_univ_four]

end

end Cert.Attn

end
-- ==== Proof.KerSel.lean ====
module

public import proofs.«01_k».proof.Proof.KerCmp
public import proofs.«01_k».proof.Proof.Body
public import Idealize.ShloMosaic.Lib.Pointwise

@[expose] public section

noncomputable section

namespace Cert.Attn

open Idealize.ShloMosaic Idealize.ShloMosaic.TcCoe Cert.KernelIdeal Cert.KernelIdeal.Gen

/-! ### The kernel's choice of blocks -/

section
variable (x0 : Vec Ideal S1x128x512 .f32) (x1 : Vec Ideal S1x128x128 .bf16) (q : Fin 128 → Fin 4 → Fin 128 → ℝ) (kb : Fin 128 → Fin 128 → ℝ)
  (hq : ∀ r (g : Fin 4) (x : Fin 128), x0 (ix3 0 r ⟨g.val * 128 + x.val, by omega⟩) = ((q r g x : ℝ) : EReal))
  (hk : ∀ m : Fin 128, m ≠ 0 → ∀ x, x1 (ix3 0 m x) = ((kb m x : ℝ) : EReal)) (i : grid0.Coords)
include hq hk

omit hq hk in
/-- Row `x` of the compressed keys is kept for block `j`. -/
theorem over_iff (x : Fin 128) (j : Fin 32) :
    (IntOp.andi (IntOp.andi (IntOp.andi (IntOp.cmpi CmpIPredicate.sge (BitVec.ofNat 32 x.val) 1#32)
        (IntOp.cmpi CmpIPredicate.slt (IntOp.muli (IntOp.subi (BitVec.ofNat 32 x.val) 1#32) 16#32) (IntOp.addi (IntOp.muli (BitVec.ofNat 32 j.val) 64#32) 64#32)))
        (IntOp.cmpi CmpIPredicate.sgt (IntOp.addi (IntOp.muli (IntOp.subi (BitVec.ofNat 32 x.val) 1#32) 16#32) 32#32) (IntOp.muli (BitVec.ofNat 32 j.val) 64#32)))
        (IntOp.cmpi CmpIPredicate.slt (BitVec.ofNat 32 j.val) 32#32)) = 1#1 ↔ 1 ≤ x.val ∧ over (x.val - 1) j.val := by
  simp only [ofNat_eq, addi_eq, muli_eq, subi_eq]
  rw [andi_eq, andi_eq, andi_eq, sge_eq (by omega) (by omega), slt_eq (by omega) (by omega), sgt_eq (by omega) (by omega), slt_eq (by omega) (by omega)]
  unfold over
  omega

omit hq hk in
/-- The three parts of the importance: the second and third are zero where the weights are real. -/
theorem imp_ker (c : Fin 128 → BitVec 1) (p : Fin 128 → EReal) (j : Fin 32) (w : Fin 127 → ℝ) (hc : ∀ x, c x = 1#1 ↔ 1 ≤ x.val ∧ over (x.val - 1) j.val)
    (h0 : p 0 = 0) (hs : ∀ n : Fin 127, p n.succ = ((w n : ℝ) : EReal)) :
    ∑ x, Scalar.select (c x) (p x) 0 + ∑ x, Scalar.select (c x) (p x - p x) 0 + ∑ x, Scalar.select (c x) (p x - p x - (p x - p x)) 0
      = ((∑ n : Fin 127, w n * (if over n.val j.val then 1 else 0) : ℝ) : EReal) := by
  have hd : ∀ x, p x - p x = 0 := by
    intro x
    refine Fin.cases ?_ (fun n => ?_) x
    · rw [h0, sub_zero]
    · rw [hs, ← EReal.coe_sub, sub_self]; rfl
  have hz : ∀ x, Scalar.select (c x) (0 : EReal) 0 = 0 := fun x => by unfold Scalar.select; split_ifs <;> rfl
  simp only [hd, sub_zero, hz, Finset.sum_const_zero, add_zero]
  rw [Fin.sum_univ_succ, h0, hz, zero_add, coe_sum]
  refine Finset.sum_congr rfl fun n _ => ?_
  have hp : 1 ≤ n.succ.val ∧ over (n.succ.val - 1) j.val ↔ over n.val j.val := by
    rw [Fin.val_succ, Nat.add_sub_cancel]
    exact ⟨fun h => h.2, fun h => ⟨by omega, h⟩⟩
  rw [select_eq ((hc n.succ).trans hp), hs]
  split_ifs <;> simp

omit hq hk in
theorem scoreT_read (j r : Fin 128) : scoreT (F := Ideal) i x0 x1 (ix2 j r) = Scalar.select (IntOp.cmpi CmpIPredicate.slt (BitVec.ofNat 32 j.val) 32#32)
      (Scalar.select
        (IntOp.cmpi CmpIPredicate.sle (BitVec.ofNat 32 j.val)
          (IntOp.shrsi ArithUnit.vector (IntOp.addi (Scalar.muli (BitVec.ofNat 32 (i 2).val) 128#32) (BitVec.ofNat 32 r.val))
            6#32))
        (Scalar.select
          (IntOp.ori
            (IntOp.ori (IntOp.cmpi CmpIPredicate.eq (BitVec.ofNat 32 j.val) 0#32)
              (IntOp.cmpi CmpIPredicate.eq (BitVec.ofNat 32 j.val)
                (IntOp.shrsi ArithUnit.vector
                  (IntOp.addi (Scalar.muli (BitVec.ofNat 32 (i 2).val) 128#32) (BitVec.ofNat 32 r.val)) 6#32)))
            (IntOp.cmpi CmpIPredicate.eq (BitVec.ofNat 32 j.val)
              (IntOp.subi
                (IntOp.shrsi ArithUnit.vector
                  (IntOp.addi (Scalar.muli (BitVec.ofNat 32 (i 2).val) 128#32) (BitVec.ofNat 32 r.val)) 6#32)
                1#32)))
          (Ideal.ofBits FTy.f32 1315859240#32)
          (∑ x,
                Scalar.select
                  (IntOp.andi
                    (IntOp.andi
                      (IntOp.andi (IntOp.cmpi CmpIPredicate.sge (BitVec.ofNat 32 x.val) 1#32)
                        (IntOp.cmpi CmpIPredicate.slt (IntOp.muli (IntOp.subi (BitVec.ofNat 32 x.val) 1#32) 16#32)
                          (IntOp.addi (IntOp.muli (BitVec.ofNat 32 j.val) 64#32) 64#32)))
                      (IntOp.cmpi CmpIPredicate.sgt
                        (IntOp.addi (IntOp.muli (IntOp.subi (BitVec.ofNat 32 x.val) 1#32) 16#32) 32#32)
                        (IntOp.muli (BitVec.ofNat 32 j.val) 64#32)))
                    (IntOp.cmpi CmpIPredicate.slt (BitVec.ofNat 32 j.val) 32#32))
                  (pSum (F := Ideal) i x0 x1 (ix2 r x)) 0 +
              ∑ x,
                Scalar.select
                  (IntOp.andi
                    (IntOp.andi
                      (IntOp.andi (IntOp.cmpi CmpIPredicate.sge (BitVec.ofNat 32 x.val) 1#32)
                        (IntOp.cmpi CmpIPredicate.slt (IntOp.muli (IntOp.subi (BitVec.ofNat 32 x.val) 1#32) 16#32)
                          (IntOp.addi (IntOp.muli (BitVec.ofNat 32 j.val) 64#32) 64#32)))
                      (IntOp.cmpi CmpIPredicate.sgt
                        (IntOp.addi (IntOp.muli (IntOp.subi (BitVec.ofNat 32 x.val) 1#32) 16#32) 32#32)
                        (IntOp.muli (BitVec.ofNat 32 j.val) 64#32)))
                    (IntOp.cmpi CmpIPredicate.slt (BitVec.ofNat 32 j.val) 32#32))
                  (pSum (F := Ideal) i x0 x1 (ix2 r x) - pSum (F := Ideal) i x0 x1 (ix2 r x)) 0 +
            ∑ x,
              Scalar.select
                (IntOp.andi
                  (IntOp.andi
                    (IntOp.andi (IntOp.cmpi CmpIPredicate.sge (BitVec.ofNat 32 x.val) 1#32)
                      (IntOp.cmpi CmpIPredicate.slt (IntOp.muli (IntOp.subi (BitVec.ofNat 32 x.val) 1#32) 16#32)
                        (IntOp.addi (IntOp.muli (BitVec.ofNat 32 j.val) 64#32) 64#32)))
                    (IntOp.cmpi CmpIPredicate.sgt
                      (IntOp.addi (IntOp.muli (IntOp.subi (BitVec.ofNat 32 x.val) 1#32) 16#32) 32#32)
                      (IntOp.muli (BitVec.ofNat 32 j.val) 64#32)))
                  (IntOp.cmpi CmpIPredicate.slt (BitVec.ofNat 32 j.val) 32#32))
                (pSum (F := Ideal) i x0 x1 (ix2 r x) - pSum (F := Ideal) i x0 x1 (ix2 r x) - (pSum (F := Ideal) i x0 x1 (ix2 r x) - pSum (F := Ideal) i x0 x1 (ix2 r x)))
                0))
        (Ideal.ofBits FTy.f32 3212836864#32))
      (Ideal.ofBits FTy.f32 3221225472#32) := by
  pointwise [scoreT, k0_pay30, k0_pay28, k0_pay29, k0_pay20]

/-- The kernel's scores of the blocks. -/
theorem scoreT_at (j : Fin 32) (r : Fin 128) :
    scoreT (F := Ideal) i x0 x1 (ix2 ⟨j.val, by omega⟩ r) = bs (q r) ((i 2).val * 128 + r.val) (fun n => kb n.succ) j := by
  have hi : (i 2).val < 16 := (i 2).isLt
  have hm : Scalar.muli (BitVec.ofNat 32 (i 2).val) 128#32 = IntOp.muli (BitVec.ofNat 32 (i 2).val) 128#32 := rfl
  have h1 : IntOp.cmpi CmpIPredicate.slt (BitVec.ofNat 32 j.val) 32#32 = 1#1 ↔ True := by
    simp only [ofNat_eq]; rw [slt_eq (by omega) (by omega)]; simp only [iff_true]; omega
  have hcur : IntOp.shrsi ArithUnit.vector (IntOp.addi (Scalar.muli (BitVec.ofNat 32 (i 2).val) 128#32) (BitVec.ofNat 32 r.val)) 6#32
      = BitVec.ofInt 32 ((((i 2).val * 128 + r.val : ℕ) : ℤ) / 64) := by
    rw [hm]
    have h128 : (128#32 : BitVec 32) = BitVec.ofInt 32 128 := rfl
    rw [ofNat_eq (i 2).val, ofNat_eq r.val, h128, muli_eq, addi_eq, shr_eq (by omega)]
    push_cast
    rfl
  have h2 : (IntOp.cmpi CmpIPredicate.sle (BitVec.ofNat 32 j.val)
          (IntOp.shrsi ArithUnit.vector (IntOp.addi (Scalar.muli (BitVec.ofNat 32 (i 2).val) 128#32) (BitVec.ofNat 32 r.val)) 6#32)) = 1#1
        ↔ 64 * j.val ≤ (i 2).val * 128 + r.val := by
    rw [hcur, ofNat_eq j.val, sle_eq (by omega) (by omega)]; omega
  have h3 : 64 * j.val ≤ (i 2).val * 128 + r.val → ((IntOp.ori
            (IntOp.ori (IntOp.cmpi CmpIPredicate.eq (BitVec.ofNat 32 j.val) 0#32)
              (IntOp.cmpi CmpIPredicate.eq (BitVec.ofNat 32 j.val)
                (IntOp.shrsi ArithUnit.vector (IntOp.addi (Scalar.muli (BitVec.ofNat 32 (i 2).val) 128#32) (BitVec.ofNat 32 r.val)) 6#32)))
            (IntOp.cmpi CmpIPredicate.eq (BitVec.ofNat 32 j.val)
              (IntOp.subi (IntOp.shrsi ArithUnit.vector (IntOp.addi (Scalar.muli (BitVec.ofNat 32 (i 2).val) 128#32) (BitVec.ofNat 32 r.val)) 6#32) 1#32))) = 1#1
        ↔ (j.val = 0 ∨ (i 2).val * 128 + r.val < 128 + 64 * j.val)) := by
    intro hle
    have h1i : (1#32 : BitVec 32) = BitVec.ofInt 32 1 := rfl
    have h0i : (0#32 : BitVec 32) = BitVec.ofInt 32 0 := rfl
    rw [hcur, ofNat_eq j.val, h1i, h0i, subi_eq, ori_eq, ori_eq, eq_eq (by omega) (by omega), eq_eq (by omega) (by omega), eq_eq (by omega) (by omega)]
    omega
  have h := scoreT_read x0 x1 i ⟨j.val, by omega⟩ r
  rw [h, select_eq h1, if_pos trivial, select_eq h2]
  unfold bs
  by_cases hle : 64 * j.val ≤ (i 2).val * 128 + r.val
  · rw [if_pos hle, if_pos hle, select_eq (h3 hle)]
    refine if_congr Iff.rfl rfl ?_
    exact imp_ker _ (fun x => pSum (F := Ideal) i x0 x1 (ix2 r x)) j _ (fun x => over_iff x j) (pSum_zero x0 x1 q kb hq hk i r) (pSum_succ x0 x1 q kb hq hk i r)
  · rw [if_neg hle, if_neg hle]

end

/-- One block's part of the rank of block `l`: the count of block `i`, whose number is the word `b`. -/
def tally (s : FVec Ideal S32x128 .f32) (l : Fin 32) (r : Fin 128) (i : Fin 32) (b : BitVec 32) : EReal :=
  if s (ix2 l r) < s (ix2 i r) then 1 else if s (ix2 i r) = s (ix2 l r) then Scalar.select (IntOp.cmpi CmpIPredicate.sgt (BitVec.ofNat 32 l.val) b) 1 0 else 0

section
variable (v : FVec Ideal S128x128 .f32) (s c : FVec Ideal S32x128 .f32) (l : Fin 32) (r : Fin 128)

theorem t0 : k0_pay36 (F := Ideal) (k0_pay31 v) (iota .tc S32x128 32 [0] iota_S32x128_d0_w32) (k0_pay32 v) (k0_pay34 v) (k0_pay35 v) (ix2 l r)
    = tally (k0_pay31 v) l r 0 0#32 + tally (k0_pay31 v) l r 1 1#32 + tally (k0_pay31 v) l r 2 2#32 + tally (k0_pay31 v) l r 3 3#32 + tally (k0_pay31 v) l r 4 4#32 := by
  pointwise [k0_pay31, k0_pay32, k0_pay33, k0_pay34, k0_pay35, k0_pay36, tally]
  try rfl

theorem t1 : k0_pay40 (F := Ideal) s (iota .tc S32x128 32 [0] iota_S32x128_d0_w32) c (k0_pay38 s) (k0_pay39 s (iota .tc S32x128 32 [0] iota_S32x128_d0_w32)) (ix2 l r)
    = c (ix2 l r) + tally s l r 5 5#32 + tally s l r 6 6#32 + tally s l r 7 7#32 := by
  pointwise [k0_pay37, k0_pay38, k0_pay39, k0_pay40, tally]
  try rfl

theorem t2 : k0_pay44 (F := Ideal) s (iota .tc S32x128 32 [0] iota_S32x128_d0_w32) c (k0_pay42 s) (k0_pay43 s (iota .tc S32x128 32 [0] iota_S32x128_d0_w32)) (ix2 l r)
    = c (ix2 l r) + tally s l r 8 8#32 + tally s l r 9 9#32 + tally s l r 10 10#32 := by
  pointwise [k0_pay41, k0_pay42, k0_pay43, k0_pay44, tally]
  try rfl

theorem t3 : k0_pay48 (F := Ideal) s (iota .tc S32x128 32 [0] iota_S32x128_d0_w32) c (k0_pay46 s) (k0_pay47 s (iota .tc S32x128 32 [0] iota_S32x128_d0_w32)) (ix2 l r)
    = c (ix2 l r) + tally s l r 11 11#32 + tally s l r 12 12#32 + tally s l r 13 13#32 := by
  pointwise [k0_pay45, k0_pay46, k0_pay47, k0_pay48, tally]
  try rfl

theorem t4 : k0_pay52 (F := Ideal) s (iota .tc S32x128 32 [0] iota_S32x128_d0_w32) c (k0_pay50 s) (k0_pay51 s (iota .tc S32x128 32 [0] iota_S32x128_d0_w32)) (ix2 l r)
    = c (ix2 l r) + tally s l r 14 14#32 + tally s l r 15 15#32 + tally s l r 16 16#32 := by
  pointwise [k0_pay49, k0_pay50, k0_pay51, k0_pay52, tally]
  try rfl

theorem t5 : k0_pay56 (F := Ideal) s (iota .tc S32x128 32 [0] iota_S32x128_d0_w32) c (k0_pay54 s) (k0_pay55 s (iota .tc S32x128 32 [0] iota_S32x128_d0_w32)) (ix2 l r)
    = c (ix2 l r) + tally s l r 17 17#32 + tally s l r 18 18#32 + tally s l r 19 19#32 := by
  pointwise [k0_pay53, k0_pay54, k0_pay55, k0_pay56, tally]
  try rfl

theorem t6 : k0_pay60 (F := Ideal) s (iota .tc S32x128 32 [0] iota_S32x128_d0_w32) c (k0_pay58 s) (k0_pay59 s (iota .tc S32x128 32 [0] iota_S32x128_d0_w32)) (ix2 l r)
    = c (ix2 l r) + tally s l r 20 20#32 + tally s l r 21 21#32 + tally s l r 22 22#32 := by
  pointwise [k0_pay57, k0_pay58, k0_pay59, k0_pay60, tally]
  try rfl

theorem t7 : k0_pay64 (F := Ideal) s (iota .tc S32x128 32 [0] iota_S32x128_d0_w32) c (k0_pay62 s) (k0_pay63 s (iota .tc S32x128 32 [0] iota_S32x128_d0_w32)) (ix2 l r)
    = c (ix2 l r) + tally s l r 23 23#32 + tally s l r 24 24#32 + tally s l r 25 25#32 := by
  pointwise [k0_pay61, k0_pay62, k0_pay63, k0_pay64, tally]
  try rfl

theorem t8 : k0_pay68 (F := Ideal) s (iota .tc S32x128 32 [0] iota_S32x128_d0_w32) c (k0_pay66 s) (k0_pay67 s (iota .tc S32x128 32 [0] iota_S32x128_d0_w32)) (ix2 l r)
    = c (ix2 l r) + tally s l r 26 26#32 + tally s l r 27 27#32 + tally s l r 28 28#32 := by
  pointwise [k0_pay65, k0_pay66, k0_pay67, k0_pay68, tally]
  try rfl

theorem t9 (l : Fin 128) : k0_pay72 (F := Ideal) s (iota .tc S32x128 32 [0] iota_S32x128_d0_w32) c (k0_pay70 s) (k0_pay71 s (iota .tc S32x128 32 [0] iota_S32x128_d0_w32)) (ix2 r l)
    = if h : l.val < 32 then
      Scalar.select (IntOp.andi (BitVec.ofBool (decide (c (ix2 ⟨l.val, h⟩ r) + tally s ⟨l.val, h⟩ r 29 29#32 + tally s ⟨l.val, h⟩ r 30 30#32 + tally s ⟨l.val, h⟩ r 31 31#32
          < Ideal.ofBits FTy.f32 1098907648#32))) (IntOp.cmpi CmpIPredicate.slt (BitVec.ofNat 32 l.val) 32#32)) 1 0 else 0 := by
  pointwise [k0_pay69, k0_pay70, k0_pay71, k0_pay72, tally]
  try rfl

end

theorem tally_eq (v : FVec Ideal S128x128 .f32) (s : Fin 32 → EReal) (r : Fin 128) (hv : ∀ j : Fin 32, v (ix2 ⟨j.val, by omega⟩ r) = s j) (l i : Fin 32) :
    tally (k0_pay31 v) l r i (BitVec.ofNat 32 i.val) = ((if s l < s i then 1 else if s i = s l then (if i < l then 1 else 0) else 0 : ℕ) : EReal) := by
  have hp : ∀ j : Fin 32, k0_pay31 (F := Ideal) v (ix2 j r) = s j := by
    intro j
    have h : k0_pay31 (F := Ideal) v (ix2 j r) = v (ix2 ⟨j.val, by omega⟩ r) := by
      pointwise [k0_pay31]
    rw [h, hv]
  have hg : IntOp.cmpi CmpIPredicate.sgt (BitVec.ofNat 32 l.val) (BitVec.ofNat 32 i.val) = 1#1 ↔ i < l := by
    simp only [ofNat_eq]; rw [sgt_eq (by omega) (by omega)]; omega
  unfold tally
  rw [hp, hp, select_eq hg]
  split_ifs <;> simp

/-- A block is taken where fewer than sixteen come before it. -/
theorem selOf_at (v : FVec Ideal S128x128 .f32) (s : Fin 32 → EReal) (r : Fin 128) (hv : ∀ j : Fin 32, v (ix2 ⟨j.val, by omega⟩ r) = s j) (l : Fin 32) :
    selOf (F := Ideal) v (ix2 r ⟨l.val, by omega⟩) = if rank s l < 16 then 1 else 0 := by
  have hr : ((rank s l : ℕ) : EReal) = ∑ i : Fin 32, tally (k0_pay31 v) l r i (BitVec.ofNat 32 i.val) := by
    unfold rank
    rw [Nat.cast_sum]
    exact Finset.sum_congr rfl fun i _ => (tally_eq v s r hv l i).symm
  have hs : ((rank s l : ℕ) : EReal) < Ideal.ofBits FTy.f32 1098907648#32 ↔ rank s l < 16 := by
    rw [sixteen]
    have h : ((rank s l : ℕ) : EReal) = (((rank s l : ℕ) : ℝ) : EReal) := rfl
    rw [h, EReal.coe_lt_coe_iff]
    exact_mod_cast Iff.rfl
  have hl : IntOp.cmpi CmpIPredicate.slt (BitVec.ofNat 32 l.val) 32#32 = 1#1 ↔ True := by
    simp only [ofNat_eq]; rw [slt_eq (by omega) (by omega)]; simp only [iff_true]; omega
  have h : selOf (F := Ideal) v (ix2 r ⟨l.val, by omega⟩)
      = Scalar.select (IntOp.andi (BitVec.ofBool (decide ((∑ i : Fin 32, tally (k0_pay31 v) l r i (BitVec.ofNat 32 i.val)) < Ideal.ofBits FTy.f32 1098907648#32)))
          (IntOp.cmpi CmpIPredicate.slt (BitVec.ofNat 32 l.val) 32#32)) 1 0 := by
    unfold selOf
    rw [t9, dif_pos (show (⟨l.val, by omega⟩ : Fin 128).val < 32 from l.isLt)]
    dsimp only
    rw [t8, t7, t6, t5, t4, t3, t2, t1, t0]
    simp only [Fin.sum_univ_castSucc, Fin.sum_univ_zero, zero_add]
    rfl
  have hc : IntOp.andi (BitVec.ofBool (decide ((∑ i : Fin 32, tally (k0_pay31 v) l r i (BitVec.ofNat 32 i.val)) < Ideal.ofBits FTy.f32 1098907648#32)))
      (IntOp.cmpi CmpIPredicate.slt (BitVec.ofNat 32 l.val) 32#32) = 1#1 ↔ rank s l < 16 := by
    rw [andi_eq, ofBool_eq, hl, and_true, ← hr, hs]
  rw [h, select_eq hc]

/-- The kernel's selection is the reference's. -/
theorem selM_at (x0 : Vec Ideal S1x128x512 .f32) (x1 : Vec Ideal S1x128x128 .bf16) (q : Fin 128 → Fin 4 → Fin 128 → ℝ) (kb : Fin 128 → Fin 128 → ℝ)
    (hq : ∀ r (g : Fin 4) (x : Fin 128) (h : g.val * 128 + x.val < 512), x0 (ix3 0 r ⟨g.val * 128 + x.val, h⟩) = ((q r g x : ℝ) : EReal))
    (hk : ∀ m : Fin 128, m ≠ 0 → ∀ x, x1 (ix3 0 m x) = ((kb m x : ℝ) : EReal)) (i : grid0.Coords) (r : Fin 128) (l : Fin 32) (hl : l.val < 128) :
    selM (F := Ideal) i x0 x1 (ix2 r ⟨l.val, hl⟩) = if rank (bs (q r) ((i 2).val * 128 + r.val) (fun n => kb n.succ)) l < 16 then 1 else 0 :=
  selOf_at _ _ r (fun j => scoreT_at x0 x1 q kb (fun r g x => hq r g x (by omega)) hk i j r) l

end Cert.Attn

end
-- ==== Proof.KerSlc.lean ====
module

public import proofs.«01_k».proof.Proof.KerSel
public import proofs.«01_k».proof.Proof.Body
public import Idealize.ShloMosaic.Lib.Pointwise

@[expose] public section

noncomputable section

namespace Cert.Attn

open Idealize.ShloMosaic Idealize.ShloMosaic.TcCoe Cert.KernelIdeal Cert.KernelIdeal.Gen

/-! ### The kernel's selected branch -/

theorem ld_rows {T : ℕ} (x : Vec Ideal S2048x128 .bf16) (off : Fin 2 → ℕ) (h : ∀ a, off a + (⟨2, ![T, 128]⟩ : Shape).size a ≤ S2048x128.size a) (h1 : off 1 = 0) (l : Fin T) (d : Fin 128)
    (hl : off 0 + l.val < 2048) : View.ld x (Rect.unit (s := S2048x128) off (⟨2, ![T, 128]⟩ : Shape).size h) (ix2 l d) = x (ix2 ⟨off 0 + l.val, hl⟩ d) := by
  unfold View.ld
  refine congrArg x (funext fun a => Fin.ext ?_)
  match a with
  | ⟨0, _⟩ => show off 0 + 1 * l.val = off 0 + l.val; omega
  | ⟨1, _⟩ => show off 1 + 1 * d.val = d.val; omega

theorem rows0_at (x : Vec Ideal S2048x128 .bf16) (l : Fin 512) (d : Fin 128) : rows0 (F := Ideal) x (ix2 l d) = x (ix2 ⟨0 + l.val, by omega⟩ d) :=
  ld_rows (T := 512) x ![0, 0] inb_S2048x128_S512x128_0_0 rfl l d (by show 0 + l.val < 2048; omega)

theorem rows1_at (x : Vec Ideal S2048x128 .bf16) (l : Fin 512) (d : Fin 128) : rows1 (F := Ideal) x (ix2 l d) = x (ix2 ⟨512 + l.val, by omega⟩ d) :=
  ld_rows (T := 512) x ![512, 0] inb_S2048x128_S512x128_512_0 rfl l d (by show 512 + l.val < 2048; omega)

theorem rows2_at (x : Vec Ideal S2048x128 .bf16) (l : Fin 512) (d : Fin 128) : rows2 (F := Ideal) x (ix2 l d) = x (ix2 ⟨1024 + l.val, by omega⟩ d) :=
  ld_rows (T := 512) x ![1024, 0] inb_S2048x128_S512x128_1024_0 rfl l d (by show 1024 + l.val < 2048; omega)

theorem rows3_at (x : Vec Ideal S2048x128 .bf16) (l : Fin 512) (d : Fin 128) : rows3 (F := Ideal) x (ix2 l d) = x (ix2 ⟨1536 + l.val, by omega⟩ d) :=
  ld_rows (T := 512) x ![1536, 0] inb_S2048x128_S512x128_1536_0 rfl l d (by show 1536 + l.val < 2048; omega)

/-- The bias of a key whose number is the word `key`, at the position `pos`. -/
def bias (sel : Fin 128 → EReal) (key pos : BitVec 32) : EReal :=
  Scalar.select (IntOp.andi (BitVec.ofBool (decide (Ideal.ofBits FTy.f32 1056964608#32 < ∑ x : Fin 128,
      Scalar.select (IntOp.cmpi CmpIPredicate.eq (IntOp.shrsi ArithUnit.vector key 6#32) (BitVec.ofNat 32 x.val)) (sel x) 0)))
    (IntOp.cmpi CmpIPredicate.sle key pos)) 0 ⊥

/-- The biased score of a key: the score in base two, and the mask. -/
def kF (q : Fin 128 → ℝ) (kk : Fin 2048 → Fin 128 → ℝ) (m : Fin 2048 → Prop) [DecidablePred m] (key : Fin 2048) : EReal :=
  (((Real.log 2)⁻¹ * score q (kk key) : ℝ) : EReal) + (if m key then (0 : EReal) else ⊥)

theorem kF_lt (q : Fin 128 → ℝ) (kk : Fin 2048 → Fin 128 → ℝ) (m : Fin 2048 → Prop) [DecidablePred m] (key : Fin 2048) : kF q kk m key < ⊤ := by
  unfold kF
  split_ifs
  · rw [add_zero]; exact EReal.coe_lt_top _
  · rw [EReal.add_bot]; exact bot_lt_top

theorem kF_ne (q : Fin 128 → ℝ) (kk : Fin 2048 → Fin 128 → ℝ) (m : Fin 2048 → Prop) [DecidablePred m] (key : Fin 2048) (h : m key) : kF q kk m key ≠ ⊥ := by
  unfold kF
  rw [if_pos h, add_zero]
  exact EReal.coe_ne_bot _

/-- The keys of the blocks `P` up to the position `t`. -/
def mP (P : Fin 32 → Prop) (t : ℕ) (key : Fin 2048) : Prop := P ⟨key.val / 64, by omega⟩ ∧ key.val ≤ t
instance (P : Fin 32 → Prop) [DecidablePred P] (t : ℕ) : DecidablePred (mP P t) := fun _ => inferInstanceAs (Decidable (_ ∧ _))

theorem bias_at (s : Fin 128 → EReal) (P : Fin 32 → Prop) [DecidablePred P] (hs : ∀ l : Fin 32, s ⟨l.val, by omega⟩ = if P l then 1 else 0)
    (key : Fin 2048) (t : ℕ) (ht : t < 2048) : bias s (BitVec.ofInt 32 key.val) (BitVec.ofInt 32 t) = if mP P t key then 0 else ⊥ := by
  have hsum : ∑ x : Fin 128, Scalar.select (IntOp.cmpi CmpIPredicate.eq (IntOp.shrsi ArithUnit.vector (BitVec.ofInt 32 key.val) 6#32) (BitVec.ofNat 32 x.val)) (s x) 0
      = if P ⟨key.val / 64, by omega⟩ then 1 else 0 := by
    have he : ∀ x : Fin 128, IntOp.cmpi CmpIPredicate.eq (IntOp.shrsi ArithUnit.vector (BitVec.ofInt 32 key.val) 6#32) (BitVec.ofNat 32 x.val) = 1#1
        ↔ x = ⟨key.val / 64, by omega⟩ := by
      intro x
      rw [shr_eq (by omega), ofNat_eq x.val, eq_eq (by omega) (by omega), Fin.ext_iff]
      show _ ↔ x.val = key.val / 64
      omega
    rw [← hs ⟨key.val / 64, by omega⟩]
    simp only [select_eq (he _), Finset.sum_ite_eq', Finset.mem_univ, if_true]
  have hc : IntOp.andi (BitVec.ofBool (decide (Ideal.ofBits FTy.f32 1056964608#32 < ∑ x : Fin 128,
      Scalar.select (IntOp.cmpi CmpIPredicate.eq (IntOp.shrsi ArithUnit.vector (BitVec.ofInt 32 key.val) 6#32) (BitVec.ofNat 32 x.val)) (s x) 0)))
      (IntOp.cmpi CmpIPredicate.sle (BitVec.ofInt 32 key.val) (BitVec.ofInt 32 t)) = 1#1 ↔ mP P t key := by
    rw [andi_eq, ofBool_eq, sle_eq (by omega) (by omega), hsum, half]
    unfold mP
    refine and_congr ?_ (by omega)
    by_cases hp : P ⟨key.val / 64, by omega⟩
    · rw [if_pos hp, ← EReal.coe_one, EReal.coe_lt_coe_iff]
      exact ⟨fun _ => hp, fun _ => by norm_num⟩
    · rw [if_neg hp, ← EReal.coe_zero, EReal.coe_lt_coe_iff]
      exact ⟨fun h => absurd h (by norm_num), fun h => absurd h hp⟩
  unfold bias
  rw [select_eq hc]

section
variable (i : grid0.Coords) (q : FVec Ideal S512x128 .bf16) (sel : FVec Ideal S128x128 .bf16) (ks vs : Vec Ideal S2048x128 .bf16) (m : Vec Ideal S512x128 .f32) (R : Fin 512)

/-- The biased score as the kernel has it. -/
def sBody (k : Fin 128 → EReal) (key : BitVec 32) : EReal :=
  ∑ x, q (ix2 R x) * k x
    + bias (fun x => sel (ix2 ⟨R.val % 128, by omega⟩ x)) key (IntOp.addi (Scalar.muli (BitVec.ofNat 32 (i 2).val) 128#32) (BitVec.ofNat 32 (R.val % 128)))

/-- Four lanes' weights. -/
def four (s : Fin 512 → EReal) (M : EReal) (l : Fin 128) : EReal :=
  Ideal.exp2 (s ⟨l.val, by omega⟩ - M) + Ideal.exp2 (s ⟨128 + l.val, by omega⟩ - M) + Ideal.exp2 (s ⟨256 + l.val, by omega⟩ - M) + Ideal.exp2 (s ⟨384 + l.val, by omega⟩ - M)

/-- Four lanes' maximum. -/
def four' (s : Fin 512 → EReal) (l : Fin 128) : EReal :=
  max (max (max (s ⟨l.val, by omega⟩) (s ⟨128 + l.val, by omega⟩)) (s ⟨256 + l.val, by omega⟩)) (s ⟨384 + l.val, by omega⟩)

/-- The maximum of the lanes. -/
def mxOf : EReal := Finset.univ.fold max (Ideal.ofBits FTy.f32 4286578688#32) (fun x : Fin 128 => m (ix2 R x))

theorem sc0_read (l : Fin 512) : sc0 (F := Ideal) i q sel ks (ix2 R l) = sBody i q sel R (fun x => rows0 (F := Ideal) ks (ix2 l x)) (IntOp.addi 0#32 (BitVec.ofNat 32 l.val)) := by
  unfold sBody bias
  pointwise [sc0, k0_pay4, k0_pay3, k0_pay77]
  rfl

theorem sc1_read (l : Fin 512) : sc1 (F := Ideal) i q sel ks (ix2 R l) = sBody i q sel R (fun x => rows1 (F := Ideal) ks (ix2 l x)) (IntOp.addi 512#32 (BitVec.ofNat 32 l.val)) := by
  unfold sBody bias
  pointwise [sc1, k0_pay7, k0_pay6, k0_pay77]
  rfl

theorem sc2_read (l : Fin 512) : sc2 (F := Ideal) i q sel ks (ix2 R l) = sBody i q sel R (fun x => rows2 (F := Ideal) ks (ix2 l x)) (IntOp.addi 1024#32 (BitVec.ofNat 32 l.val)) := by
  unfold sBody bias
  pointwise [sc2, k0_pay10, k0_pay9, k0_pay77]
  rfl

theorem sc3_read (l : Fin 512) : sc3 (F := Ideal) i q sel ks (ix2 R l) = sBody i q sel R (fun x => rows3 (F := Ideal) ks (ix2 l x)) (IntOp.addi 1536#32 (BitVec.ofNat 32 l.val)) := by
  unfold sBody bias
  pointwise [sc3, k0_pay13, k0_pay12, k0_pay77]
  rfl

theorem mx1_read (l : Fin 128) : mx1 (F := Ideal) i q sel ks (ix2 R l) = max (Ideal.ofBits FTy.f32 4286578688#32) (four' (fun l => sc0 (F := Ideal) i q sel ks (ix2 R l)) l) := by
  unfold four'
  pointwise [mx1, sc0, k0_pay78, k0_pay5, k0_pay4, k0_pay74]

theorem mx2_read (l : Fin 128) : mx2 (F := Ideal) i q sel ks (ix2 R l) = max (mx1 (F := Ideal) i q sel ks (ix2 R l)) (four' (fun l => sc1 (F := Ideal) i q sel ks (ix2 R l)) l) := by
  unfold four'
  pointwise [mx2, sc1, k0_pay79, k0_pay8, k0_pay7, k0_pay74]

theorem mx3_read (l : Fin 128) : mx3 (F := Ideal) i q sel ks (ix2 R l) = max (mx2 (F := Ideal) i q sel ks (ix2 R l)) (four' (fun l => sc2 (F := Ideal) i q sel ks (ix2 R l)) l) := by
  unfold four'
  pointwise [mx3, sc2, k0_pay80, k0_pay11, k0_pay10, k0_pay74]

theorem mx4_read (l : Fin 128) : mx4 (F := Ideal) i q sel ks (ix2 R l) = max (mx3 (F := Ideal) i q sel ks (ix2 R l)) (four' (fun l => sc3 (F := Ideal) i q sel ks (ix2 R l)) l) := by
  unfold four'
  pointwise [mx4, sc3, k0_pay81, k0_pay14, k0_pay13, k0_pay74]

theorem ls1_read (l : Fin 128) : ls1 (F := Ideal) i q sel ks m (ix2 R l) = four (fun l => sc0 (F := Ideal) i q sel ks (ix2 R l)) (mxOf m R) l := by
  unfold four mxOf
  pointwise [ls1, k0_pay84, k0_pay83, k0_pay82, k0_pay75]
  rfl

theorem ac1_read (l : Fin 128) : ac1 (F := Ideal) i q sel ks vs m (ix2 R l)
    = ∑ x, Ideal.exp2 (sc0 (F := Ideal) i q sel ks (ix2 R x) - mxOf m R) * rows0 (F := Ideal) vs (ix2 x l) := by
  unfold mxOf
  pointwise [ac1, k0_pay85, k0_pay84, k0_pay83, k0_pay82, k0_pay76]
  rfl

theorem ls2_read (l : Fin 128) : ls2 (F := Ideal) i q sel ks m (ix2 R l) = ls1 (F := Ideal) i q sel ks m (ix2 R l) + four (fun l => sc1 (F := Ideal) i q sel ks (ix2 R l)) (mxOf m R) l := by
  unfold four mxOf
  pointwise [ls2, k0_pay87, k0_pay86, k0_pay82, k0_pay75]
  rfl

theorem ac2_read (l : Fin 128) : ac2 (F := Ideal) i q sel ks vs m (ix2 R l)
    = ac1 (F := Ideal) i q sel ks vs m (ix2 R l) + ∑ x, Ideal.exp2 (sc1 (F := Ideal) i q sel ks (ix2 R x) - mxOf m R) * rows1 (F := Ideal) vs (ix2 x l) := by
  unfold mxOf
  pointwise [ac2, k0_pay88, k0_pay87, k0_pay86, k0_pay82, k0_pay76]
  rfl

theorem ls3_read (l : Fin 128) : ls3 (F := Ideal) i q sel ks m (ix2 R l) = ls2 (F := Ideal) i q sel ks m (ix2 R l) + four (fun l => sc2 (F := Ideal) i q sel ks (ix2 R l)) (mxOf m R) l := by
  unfold four mxOf
  pointwise [ls3, k0_pay90, k0_pay89, k0_pay82, k0_pay75]
  rfl

theorem ac3_read (l : Fin 128) : ac3 (F := Ideal) i q sel ks vs m (ix2 R l)
    = ac2 (F := Ideal) i q sel ks vs m (ix2 R l) + ∑ x, Ideal.exp2 (sc2 (F := Ideal) i q sel ks (ix2 R x) - mxOf m R) * rows2 (F := Ideal) vs (ix2 x l) := by
  unfold mxOf
  pointwise [ac3, k0_pay91, k0_pay90, k0_pay89, k0_pay82, k0_pay76]
  rfl

theorem ls4_read (l : Fin 128) : ls4 (F := Ideal) i q sel ks m (ix2 R l) = ls3 (F := Ideal) i q sel ks m (ix2 R l) + four (fun l => sc3 (F := Ideal) i q sel ks (ix2 R l)) (mxOf m R) l := by
  unfold four mxOf
  pointwise [ls4, k0_pay93, k0_pay92, k0_pay82, k0_pay75]
  rfl

theorem ac4_read (l : Fin 128) : ac4 (F := Ideal) i q sel ks vs m (ix2 R l)
    = ac3 (F := Ideal) i q sel ks vs m (ix2 R l) + ∑ x, Ideal.exp2 (sc3 (F := Ideal) i q sel ks (ix2 R x) - mxOf m R) * rows3 (F := Ideal) vs (ix2 x l) := by
  unfold mxOf
  pointwise [ac4, k0_pay94, k0_pay93, k0_pay92, k0_pay82, k0_pay76]
  rfl

theorem pay95_read (a b : FVec Ideal S512x128 .f32) (l : Fin 128) : k0_pay95 (F := Ideal) a b (ix2 R l) = a (ix2 R l) * Ideal.div 1 (∑ x, b (ix2 R x)) := by
  pointwise [k0_pay95]

end

theorem mxOf_eq (m : Vec Ideal S512x128 .f32) (R : Fin 512) : mxOf m R = Finset.univ.fold max ⊥ (fun x : Fin 128 => m (ix2 R x)) := by
  unfold mxOf; rw [negInf]

/-! #### Maxima and sums over the first blocks of keys -/

/-- Lane by lane a maximum over the keys before `n`. -/
def Good (f : Fin 2048 → EReal) (n : ℕ) (mx : Fin 128 → EReal) : Prop :=
  (∀ l, mx l < ⊤) ∧ ∀ key : Fin 2048, key.val < n → f key ≤ mx ⟨key.val % 128, by omega⟩

theorem good_step (f : Fin 2048 → EReal) (hf : ∀ k, f k < ⊤) (n : ℕ) (hn : n + 512 ≤ 2048) (h128 : n % 128 = 0) (S : Fin 512 → EReal) (hS : ∀ l : Fin 512, S l = f ⟨n + l.val, by omega⟩)
    (mx mx' : Fin 128 → EReal) (h : ∀ l, mx' l = max (mx l) (four' S l)) (hg : Good f n mx) : Good f (n + 512) mx' := by
  have hl : ∀ l, S l < ⊤ := fun l => by rw [hS]; exact hf _
  refine ⟨fun l => ?_, fun key hk => ?_⟩
  · rw [h]
    exact max_lt (hg.1 l) (max_lt (max_lt (max_lt (hl _) (hl _)) (hl _)) (hl _))
  · rw [h]
    by_cases hlt : key.val < n
    · exact (hg.2 key hlt).trans (le_max_left _ _)
    · refine le_trans ?_ (le_max_right _ _)
      have hS' : ∀ l : Fin 512, n + l.val = key.val → f key = S l := fun l e => by rw [hS]; exact congrArg f (Fin.ext e.symm)
      unfold four'
      obtain h4 | h4 | h4 | h4 : n + key.val % 128 = key.val ∨ n + (128 + key.val % 128) = key.val ∨ n + (256 + key.val % 128) = key.val ∨ n + (384 + key.val % 128) = key.val := by omega
      · rw [hS' ⟨key.val % 128, by omega⟩ h4]
        exact (le_max_left _ _).trans ((le_max_left _ _).trans (le_max_left _ _))
      · rw [hS' ⟨128 + key.val % 128, by omega⟩ h4]
        exact (le_max_right _ _).trans ((le_max_left _ _).trans (le_max_left _ _))
      · rw [hS' ⟨256 + key.val % 128, by omega⟩ h4]
        exact (le_max_right _ _).trans (le_max_left _ _)
      · rw [hS' ⟨384 + key.val % 128, by omega⟩ h4]
        exact le_max_right _ _

theorem good_zero (f : Fin 2048 → EReal) (hf : ∀ k, f k < ⊤) (S : Fin 512 → EReal) (hS : ∀ l : Fin 512, S l = f ⟨0 + l.val, by omega⟩)
    (mx' : Fin 128 → EReal) (h : ∀ l, mx' l = max (Ideal.ofBits FTy.f32 4286578688#32) (four' S l)) : Good f 512 mx' :=
  good_step f hf 0 (by omega) rfl S hS (fun _ => ⊥) mx' (fun l => by rw [h, negInf]) ⟨fun _ => bot_lt_top, fun key hk => absurd hk (by omega)⟩

/-- The sum over the keys before `n`. -/
def upTo (n : ℕ) (hn : n ≤ 2048) (f : Fin 2048 → EReal) : EReal := ∑ k : Fin n, f ⟨k.val, by omega⟩

theorem upTo_add (n : ℕ) (hn : n + 512 ≤ 2048) (f : Fin 2048 → EReal) :
    upTo (n + 512) hn f = upTo n (by omega) f + ∑ x : Fin 512, f ⟨n + x.val, by omega⟩ := by
  unfold upTo
  rw [Fin.sum_univ_add]
  rfl

theorem upTo_first (f : Fin 2048 → EReal) : upTo 512 (by omega) f = ∑ x : Fin 512, f ⟨0 + x.val, by omega⟩ := by
  have h : upTo 512 (by omega) f = upTo 0 (by omega) f + ∑ x : Fin 512, f ⟨0 + x.val, by omega⟩ := upTo_add 0 (by omega) f
  have h0 : upTo 0 (by omega) f = 0 := rfl
  rw [h, h0, zero_add]

theorem sum_first {N n p : ℕ} (h : N = n + p) (f : Fin N → EReal) (hz : ∀ k, n ≤ k.val → f k = 0) : ∑ k : Fin n, f ⟨k.val, by omega⟩ = ∑ k, f k := by
  subst h
  rw [Fin.sum_univ_add, Finset.sum_eq_zero (s := Finset.univ) (f := fun i : Fin p => f (Fin.natAdd n i)) (fun i _ => hz _ (Nat.le_add_right _ _)), add_zero]
  rfl

theorem four_sum (S : Fin 512 → EReal) (M : EReal) : ∑ l, four S M l = ∑ x, Ideal.exp2 (S x - M) := by
  have h : ∀ f : Fin (128 + 128 + 128 + 128) → EReal, ∑ x, f x = ∑ l : Fin 128, (f ⟨l.val, by omega⟩ + f ⟨128 + l.val, by omega⟩ + f ⟨256 + l.val, by omega⟩ + f ⟨384 + l.val, by omega⟩) := by
    intro f
    rw [Fin.sum_univ_add, Fin.sum_univ_add, Fin.sum_univ_add, Finset.sum_add_distrib, Finset.sum_add_distrib, Finset.sum_add_distrib]
    rfl
  exact (h (fun x => Ideal.exp2 (S x - M))).symm

/-- Quotient of the two sums over the keys before `n`, where no key from `n` on is taken. -/
theorem slc_fin (q : Fin 128 → ℝ) (kk : Fin 2048 → Fin 128 → ℝ) (v : Fin 2048 → EReal) (m : Fin 2048 → Prop) [DecidablePred m] (hm : ∃ k, m k) (n : ℕ) (hn : n ≤ 2048) (hmn : ∀ k, m k → k.val < n)
    (mx : Fin 128 → EReal) (hg : Good (kF q kk m) n mx) :
    upTo n hn (fun k => Ideal.exp2 (kF q kk m k - Finset.univ.fold max ⊥ mx) * v k)
        * Ideal.div 1 (upTo n hn (fun k => Ideal.exp2 (kF q kk m k - Finset.univ.fold max ⊥ mx)))
      = mean m (fun k => score q (kk k)) v := by
  obtain ⟨k0, h0⟩ := hm
  obtain ⟨M, hM⟩ := fold_real mx (fun l => (hg.1 l).ne) ⟨⟨k0.val % 128, by omega⟩, fun hb => kF_ne q kk m k0 h0 (le_bot_iff.1 (hb ▸ hg.2 k0 (hmn k0 h0)))⟩
  rw [hM]
  have he : ∀ k, Ideal.exp2 (kF q kk m k - (M : EReal)) = ((wt m (fun k => score q (kk k)) k * (2 : ℝ) ^ (-M) : ℝ) : EReal) := fun k => pow_ker (m k) _ M
  simp only [he]
  have hz : ∀ k : Fin 2048, n ≤ k.val → wt m (fun k => score q (kk k)) k * (2 : ℝ) ^ (-M) = 0 := by
    intro k hk
    have : ¬ m k := fun h => absurd (hmn k h) (by omega)
    unfold wt
    rw [if_neg this, zero_mul]
  have h1 : upTo n hn (fun k => ((wt m (fun k => score q (kk k)) k * (2 : ℝ) ^ (-M) : ℝ) : EReal) * v k) = ∑ k, ((wt m (fun k => score q (kk k)) k * (2 : ℝ) ^ (-M) : ℝ) : EReal) * v k := by
    exact sum_first (N := 2048) (n := n) (p := 2048 - n) (by omega) (fun k : Fin 2048 => ((wt m (fun k => score q (kk k)) k * (2 : ℝ) ^ (-M) : ℝ) : EReal) * v k) (fun k hk => by rw [hz k hk, EReal.coe_zero, zero_mul])
  have h2 : upTo n hn (fun k => ((wt m (fun k => score q (kk k)) k * (2 : ℝ) ^ (-M) : ℝ) : EReal)) = ((∑ k, wt m (fun k => score q (kk k)) k * (2 : ℝ) ^ (-M) : ℝ) : EReal) := by
    rw [coe_sum]
    exact sum_first (N := 2048) (n := n) (p := 2048 - n) (by omega) (fun k : Fin 2048 => ((wt m (fun k => score q (kk k)) k * (2 : ℝ) ^ (-M) : ℝ) : EReal)) (fun k hk => by rw [hz k hk]; rfl)
  rw [h1, h2]
  exact mean_ker m _ v _ (Real.rpow_pos_of_pos (by norm_num) _) ⟨k0, h0⟩

section
variable (i : grid0.Coords) (q : FVec Ideal S512x128 .bf16) (sel : FVec Ideal S128x128 .bf16) (ks vs : Vec Ideal S2048x128 .bf16)
  (qr : Fin 128 → Fin 4 → Fin 128 → ℝ) (kk : Fin 2048 → Fin 128 → ℝ) (vv : Fin 2048 → Fin 128 → EReal) (P : Fin 128 → Fin 32 → Prop) [∀ r, DecidablePred (P r)]
  (hq : ∀ r g x, q (ix2 (row g r) x) = ((qr r g x : ℝ) : EReal) * (((Real.sqrt 128)⁻¹ * (Real.log 2)⁻¹ : ℝ) : EReal))
  (hsel : ∀ r (l : Fin 32), sel (ix2 r ⟨l.val, by omega⟩) = if P r l then 1 else 0)
  (hks : ∀ n x, ks (ix2 n x) = ((kk n x : ℝ) : EReal)) (hvs : ∀ n x, vs (ix2 n x) = vv n x)

/-- The biased score of a key, at the rows of the point. -/
abbrev kFi (g : Fin 4) (r : Fin 128) : Fin 2048 → EReal := kF (qr r g) kk (mP (P r) ((i 2).val * 128 + r.val))

include hq hsel
theorem sBody_at (g : Fin 4) (r : Fin 128) (key : Fin 2048) (k : Fin 128 → EReal) (hk : ∀ x, k x = ((kk key x : ℝ) : EReal)) (w : BitVec 32) (hw : w = BitVec.ofInt 32 key.val) :
    sBody i q sel (row g r) k w = kFi i qr kk P g r key := by
  have hi : (i 2).val < 16 := (i 2).isLt
  have hpos : ∀ p : ℕ, IntOp.addi (Scalar.muli (BitVec.ofNat 32 (i 2).val) 128#32) (BitVec.ofNat 32 p) = BitVec.ofInt 32 (((i 2).val * 128 + p : ℕ) : ℤ) := by
    intro p
    have hm : Scalar.muli (BitVec.ofNat 32 (i 2).val) 128#32 = IntOp.muli (BitVec.ofNat 32 (i 2).val) 128#32 := rfl
    have h128 : (128#32 : BitVec 32) = BitVec.ofInt 32 128 := rfl
    rw [hm, ofNat_eq (i 2).val, ofNat_eq p, h128, muli_eq, addi_eq]
    push_cast
    rfl
  have hmod : (row g r).val % 128 = r.val := by show (g.val * 128 + r.val) % 128 = r.val; omega
  have hb : bias (fun x => sel (ix2 ⟨(row g r).val % 128, by omega⟩ x)) w (IntOp.addi (Scalar.muli (BitVec.ofNat 32 (i 2).val) 128#32) (BitVec.ofNat 32 ((row g r).val % 128)))
      = if mP (P r) ((i 2).val * 128 + r.val) key then 0 else ⊥ := by
    rw [hpos, hw, row_mod, hmod]
    exact bias_at _ (P r) (hsel r) key _ (by omega)
  unfold sBody kFi kF
  rw [hb, ← score_ker]
  simp only [hq, hk]

include hks
theorem sc0_at (g : Fin 4) (r : Fin 128) (l : Fin 512) : sc0 (F := Ideal) i q sel ks (ix2 (row g r) l) = kFi i qr kk P g r ⟨0 + l.val, by omega⟩ := by
  rw [sc0_read]
  refine sBody_at i q sel qr kk P hq hsel g r _ _ (fun x => by rw [rows0_at, hks]) _ ?_
  have h : (0#32 : BitVec 32) = BitVec.ofInt 32 0 := rfl
  rw [ofNat_eq l.val, h, addi_eq]
  push_cast
  rfl

theorem sc1_at (g : Fin 4) (r : Fin 128) (l : Fin 512) : sc1 (F := Ideal) i q sel ks (ix2 (row g r) l) = kFi i qr kk P g r ⟨512 + l.val, by omega⟩ := by
  rw [sc1_read]
  refine sBody_at i q sel qr kk P hq hsel g r _ _ (fun x => by rw [rows1_at, hks]) _ ?_
  have h : (512#32 : BitVec 32) = BitVec.ofInt 32 512 := rfl
  rw [ofNat_eq l.val, h, addi_eq]
  push_cast
  rfl

theorem sc2_at (g : Fin 4) (r : Fin 128) (l : Fin 512) : sc2 (F := Ideal) i q sel ks (ix2 (row g r) l) = kFi i qr kk P g r ⟨1024 + l.val, by omega⟩ := by
  rw [sc2_read]
  refine sBody_at i q sel qr kk P hq hsel g r _ _ (fun x => by rw [rows2_at, hks]) _ ?_
  have h : (1024#32 : BitVec 32) = BitVec.ofInt 32 1024 := rfl
  rw [ofNat_eq l.val, h, addi_eq]
  push_cast
  rfl

theorem sc3_at (g : Fin 4) (r : Fin 128) (l : Fin 512) : sc3 (F := Ideal) i q sel ks (ix2 (row g r) l) = kFi i qr kk P g r ⟨1536 + l.val, by omega⟩ := by
  rw [sc3_read]
  refine sBody_at i q sel qr kk P hq hsel g r _ _ (fun x => by rw [rows3_at, hks]) _ ?_
  have h : (1536#32 : BitVec 32) = BitVec.ofInt 32 1536 := rfl
  rw [ofNat_eq l.val, h, addi_eq]
  push_cast
  rfl

theorem mx1_good (g : Fin 4) (r : Fin 128) : Good (kFi i qr kk P g r) 512 (fun x => mx1 (F := Ideal) i q sel ks (ix2 (row g r) x)) :=
  good_zero _ (kF_lt _ _ _) _ (sc0_at i q sel ks qr kk P hq hsel hks g r) _ (fun l => mx1_read i q sel ks (row g r) l)

theorem mx2_good (g : Fin 4) (r : Fin 128) : Good (kFi i qr kk P g r) 1024 (fun x => mx2 (F := Ideal) i q sel ks (ix2 (row g r) x)) :=
  good_step _ (kF_lt _ _ _) 512 (by omega) rfl _ (sc1_at i q sel ks qr kk P hq hsel hks g r) _ _ (fun l => mx2_read i q sel ks (row g r) l) (mx1_good i q sel ks qr kk P hq hsel hks g r)

theorem mx3_good (g : Fin 4) (r : Fin 128) : Good (kFi i qr kk P g r) 1536 (fun x => mx3 (F := Ideal) i q sel ks (ix2 (row g r) x)) :=
  good_step _ (kF_lt _ _ _) 1024 (by omega) rfl _ (sc2_at i q sel ks qr kk P hq hsel hks g r) _ _ (fun l => mx3_read i q sel ks (row g r) l) (mx2_good i q sel ks qr kk P hq hsel hks g r)

theorem mx4_good (g : Fin 4) (r : Fin 128) : Good (kFi i qr kk P g r) 2048 (fun x => mx4 (F := Ideal) i q sel ks (ix2 (row g r) x)) :=
  good_step _ (kF_lt _ _ _) 1536 (by omega) rfl _ (sc3_at i q sel ks qr kk P hq hsel hks g r) _ _ (fun l => mx4_read i q sel ks (row g r) l) (mx3_good i q sel ks qr kk P hq hsel hks g r)

theorem ls1_sum (m : Vec Ideal S512x128 .f32) (g : Fin 4) (r : Fin 128) :
    ∑ x, ls1 (F := Ideal) i q sel ks m (ix2 (row g r) x) = upTo 512 (by omega) (fun k => Ideal.exp2 (kFi i qr kk P g r k - mxOf m (row g r))) := by
  rw [upTo_first]
  simp only [ls1_read]
  simp only [four_sum, sc0_at i q sel ks qr kk P hq hsel hks]

theorem ls2_sum (m : Vec Ideal S512x128 .f32) (g : Fin 4) (r : Fin 128) :
    ∑ x, ls2 (F := Ideal) i q sel ks m (ix2 (row g r) x) = upTo 1024 (by omega) (fun k => Ideal.exp2 (kFi i qr kk P g r k - mxOf m (row g r))) := by
  rw [upTo_add 512 (by omega)]
  simp only [ls2_read]
  simp only [Finset.sum_add_distrib, ls1_sum i q sel ks qr kk P hq hsel hks, four_sum, sc1_at i q sel ks qr kk P hq hsel hks]

theorem ls3_sum (m : Vec Ideal S512x128 .f32) (g : Fin 4) (r : Fin 128) :
    ∑ x, ls3 (F := Ideal) i q sel ks m (ix2 (row g r) x) = upTo 1536 (by omega) (fun k => Ideal.exp2 (kFi i qr kk P g r k - mxOf m (row g r))) := by
  rw [upTo_add 1024 (by omega)]
  simp only [ls3_read]
  simp only [Finset.sum_add_distrib, ls2_sum i q sel ks qr kk P hq hsel hks, four_sum, sc2_at i q sel ks qr kk P hq hsel hks]

theorem ls4_sum (m : Vec Ideal S512x128 .f32) (g : Fin 4) (r : Fin 128) :
    ∑ x, ls4 (F := Ideal) i q sel ks m (ix2 (row g r) x) = upTo 2048 (by omega) (fun k => Ideal.exp2 (kFi i qr kk P g r k - mxOf m (row g r))) := by
  rw [upTo_add 1536 (by omega)]
  simp only [ls4_read]
  simp only [Finset.sum_add_distrib, ls3_sum i q sel ks qr kk P hq hsel hks, four_sum, sc3_at i q sel ks qr kk P hq hsel hks]

include hvs
theorem ac1_sum (m : Vec Ideal S512x128 .f32) (g : Fin 4) (r d : Fin 128) :
    ac1 (F := Ideal) i q sel ks vs m (ix2 (row g r) d) = upTo 512 (by omega) (fun k => Ideal.exp2 (kFi i qr kk P g r k - mxOf m (row g r)) * vv k d) := by
  rw [upTo_first, ac1_read]
  simp only [sc0_at i q sel ks qr kk P hq hsel hks, rows0_at, hvs]

theorem ac2_sum (m : Vec Ideal S512x128 .f32) (g : Fin 4) (r d : Fin 128) :
    ac2 (F := Ideal) i q sel ks vs m (ix2 (row g r) d) = upTo 1024 (by omega) (fun k => Ideal.exp2 (kFi i qr kk P g r k - mxOf m (row g r)) * vv k d) := by
  rw [upTo_add 512 (by omega), ac2_read, ac1_sum i q sel ks vs qr kk vv P hq hsel hks hvs]
  simp only [sc1_at i q sel ks qr kk P hq hsel hks, rows1_at, hvs]

theorem ac3_sum (m : Vec Ideal S512x128 .f32) (g : Fin 4) (r d : Fin 128) :
    ac3 (F := Ideal) i q sel ks vs m (ix2 (row g r) d) = upTo 1536 (by omega) (fun k => Ideal.exp2 (kFi i qr kk P g r k - mxOf m (row g r)) * vv k d) := by
  rw [upTo_add 1024 (by omega), ac3_read, ac2_sum i q sel ks vs qr kk vv P hq hsel hks hvs]
  simp only [sc2_at i q sel ks qr kk P hq hsel hks, rows2_at, hvs]

theorem ac4_sum (m : Vec Ideal S512x128 .f32) (g : Fin 4) (r d : Fin 128) :
    ac4 (F := Ideal) i q sel ks vs m (ix2 (row g r) d) = upTo 2048 (by omega) (fun k => Ideal.exp2 (kFi i qr kk P g r k - mxOf m (row g r)) * vv k d) := by
  rw [upTo_add 1536 (by omega), ac4_read, ac3_sum i q sel ks vs qr kk vv P hq hsel hks hvs]
  simp only [sc3_at i q sel ks qr kk P hq hsel hks, rows3_at, hvs]

theorem oSlc1_at (g : Fin 4) (r d : Fin 128) (hm : ∃ key, mP (P r) ((i 2).val * 128 + r.val) key) (hi : (i 2).val < 4) :
    oSlc1 (F := Ideal) i q sel ks vs (ix2 (row g r) d) = mean (mP (P r) ((i 2).val * 128 + r.val)) (fun k => score (qr r g) (kk k)) (fun k => vv k d) := by
  unfold oSlc1
  rw [pay95_read, ac1_sum i q sel ks vs qr kk vv P hq hsel hks hvs, ls1_sum i q sel ks qr kk P hq hsel hks, mxOf_eq]
  exact slc_fin (qr r g) kk (fun k => vv k d) _ hm 512 (by omega) (fun key h => by have := h.2; omega) _ (mx1_good i q sel ks qr kk P hq hsel hks g r)

theorem oSlc2_at (g : Fin 4) (r d : Fin 128) (hm : ∃ key, mP (P r) ((i 2).val * 128 + r.val) key) (hi : (i 2).val < 8) :
    oSlc2 (F := Ideal) i q sel ks vs (ix2 (row g r) d) = mean (mP (P r) ((i 2).val * 128 + r.val)) (fun k => score (qr r g) (kk k)) (fun k => vv k d) := by
  unfold oSlc2
  rw [pay95_read, ac2_sum i q sel ks vs qr kk vv P hq hsel hks hvs, ls2_sum i q sel ks qr kk P hq hsel hks, mxOf_eq]
  exact slc_fin (qr r g) kk (fun k => vv k d) _ hm 1024 (by omega) (fun key h => by have := h.2; omega) _ (mx2_good i q sel ks qr kk P hq hsel hks g r)

theorem oSlc3_at (g : Fin 4) (r d : Fin 128) (hm : ∃ key, mP (P r) ((i 2).val * 128 + r.val) key) (hi : (i 2).val < 12) :
    oSlc3 (F := Ideal) i q sel ks vs (ix2 (row g r) d) = mean (mP (P r) ((i 2).val * 128 + r.val)) (fun k => score (qr r g) (kk k)) (fun k => vv k d) := by
  unfold oSlc3
  rw [pay95_read, ac3_sum i q sel ks vs qr kk vv P hq hsel hks hvs, ls3_sum i q sel ks qr kk P hq hsel hks, mxOf_eq]
  exact slc_fin (qr r g) kk (fun k => vv k d) _ hm 1536 (by omega) (fun key h => by have := h.2; omega) _ (mx3_good i q sel ks qr kk P hq hsel hks g r)

theorem oSlc4_at (g : Fin 4) (r d : Fin 128) (hm : ∃ key, mP (P r) ((i 2).val * 128 + r.val) key) (hi : (i 2).val < 16) :
    oSlc4 (F := Ideal) i q sel ks vs (ix2 (row g r) d) = mean (mP (P r) ((i 2).val * 128 + r.val)) (fun k => score (qr r g) (kk k)) (fun k => vv k d) := by
  unfold oSlc4
  rw [pay95_read, ac4_sum i q sel ks vs qr kk vv P hq hsel hks hvs, ls4_sum i q sel ks qr kk P hq hsel hks, mxOf_eq]
  exact slc_fin (qr r g) kk (fun k => vv k d) _ hm 2048 (by omega) (fun key h => by have := h.2; omega) _ (mx4_good i q sel ks qr kk P hq hsel hks g r)

/-- The kernel's selected branch. -/
theorem oSlc_at (g : Fin 4) (r d : Fin 128) (hm : ∃ key, mP (P r) ((i 2).val * 128 + r.val) key) :
    oSlc (F := Ideal) i q sel ks vs (ix2 (row g r) d) = mean (mP (P r) ((i 2).val * 128 + r.val)) (fun k => score (qr r g) (kk k)) (fun k => vv k d) := by
  have hi : (i 2).val < 16 := (i 2).isLt
  unfold oSlc
  split_ifs with h1 h2 h3
  · exact oSlc1_at i q sel ks vs qr kk vv P hq hsel hks hvs g r d hm h1
  · exact oSlc2_at i q sel ks vs qr kk vv P hq hsel hks hvs g r d hm h2
  · exact oSlc3_at i q sel ks vs qr kk vv P hq hsel hks hvs g r d hm h3
  · exact oSlc4_at i q sel ks vs qr kk vv P hq hsel hks hvs g r d hm hi

end

end Cert.Attn

end
-- ==== Proof.KerWin.lean ====
module

public import proofs.«01_k».proof.Proof.KerSlc
public import proofs.«01_k».proof.Proof.Body
public import Idealize.ShloMosaic.Lib.Pointwise

@[expose] public section

noncomputable section

namespace Cert.Attn

open Idealize.ShloMosaic Idealize.ShloMosaic.TcCoe Cert.KernelIdeal Cert.KernelIdeal.Gen

/-! ### The kernel's window branch -/

/-- The first key of a point's window. -/
def wOff (i : grid0.Coords) : ℕ := (i 2).val * 128 + 128 - 640

theorem wOff_le (i : grid0.Coords) : wOff i + 640 ≤ 2048 := by
  have hi : (i 2).val < 16 := (i 2).isLt
  unfold wOff; omega

theorem off1_zero (i : grid0.Coords) : k0_off1 i 0 = wOff i :=
  (by decide : ∀ k : Fin 16, (Scalar.indexCast (Scalar.maxsi (Scalar.subi (Scalar.addi (Scalar.muli (BitVec.ofNat 32 k.val) 128#32) 128#32) 640#32) 0#32)).toNat = k.val * 128 + 128 - 640) (i 2)

theorem rowsW_at (i : grid0.Coords) (x : Vec Ideal S2048x128 .bf16) (l : Fin 640) (d : Fin 128) :
    rowsW (F := Ideal) i x (ix2 l d) = x (ix2 ⟨wOff i + l.val, by have := wOff_le i; omega⟩ d) := by
  have h := ld_rows (T := 640) x (k0_off1 i) (k0_off1_inb i) rfl l d (by rw [off1_zero]; have := wOff_le i; omega)
  exact h.trans (ix2_eq x (Fin.ext (congrArg (· + l.val) (off1_zero i))) rfl)

/-- The mask of the window. -/
def wbias (c a : BitVec 32) (r : ℕ) (x : Fin 640) : EReal :=
  Scalar.select (IntOp.andi
    (IntOp.cmpi CmpIPredicate.sge (IntOp.subi (IntOp.addi (Scalar.muli a 128#32) (BitVec.ofNat 32 r)) (IntOp.addi (Scalar.maxsi (Scalar.subi c 640#32) 0#32) (BitVec.ofNat 32 x.val))) 0#32)
    (IntOp.cmpi CmpIPredicate.slt (IntOp.subi (IntOp.addi (Scalar.muli a 128#32) (BitVec.ofNat 32 r)) (IntOp.addi (Scalar.maxsi (Scalar.subi c 640#32) 0#32) (BitVec.ofNat 32 x.val))) 512#32)) 0 ⊥

/-- The biased score of the window's row `x`. -/
def wS (q : FVec Ideal S512x128 .bf16) (a c : BitVec 32) (d : Vec Ideal S640x128 .bf16) (R : Fin 512) (r : ℕ) (x : Fin 640) : EReal :=
  ∑ y, q (ix2 R y) * d (ix2 x y) + wbias c a r x

theorem pay96_read (q : FVec Ideal S512x128 .bf16) (a c : BitVec 32) (d e : Vec Ideal S640x128 .bf16) (R : Fin 512) (l : Fin 128) :
    k0_pay96 (F := Ideal) a q c d e (ix2 R l)
      = (∑ x, Ideal.exp2 (wS q a c d R (R.val % 128) x - Finset.univ.fold max ⊥ (wS q a c d R (R.val % 128))) * e (ix2 x l))
        * Ideal.div 1 (∑ x, Ideal.exp2 (wS q a c d R (R.val % 128) x - Finset.univ.fold max ⊥ (wS q a c d R (R.val % 128)))) := by
  have h : k0_pay96 (F := Ideal) a q c d e (ix2 R l)
      = (∑ x, Ideal.exp2 (wS q a c d R (R.val % 128) x - Finset.univ.fold max (Ideal.ofBits FTy.f32 4286578688#32) (fun x => wS q a c d ⟨R.val / 128 * 128 + R.val % 128, by omega⟩ (R.val % 128) x)) * e (ix2 x l))
        * Ideal.div 1 (∑ x, Ideal.exp2 (wS q a c d R (R.val % 128) x - Finset.univ.fold max (Ideal.ofBits FTy.f32 4286578688#32) (fun x => wS q a c d ⟨R.val / 128 * 128 + R.val % 128, by omega⟩ (R.val % 128) x))) := by
    unfold wS wbias
    pointwise [k0_pay96]
    rfl
  have hR : (⟨R.val / 128 * 128 + R.val % 128, by omega⟩ : Fin 512) = R := Fin.ext (by show R.val / 128 * 128 + R.val % 128 = R.val; omega)
  rw [h, hR, negInf]

theorem sum_mid {N o n p : ℕ} (h : N = o + n + p) (f : Fin N → EReal) (hz : ∀ k, k.val < o ∨ o + n ≤ k.val → f k = 0) : ∑ k : Fin n, f ⟨o + k.val, by omega⟩ = ∑ k, f k := by
  subst h
  rw [Fin.sum_univ_add, Fin.sum_univ_add, Finset.sum_eq_zero (s := Finset.univ) (f := fun i : Fin p => f (Fin.natAdd (o + n) i)) (fun i _ => hz _ (Or.inr (Nat.le_add_right _ _))), add_zero,
    Finset.sum_eq_zero (s := Finset.univ) (f := fun i : Fin o => f (Fin.castAdd p (Fin.castAdd n i))) (fun i _ => hz _ (Or.inl i.isLt)), zero_add]
  rfl

/-- Quotient of the sums over a run of keys, where no key outside it is taken. -/
theorem win_fin (q : Fin 128 → ℝ) (kk : Fin 2048 → Fin 128 → ℝ) (v : Fin 2048 → EReal) (m : Fin 2048 → Prop) [DecidablePred m] (hm : ∃ k, m k) (o n : ℕ) (hn : o + n ≤ 2048)
    (hmn : ∀ k, m k → o ≤ k.val ∧ k.val < o + n) (S : Fin n → EReal) (hS : ∀ x : Fin n, S x = kF q kk m ⟨o + x.val, by omega⟩) (e : Fin n → EReal) (he : ∀ x : Fin n, e x = v ⟨o + x.val, by omega⟩) :
    (∑ x, Ideal.exp2 (S x - Finset.univ.fold max ⊥ S) * e x) * Ideal.div 1 (∑ x, Ideal.exp2 (S x - Finset.univ.fold max ⊥ S))
      = mean m (fun k => score q (kk k)) v := by
  obtain ⟨k0, h0⟩ := hm
  obtain ⟨hl, hu⟩ := hmn k0 h0
  obtain ⟨M, hM⟩ := fold_real S (fun x => by rw [hS]; exact (kF_lt _ _ _ _).ne)
    ⟨⟨k0.val - o, by omega⟩, by
      rw [hS]
      have hk : (⟨o + (k0.val - o), by omega⟩ : Fin 2048) = k0 := Fin.ext (by show o + (k0.val - o) = k0.val; omega)
      rw [hk]
      exact kF_ne q kk m k0 h0⟩
  rw [hM]
  have hp : ∀ k, Ideal.exp2 (kF q kk m k - (M : EReal)) = ((wt m (fun k => score q (kk k)) k * (2 : ℝ) ^ (-M) : ℝ) : EReal) := fun k => pow_ker (m k) _ M
  simp only [hS, he, hp]
  have hz : ∀ k : Fin 2048, k.val < o ∨ o + n ≤ k.val → wt m (fun k => score q (kk k)) k * (2 : ℝ) ^ (-M) = 0 := by
    intro k hk
    have : ¬ m k := fun h => by have := hmn k h; omega
    unfold wt
    rw [if_neg this, zero_mul]
  have h1 : ∑ x : Fin n, ((wt m (fun k => score q (kk k)) ⟨o + x.val, by omega⟩ * (2 : ℝ) ^ (-M) : ℝ) : EReal) * v ⟨o + x.val, by omega⟩ = ∑ k, ((wt m (fun k => score q (kk k)) k * (2 : ℝ) ^ (-M) : ℝ) : EReal) * v k := by
    exact sum_mid (N := 2048) (o := o) (n := n) (p := 2048 - (o + n)) (by omega) (fun k : Fin 2048 => ((wt m (fun k => score q (kk k)) k * (2 : ℝ) ^ (-M) : ℝ) : EReal) * v k) (fun k hk => by rw [hz k hk, EReal.coe_zero, zero_mul])
  have h2 : ∑ x : Fin n, ((wt m (fun k => score q (kk k)) ⟨o + x.val, by omega⟩ * (2 : ℝ) ^ (-M) : ℝ) : EReal) = ((∑ k, wt m (fun k => score q (kk k)) k * (2 : ℝ) ^ (-M) : ℝ) : EReal) := by
    rw [coe_sum]
    exact sum_mid (N := 2048) (o := o) (n := n) (p := 2048 - (o + n)) (by omega) (fun k : Fin 2048 => ((wt m (fun k => score q (kk k)) k * (2 : ℝ) ^ (-M) : ℝ) : EReal)) (fun k hk => by rw [hz k hk]; rfl)
  rw [h1, h2]
  exact mean_ker m _ v _ (Real.rpow_pos_of_pos (by norm_num) _) ⟨k0, h0⟩

theorem wbias_at (i : grid0.Coords) (r : Fin 128) (x : Fin 640) :
    wbias (Scalar.addi (Scalar.muli (BitVec.ofNat 32 (i 2).val) 128#32) 128#32) (BitVec.ofNat 32 (i 2).val) r.val x
      = if mW ((i 2).val * 128 + r.val) ⟨wOff i + x.val, by have := wOff_le i; omega⟩ then 0 else ⊥ := by
  have hi : (i 2).val < 16 := (i 2).isLt
  have hm : Scalar.muli (BitVec.ofNat 32 (i 2).val) 128#32 = BitVec.ofInt 32 ((i 2).val * 128) := by
    have hm : Scalar.muli (BitVec.ofNat 32 (i 2).val) 128#32 = IntOp.muli (BitVec.ofNat 32 (i 2).val) 128#32 := rfl
    have h128 : (128#32 : BitVec 32) = BitVec.ofInt 32 128 := rfl
    rw [hm, ofNat_eq (i 2).val, h128, muli_eq]
  have hc : Scalar.maxsi (Scalar.subi (Scalar.addi (Scalar.muli (BitVec.ofNat 32 (i 2).val) 128#32) 128#32) 640#32) 0#32 = BitVec.ofInt 32 (wOff i : ℤ) := by
    have hs : ∀ a b : BitVec 32, Scalar.subi a b = IntOp.subi a b := fun _ _ => rfl
    have ha : ∀ a b : BitVec 32, Scalar.addi a b = IntOp.addi a b := fun _ _ => rfl
    have h128 : (128#32 : BitVec 32) = BitVec.ofInt 32 128 := rfl
    have h640 : (640#32 : BitVec 32) = BitVec.ofInt 32 640 := rfl
    have h0 : (0#32 : BitVec 32) = BitVec.ofInt 32 0 := rfl
    rw [hm, hs, ha, h128, addi_eq, h640, subi_eq, h0, max_eq (by omega) (by omega)]
    congr 1
    unfold wOff
    omega
  unfold wbias
  rw [hc, hm]
  have h512 : (512#32 : BitVec 32) = BitVec.ofInt 32 512 := rfl
  have h0 : (0#32 : BitVec 32) = BitVec.ofInt 32 0 := rfl
  have hw := wOff_le i
  rw [ofNat_eq r.val, ofNat_eq x.val, addi_eq, addi_eq, subi_eq, h0, h512]
  refine select_eq ?_ _ _
  rw [andi_eq, sge_eq (by omega) (by omega), slt_eq (by omega) (by omega)]
  unfold mW
  show _ ↔ wOff i + x.val ≤ (i 2).val * 128 + r.val ∧ (i 2).val * 128 + r.val < 512 + (wOff i + x.val)
  omega

/-- The kernel's window branch. -/
theorem oWin_at (i : grid0.Coords) (q : FVec Ideal S512x128 .bf16) (kw vw : Vec Ideal S2048x128 .bf16)
    (qr : Fin 128 → Fin 4 → Fin 128 → ℝ) (kk : Fin 2048 → Fin 128 → ℝ) (vv : Fin 2048 → Fin 128 → EReal)
    (hq : ∀ r g x, q (ix2 (row g r) x) = ((qr r g x : ℝ) : EReal) * (((Real.sqrt 128)⁻¹ * (Real.log 2)⁻¹ : ℝ) : EReal))
    (hkw : ∀ n x, kw (ix2 n x) = ((kk n x : ℝ) : EReal)) (hvw : ∀ n x, vw (ix2 n x) = vv n x) (g : Fin 4) (r d : Fin 128) :
    oWin (F := Ideal) i q kw vw (ix2 (row g r) d) = mean (mW ((i 2).val * 128 + r.val)) (fun k => score (qr r g) (kk k)) (fun k => vv k d) := by
  have hi : (i 2).val < 16 := (i 2).isLt
  have hmod : (row g r).val % 128 = r.val := by show (g.val * 128 + r.val) % 128 = r.val; omega
  unfold oWin
  rw [pay96_read, hmod]
  refine win_fin (qr r g) kk (fun k => vv k d) (mW ((i 2).val * 128 + r.val)) ⟨⟨(i 2).val * 128 + r.val, by omega⟩, by unfold mW; simp only []; omega⟩ (wOff i) 640 (wOff_le i) ?_ _ ?_ _ ?_
  · intro k hk
    unfold mW at hk
    unfold wOff
    omega
  · intro x
    unfold wS kF
    rw [wbias_at, ← score_ker]
    simp only [hq, rowsW_at, hkw]
  · intro x
    rw [rowsW_at, hvw]

end Cert.Attn

end
-- ==== Proof.KerOut.lean ====
/- The kernel's output block: each head's three branches, weighed by their gates. -/
module

public import proofs.«01_k».proof.Proof.KerCmp
public import proofs.«01_k».proof.Proof.Body
public import Idealize.ShloMosaic.Lib.Pointwise
public import Idealize.ShloMosaic.Lib.Pipeline.ValueKit.Tiles

@[expose] public section

noncomputable section

namespace Cert.Attn

open Idealize.ShloMosaic Idealize.ShloMosaic.TcCoe Cert.KernelIdeal Cert.KernelIdeal.Gen

/-- The three branches of one head's row, weighed by their gates. -/
def comb (oc os ow : FVec Ideal S512x128 .f32) (ga : Vec Ideal S1x128x128 .f32) (g : Fin 4) (r l : Fin 128) : EReal :=
  ga (ix3 0 r ⟨g.val, by omega⟩) * oc (ix2 (row g r) l) + ga (ix3 0 r ⟨4 + g.val, by omega⟩) * os (ix2 (row g r) l)
    + ga (ix3 0 r ⟨8 + g.val, by omega⟩) * ow (ix2 (row g r) l)

variable (oc os ow : FVec Ideal S512x128 .f32) (ga : Vec Ideal S1x128x128 .f32)

theorem p97_at (r l : Fin 128) : k0_pay97 (F := Ideal) ga (ix2 r l) = ga (ix3 0 r l) := by
  pointwise [k0_pay97]

theorem out0_at (r l : Fin 128) : k0_pay98 (F := Ideal) oc os ow ga (ix3 0 r l) = comb oc os ow ga 0 r l := by
  have h0 : row 0 r = ⟨r.val, by omega⟩ := Fin.ext (by show 0 * 128 + r.val = r.val; omega)
  unfold comb
  rw [h0]
  pointwise [k0_pay98]
  simp only [p97_at]

theorem out1_at (r l : Fin 128) : k0_pay99 (F := Ideal) oc os ow ga (ix3 0 r l) = comb oc os ow ga 1 r l := by
  pointwise [k0_pay99]
  simp only [p97_at]
  rfl

theorem out2_at (r l : Fin 128) : k0_pay1 (F := Ideal) (k0_pay100 oc os ow ga) (ix3 0 r l) = comb oc os ow ga 2 r l := by
  pointwise [k0_pay1, k0_pay100]
  simp only [p97_at]
  rfl

theorem out3_at (r l : Fin 128) : k0_pay2 (F := Ideal) oc os ow (k0_pay97 ga) (ix3 0 r l) = comb oc os ow ga 3 r l := by
  pointwise [k0_pay2]
  simp only [p97_at]
  rfl

theorem ix3_eta (x : S1x128x128.Idx) : x = ix3 0 (x 1) (x 2) := by
  ext a
  match a with
  | ⟨0, _⟩ => have h : (x 0).val < 1 := (x 0).isLt; show (x 0).val = 0; omega
  | ⟨1, _⟩ => rfl
  | ⟨2, _⟩ => rfl

/-- The output block, element by element. -/
theorem outPieces_at (g : Fin 4) (r d : Fin 128) :
    View.canon (outPieces (F := Ideal) oc os ow ga) (ix3 0 r ⟨g.val * 128 + d.val, by omega⟩) = comb oc os ow ga g r d := by
  have key : ∀ (p : S1x128x128.Idx → EReal) (h : Fin 4), (∀ r l, p (ix3 0 r l) = comb oc os ow ga h r l) →
      ∀ x : S1x128x128.Idx, r.val = 0 + (x 1).val → g.val * 128 + d.val = h.val * 128 + (x 2).val → p x = comb oc os ow ga g r d := by
    intro p h hp x h1 h2
    have hx : (x 2).val < 128 := (x 2).isLt
    have e1 : x 1 = r := Fin.ext (by omega)
    have e2 : x 2 = d := Fin.ext (by omega)
    have e3 : h = g := Fin.ext (by omega)
    subst e3
    refine (congrArg p (ix3_eta x)).trans ((hp (x 1) (x 2)).trans ?_)
    exact congrArg₂ (comb oc os ow ga h) e1 e2
  refine View.canon_eq_of_allAt _ _ _ (outPieces_cover oc os ow ga _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · exact key _ 3 (out3_at oc os ow ga) x (hx 1) (hx 2)
  · exact key _ 2 (out2_at oc os ow ga) x (hx 1) (hx 2)
  · exact key _ 1 (out1_at oc os ow ga) x (hx 1) (hx 2)
  · exact key _ 0 (out0_at oc os ow ga) x (hx 1) (hx 2)

/-- A copy's rows are its window's. -/
theorem p15_at (x : Vec Ideal S1x2048x128 .f32) (n : Fin 2048) (d : Fin 128) : k0_pay15 (F := Ideal) x (ix2 n d) = x (ix3 0 n d) := by
  pointwise [k0_pay15]
theorem p16_at (x : Vec Ideal S1x2048x128 .f32) (n : Fin 2048) (d : Fin 128) : k0_pay16 (F := Ideal) x (ix2 n d) = x (ix3 0 n d) := by
  pointwise [k0_pay16]
theorem p17_at (x : Vec Ideal S1x2048x128 .f32) (n : Fin 2048) (d : Fin 128) : k0_pay17 (F := Ideal) x (ix2 n d) = x (ix3 0 n d) := by
  pointwise [k0_pay17]
theorem p18_at (x : Vec Ideal S1x2048x128 .f32) (n : Fin 2048) (d : Fin 128) : k0_pay18 (F := Ideal) x (ix2 n d) = x (ix3 0 n d) := by
  pointwise [k0_pay18]

end Cert.Attn

end
-- ==== Proof.RefCmp.lean ====
module

public import proofs.«01_k».proof.Proof.Math
public import proofs.«01_k».proof.Proof.Gen.ReferenceIdeal.Read
public import Idealize.ShloMosaic.Lib.Pointwise

@[expose] public section

noncomputable section

namespace Cert.Attn

open Idealize.ShloMosaic Cert.ReferenceIdeal Cert.ReferenceIdeal.Read

/-! ### The reference's compressed branch -/

abbrev Z := (⟨S4x2048x9216, .f32⟩ : BufTy).Contents (Elt Ideal)
abbrev KC := (⟨S4x128x512, .bf16⟩ : BufTy).Contents (Elt Ideal)

/-- The queries of one position. -/
def qR (zr : S4x2048x9216.Idx → ℝ) (b : Fin 4) (t : Fin 2048) (k g : Fin 4) (x : Fin 128) : ℝ :=
  zr (ix3 b t ⟨4096 + (k.val * 512 + g.val * 128 + x.val), by omega⟩)
/-- The compressed keys. -/
def kcR (kr : S4x128x512.Idx → ℝ) (b k : Fin 4) (n : Fin 127) (x : Fin 128) : ℝ :=
  kr (ix3 b ⟨1 + n.val, by omega⟩ ⟨k.val * 128 + x.val, by omega⟩)
/-- A stretch of keys or values. -/
def kvR (zr : S4x2048x9216.Idx → ℝ) (o : Fin 2561) (b k : Fin 4) (n : Fin 2048) (x : Fin 128) : ℝ :=
  zr (ix3 b n ⟨6144 + (o.val + k.val * 128 + x.val), by omega⟩)

/-- A stretch of values, as they come. -/
def kvE (z : Z) (o : Fin 2561) (b k : Fin 4) (n : Fin 2048) (x : Fin 128) : EReal :=
  z (ix3 b n ⟨6144 + (o.val + k.val * 128 + x.val), by omega⟩)

/-- The queries are reals. -/
def QReal (z : Z) (zr : S4x2048x9216.Idx → ℝ) : Prop := ∀ (b : Fin 4) (t : Fin 2048) (k g : Fin 4) (x : Fin 128),
  z (ix3 b t ⟨4096 + (k.val * 512 + g.val * 128 + x.val), by omega⟩) = ((qR zr b t k g x : ℝ) : EReal)
/-- The compressed keys are reals. -/
def KReal (kc : KC) (kr : S4x128x512.Idx → ℝ) : Prop := ∀ (b k : Fin 4) (n : Fin 127) (x : Fin 128),
  kc (ix3 b ⟨1 + n.val, by omega⟩ ⟨k.val * 128 + x.val, by omega⟩) = ((kcR kr b k n x : ℝ) : EReal)
/-- A stretch of keys is reals. -/
def SReal (z : Z) (zr : S4x2048x9216.Idx → ℝ) (o : Fin 2561) : Prop := ∀ (b k : Fin 4) (n : Fin 2048) (x : Fin 128),
  z (ix3 b n ⟨6144 + (o.val + k.val * 128 + x.val), by omega⟩) = ((kvR zr o b k n x : ℝ) : EReal)

theorem v33_at (z : Z) (kc : KC) (b : Fin 4) (t : Fin 2048) (k g : Fin 4) (n : Fin 127) :
    val_main_v33 (F := Ideal) z kc (ix5 b t k g n) = Ideal.div (∑ x : Fin 128, kc (ix3 b ⟨1 + n.val, by omega⟩ ⟨k.val * 128 + x.val, by omega⟩)
      * z (ix3 b t ⟨4096 + (k.val * 512 + g.val * 128 + x.val), by omega⟩)) (Ideal.sqrt (Ideal.ofBits FTy.f32 1124073472#32)) := by
  pointwise [val_main_v33, val_main_v0,val_main_v1,val_main_v2,val_main_v3,val_main_v4,val_main_v5,val_main_v6,val_main_v7,val_main_v8,val_main_v9,val_main_v10,val_main_v11,val_main_v12,val_main_v13,val_main_v14,val_main_v15,val_main_v16,val_main_v17,val_main_v18,val_main_v19,val_main_v20,val_main_v21,val_main_v22,val_main_v23,val_main_v24,val_main_v25,val_main_v26,val_main_v27,val_main_v28,val_main_v29,val_main_v30,val_main_v31,val_main_v32, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v40_at (b : Fin 4) (t : Fin 2048) (k g : Fin 4) (n : Fin 127) :
    val_main_v40 (F := Ideal) (ix5 b t k g n) = IntOp.cmpi CmpIPredicate.sle (IntOp.subi (IntOp.addi (IntOp.muli (BitVec.ofNat 32 n.val) 16#32) 32#32) 1#32)
      (BitVec.ofNat 32 t.val) := by
  pointwise [val_main_v20,val_main_v21,val_main_v22,val_main_v23,val_main_v24,val_main_v25,val_main_v26,val_main_v27,val_main_v28,val_main_v29,val_main_v30,val_main_v31,val_main_v32,val_main_v33,val_main_v34,val_main_v35,val_main_v36,val_main_v37,val_main_v38,val_main_v39,val_main_v40, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v53_at (z : Z) (kc : KC) (b : Fin 4) (t : Fin 2048) (k g : Fin 4) (n : Fin 127) :
    val_main_v53 (F := Ideal) z kc (ix5 b t k g n) = Scalar.select (val_main_v40 (F := Ideal) (ix5 b t k g n))
      (Ideal.div (Ideal.exp (val_main_v42 (F := Ideal) z kc (ix5 b t k g n) - Finset.univ.fold max (Ideal.ofBits FTy.f32 4286578688#32) fun x => val_main_v42 (F := Ideal) z kc (ix5 b t k g x)))
        (∑ x, Ideal.exp (val_main_v42 (F := Ideal) z kc (ix5 b t k g x) - Finset.univ.fold max (Ideal.ofBits FTy.f32 4286578688#32) fun x => val_main_v42 (F := Ideal) z kc (ix5 b t k g x)))) 0 := by
  pointwise [val_main_v43,val_main_v44,val_main_v45,val_main_v46,val_main_v47,val_main_v48,val_main_v49,val_main_v50,val_main_v51,val_main_v52,val_main_v53, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v42_at (z : Z) (kc : KC) (b : Fin 4) (t : Fin 2048) (k g : Fin 4) (n : Fin 127) :
    val_main_v42 (F := Ideal) z kc (ix5 b t k g n) = Scalar.select (val_main_v40 (F := Ideal) (ix5 b t k g n))
      (val_main_v33 (F := Ideal) z kc (ix5 b t k g n)) (Ideal.ofBits FTy.f32 4286578688#32) := by
  pointwise [val_main_v41, val_main_v42, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v55_at (z : Z) (kc vc : KC) (b : Fin 4) (t : Fin 2048) (k g : Fin 4) (d : Fin 128) :
    val_main_v55 (F := Ideal) z kc vc (ix5 b t k g d) = ∑ n : Fin 127, vc (ix3 b ⟨1 + n.val, by omega⟩ ⟨k.val * 128 + d.val, by omega⟩)
      * val_main_v53 (F := Ideal) z kc (ix5 b t k g n) := by
  pointwise [val_main_v55, val_main_v54, val_main_v12,val_main_v13,val_main_v14,val_main_v15,val_main_v16,val_main_v17, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v40_iff (b : Fin 4) (t : Fin 2048) (k g : Fin 4) (n : Fin 127) :
    val_main_v40 (F := Ideal) (ix5 b t k g n) = 1#1 ↔ mC t.val n := by
  rw [v40_at]
  simp only [ofNat_eq, addi_eq, muli_eq, subi_eq]
  rw [sle_eq (by omega) (by omega)]
  unfold mC
  omega

/-- The reference's weights on the compressed blocks. -/
theorem v53_real (z : Z) (kc : KC) (zr kr) (hz : QReal z zr) (hk : KReal kc kr)
    (b : Fin 4) (t : Fin 2048) (k g : Fin 4) (n : Fin 127) :
    val_main_v53 (F := Ideal) z kc (ix5 b t k g n) = ((pC (qR zr b t k) t.val (kcR kr b k) g n : ℝ) : EReal) := by
  have hs : ∀ n, val_main_v42 (F := Ideal) z kc (ix5 b t k g n) = if mC t.val n then ((score (qR zr b t k g) (kcR kr b k n) : ℝ) : EReal) else ⊥ := by
    intro n
    rw [v42_at, select_eq (v40_iff b t k g n), v33_at, negInf, ← score_ref]
    simp only [hz _ _ _ _ _, hk _ _ _ _]
  rw [v53_at, select_eq (v40_iff b t k g n), negInf]
  by_cases h : mC t.val n
  · rw [if_pos h]
    exact soft_ref (mC t.val) _ _ hs ⟨n, h⟩ n
  · rw [if_neg h]
    unfold pC
    have : wt (mC t.val) (fun n => score (qR zr b t k g) (kcR kr b k n)) n = 0 := if_neg h
    rw [this, zero_div]
    rfl

end Cert.Attn

end
-- ==== Proof.RefSel.lean ====
module

public import proofs.«01_k».proof.Proof.RefCmp
public import proofs.«01_k».proof.Proof.Rank
public import proofs.«01_k».proof.Proof.Gen.ReferenceIdeal.Read
public import Idealize.ShloMosaic.Lib.Pointwise

@[expose] public section

noncomputable section

namespace Cert.Attn

open Idealize.ShloMosaic Cert.ReferenceIdeal Cert.ReferenceIdeal.Read

/-! ### The reference's choice of blocks -/

theorem v75_at (n : Fin 127) (j : Fin 32) : val_main_v75 (F := Ideal) (ix2 n j) = ((if over n.val j.val then 1 else 0 : ℝ) : EReal) := by
  have h : val_main_v75 (F := Ideal) (ix2 n j) = FloatOps.uitofp (F := Ideal) FTy.f32
      (IntOp.andi
        (IntOp.cmpi CmpIPredicate.slt (IntOp.muli (BitVec.ofNat 32 n.val) 16#32)
          (IntOp.addi (IntOp.muli (BitVec.ofNat 32 j.val) 64#32) 64#32))
        (IntOp.cmpi CmpIPredicate.sgt (IntOp.addi (IntOp.muli (BitVec.ofNat 32 n.val) 16#32) 32#32)
          (IntOp.muli (BitVec.ofNat 32 j.val) 64#32))) := by
    pointwise [val_main_v56,val_main_v57,val_main_v58,val_main_v59,val_main_v60,val_main_v61,val_main_v62,val_main_v63,val_main_v64,val_main_v65,val_main_v66,val_main_v67,val_main_v68,val_main_v69,val_main_v70,val_main_v71,val_main_v72,val_main_v73,val_main_v74,val_main_v75, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]
  rw [h]
  simp only [ofNat_eq, addi_eq, muli_eq]
  have key : ∀ c : BitVec 1, (c = 1#1 ↔ over n.val j.val) → FloatOps.uitofp (F := Ideal) FTy.f32 c = ((if over n.val j.val then 1 else 0 : ℝ) : EReal) := by
    intro c hc
    by_cases hp : over n.val j.val
    · rw [hc.2 hp, if_pos hp]
      show ((((1#1 : BitVec 1).toNat : ℝ)) : EReal) = _
      norm_num
    · have : c = 0#1 := by
        have hd : ∀ c : BitVec 1, c ≠ 1#1 → c = 0#1 := by decide
        exact hd c fun e => hp (hc.1 e)
      rw [this, if_neg hp]
      show ((((0#1 : BitVec 1).toNat : ℝ)) : EReal) = _
      norm_num
  apply key
  rw [andi_eq, slt_eq (by omega) (by omega), sgt_eq (by omega) (by omega)]
  unfold over
  omega

theorem v98_at (z : Z) (kc : KC) (b : Fin 4) (t : Fin 2048) (k : Fin 4) (n : Fin 32) :
    val_main_v98 (F := Ideal) z kc (ix4 b t k n) = Scalar.select
      (IntOp.cmpi CmpIPredicate.sge (IntOp.subi (BitVec.ofNat 32 t.val) (IntOp.muli (BitVec.ofNat 32 n.val) 64#32)) 0#32)
      (Scalar.select
        (IntOp.ori (IntOp.cmpi CmpIPredicate.eq (BitVec.ofNat 32 n.val) 0#32)
          (IntOp.cmpi CmpIPredicate.slt (IntOp.subi (BitVec.ofNat 32 t.val) (IntOp.muli (BitVec.ofNat 32 n.val) 64#32))
            128#32))
        (Ideal.ofBits FTy.f32 1315859240#32)
        (∑ x, (∑ x_1, val_main_v53 (F := Ideal) z kc (ix5 b t k x_1 x)) * val_main_v75 (F := Ideal) (ix2 x n)))
      (Ideal.ofBits FTy.f32 3212836864#32) := by
  pointwise [val_main_v21, val_main_v56,val_main_v57,val_main_v58,val_main_v59,val_main_v60,val_main_v61,val_main_v62,val_main_v63, val_main_v76,val_main_v77,val_main_v78,val_main_v79,val_main_v80,val_main_v81,val_main_v82,val_main_v83,val_main_v84,val_main_v85,val_main_v86,val_main_v87,val_main_v88,val_main_v89,val_main_v90,val_main_v91,val_main_v92,val_main_v93,val_main_v94,val_main_v95,val_main_v96,val_main_v97,val_main_v98, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

/-- The reference's scores of the blocks. -/
theorem v98_real (z : Z) (kc : KC) (zr kr) (hz : QReal z zr) (hk : KReal kc kr)
    (b : Fin 4) (t : Fin 2048) (k : Fin 4) (n : Fin 32) :
    val_main_v98 (F := Ideal) z kc (ix4 b t k n) = bs (qR zr b t k) t.val (kcR kr b k) n := by
  rw [v98_at]
  have h1 : (IntOp.cmpi CmpIPredicate.sge (IntOp.subi (BitVec.ofNat 32 t.val) (IntOp.muli (BitVec.ofNat 32 n.val) 64#32)) 0#32) = 1#1 ↔ 64 * n.val ≤ t.val := by
    simp only [ofNat_eq, subi_eq, muli_eq]
    rw [sge_eq (by omega) (by omega)]; omega
  have h2 : (IntOp.ori (IntOp.cmpi CmpIPredicate.eq (BitVec.ofNat 32 n.val) 0#32)
          (IntOp.cmpi CmpIPredicate.slt (IntOp.subi (BitVec.ofNat 32 t.val) (IntOp.muli (BitVec.ofNat 32 n.val) 64#32))
            128#32)) = 1#1 ↔ (n.val = 0 ∨ t.val < 128 + 64 * n.val) := by
    simp only [ofNat_eq, subi_eq, muli_eq]
    rw [ori_eq, eq_eq (by omega) (by omega), slt_eq (by omega) (by omega)]; omega
  rw [select_eq h1, select_eq h2]
  unfold bs imp
  simp only [v53_real z kc zr kr hz hk, v75_at, ← EReal.coe_mul, ← coe_sum]

theorem v104_at (z : Z) (kc : KC) (b : Fin 4) (t : Fin 2048) (k : Fin 4) (n : Fin 32) :
    val_main_v104 (F := Ideal) z kc (ix4 b t k n) = Finset.fold IntOp.ori (0#1)
      (fun x => IntOp.cmpi CmpIPredicate.eq (val_main_v99 (F := Ideal) z kc (ix5 b t k x 0)) (BitVec.ofNat 32 n.val)) Finset.univ := by
  pointwise [val_main_v56, val_main_v100,val_main_v101,val_main_v102,val_main_v103,val_main_v104, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v99_at (z : Z) (kc : KC) (b : Fin 4) (t : Fin 2048) (k : Fin 4) (x : Fin 16) :
    val_main_v99 (F := Ideal) z kc (ix5 b t k x 0) = val_main_indices (F := Ideal) z kc (ix4 b t k x) := by
  pointwise [val_main_v99]

theorem along_at (b : Fin 4) (t : Fin 2048) (k : Fin 4) (y i : Fin 32) (h : 3 < S4x2048x4x32.rank) :
    Shape.Idx.along (s := S4x2048x4x32) (ix4 b t k y) ⟨3, h⟩ i = ix4 b t k i := by
  ext a
  match a with
  | ⟨0, _⟩ => rfl
  | ⟨1, _⟩ => rfl
  | ⟨2, _⟩ => rfl
  | ⟨3, _⟩ => rfl

theorem topK_gen {s t : Shape} {α : Type} (d : ℕ) (gt : α → α → BitVec 1) (x : s.Idx → α) (h : s.Slices (fun _ => 0) t) (j : t.Idx) (k : s.Idx)
    (hk : ∀ a : Fin s.rank, (k a).val = (j (a.cast h.1.symm)).val) (hd : d < s.rank) :
    (Host.topK t d gt x h).2 j = BitVec.ofNat 32 (sortedFrom (fun i i' => gt (x (k.along ⟨d, hd⟩ i)) (x (k.along ⟨d, hd⟩ i')) == 1#1) (k ⟨d, hd⟩)).val := by
  show extractStridedSlice t (fun _ => 0) (Host.sort2 s d (fun l r => gt (Prod.fst l) (Prod.fst r)) x
    (fun i => if hd : d < Shape.rank s then iotaInDim s 32 ⟨d, hd⟩ i else 0#32)).2 h j = _
  rw [extractStridedSlice_apply _ _ h j k (fun a => by rw [hk a, Nat.zero_add])]
  unfold Host.sort2
  rw [dif_pos hd]
  simp only [dif_pos hd]
  unfold iotaInDim Shape.Idx.along
  rw [Function.update_self]

theorem topK_at {α : Type} (gt : α → α → BitVec 1) (v : S4x2048x4x32.Idx → α) (h) (b : Fin 4) (t : Fin 2048) (k : Fin 4) (x : Fin 16) :
    (Host.topK S4x2048x4x16 3 gt v h).2 (ix4 b t k x) = BitVec.ofNat 32 (sortedFrom (fun i j : Fin 32 =>
      gt (v (ix4 b t k i)) (v (ix4 b t k j)) == 1#1) ⟨x.val, by omega⟩).val := by
  have h3 : 3 < S4x2048x4x32.rank := show 3 < 4 by omega
  refine (topK_gen 3 gt v h (ix4 b t k x) (ix4 b t k ⟨x.val, by omega⟩) (fun a => ?_) h3).trans ?_
  · match a with
    | ⟨0, _⟩ => rfl
    | ⟨1, _⟩ => rfl
    | ⟨2, _⟩ => rfl
    | ⟨3, _⟩ => rfl
  · have : (fun i i' : Fin 32 => gt (v (Shape.Idx.along (s := S4x2048x4x32) (ix4 b t k (⟨x.val, by omega⟩ : Fin 32)) ⟨3, h3⟩ i)) (v (Shape.Idx.along (s := S4x2048x4x32) (ix4 b t k (⟨x.val, by omega⟩ : Fin 32)) ⟨3, h3⟩ i')) == 1#1)
        = fun i i' : Fin 32 => gt (v (ix4 b t k i)) (v (ix4 b t k i')) == 1#1 := by
      funext i i'
      rw [along_at, along_at]
    exact congrArg (fun R : Fin 32 → Fin 32 → Bool => BitVec.ofNat 32 (sortedFrom R ⟨x.val, by omega⟩).val) this

theorem indices_at (z : Z) (kc : KC) (b : Fin 4) (t : Fin 2048) (k : Fin 4) (x : Fin 16) :
    val_main_indices (F := Ideal) z kc (ix4 b t k x) = BitVec.ofNat 32 (sortedFrom (fun i j : Fin 32 =>
      FloatOps.cmpfTotal (F := Ideal) (φ := .f32) .gt (val_main_v98 (F := Ideal) z kc (ix4 b t k i)) (val_main_v98 (F := Ideal) z kc (ix4 b t k j)) == 1#1) ⟨x.val, by omega⟩).val :=
  topK_at _ _ _ b t k x

theorem fold_ori {ι : Type*} [DecidableEq ι] (s : Finset ι) (f : ι → BitVec 1) : s.fold IntOp.ori (0#1) f = 1#1 ↔ ∃ x ∈ s, f x = 1#1 := by
  induction s using Finset.induction_on with
  | empty => simp
  | insert a s ha ih => rw [Finset.fold_insert ha, ori_eq, ih]; simp

/-- The reference's chosen blocks. -/
theorem v104_iff (z : Z) (kc : KC) (zr kr) (hz : QReal z zr) (hk : KReal kc kr)
    (b : Fin 4) (t : Fin 2048) (k : Fin 4) (n : Fin 32) :
    val_main_v104 (F := Ideal) z kc (ix4 b t k n) = 1#1 ↔ rank (bs (qR zr b t k) t.val (kcR kr b k)) n < 16 := by
  rw [v104_at, fold_ori, rank_lt_iff (bs (qR zr b t k) t.val (kcR kr b k)) (fun i j : Fin 32 =>
      FloatOps.cmpfTotal (F := Ideal) (φ := .f32) .gt (val_main_v98 (F := Ideal) z kc (ix4 b t k i)) (val_main_v98 (F := Ideal) z kc (ix4 b t k j)) == 1#1)
    (fun i j => by
      rw [v98_real z kc zr kr hz hk, v98_real z kc zr kr hz hk]
      show (BitVec.ofBool (decide (_ < _)) == 1#1) = _
      by_cases h : bs (qR zr b t k) t.val (kcR kr b k) j < bs (qR zr b t k) t.val (kcR kr b k) i <;> simp [h])]
  simp only [Finset.mem_univ, true_and, v99_at, indices_at]
  refine exists_congr fun x => ?_
  rw [ofNat_eq, ofNat_eq, eq_eq (by omega) (by omega), Fin.ext_iff]
  omega

end Cert.Attn

end
-- ==== Proof.RefOut.lean ====
module

public import proofs.«01_k».proof.Proof.RefSel
public import proofs.«01_k».proof.Proof.Gen.ReferenceIdeal.Read
public import Idealize.ShloMosaic.Lib.Pointwise

@[expose] public section

noncomputable section

namespace Cert.Attn

open Idealize.ShloMosaic Cert.ReferenceIdeal Cert.ReferenceIdeal.Read

/-! ### The reference's chosen blocks, its window, and its result -/

theorem v109_at (t n : Fin 2048) : val_main_v109 (F := Ideal) (ix2 t n) = IntOp.cmpi CmpIPredicate.sle (BitVec.ofNat 32 n.val) (BitVec.ofNat 32 t.val) := by
  pointwise [val_main_v21, val_main_v105,val_main_v106,val_main_v107,val_main_v108,val_main_v109, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v119_at (z : Z) (b : Fin 4) (t : Fin 2048) (k g : Fin 4) (n : Fin 2048) :
    val_main_v119 (F := Ideal) z (ix5 b t k g n) = Ideal.div (∑ x : Fin 128, z (ix3 b n ⟨6144 + (1024 + k.val * 128 + x.val), by omega⟩)
      * z (ix3 b t ⟨4096 + (k.val * 512 + g.val * 128 + x.val), by omega⟩)) (Ideal.sqrt (Ideal.ofBits FTy.f32 1124073472#32)) := by
  pointwise [val_main_v0,val_main_v1,val_main_v2,val_main_v3,val_main_v4,val_main_v5,val_main_v6,val_main_v7,val_main_v8,val_main_v9,val_main_v10,val_main_v11, val_main_v115,val_main_v116,val_main_v117,val_main_v118,val_main_v119, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v122_at (b : Fin 4) (t : Fin 2048) (k g : Fin 4) (n : Fin 2048) :
    val_main_v122 (F := Ideal) (ix5 b t k g n) = Ideal.ofBits FTy.f32 4286578688#32 := by
  pointwise [val_main_v122, val_main_cst_18]

theorem v123_at (z : Z) (kc : KC) (b : Fin 4) (t : Fin 2048) (k g : Fin 4) (n : Fin 2048) :
    val_main_v123 (F := Ideal) z kc (ix5 b t k g n) = Scalar.select (val_main_v121 (F := Ideal) z kc (ix5 b t k g n))
      (val_main_v119 (F := Ideal) z (ix5 b t k g n)) (Ideal.ofBits FTy.f32 4286578688#32) :=
  (val_main_v123_apply (F := Ideal) z kc (ix5 b t k g n)).trans (congrArg (Scalar.select _ _) (v122_at b t k g n))

/-- The softmax along the last axis, as the reference forms it. -/
def softT (Y : (⟨S4x2048x4x4x2048, .f32⟩ : BufTy).Contents (Elt Ideal)) : (⟨S4x2048x4x4x2048, .f32⟩ : BufTy).Contents (Elt Ideal) :=
  have e : (⟨S4x2048x4x4x2048, .f32⟩ : BufTy).Contents (Elt Ideal) := Host.exp (F := Ideal) (φ := .f32) (subf (F := Ideal) (φ := .f32) Y
    (broadcastInDim S4x2048x4x4x2048 ![0, 1, 2, 3, 4] Cert.ReferenceIdeal.Gen.bcast_S4x2048x4x4x1_S4x2048x4x4x2048_0_1_2_3_4
      (broadcastInDim S4x2048x4x4x1 ![0, 1, 2, 3] Cert.ReferenceIdeal.Gen.bcast_S4x2048x4x4_S4x2048x4x4x1_0_1_2_3
        (Host.reduce FloatOps.maximumf Y (val_main_cst_19 (F := Ideal)) Cert.ReferenceIdeal.Gen.reducesTo_S4x2048x4x4x2048_S4x2048x4x4_d4 Cert.ReferenceIdeal.Gen.h_S_))))
  Host.divf (F := Ideal) (φ := .f32) e (broadcastInDim S4x2048x4x4x2048 ![0, 1, 2, 3, 4] Cert.ReferenceIdeal.Gen.bcast_S4x2048x4x4x1_S4x2048x4x4x2048_0_1_2_3_4
      (broadcastInDim S4x2048x4x4x1 ![0, 1, 2, 3] Cert.ReferenceIdeal.Gen.bcast_S4x2048x4x4_S4x2048x4x4x1_0_1_2_3
        (Host.reduceAdd (F := Ideal) (φ := .f32) e (val_main_cst_20 (F := Ideal)) Cert.ReferenceIdeal.Gen.reducesTo_S4x2048x4x4x2048_S4x2048x4x4_d4 Cert.ReferenceIdeal.Gen.h_S_)))

theorem softT_at (Y : (⟨S4x2048x4x4x2048, .f32⟩ : BufTy).Contents (Elt Ideal)) (b : Fin 4) (t : Fin 2048) (k g : Fin 4) (n : Fin 2048) :
    softT Y (ix5 b t k g n) = Ideal.div (Ideal.exp (Y (ix5 b t k g n) - Finset.univ.fold max (Ideal.ofBits FTy.f32 4286578688#32) fun x => Y (ix5 b t k g x)))
        (∑ x, Ideal.exp (Y (ix5 b t k g x) - Finset.univ.fold max (Ideal.ofBits FTy.f32 4286578688#32) fun x => Y (ix5 b t k g x))) := by
  pointwise [softT, val_main_cst_19, val_main_cst_20]

theorem v132_eq (z : Z) (kc : KC) : val_main_v132 (F := Ideal) z kc = softT (val_main_v123 (F := Ideal) z kc) := by
  unfold val_main_v132 val_main_v131 val_main_v130 val_main_v129 val_main_v128 val_main_v127 val_main_v126 val_main_v125 val_main_v124
  generalize val_main_v123 (F := Ideal) z kc = Y
  rfl

theorem v132_at (z : Z) (kc : KC) (b : Fin 4) (t : Fin 2048) (k g : Fin 4) (n : Fin 2048) :
    val_main_v132 (F := Ideal) z kc (ix5 b t k g n) =
      Ideal.div (Ideal.exp (val_main_v123 (F := Ideal) z kc (ix5 b t k g n) - Finset.univ.fold max (Ideal.ofBits FTy.f32 4286578688#32) fun x => val_main_v123 (F := Ideal) z kc (ix5 b t k g x)))
        (∑ x, Ideal.exp (val_main_v123 (F := Ideal) z kc (ix5 b t k g x) - Finset.univ.fold max (Ideal.ofBits FTy.f32 4286578688#32) fun x => val_main_v123 (F := Ideal) z kc (ix5 b t k g x))) :=
  (congrFun (v132_eq z kc) _).trans (softT_at _ b t k g n)

theorem v134_at (z : Z) (kc : KC) (b : Fin 4) (t : Fin 2048) (k g : Fin 4) (n : Fin 2048) :
    val_main_v134 (F := Ideal) z kc (ix5 b t k g n) = Scalar.select (val_main_v121 (F := Ideal) z kc (ix5 b t k g n))
      (val_main_v132 (F := Ideal) z kc (ix5 b t k g n)) 0 := by
  pointwise [val_main_v133,val_main_v134, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v136_at (z : Z) (kc : KC) (b : Fin 4) (t : Fin 2048) (k g : Fin 4) (d : Fin 128) :
    val_main_v136 (F := Ideal) z kc (ix5 b t k g d) = ∑ n : Fin 2048, z (ix3 b n ⟨6144 + (1536 + k.val * 128 + d.val), by omega⟩)
      * val_main_v134 (F := Ideal) z kc (ix5 b t k g n) := by
  pointwise [val_main_v0,val_main_v1,val_main_v2,val_main_v3,val_main_v4,val_main_v5,val_main_v6,val_main_v7,val_main_v8,val_main_v9,val_main_v10,val_main_v11, val_main_v135,val_main_v136, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v121_at (z : Z) (kc : KC) (b : Fin 4) (t : Fin 2048) (k g : Fin 4) (n : Fin 2048) :
    val_main_v121 (F := Ideal) z kc (ix5 b t k g n) = IntOp.andi (val_main_v104 (F := Ideal) z kc (ix4 b t k ⟨n.val / 64, by omega⟩)) (val_main_v109 (F := Ideal) (ix2 t n)) := by
  have h : val_main_v121 (F := Ideal) z kc (ix5 b t k g n) = val_main_v114 (F := Ideal) z kc (ix4 b t k n) := by
    pointwise [val_main_v120, val_main_v121]
  rw [h]
  pointwise [val_main_v110,val_main_v111,val_main_v112,val_main_v113,val_main_v114]

theorem v121_iff (z : Z) (kc : KC) (zr : S4x2048x9216.Idx → ℝ) (kr : S4x128x512.Idx → ℝ) (hz : QReal z zr) (hk : KReal kc kr)
    (b : Fin 4) (t : Fin 2048) (k g : Fin 4) (n : Fin 2048) :
    val_main_v121 (F := Ideal) z kc (ix5 b t k g n) = 1#1 ↔ mS (qR zr b t k) t.val (kcR kr b k) n := by
  rw [v121_at, andi_eq, v104_iff z kc zr kr hz hk, v109_at, ofNat_eq, ofNat_eq, sle_eq (by omega) (by omega)]
  unfold mS
  omega

/-- The reference's branch of the chosen blocks. -/
theorem v136_real (z : Z) (kc : KC) (zr : S4x2048x9216.Idx → ℝ) (kr : S4x128x512.Idx → ℝ) (hz : QReal z zr) (hs' : SReal z zr 1024) (hk : KReal kc kr)
    (b : Fin 4) (t : Fin 2048) (k g : Fin 4) (d : Fin 128) :
    val_main_v136 (F := Ideal) z kc (ix5 b t k g d) = mean (mS (qR zr b t k) t.val (kcR kr b k)) (fun n => score (qR zr b t k g) (kvR zr 1024 b k n)) (fun n => kvE z 1536 b k n d) := by
  have hm : ∀ n, val_main_v121 (F := Ideal) z kc (ix5 b t k g n) = 1#1 ↔ mS (qR zr b t k) t.val (kcR kr b k) n := fun n => v121_iff z kc zr kr hz hk b t k g n
  have hs : ∀ n, val_main_v123 (F := Ideal) z kc (ix5 b t k g n) = if mS (qR zr b t k) t.val (kcR kr b k) n then ((score (qR zr b t k g) (kvR zr 1024 b k n) : ℝ) : EReal) else ⊥ := by
    intro n
    rw [v123_at, select_eq (hm n), v119_at, negInf, ← score_ref]
    have e1 : ∀ x : Fin 128, z (ix3 b n ⟨6144 + (1024 + k.val * 128 + x.val), by omega⟩) = ((kvR zr 1024 b k n x : ℝ) : EReal) := fun x => hs' b k n x
    have e2 : ∀ x : Fin 128, z (ix3 b t ⟨4096 + (k.val * 512 + g.val * 128 + x.val), by omega⟩) = ((qR zr b t k g x : ℝ) : EReal) := fun x => hz b t k g x
    simp only [e1, e2]
  rw [v136_at, ← mean_ref]
  refine Finset.sum_congr rfl fun n _ => ?_
  rw [v134_at, select_eq (hm n), v132_at, negInf]
  refine congrArg₂ (fun x y : EReal => x * y) rfl ?_
  by_cases h : mS (qR zr b t k) t.val (kcR kr b k) n
  · rw [if_pos h, if_pos h]
    exact soft_ref (mS (qR zr b t k) t.val (kcR kr b k)) _ _ hs (mS_nonempty _ _ _) n
  · rw [if_neg h, if_neg h]
    rfl

theorem v141_at (z : Z) (b : Fin 4) (t : Fin 2048) (k g : Fin 4) (n : Fin 2048) :
    val_main_v141 (F := Ideal) z (ix5 b t k g n) = Ideal.div (∑ x : Fin 128, z (ix3 b n ⟨6144 + (2048 + k.val * 128 + x.val), by omega⟩)
      * z (ix3 b t ⟨4096 + (k.val * 512 + g.val * 128 + x.val), by omega⟩)) (Ideal.sqrt (Ideal.ofBits FTy.f32 1124073472#32)) := by
  pointwise [val_main_v0,val_main_v1,val_main_v2,val_main_v3,val_main_v4,val_main_v5,val_main_v6,val_main_v7,val_main_v8,val_main_v9,val_main_v10,val_main_v11, val_main_v137,val_main_v138,val_main_v139,val_main_v140,val_main_v141, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v153_at (z : Z)  (b : Fin 4) (t : Fin 2048) (k g : Fin 4) (n : Fin 2048) :
    val_main_v153 (F := Ideal) z (ix5 b t k g n) = Scalar.select (val_main_v151 (F := Ideal)  (ix5 b t k g n))
      (val_main_v141 (F := Ideal) z (ix5 b t k g n)) (Ideal.ofBits FTy.f32 4286578688#32) := by
  pointwise [val_main_v152,val_main_v153, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v162_at (z : Z)  (b : Fin 4) (t : Fin 2048) (k g : Fin 4) (n : Fin 2048) :
    val_main_v162 (F := Ideal) z (ix5 b t k g n) =
      Ideal.div (Ideal.exp (val_main_v153 (F := Ideal) z (ix5 b t k g n) - Finset.univ.fold max (Ideal.ofBits FTy.f32 4286578688#32) fun x => val_main_v153 (F := Ideal) z (ix5 b t k g x)))
        (∑ x, Ideal.exp (val_main_v153 (F := Ideal) z (ix5 b t k g x) - Finset.univ.fold max (Ideal.ofBits FTy.f32 4286578688#32) fun x => val_main_v153 (F := Ideal) z (ix5 b t k g x))) := by
  pointwise [val_main_v154,val_main_v155,val_main_v156,val_main_v157,val_main_v158,val_main_v159,val_main_v160,val_main_v161,val_main_v162, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v164_at (z : Z)  (b : Fin 4) (t : Fin 2048) (k g : Fin 4) (n : Fin 2048) :
    val_main_v164 (F := Ideal) z (ix5 b t k g n) = Scalar.select (val_main_v151 (F := Ideal)  (ix5 b t k g n))
      (val_main_v162 (F := Ideal) z (ix5 b t k g n)) 0 := by
  pointwise [val_main_v163,val_main_v164, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v166_at (z : Z)  (b : Fin 4) (t : Fin 2048) (k g : Fin 4) (d : Fin 128) :
    val_main_v166 (F := Ideal) z (ix5 b t k g d) = ∑ n : Fin 2048, z (ix3 b n ⟨6144 + (2560 + k.val * 128 + d.val), by omega⟩)
      * val_main_v164 (F := Ideal) z (ix5 b t k g n) := by
  pointwise [val_main_v0,val_main_v1,val_main_v2,val_main_v3,val_main_v4,val_main_v5,val_main_v6,val_main_v7,val_main_v8,val_main_v9,val_main_v10,val_main_v11, val_main_v165,val_main_v166, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v151_at (b : Fin 4) (t : Fin 2048) (k g : Fin 4) (n : Fin 2048) :
    val_main_v151 (F := Ideal) (ix5 b t k g n) = IntOp.andi (val_main_v109 (F := Ideal) (ix2 t n))
      (IntOp.cmpi CmpIPredicate.slt (IntOp.subi (BitVec.ofNat 32 t.val) (BitVec.ofNat 32 n.val)) 512#32) := by
  pointwise [val_main_v21, val_main_v142,val_main_v143,val_main_v144,val_main_v145,val_main_v146,val_main_v147,val_main_v148,val_main_v149,val_main_v150,val_main_v151, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

theorem v151_iff (b : Fin 4) (t : Fin 2048) (k g : Fin 4) (n : Fin 2048) :
    val_main_v151 (F := Ideal) (ix5 b t k g n) = 1#1 ↔ mW t.val n := by
  rw [v151_at, v109_at, andi_eq]
  simp only [ofNat_eq, subi_eq]
  rw [sle_eq (by omega) (by omega), slt_eq (by omega) (by omega)]
  unfold mW
  omega

/-- The reference's window. -/
theorem v166_real (z : Z) (kc : KC) (zr : S4x2048x9216.Idx → ℝ) (kr : S4x128x512.Idx → ℝ) (hz : QReal z zr) (hw' : SReal z zr 2048) (hk : KReal kc kr)
    (b : Fin 4) (t : Fin 2048) (k g : Fin 4) (d : Fin 128) :
    val_main_v166 (F := Ideal) z (ix5 b t k g d) = mean (mW t.val) (fun n => score (qR zr b t k g) (kvR zr 2048 b k n)) (fun n => kvE z 2560 b k n d) := by
  have hm : ∀ n, val_main_v151 (F := Ideal)  (ix5 b t k g n) = 1#1 ↔ mW t.val n := fun n => v151_iff b t k g n
  have hs : ∀ n, val_main_v153 (F := Ideal) z (ix5 b t k g n) = if mW t.val n then ((score (qR zr b t k g) (kvR zr 2048 b k n) : ℝ) : EReal) else ⊥ := by
    intro n
    rw [v153_at, select_eq (hm n), v141_at, negInf, ← score_ref]
    have e1 : ∀ x : Fin 128, z (ix3 b n ⟨6144 + (2048 + k.val * 128 + x.val), by omega⟩) = ((kvR zr 2048 b k n x : ℝ) : EReal) := fun x => hw' b k n x
    have e2 : ∀ x : Fin 128, z (ix3 b t ⟨4096 + (k.val * 512 + g.val * 128 + x.val), by omega⟩) = ((qR zr b t k g x : ℝ) : EReal) := fun x => hz b t k g x
    simp only [e1, e2]
  rw [v166_at, ← mean_ref]
  refine Finset.sum_congr rfl fun n _ => ?_
  rw [v164_at, select_eq (hm n), v162_at, negInf]
  refine congrArg₂ (fun x y : EReal => x * y) rfl ?_
  by_cases h : mW t.val n
  · rw [if_pos h, if_pos h]
    exact soft_ref (mW t.val) _ _ hs (⟨t, le_refl _, by omega⟩) n
  · rw [if_neg h, if_neg h]
    rfl

abbrev GT := (⟨S4x2048x512, .f32⟩ : BufTy).Contents (Elt Ideal)

theorem v185_at (z : Z) (ga : GT) (kc vc : KC) (b : Fin 4) (t : Fin 2048) (n : Fin 2048) :
    val_main_v185 (F := Ideal) z ga kc vc (ix3 b t n) =
      ga (ix3 b t ⟨n.val / 512 * 128 + n.val / 128 % 4, by omega⟩) *
          val_main_v55 (F := Ideal) z kc vc (ix5 b t ⟨n.val / 512, by omega⟩ ⟨n.val / 128 % 4, by omega⟩ ⟨n.val % 128, by omega⟩) +
        ga (ix3 b t ⟨n.val / 512 * 128 + (4 + n.val / 128 % 4), by omega⟩) *
          val_main_v136 (F := Ideal) z kc (ix5 b t ⟨n.val / 512, by omega⟩ ⟨n.val / 128 % 4, by omega⟩ ⟨n.val % 128, by omega⟩) +
      ga (ix3 b t ⟨n.val / 512 * 128 + (8 + n.val / 128 % 4), by omega⟩) *
        val_main_v166 (F := Ideal) z (ix5 b t ⟨n.val / 512, by omega⟩ ⟨n.val / 128 % 4, by omega⟩ ⟨n.val % 128, by omega⟩) := by
  pointwise [val_main_v18, val_main_v19, val_main_v20, val_main_v167,val_main_v168,val_main_v169,val_main_v170,val_main_v171,val_main_v172,val_main_v173,val_main_v174,val_main_v175,val_main_v176,val_main_v177,val_main_v178,val_main_v179,val_main_v180,val_main_v181,val_main_v182,val_main_v183,val_main_v184,val_main_v185, val_main_c,val_main_c_0,val_main_c_1,val_main_c_11,val_main_c_12,val_main_c_14,val_main_c_16,val_main_c_23,val_main_c_6,val_main_c_7,val_main_c_8,val_main_c_9,val_main_cst,val_main_cst_10,val_main_cst_13,val_main_cst_15,val_main_cst_17,val_main_cst_18,val_main_cst_19,val_main_cst_2,val_main_cst_20,val_main_cst_21,val_main_cst_22,val_main_cst_24,val_main_cst_25,val_main_cst_26,val_main_cst_27,val_main_cst_3,val_main_cst_4,val_main_cst_5]

/-- What the attention comes to at a position, a group of heads, a head and a lane. -/
def spec (z : Z) (zr : S4x2048x9216.Idx → ℝ) (ga : GT) (kr : S4x128x512.Idx → ℝ) (vc : KC) (b : Fin 4) (t : Fin 2048) (k g : Fin 4) (d : Fin 128) : EReal :=
  ga (ix3 b t ⟨k.val * 128 + g.val, by omega⟩)
      * (∑ n : Fin 127, vc (ix3 b ⟨1 + n.val, by omega⟩ ⟨k.val * 128 + d.val, by omega⟩) * ((pC (qR zr b t k) t.val (kcR kr b k) g n : ℝ) : EReal))
    + ga (ix3 b t ⟨k.val * 128 + (4 + g.val), by omega⟩)
      * mean (mS (qR zr b t k) t.val (kcR kr b k)) (fun n => score (qR zr b t k g) (kvR zr 1024 b k n)) (fun n => kvE z 1536 b k n d)
    + ga (ix3 b t ⟨k.val * 128 + (8 + g.val), by omega⟩)
      * mean (mW t.val) (fun n => score (qR zr b t k g) (kvR zr 2048 b k n)) (fun n => kvE z 2560 b k n d)

/-- The reference's result. -/
theorem v185_real (z : Z) (ga : GT) (kc vc : KC) (zr : S4x2048x9216.Idx → ℝ) (kr : S4x128x512.Idx → ℝ) (hz : QReal z zr) (hs' : SReal z zr 1024) (hw' : SReal z zr 2048) (hk : KReal kc kr)
    (b : Fin 4) (t : Fin 2048) (n : Fin 2048) :
    val_main_v185 (F := Ideal) z ga kc vc (ix3 b t n) = spec z zr ga kr vc b t ⟨n.val / 512, by omega⟩ ⟨n.val / 128 % 4, by omega⟩ ⟨n.val % 128, by omega⟩ := by
  rw [v185_at, v55_at, v136_real z kc zr kr hz hs' hk, v166_real z kc zr kr hz hw' hk]
  simp only [v53_real z kc zr kr hz hk]
  rfl

end Cert.Attn

end
-- ==== Proof.Attn.lean ====
/- The attention: what the kernel leaves is the reference's result, element by element, where the queries, the keys
   and the compressed keys are finite. -/
module

public import proofs.«01_k».proof.Proof.KerSel
public import proofs.«01_k».proof.Proof.KerSlc
public import proofs.«01_k».proof.Proof.KerWin
public import proofs.«01_k».proof.Proof.KerOut
public import proofs.«01_k».proof.Proof.RefOut
public import proofs.«01_k».proof.Proof.Whole
public import proofs.«01_k».proof.Pre_finite
public import proofs.«01_k».proof.Defs
public import proofs.«01_k».proof.Proof.Gen.ReferenceIdeal.Run
public import proofs.«01_k».proof.Proof.Gen.ReferenceIdeal.Read
public import Idealize.ShloMosaic.Lib.Pointwise
public import Idealize.ShloMosaic.Lib.ReduceAll
public import Idealize.ShloMosaic.Lib.Claim

@[expose] public section

noncomputable section

namespace Cert.Attn

open Idealize.ShloMosaic Idealize.ShloMosaic.TcCoe

/-! The precondition, read. -/

theorem pre_facts : Cert.Pre_finite.Facts where
  slices_S4x2048x9216_S4x2048x2048_0_0_4096 := by decide
  slices_S4x2048x9216_S4x2048x512_0_0_7168 := by decide
  slices_S4x2048x9216_S4x2048x512_0_0_8192 := by decide
  slices_S4x128x512_S4x127x512_0_1_0 := by decide
  bitsLt_bf16_f32 := by decide
  bcast_S_S4x2048x2048 := by decide
  reducesTo_S4x2048x2048_S_d0_1_2 := by decide
  h_S_ := by decide
  bcast_S_S4x2048x512 := by decide
  reducesTo_S4x2048x512_S_d0_1_2 := by decide
  bcast_S_S4x127x512 := by decide
  reducesTo_S4x127x512_S_d0_1_2 := by decide

/-- Below infinity in size: a real. -/
theorem lt_real (x : EReal) (h : max x (-x) < Ideal.ofBits FTy.f32 2139095040#32) : x = ((x.toReal : ℝ) : EReal) := by
  have hi : Ideal.ofBits FTy.f32 2139095040#32 = (⊤ : EReal) := by
    norm_num [Ideal.ofBits, Ideal.ieee, Nat.shiftRight_eq_div_pow, BitVec.extractLsb']
  rw [hi] at h
  have h1 : x < ⊤ := (le_max_left _ _).trans_lt h
  have h2 : -x < ⊤ := (le_max_right _ _).trans_lt h
  refine (EReal.coe_toReal h1.ne ?_).symm
  rintro rfl
  exact absurd h2 (by simp)

theorem lt_real' (x y : EReal) (e : x = y) (h : max x (-x) < Ideal.ofBits FTy.f32 2139095040#32) : y = ((y.toReal : ℝ) : EReal) := by
  subst e
  exact lt_real _ h

open Cert.Pre_finite in
theorem pre_read [hPre : Cert.Pre_finite.Facts] (z : FVec Ideal S4x2048x9216 .f32) (ga : FVec Ideal S4x2048x512 .f32) (kc vc : FVec Ideal S4x128x512 .bf16)
    (h : Cert.Pre_finite.fn (F := Ideal) z ga kc vc = fun _ => 1#1) :
    QReal z (fun i => (z i).toReal) ∧ SReal z (fun i => (z i).toReal) 1024 ∧ SReal z (fun i => (z i).toReal) 2048
      ∧ KReal kc (fun i => (kc i).toReal) := by
  have hs : Subsingleton S_.Idx := ⟨fun a b => funext fun x => Fin.elim0 x⟩
  have e := congrFun h (fun a => Fin.elim0 a)
  have f1 := (andi_eq _ _).1 e
  have f2 := (andi_eq _ _).1 f1.1
  have f3 := (andi_eq _ _).1 f2.1
  have e1 := Host.reduce_andi_all _ _ _ _ _ f3.1
  have e2 := Host.reduce_andi_all _ _ _ _ _ f3.2
  have e3 := Host.reduce_andi_all _ _ _ _ _ f2.2
  have e4 := Host.reduce_andi_all _ _ _ _ _ f1.2
  refine ⟨fun b t k g x => ?_, fun b k n x => ?_, fun b k n x => ?_, fun b k n x => ?_⟩
  · refine lt_real' (extractStridedSlice S4x2048x2048 ![0, 0, 4096] z Facts.slices_S4x2048x9216_S4x2048x2048_0_0_4096 (ix3 b t ⟨k.val * 512 + g.val * 128 + x.val, by omega⟩)) _ (congrArg z (funext fun a => Fin.ext ?_)) ((ofBool_eq _).1 (e1 _))
    match a with
    | ⟨0, _⟩ => show 0 + b.val = b.val; omega
    | ⟨1, _⟩ => show 0 + t.val = t.val; omega
    | ⟨2, _⟩ => rfl
  · refine lt_real' (extractStridedSlice S4x2048x512 ![0, 0, 7168] z Facts.slices_S4x2048x9216_S4x2048x512_0_0_7168 (ix3 b n ⟨k.val * 128 + x.val, by omega⟩)) _ (congrArg z (funext fun a => Fin.ext ?_)) ((ofBool_eq _).1 (e2 _))
    match a with
    | ⟨0, _⟩ => show 0 + b.val = b.val; omega
    | ⟨1, _⟩ => show 0 + n.val = n.val; omega
    | ⟨2, _⟩ => show 7168 + (k.val * 128 + x.val) = 6144 + (1024 + k.val * 128 + x.val); omega
  · refine lt_real' (extractStridedSlice S4x2048x512 ![0, 0, 8192] z Facts.slices_S4x2048x9216_S4x2048x512_0_0_8192 (ix3 b n ⟨k.val * 128 + x.val, by omega⟩)) _ (congrArg z (funext fun a => Fin.ext ?_)) ((ofBool_eq _).1 (e3 _))
    match a with
    | ⟨0, _⟩ => show 0 + b.val = b.val; omega
    | ⟨1, _⟩ => show 0 + n.val = n.val; omega
    | ⟨2, _⟩ => show 8192 + (k.val * 128 + x.val) = 6144 + (2048 + k.val * 128 + x.val); omega
  · refine lt_real' (extractStridedSlice S4x127x512 ![0, 1, 0] kc Facts.slices_S4x128x512_S4x127x512_0_1_0 (ix3 b n ⟨k.val * 128 + x.val, by omega⟩)) _ (congrArg kc (funext fun a => Fin.ext ?_)) ((ofBool_eq _).1 (e4 _))
    match a with
    | ⟨0, _⟩ => show 0 + b.val = b.val; omega
    | ⟨1, _⟩ => rfl
    | ⟨2, _⟩ => show 0 + (k.val * 128 + x.val) = k.val * 128 + x.val; omega

open Cert.KernelIdeal Cert.KernelIdeal.Gen Idealize.SL.Sem
open Idealize.ShloMosaic.Pipeline (Dat)

/-! Where the blocks of a point lie. -/

theorem lt_N (t : Fin cfg0.N) : t.val < 256 := Nat.lt_of_lt_of_eq t.isLt N_0

theorem idx_z : ∀ t : Fin cfg0.N, win0_0.index t 0 = t.val / 64 ∧ win0_0.index t 1 = t.val % 16 ∧ win0_0.index t 2 = 8 + t.val / 16 % 4 :=
  (by decide +kernel : ∀ t : Fin grid0.N, win0_0.index t 0 = t.val / 64 ∧ win0_0.index t 1 = t.val % 16 ∧ win0_0.index t 2 = 8 + t.val / 16 % 4)
theorem idx_kc : ∀ t : Fin cfg0.N, win0_1.index t 0 = t.val / 64 ∧ win0_1.index t 1 = 0 ∧ win0_1.index t 2 = t.val / 16 % 4 :=
  (by decide +kernel : ∀ t : Fin grid0.N, win0_1.index t 0 = t.val / 64 ∧ win0_1.index t 1 = 0 ∧ win0_1.index t 2 = t.val / 16 % 4)
theorem idx_vc : ∀ t : Fin cfg0.N, win0_2.index t 0 = t.val / 64 ∧ win0_2.index t 1 = 0 ∧ win0_2.index t 2 = t.val / 16 % 4 :=
  (by decide +kernel : ∀ t : Fin grid0.N, win0_2.index t 0 = t.val / 64 ∧ win0_2.index t 1 = 0 ∧ win0_2.index t 2 = t.val / 16 % 4)
theorem idx_ks : ∀ t : Fin cfg0.N, win0_3.index t 0 = t.val / 64 ∧ win0_3.index t 1 = 0 ∧ win0_3.index t 2 = 56 + t.val / 16 % 4 :=
  (by decide +kernel : ∀ t : Fin grid0.N, win0_3.index t 0 = t.val / 64 ∧ win0_3.index t 1 = 0 ∧ win0_3.index t 2 = 56 + t.val / 16 % 4)
theorem idx_vs : ∀ t : Fin cfg0.N, win0_4.index t 0 = t.val / 64 ∧ win0_4.index t 1 = 0 ∧ win0_4.index t 2 = 60 + t.val / 16 % 4 :=
  (by decide +kernel : ∀ t : Fin grid0.N, win0_4.index t 0 = t.val / 64 ∧ win0_4.index t 1 = 0 ∧ win0_4.index t 2 = 60 + t.val / 16 % 4)
theorem idx_kw : ∀ t : Fin cfg0.N, win0_5.index t 0 = t.val / 64 ∧ win0_5.index t 1 = 0 ∧ win0_5.index t 2 = 64 + t.val / 16 % 4 :=
  (by decide +kernel : ∀ t : Fin grid0.N, win0_5.index t 0 = t.val / 64 ∧ win0_5.index t 1 = 0 ∧ win0_5.index t 2 = 64 + t.val / 16 % 4)
theorem idx_vw : ∀ t : Fin cfg0.N, win0_6.index t 0 = t.val / 64 ∧ win0_6.index t 1 = 0 ∧ win0_6.index t 2 = 68 + t.val / 16 % 4 :=
  (by decide +kernel : ∀ t : Fin grid0.N, win0_6.index t 0 = t.val / 64 ∧ win0_6.index t 1 = 0 ∧ win0_6.index t 2 = 68 + t.val / 16 % 4)
theorem idx_ga : ∀ t : Fin cfg0.N, win0_7.index t 0 = t.val / 64 ∧ win0_7.index t 1 = t.val % 16 ∧ win0_7.index t 2 = t.val / 16 % 4 :=
  (by decide +kernel : ∀ t : Fin grid0.N, win0_7.index t 0 = t.val / 64 ∧ win0_7.index t 1 = t.val % 16 ∧ win0_7.index t 2 = t.val / 16 % 4)
theorem idx_o : ∀ t : Fin cfg0.N, win0_8.index t 0 = t.val / 64 ∧ win0_8.index t 1 = t.val % 16 ∧ win0_8.index t 2 = t.val / 16 % 4 :=
  (by decide +kernel : ∀ t : Fin grid0.N, win0_8.index t 0 = t.val / 64 ∧ win0_8.index t 1 = t.val % 16 ∧ win0_8.index t 2 = t.val / 16 % 4)

/-- The point's batch, its key head and its rows. -/
def pb (t : Fin cfg0.N) : Fin 4 := ⟨t.val / 64, by have := lt_N t; omega⟩
def pk (t : Fin cfg0.N) : Fin 4 := ⟨t.val / 16 % 4, by omega⟩
def pr (t : Fin cfg0.N) (r : Fin 128) : Fin 2048 := ⟨t.val % 16 * 128 + r.val, by omega⟩

variable (m : (ℓ : Loc nD τ sig) → Buf (Elt Ideal) ℓ) (c : Dev nD) (t : Fin cfg0.N)

abbrev zA : Z := m ((c : Thread nD τ).loc main_arg0)
abbrev gA : GT := m ((c : Thread nD τ).loc main_arg1)
abbrev kA : KC := m ((c : Thread nD τ).loc main_arg2)
abbrev vA : KC := m ((c : Thread nD τ).loc main_arg3)

theorem blk0 (r : Fin 128) (l : Fin 512) : (iblk m c 0 t : Vec Ideal S1x128x512 .f32) (ix3 0 r l)
    = zA m c (ix3 (pb t) (pr t r) ⟨4096 + ((pk t).val * 512 + l.val), by have := (pk t).isLt; omega⟩) := by
  have e := idx_z t
  refine (congrFun (V_main_arg0 m c) _).trans (congrArg (m ((c : Thread nD τ).loc main_arg0)) (funext fun a => Fin.ext ?_))
  match a with
  | ⟨0, _⟩ => show win0_0.index t 0 * 1 + 1 * 0 = t.val / 64; rw [e.1]; omega
  | ⟨1, _⟩ => show win0_0.index t 1 * 128 + 1 * r.val = t.val % 16 * 128 + r.val; rw [e.2.1]; omega
  | ⟨2, _⟩ => show win0_0.index t 2 * 512 + 1 * l.val = 4096 + (t.val / 16 % 4 * 512 + l.val); rw [e.2.2]; omega

theorem blk1 (n x : Fin 128) : (iblk m c 1 t : Vec Ideal S1x128x128 .bf16) (ix3 0 n x)
    = kA m c (ix3 (pb t) n ⟨(pk t).val * 128 + x.val, by have := (pk t).isLt; omega⟩) := by
  have e := idx_kc t
  refine (congrFun (V_main_arg2 m c) _).trans (congrArg (m ((c : Thread nD τ).loc main_arg2)) (funext fun a => Fin.ext ?_))
  match a with
  | ⟨0, _⟩ => show win0_1.index t 0 * 1 + 1 * 0 = t.val / 64; rw [e.1]; omega
  | ⟨1, _⟩ => show win0_1.index t 1 * 128 + 1 * n.val = n.val; rw [e.2.1]; omega
  | ⟨2, _⟩ => show win0_1.index t 2 * 128 + 1 * x.val = t.val / 16 % 4 * 128 + x.val; rw [e.2.2]; omega

theorem blk2 (n x : Fin 128) : (iblk m c 2 t : Vec Ideal S1x128x128 .bf16) (ix3 0 n x)
    = vA m c (ix3 (pb t) n ⟨(pk t).val * 128 + x.val, by have := (pk t).isLt; omega⟩) := by
  have e := idx_vc t
  refine (congrFun (V_main_arg3 m c) _).trans (congrArg (m ((c : Thread nD τ).loc main_arg3)) (funext fun a => Fin.ext ?_))
  match a with
  | ⟨0, _⟩ => show win0_2.index t 0 * 1 + 1 * 0 = t.val / 64; rw [e.1]; omega
  | ⟨1, _⟩ => show win0_2.index t 1 * 128 + 1 * n.val = n.val; rw [e.2.1]; omega
  | ⟨2, _⟩ => show win0_2.index t 2 * 128 + 1 * x.val = t.val / 16 % 4 * 128 + x.val; rw [e.2.2]; omega

theorem blk3 (n : Fin 2048) (x : Fin 128) : (iblk m c 3 t : Vec Ideal S1x2048x128 .f32) (ix3 0 n x)
    = zA m c (ix3 (pb t) n ⟨6144 + (1024 + (pk t).val * 128 + x.val), by have := (pk t).isLt; omega⟩) := by
  have e := idx_ks t
  refine (congrFun (V_main_arg0 m c) _).trans (congrArg (m ((c : Thread nD τ).loc main_arg0)) (funext fun a => Fin.ext ?_))
  match a with
  | ⟨0, _⟩ => show win0_3.index t 0 * 1 + 1 * 0 = t.val / 64; rw [e.1]; omega
  | ⟨1, _⟩ => show win0_3.index t 1 * 2048 + 1 * n.val = n.val; rw [e.2.1]; omega
  | ⟨2, _⟩ => show win0_3.index t 2 * 128 + 1 * x.val = 6144 + (1024 + t.val / 16 % 4 * 128 + x.val); rw [e.2.2]; omega

theorem blk4 (n : Fin 2048) (x : Fin 128) : (iblk m c 4 t : Vec Ideal S1x2048x128 .f32) (ix3 0 n x)
    = zA m c (ix3 (pb t) n ⟨6144 + (1536 + (pk t).val * 128 + x.val), by have := (pk t).isLt; omega⟩) := by
  have e := idx_vs t
  refine (congrFun (V_main_arg0 m c) _).trans (congrArg (m ((c : Thread nD τ).loc main_arg0)) (funext fun a => Fin.ext ?_))
  match a with
  | ⟨0, _⟩ => show win0_4.index t 0 * 1 + 1 * 0 = t.val / 64; rw [e.1]; omega
  | ⟨1, _⟩ => show win0_4.index t 1 * 2048 + 1 * n.val = n.val; rw [e.2.1]; omega
  | ⟨2, _⟩ => show win0_4.index t 2 * 128 + 1 * x.val = 6144 + (1536 + t.val / 16 % 4 * 128 + x.val); rw [e.2.2]; omega

theorem blk5 (n : Fin 2048) (x : Fin 128) : (iblk m c 5 t : Vec Ideal S1x2048x128 .f32) (ix3 0 n x)
    = zA m c (ix3 (pb t) n ⟨6144 + (2048 + (pk t).val * 128 + x.val), by have := (pk t).isLt; omega⟩) := by
  have e := idx_kw t
  refine (congrFun (V_main_arg0 m c) _).trans (congrArg (m ((c : Thread nD τ).loc main_arg0)) (funext fun a => Fin.ext ?_))
  match a with
  | ⟨0, _⟩ => show win0_5.index t 0 * 1 + 1 * 0 = t.val / 64; rw [e.1]; omega
  | ⟨1, _⟩ => show win0_5.index t 1 * 2048 + 1 * n.val = n.val; rw [e.2.1]; omega
  | ⟨2, _⟩ => show win0_5.index t 2 * 128 + 1 * x.val = 6144 + (2048 + t.val / 16 % 4 * 128 + x.val); rw [e.2.2]; omega

theorem blk6 (n : Fin 2048) (x : Fin 128) : (iblk m c 6 t : Vec Ideal S1x2048x128 .f32) (ix3 0 n x)
    = zA m c (ix3 (pb t) n ⟨6144 + (2560 + (pk t).val * 128 + x.val), by have := (pk t).isLt; omega⟩) := by
  have e := idx_vw t
  refine (congrFun (V_main_arg0 m c) _).trans (congrArg (m ((c : Thread nD τ).loc main_arg0)) (funext fun a => Fin.ext ?_))
  match a with
  | ⟨0, _⟩ => show win0_6.index t 0 * 1 + 1 * 0 = t.val / 64; rw [e.1]; omega
  | ⟨1, _⟩ => show win0_6.index t 1 * 2048 + 1 * n.val = n.val; rw [e.2.1]; omega
  | ⟨2, _⟩ => show win0_6.index t 2 * 128 + 1 * x.val = 6144 + (2560 + t.val / 16 % 4 * 128 + x.val); rw [e.2.2]; omega

theorem blk7 (r x : Fin 128) : (iblk m c 7 t : Vec Ideal S1x128x128 .f32) (ix3 0 r x)
    = gA m c (ix3 (pb t) (pr t r) ⟨(pk t).val * 128 + x.val, by have := (pk t).isLt; omega⟩) := by
  have e := idx_ga t
  refine (congrFun (V_main_arg1 m c) _).trans (congrArg (m ((c : Thread nD τ).loc main_arg1)) (funext fun a => Fin.ext ?_))
  match a with
  | ⟨0, _⟩ => show win0_7.index t 0 * 1 + 1 * 0 = t.val / 64; rw [e.1]; omega
  | ⟨1, _⟩ => show win0_7.index t 1 * 128 + 1 * r.val = t.val % 16 * 128 + r.val; rw [e.2.1]; omega
  | ⟨2, _⟩ => show win0_7.index t 2 * 128 + 1 * x.val = t.val / 16 % 4 * 128 + x.val; rw [e.2.2]; omega

/-! A point's block, from reals. -/

variable (zr : S4x2048x9216.Idx → ℝ) (kr : S4x128x512.Idx → ℝ)
variable (hz : QReal (zA m c) zr) (hs : SReal (zA m c) zr 1024) (hw : SReal (zA m c) zr 2048) (hk : KReal (kA m c) kr)

/-- The compressed keys of a point, the first block included. -/
def kbR (n x : Fin 128) : ℝ := kr (ix3 (pb t) n ⟨(pk t).val * 128 + x.val, by have := (pk t).isLt; omega⟩)

theorem kbR_succ : (fun n : Fin 127 => kbR t kr n.succ) = kcR kr (pb t) (pk t) := by
  funext n x
  exact congrArg kr (funext fun a => by
    match a with
    | ⟨0, _⟩ => rfl
    | ⟨1, _⟩ => exact Fin.ext (by show n.val + 1 = 1 + n.val; omega)
    | ⟨2, _⟩ => rfl)

include hz in
theorem q_real (r : Fin 128) (g : Fin 4) (x : Fin 128) : (iblk m c 0 t : Vec Ideal S1x128x512 .f32) (ix3 0 r ⟨g.val * 128 + x.val, by omega⟩)
    = ((qR zr (pb t) (pr t r) (pk t) g x : ℝ) : EReal) := by
  rw [blk0, ← hz]
  exact ix3_eq (zA m c) rfl rfl (Fin.ext (by
    show 4096 + ((pk t).val * 512 + (g.val * 128 + x.val)) = 4096 + ((pk t).val * 512 + g.val * 128 + x.val)
    omega))

include hk in
theorem kb_real (n : Fin 128) (hn : n ≠ 0) (x : Fin 128) : (iblk m c 1 t : Vec Ideal S1x128x128 .bf16) (ix3 0 n x) = ((kbR t kr n x : ℝ) : EReal) := by
  obtain ⟨n', rfl⟩ : ∃ n' : Fin 127, n'.succ = n := ⟨n.pred hn, Fin.succ_pred n hn⟩
  rw [blk1]
  have e := congrFun (congrFun (kbR_succ t kr) n') x
  refine Eq.trans ?_ ((hk (pb t) (pk t) n' x).trans (congrArg (fun y : ℝ => (y : EReal)) e.symm))
  exact ix3_eq (kA m c) rfl (Fin.ext (by show n'.val + 1 = 1 + n'.val; omega)) rfl

include hs in
theorem ks_real (n : Fin 2048) (x : Fin 128) : copy0 m c t (ix2 n x) = ((kvR zr 1024 (pb t) (pk t) n x : ℝ) : EReal) := by
  unfold copy0
  rw [p15_at, blk3]
  exact hs _ _ _ _

theorem vs_real (n : Fin 2048) (x : Fin 128) : copy1 m c t (ix2 n x) = kvE (zA m c) 1536 (pb t) (pk t) n x := by
  unfold copy1
  rw [p16_at, blk4]
  rfl

include hw in
theorem kw_real (n : Fin 2048) (x : Fin 128) : copy2 m c t (ix2 n x) = ((kvR zr 2048 (pb t) (pk t) n x : ℝ) : EReal) := by
  unfold copy2
  rw [p17_at, blk5]
  exact hw _ _ _ _

theorem vw_real (n : Fin 2048) (x : Fin 128) : copy3 m c t (ix2 n x) = kvE (zA m c) 2560 (pb t) (pk t) n x := by
  unfold copy3
  rw [p18_at, blk6]
  rfl

theorem pos_eq (r : Fin 128) : (grid0.coords t 2).val * 128 + r.val = (pr t r).val := by
  show (grid0.coords t 2).val * 128 + r.val = t.val % 16 * 128 + r.val
  rw [coords2]

include hz in
theorem qs_real (r : Fin 128) (g : Fin 4) (x : Fin 128) : qAll (F := Ideal) (iblk m c 0 t) (ix2 (row g r) x)
    = ((qR zr (pb t) (pr t r) (pk t) g x : ℝ) : EReal) * (((Real.sqrt 128)⁻¹ * (Real.log 2)⁻¹ : ℝ) : EReal) := by
  unfold qAll
  rw [p19_at, q_real m c t zr hz]

include hz hk in
/-- The compressed branch. -/
theorem cmp_real (g : Fin 4) (r d : Fin 128) : oCmp (F := Ideal) (grid0.coords t) (iblk m c 0 t) (iblk m c 1 t) (iblk m c 2 t) (ix2 (row g r) d)
    = ∑ n : Fin 127, vA m c (ix3 (pb t) ⟨1 + n.val, by omega⟩ ⟨(pk t).val * 128 + d.val, by have := (pk t).isLt; omega⟩)
        * ((pC (qR zr (pb t) (pr t r) (pk t)) (pr t r).val (kcR kr (pb t) (pk t)) g n : ℝ) : EReal) := by
  rw [oCmp_at _ _ (fun r => qR zr (pb t) (pr t r) (pk t)) (kbR t kr) (q_real m c t zr hz) (kb_real m c t kr hk), pos_eq, kbR_succ]
  refine Finset.sum_congr rfl fun n _ => ?_
  rw [blk2]
  exact congrArg (fun y : EReal => y * _) (ix3_eq (vA m c) rfl (Fin.ext (by show n.val + 1 = 1 + n.val; omega)) rfl)

include hz hs hk in
/-- The selected branch. -/
theorem slc_real (g : Fin 4) (r d : Fin 128) :
    oSlc (F := Ideal) (grid0.coords t) (qAll (iblk m c 0 t)) (selM (grid0.coords t) (iblk m c 0 t) (iblk m c 1 t)) (copy0 m c t) (copy1 m c t) (ix2 (row g r) d)
    = mean (mS (qR zr (pb t) (pr t r) (pk t)) (pr t r).val (kcR kr (pb t) (pk t))) (fun n => score (qR zr (pb t) (pr t r) (pk t) g) (kvR zr 1024 (pb t) (pk t) n))
        (fun n => kvE (zA m c) 1536 (pb t) (pk t) n d) := by
  have h := oSlc_at (grid0.coords t) (qAll (F := Ideal) (iblk m c 0 t)) (selM (grid0.coords t) (iblk m c 0 t) (iblk m c 1 t)) (copy0 m c t) (copy1 m c t)
    (fun r => qR zr (pb t) (pr t r) (pk t)) (kvR zr 1024 (pb t) (pk t)) (kvE (zA m c) 1536 (pb t) (pk t))
    (fun r l => rank (bs (qR zr (pb t) (pr t r) (pk t)) ((grid0.coords t 2).val * 128 + r.val) (kcR kr (pb t) (pk t))) l < 16)
    (qs_real m c t zr hz)
    (fun r l => by
      rw [selM_at _ _ (fun r => qR zr (pb t) (pr t r) (pk t)) (kbR t kr) (fun r g x _ => q_real m c t zr hz r g x) (kb_real m c t kr hk), kbR_succ])
    (ks_real m c t zr hs) (vs_real m c t) g r d (mS_nonempty _ _ _)
  rw [h]
  exact congrArg (fun n : ℕ => mean (mS (qR zr (pb t) (pr t r) (pk t)) n (kcR kr (pb t) (pk t))) (fun n => score (qR zr (pb t) (pr t r) (pk t) g) (kvR zr 1024 (pb t) (pk t) n))
        (fun n => kvE (zA m c) 1536 (pb t) (pk t) n d)) (pos_eq t r)

include hz hw in
/-- The window branch. -/
theorem win_real (g : Fin 4) (r d : Fin 128) :
    oWin (F := Ideal) (grid0.coords t) (qAll (iblk m c 0 t)) (copy2 m c t) (copy3 m c t) (ix2 (row g r) d)
    = mean (mW (pr t r).val) (fun n => score (qR zr (pb t) (pr t r) (pk t) g) (kvR zr 2048 (pb t) (pk t) n))
        (fun n => kvE (zA m c) 2560 (pb t) (pk t) n d) := by
  rw [oWin_at (grid0.coords t) (qAll (F := Ideal) (iblk m c 0 t)) (copy2 m c t) (copy3 m c t)
    (fun r => qR zr (pb t) (pr t r) (pk t)) (kvR zr 2048 (pb t) (pk t)) (kvE (zA m c) 2560 (pb t) (pk t))
    (qs_real m c t zr hz) (kw_real m c t zr hw) (vw_real m c t) g r d]
  exact congrArg (fun n : ℕ => mean (mW n) (fun n => score (qR zr (pb t) (pr t r) (pk t) g) (kvR zr 2048 (pb t) (pk t) n))
        (fun n => kvE (zA m c) 2560 (pb t) (pk t) n d)) (pos_eq t r)

include hz hs hw hk in
/-- A point's block is the layer's attention. -/
theorem out_real (g : Fin 4) (r d : Fin 128) : outAt m c t (ix3 0 r ⟨g.val * 128 + d.val, by omega⟩)
    = spec (zA m c) zr (gA m c) kr (vA m c) (pb t) (pr t r) (pk t) g d := by
  unfold outAt outBlk
  rw [outPieces_at]
  unfold comb spec
  rw [cmp_real m c t zr kr hz hk, slc_real m c t zr kr hz hs hk, win_real m c t zr hz hw, blk7, blk7, blk7]

/-! The whole result. -/

/-- The reference's array, from the arguments as launched. -/
abbrev G (c : Dev nD) : Buf (Elt Ideal) ((c : Thread nD τ).loc main_v0) :=
  Cert.ReferenceIdeal.Read.val_main_v185 (F := Ideal) (zA m c) (gA m c) (kA m c) (vA m c)

include hz hs hw hk in
/-- What a point writes back is its block of the reference's array. -/
theorem flushed_eq : (dats m 0 c).flushed 8 t = ((cfg0.win 8).blk t).view.read (Elt Ideal) (G m c) := by
  show (cfg0.win 8).cut (grid0.coords t) ((dats m 0 c).after 8 t) = _
  rw [after0_8]
  refine funext fun (j : S1x128x512.Idx) => ?_
  have ht := lt_N t
  have e := idx_o t
  have h0 : (j 0).val < 1 := (j 0).isLt
  have h1 : (j 1).val < 128 := (j 1).isLt
  have h2 : (j 2).val < 512 := (j 2).isLt
  have hj : j = ix3 (n0 := 1) (n1 := 128) (n2 := 512) 0 (j 1) ⟨(j 2).val / 128 * 128 + (j 2).val % 128, by omega⟩ := by
    ext a
    match a with
    | ⟨0, _⟩ => show (j 0).val = 0; omega
    | ⟨1, _⟩ => rfl
    | ⟨2, _⟩ => show (j 2).val = (j 2).val / 128 * 128 + (j 2).val % 128; omega
  have hr : ((cfg0.win 8).blk t).view.read (Elt Ideal) (G m c) j
      = G m c (ix3 (pb t) (pr t (j 1)) ⟨(pk t).val * 512 + (j 2).val, by have := (pk t).isLt; omega⟩) := by
    refine congrArg (G m c) (funext fun a => Fin.ext ?_)
    match a with
    | ⟨0, _⟩ => show win0_8.index t 0 * 1 + 1 * (j 0).val = t.val / 64; rw [e.1]; omega
    | ⟨1, _⟩ => show win0_8.index t 1 * 128 + 1 * (j 1).val = t.val % 16 * 128 + (j 1).val; rw [e.2.1]; omega
    | ⟨2, _⟩ => show win0_8.index t 2 * 512 + 1 * (j 2).val = t.val / 16 % 4 * 512 + (j 2).val; rw [e.2.2]; omega
  rw [hr]
  show outAt m c t j = _
  refine (congrArg (outAt m c t) hj).trans ((out_real m c t zr kr hz hs hw hk ⟨(j 2).val / 128, by omega⟩ (j 1) ⟨(j 2).val % 128, by omega⟩).trans ?_)
  refine Eq.trans ?_ (v185_real (zA m c) (gA m c) (kA m c) (vA m c) zr kr hz hs hw hk _ _ _).symm
  have hp : (pk t).val < 4 := (pk t).isLt
  have a1 : (⟨((pk t).val * 512 + (j 2).val) / 512, by omega⟩ : Fin 4) = pk t := Fin.ext (by show ((pk t).val * 512 + (j 2).val) / 512 = (pk t).val; omega)
  have a2 : (⟨((pk t).val * 512 + (j 2).val) / 128 % 4, by omega⟩ : Fin 4) = ⟨(j 2).val / 128, by omega⟩ :=
    Fin.ext (by show ((pk t).val * 512 + (j 2).val) / 128 % 4 = (j 2).val / 128; omega)
  have a3 : (⟨((pk t).val * 512 + (j 2).val) % 128, by omega⟩ : Fin 128) = ⟨(j 2).val % 128, by omega⟩ :=
    Fin.ext (by show ((pk t).val * 512 + (j 2).val) % 128 = (j 2).val % 128; omega)
  rw [a1, a2, a3]

/-- An index of the result is in the block of a point. -/
theorem mem_blk (i : S4x2048x2048.Idx) :
    i ∈ ((cfg0.win 8).blk t).view.set ↔ ∀ a : Fin 3, win0_8.index t a * S1x128x512.size a ≤ (i a).val
      ∧ (i a).val < win0_8.index t a * S1x128x512.size a + S1x128x512.size a := by
  show i ∈ ((View.whole main_v0).slice (win0_8.rect t)).set ↔ _
  rw [View.set_slice_whole, Rect.mem_set_unit]
  exact Iff.rfl

theorem cover (i : S4x2048x2048.Idx) :
    ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 2048 := (i 2).isLt
  have hN : cfg0.N = 256 := N_0
  refine ⟨⟨(i 0).val * 64 + (i 2).val / 512 * 16 + (i 1).val / 128, by omega⟩, flush0_8 _, ?_⟩
  have e := idx_o ⟨(i 0).val * 64 + (i 2).val / 512 * 16 + (i 1).val / 128, by omega⟩
  rw [mem_blk]
  intro a
  match a with
  | ⟨0, _⟩ =>
    show win0_8.index _ 0 * 1 ≤ (i 0).val ∧ (i 0).val < win0_8.index _ 0 * 1 + 1
    rw [e.1]; dsimp only; omega
  | ⟨1, _⟩ =>
    show win0_8.index _ 1 * 128 ≤ (i 1).val ∧ (i 1).val < win0_8.index _ 1 * 128 + 128
    rw [e.2.1]; dsimp only; omega
  | ⟨2, _⟩ =>
    show win0_8.index _ 2 * 512 ≤ (i 2).val ∧ (i 2).val < win0_8.index _ 2 * 512 + 512
    rw [e.2.2]; dsimp only; omega

include hz hs hw hk in
/-- The result array ends holding the reference's. -/
theorem final : (dats m 0 c).arrAt 8 cfg0.N = G m c :=
  (dats m 0 c).arrAt_eq_of_cover 8 (G m c) (fun t _ => flushed_eq m c t zr kr hz hs hw hk) cover

end Cert.Attn

namespace Cert.Proof

open Idealize.ShloMosaic Idealize.SL.Sem

/-- The kernel and the reference leave the same array. -/
theorem algebraic_attn : Cert.algebraic_KernelIdeal_ReferenceIdeal_pre_finite (hKernelIdeal := Cert.KernelIdeal.Gen.facts)
    (hReferenceIdeal := Cert.ReferenceIdeal.Gen.facts) (hPre_finite := Cert.Attn.pre_facts) := by
  intro m ρ m' ρ' hpre hag
  refine ⟨fun c => Cert.Attn.G m c, ?_, ?_⟩
  · refine (θ_run Cert.KernelIdeal.defs _ _).mono (fun r h c => ?_)
      (θ_run_and (Cert.KernelIdeal.Gen.run_main (F := Ideal) m ρ) (Cert.KernelIdeal.Gen.unchanged (F := Ideal) m ρ))
    have p := Cert.Attn.pre_read (hPre := Cert.Attn.pre_facts) _ _ _ _ (hpre c)
    exact ⟨((h.1 c).1 8).trans (Cert.Attn.final m c _ _ p.1 p.2.1 p.2.2.1 p.2.2.2), h.2 c⟩
  · refine (θ_run Cert.ReferenceIdeal.defs _ _).mono
      (fun r h c => ⟨(h c).1.trans ((Cert.ReferenceIdeal.Read.val_main_v185_eq _).trans ?_), (h c).2⟩)
      (Cert.ReferenceIdeal.Value.run (F := Ideal) m' ρ')
    show Cert.ReferenceIdeal.Read.val_main_v185 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [(hag c).1, (hag c).2.1, (hag c).2.2.1, (hag c).2.2.2]

end Cert.Proof

end
-- ==== Proof.RowsKv.lean ====
/- The rows of the keys and values, laid out by head: what the launch leaves is the reference's. -/
module

public import proofs.«01_k».proof.Proof.Gen.KvRowsIdeal.Value
public import proofs.«01_k».proof.Proof.Gen.KvRowsReferenceIdeal.Read
public import Idealize.ShloMosaic.Lib.Pointwise
public import proofs.«01_k».proof.Defs
public import proofs.«01_k».proof.Proof.Gen.KvRows.Frame
public import proofs.«01_k».proof.Proof.Gen.KvRowsReferenceIdeal.Run
public import Idealize.ShloMosaic.Lib.Claim

@[expose] public section

noncomputable section

namespace Cert.KvRowsIdeal.Value

open Cert.KvRowsIdeal Cert.KvRowsIdeal.Gen Idealize.ShloMosaic Idealize.ShloMosaic.TcCoe Idealize.SL.Sem
open Idealize.ShloMosaic.Pipeline (Dat)

/-- The reference reads each head's columns of a row of its layer. -/
theorem ref_apply (x y : Vec Ideal S8192x9216 .f32) (l : Fin 2) (r : Fin 8192) (h : Fin 16) (d : Fin 128) :
    Cert.KvRowsReferenceIdeal.Read.val_main_v6 (F := Ideal) x y (ix4 l r h d)
      = if l.val < 1 then x (ix2 r ⟨6144 + (h.val * 128 + d.val), by omega⟩)
        else y (ix2 r ⟨6144 + (h.val * 128 + d.val), by omega⟩) := by
  pointwise [Cert.KvRowsReferenceIdeal.Read.val_main_v6, Cert.KvRowsReferenceIdeal.Read.val_main_v5, Cert.KvRowsReferenceIdeal.Read.val_main_v4, Cert.KvRowsReferenceIdeal.Read.val_main_v3, Cert.KvRowsReferenceIdeal.Read.val_main_v2, Cert.KvRowsReferenceIdeal.Read.val_main_v1, Cert.KvRowsReferenceIdeal.Read.val_main_v0]
  simp only [dite_eq_ite]

/-- A block of rows, laid out by head. -/
def lay (x : Vec Ideal S512x2048 .f32) : Vec Ideal S1x512x16x128 .f32 := fun i =>
  x (ix2 (i 1) ⟨(i 2).val * 128 + (i 3).val, by have h2 : (i 2).val < 16 := (i 2).isLt; have h3 : (i 3).val < 128 := (i 3).isLt; omega⟩)

/-- A head's columns, stored as that head's part of the block. -/
theorem piece (x0 : Vec Ideal S512x2048 .f32) (h o : Nat) (ho : o = h * 128)
    (p : ∀ a : Fin S512x2048.rank, (![0, o] : Fin 2 → Nat) a + (![512, 128] : Fin 2 → Nat) a ≤ S512x2048.size a)
    (q : ∀ a : Fin S1x512x16x128.rank, (![0, 0, h, 0] : Fin 4 → Nat) a + (![1, 512, 1, 128] : Fin 4 → Nat) a ≤ S1x512x16x128.size a)
    (y : S1x512x1x128.Idx) :
    shapeCast S1x512x1x128 (View.ld x0 (Rect.unit (s := S512x2048) ![0, o] ![512, 128] p) : Vec Ideal S512x128 .f32) shapeCasts_S512x128_S1x512x1x128 y
      = lay x0 ((Rect.unit (s := S1x512x16x128) ![0, 0, h, 0] ![1, 512, 1, 128] q).emb y) := by
  have h0 : (y 0).val < 1 := (y 0).isLt
  have h1 : (y 1).val < 512 := (y 1).isLt
  have h2 : (y 2).val < 1 := (y 2).isLt
  have h3 : (y 3).val < 128 := (y 3).isLt
  refine (shapeCast_apply _ _ y (ix2 (y 1) (y 3) : S512x128.Idx) ?_).trans ?_
  · rw [Shape.rowMajor_val_two, Shape.rowMajor_val_four]
    show (y 1).val * 128 + (y 3).val = (((y 0).val * 512 + (y 1).val) * 1 + (y 2).val) * 128 + (y 3).val
    omega
  · unfold lay
    refine congrArg x0 (funext fun a => Fin.ext ?_)
    match a with
    | ⟨0, _⟩ => show 0 + 1 * (y 1).val = 0 + 1 * (y 1).val; rfl
    | ⟨1, _⟩ => show o + 1 * (y 3).val = (h + 1 * (y 2).val) * 128 + (0 + 1 * (y 3).val); omega

/-- The block stored at a point of the first layer. -/
theorem outA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x512x16x128 .f32) (harg4 : arg4.IsWhole) (hc0 : cond0_0 i) (hc1 : ¬cond0_1 i)
    (x0 : Vec Ideal S512x2048 .f32) (x1 : Vec Ideal S512x2048 .f32) :
    out0_A_2 (F := Ideal) c i arg2 harg2 arg3 harg3 arg4 harg4 hc0 hc1 x0 x1 = lay x0 := by
  unfold out0_A_2
  rw [View.read_writes_eq_canon _ _ _ (cover0_A_2 c i arg2 harg2 arg3 harg3 arg4 harg4 hc0 hc1 x0 x1)]
  refine funext fun y => View.canon_apply_of_pieces (lay x0) _ ?_ y (cover0_A_2 c i arg2 harg2 arg3 harg3 arg4 harg4 hc0 hc1 x0 x1 y)
  unfold kernelRun0_A
  dsimp only
  sl_unfold_words
  simp only [View.readAt_eq_ld, harg2.read_unread]
  intro p hp
  rcases List.mem_cons.mp hp with rfl | hp
  · exact fun x => piece x0 15 1920 rfl inb_S512x2048_S512x128_0_1920 inb_S1x512x16x128_S1x512x1x128_0_0_15_0 x
  rcases List.mem_cons.mp hp with rfl | hp
  · exact fun x => piece x0 14 1792 rfl inb_S512x2048_S512x128_0_1792 inb_S1x512x16x128_S1x512x1x128_0_0_14_0 x
  rcases List.mem_cons.mp hp with rfl | hp
  · exact fun x => piece x0 13 1664 rfl inb_S512x2048_S512x128_0_1664 inb_S1x512x16x128_S1x512x1x128_0_0_13_0 x
  rcases List.mem_cons.mp hp with rfl | hp
  · exact fun x => piece x0 12 1536 rfl inb_S512x2048_S512x128_0_1536 inb_S1x512x16x128_S1x512x1x128_0_0_12_0 x
  rcases List.mem_cons.mp hp with rfl | hp
  · exact fun x => piece x0 11 1408 rfl inb_S512x2048_S512x128_0_1408 inb_S1x512x16x128_S1x512x1x128_0_0_11_0 x
  rcases List.mem_cons.mp hp with rfl | hp
  · exact fun x => piece x0 10 1280 rfl inb_S512x2048_S512x128_0_1280 inb_S1x512x16x128_S1x512x1x128_0_0_10_0 x
  rcases List.mem_cons.mp hp with rfl | hp
  · exact fun x => piece x0 9 1152 rfl inb_S512x2048_S512x128_0_1152 inb_S1x512x16x128_S1x512x1x128_0_0_9_0 x
  rcases List.mem_cons.mp hp with rfl | hp
  · exact fun x => piece x0 8 1024 rfl inb_S512x2048_S512x128_0_1024 inb_S1x512x16x128_S1x512x1x128_0_0_8_0 x
  rcases List.mem_cons.mp hp with rfl | hp
  · exact fun x => piece x0 7 896 rfl inb_S512x2048_S512x128_0_896 inb_S1x512x16x128_S1x512x1x128_0_0_7_0 x
  rcases List.mem_cons.mp hp with rfl | hp
  · exact fun x => piece x0 6 768 rfl inb_S512x2048_S512x128_0_768 inb_S1x512x16x128_S1x512x1x128_0_0_6_0 x
  rcases List.mem_cons.mp hp with rfl | hp
  · exact fun x => piece x0 5 640 rfl inb_S512x2048_S512x128_0_640 inb_S1x512x16x128_S1x512x1x128_0_0_5_0 x
  rcases List.mem_cons.mp hp with rfl | hp
  · exact fun x => piece x0 4 512 rfl inb_S512x2048_S512x128_0_512 inb_S1x512x16x128_S1x512x1x128_0_0_4_0 x
  rcases List.mem_cons.mp hp with rfl | hp
  · exact fun x => piece x0 3 384 rfl inb_S512x2048_S512x128_0_384 inb_S1x512x16x128_S1x512x1x128_0_0_3_0 x
  rcases List.mem_cons.mp hp with rfl | hp
  · exact fun x => piece x0 2 256 rfl inb_S512x2048_S512x128_0_256 inb_S1x512x16x128_S1x512x1x128_0_0_2_0 x
  rcases List.mem_cons.mp hp with rfl | hp
  · exact fun x => piece x0 1 128 rfl inb_S512x2048_S512x128_0_128 inb_S1x512x16x128_S1x512x1x128_0_0_1_0 x
  rcases List.mem_cons.mp hp with rfl | hp
  · exact fun x => piece x0 0 0 rfl inb_S512x2048_S512x128_0_0 inb_S1x512x16x128_S1x512x1x128_0_0_0_0 x
  nomatch hp

/-- The block stored at a point of the second layer. -/
theorem outB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x512x16x128 .f32) (harg4 : arg4.IsWhole) (hc0 : ¬cond0_0 i) (hc1 : cond0_1 i)
    (x0 : Vec Ideal S512x2048 .f32) (x1 : Vec Ideal S512x2048 .f32) :
    out0_B_2 (F := Ideal) c i arg2 harg2 arg3 harg3 arg4 harg4 hc0 hc1 x0 x1 = lay x1 := by
  unfold out0_B_2
  rw [View.read_writes_eq_canon _ _ _ (cover0_B_2 c i arg2 harg2 arg3 harg3 arg4 harg4 hc0 hc1 x0 x1)]
  refine funext fun y => View.canon_apply_of_pieces (lay x1) _ ?_ y (cover0_B_2 c i arg2 harg2 arg3 harg3 arg4 harg4 hc0 hc1 x0 x1 y)
  unfold kernelRun0_B
  dsimp only
  sl_unfold_words
  simp only [View.readAt_eq_ld, harg3.read_unread]
  intro p hp
  rcases List.mem_cons.mp hp with rfl | hp
  · exact fun x => piece x1 15 1920 rfl inb_S512x2048_S512x128_0_1920 inb_S1x512x16x128_S1x512x1x128_0_0_15_0 x
  rcases List.mem_cons.mp hp with rfl | hp
  · exact fun x => piece x1 14 1792 rfl inb_S512x2048_S512x128_0_1792 inb_S1x512x16x128_S1x512x1x128_0_0_14_0 x
  rcases List.mem_cons.mp hp with rfl | hp
  · exact fun x => piece x1 13 1664 rfl inb_S512x2048_S512x128_0_1664 inb_S1x512x16x128_S1x512x1x128_0_0_13_0 x
  rcases List.mem_cons.mp hp with rfl | hp
  · exact fun x => piece x1 12 1536 rfl inb_S512x2048_S512x128_0_1536 inb_S1x512x16x128_S1x512x1x128_0_0_12_0 x
  rcases List.mem_cons.mp hp with rfl | hp
  · exact fun x => piece x1 11 1408 rfl inb_S512x2048_S512x128_0_1408 inb_S1x512x16x128_S1x512x1x128_0_0_11_0 x
  rcases List.mem_cons.mp hp with rfl | hp
  · exact fun x => piece x1 10 1280 rfl inb_S512x2048_S512x128_0_1280 inb_S1x512x16x128_S1x512x1x128_0_0_10_0 x
  rcases List.mem_cons.mp hp with rfl | hp
  · exact fun x => piece x1 9 1152 rfl inb_S512x2048_S512x128_0_1152 inb_S1x512x16x128_S1x512x1x128_0_0_9_0 x
  rcases List.mem_cons.mp hp with rfl | hp
  · exact fun x => piece x1 8 1024 rfl inb_S512x2048_S512x128_0_1024 inb_S1x512x16x128_S1x512x1x128_0_0_8_0 x
  rcases List.mem_cons.mp hp with rfl | hp
  · exact fun x => piece x1 7 896 rfl inb_S512x2048_S512x128_0_896 inb_S1x512x16x128_S1x512x1x128_0_0_7_0 x
  rcases List.mem_cons.mp hp with rfl | hp
  · exact fun x => piece x1 6 768 rfl inb_S512x2048_S512x128_0_768 inb_S1x512x16x128_S1x512x1x128_0_0_6_0 x
  rcases List.mem_cons.mp hp with rfl | hp
  · exact fun x => piece x1 5 640 rfl inb_S512x2048_S512x128_0_640 inb_S1x512x16x128_S1x512x1x128_0_0_5_0 x
  rcases List.mem_cons.mp hp with rfl | hp
  · exact fun x => piece x1 4 512 rfl inb_S512x2048_S512x128_0_512 inb_S1x512x16x128_S1x512x1x128_0_0_4_0 x
  rcases List.mem_cons.mp hp with rfl | hp
  · exact fun x => piece x1 3 384 rfl inb_S512x2048_S512x128_0_384 inb_S1x512x16x128_S1x512x1x128_0_0_3_0 x
  rcases List.mem_cons.mp hp with rfl | hp
  · exact fun x => piece x1 2 256 rfl inb_S512x2048_S512x128_0_256 inb_S1x512x16x128_S1x512x1x128_0_0_2_0 x
  rcases List.mem_cons.mp hp with rfl | hp
  · exact fun x => piece x1 1 128 rfl inb_S512x2048_S512x128_0_128 inb_S1x512x16x128_S1x512x1x128_0_0_1_0 x
  rcases List.mem_cons.mp hp with rfl | hp
  · exact fun x => piece x1 0 0 rfl inb_S512x2048_S512x128_0_0 inb_S1x512x16x128_S1x512x1x128_0_0_0_0 x
  nomatch hp

variable (m : (ℓ : Loc nD τ sig) → Buf (Elt Ideal) ℓ) (ρ : Dev nD → PrngReg)

/-- The reference's array, from the arguments as launched. -/
abbrev G (c : Dev nD) : Buf (Elt Ideal) ((c : Thread nD τ).loc main_v0) :=
  Cert.KvRowsReferenceIdeal.Read.val_main_v6 (F := Ideal) (m ((c : Thread nD τ).loc main_arg0)) (m ((c : Thread nD τ).loc main_arg1))

/-- Where the blocks of a point lie. -/
theorem idx_facts : ∀ t : Fin cfg0.N, (t.val < 16 → win0_0.index t 0 = t.val % 16 ∧ win0_0.index t 1 = 3)
    ∧ (16 ≤ t.val → win0_1.index t 0 = t.val % 16 ∧ win0_1.index t 1 = 3)
    ∧ (win0_2.index t 0 = t.val / 16 ∧ win0_2.index t 1 = t.val % 16 ∧ win0_2.index t 2 = 0 ∧ win0_2.index t 3 = 0) :=
  (by decide +kernel : ∀ t : Fin grid0.N, (t.val < 16 → win0_0.index t 0 = t.val % 16 ∧ win0_0.index t 1 = 3)
    ∧ (16 ≤ t.val → win0_1.index t 0 = t.val % 16 ∧ win0_1.index t 1 = 3)
    ∧ (win0_2.index t 0 = t.val / 16 ∧ win0_2.index t 1 = t.val % 16 ∧ win0_2.index t 2 = 0 ∧ win0_2.index t 3 = 0))

theorem lt_N (t : Fin cfg0.N) : t.val < 32 := Nat.lt_of_lt_of_eq t.isLt N_0

/-- The rows of the first layer. -/
theorem blk0 (c : Dev nD) (t : Fin cfg0.N) (hl : t.val < 16) (r : Fin 512) (k : Fin 2048) :
    (X0_0 m c t : Vec Ideal S512x2048 .f32) (ix2 r k)
      = (m ((c : Thread nD τ).loc main_arg0) : Vec Ideal S8192x9216 .f32) (ix2 ⟨(t.val % 16) * 512 + r.val, by have := lt_N t; have := r.isLt; omega⟩ ⟨6144 + k.val, by have := k.isLt; omega⟩) := by
  have e := (idx_facts t).1 hl
  unfold X0_0 Pipeline.Window.fill
  rw [dif_pos (moved0_0 t _)]
  refine (congrFun (V_main_arg0 m c) _).trans (congrArg (m ((c : Thread nD τ).loc main_arg0)) (funext fun a => Fin.ext ?_))
  match a with
  | ⟨0, _⟩ => show win0_0.index t 0 * 512 + 1 * r.val = (t.val % 16) * 512 + r.val; rw [e.1]; omega
  | ⟨1, _⟩ => show win0_0.index t 1 * 2048 + 1 * k.val = 6144 + k.val; rw [e.2]; omega

/-- The rows of the second layer. -/
theorem blk1 (c : Dev nD) (t : Fin cfg0.N) (hl : 16 ≤ t.val) (r : Fin 512) (k : Fin 2048) :
    (X0_1 m c t : Vec Ideal S512x2048 .f32) (ix2 r k)
      = (m ((c : Thread nD τ).loc main_arg1) : Vec Ideal S8192x9216 .f32) (ix2 ⟨(t.val % 16) * 512 + r.val, by have := lt_N t; have := r.isLt; omega⟩ ⟨6144 + k.val, by have := k.isLt; omega⟩) := by
  have e := (idx_facts t).2.1 hl
  unfold X0_1 Pipeline.Window.fill
  rw [dif_pos (moved0_1 t _)]
  refine (congrFun (V_main_arg1 m c) _).trans (congrArg (m ((c : Thread nD τ).loc main_arg1)) (funext fun a => Fin.ext ?_))
  match a with
  | ⟨0, _⟩ => show win0_1.index t 0 * 512 + 1 * r.val = (t.val % 16) * 512 + r.val; rw [e.1]; omega
  | ⟨1, _⟩ => show win0_1.index t 1 * 2048 + 1 * k.val = 6144 + k.val; rw [e.2]; omega

/-- A point's block of the reference's array. -/
theorem read_G (c : Dev nD) (t : Fin cfg0.N) (j : S1x512x16x128.Idx) :
    ((cfg0.win 2).blk t).view.read (Elt Ideal) (G m c) j
      = G m c (ix4 ⟨t.val / 16, by have := lt_N t; omega⟩ ⟨t.val % 16 * 512 + (j 1).val, by have h : (j 1).val < 512 := (j 1).isLt; omega⟩ (j 2) (j 3)) := by
  have e := (idx_facts t).2.2
  have h0 : (j 0).val < 1 := (j 0).isLt
  refine congrArg (G m c) (funext fun a => Fin.ext ?_)
  match a with
  | ⟨0, _⟩ => show win0_2.index t 0 * 1 + 1 * (j 0).val = t.val / 16; rw [e.1]; omega
  | ⟨1, _⟩ => show win0_2.index t 1 * 512 + 1 * (j 1).val = t.val % 16 * 512 + (j 1).val; rw [e.2.1]; omega
  | ⟨2, _⟩ => show win0_2.index t 2 * 16 + 1 * (j 2).val = (j 2).val; rw [e.2.2.1]; omega
  | ⟨3, _⟩ => show win0_2.index t 3 * 128 + 1 * (j 3).val = (j 3).val; rw [e.2.2.2]; omega

/-- What a point writes back is its block of the reference's array. -/
theorem flushed_eq (c : Dev nD) (t : Fin cfg0.N) :
    (dats m 0 c).flushed 2 t = ((cfg0.win 2).blk t).view.read (Elt Ideal) (G m c) := by
  have ht := lt_N t
  by_cases hl : t.val < 16
  · rw [flushed2_A m c t hl (by omega), outA]
    refine funext fun (j : S1x512x16x128.Idx) => ?_
    have h1 : (j 1).val < 512 := (j 1).isLt
    have h2 : (j 2).val < 16 := (j 2).isLt
    have h3 : (j 3).val < 128 := (j 3).isLt
    rw [read_G]
    show lay (X0_0 m c t) j = _
    refine ((blk0 m c t hl _ _).trans ?_).trans (ref_apply _ _ _ _ _ _).symm
    rw [if_pos (show t.val / 16 < 1 by omega)]
  · rw [flushed2_B m c t hl (by omega), outB]
    refine funext fun (j : S1x512x16x128.Idx) => ?_
    have h1 : (j 1).val < 512 := (j 1).isLt
    have h2 : (j 2).val < 16 := (j 2).isLt
    have h3 : (j 3).val < 128 := (j 3).isLt
    rw [read_G]
    show lay (X0_1 m c t) j = _
    refine ((blk1 m c t (by omega) _ _).trans ?_).trans (ref_apply _ _ _ _ _ _).symm
    rw [if_neg (show ¬t.val / 16 < 1 by omega)]

/-- An index of the result is in the block of a point. -/
theorem mem_blk (t : Fin cfg0.N) (i : S2x8192x16x128.Idx) :
    i ∈ ((cfg0.win 2).blk t).view.set ↔ ∀ a : Fin 4, win0_2.index t a * S1x512x16x128.size a ≤ (i a).val
      ∧ (i a).val < win0_2.index t a * S1x512x16x128.size a + S1x512x16x128.size a := by
  show i ∈ ((View.whole main_v0).slice (win0_2.rect t)).set ↔ _
  rw [View.set_slice_whole, Rect.mem_set_unit]
  exact Iff.rfl

theorem cover (i : S2x8192x16x128.Idx) :
    ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 16 := (i 2).isLt
  have h3 : (i 3).val < 128 := (i 3).isLt
  have hN : cfg0.N = 32 := N_0
  refine ⟨⟨(i 0).val * 16 + (i 1).val / 512, by omega⟩, flush0_2 _, ?_⟩
  have e := (idx_facts ⟨(i 0).val * 16 + (i 1).val / 512, by omega⟩).2.2
  rw [mem_blk]
  intro a
  match a with
  | ⟨0, _⟩ =>
    show win0_2.index _ 0 * 1 ≤ (i 0).val ∧ (i 0).val < win0_2.index _ 0 * 1 + 1
    rw [e.1]; dsimp only; omega
  | ⟨1, _⟩ =>
    show win0_2.index _ 1 * 512 ≤ (i 1).val ∧ (i 1).val < win0_2.index _ 1 * 512 + 512
    rw [e.2.1]; dsimp only; omega
  | ⟨2, _⟩ =>
    show win0_2.index _ 2 * 16 ≤ (i 2).val ∧ (i 2).val < win0_2.index _ 2 * 16 + 16
    rw [e.2.2.1]; omega
  | ⟨3, _⟩ =>
    show win0_2.index _ 3 * 128 ≤ (i 3).val ∧ (i 3).val < win0_2.index _ 3 * 128 + 128
    rw [e.2.2.2]; omega

/-- The result array ends holding the reference's. -/
theorem final (c : Dev nD) : (dats m 0 c).arrAt 2 cfg0.N = G m c :=
  (dats m 0 c).arrAt_eq_of_cover 2 (G m c) (fun t _ => flushed_eq m c t) cover

end Cert.KvRowsIdeal.Value

namespace Cert.Proof

open Idealize.ShloMosaic Idealize.SL.Sem

/-- The launch on machine words: it ends, its arguments unchanged, every counter at zero. -/
theorem frame_kv : Cert.quiescent_KvRows (hKvRows := Cert.KvRows.Gen.facts) := fun m ρ _ => Cert.KvRows.Gen.frame (F := Bits) m ρ
theorem frame_kvIdeal : Cert.quiescent_KvRowsIdeal (hKvRowsIdeal := Cert.KvRowsIdeal.Gen.facts) := fun m ρ _ => Cert.KvRowsIdeal.Gen.frame (F := Ideal) m ρ
theorem frame_kvReference : Cert.quiescent_KvRowsReferenceIdeal (hKvRowsReferenceIdeal := Cert.KvRowsReferenceIdeal.Gen.facts) := fun m ρ _ =>
  (θ_run Cert.KvRowsReferenceIdeal.defs _ _).mono (fun r h => ⟨fun c => (h c).2,
      Idealize.ShloMosaic.sem_eq_zero_of_no_sems (by decide) r.2⟩)
    (Cert.KvRowsReferenceIdeal.Value.run (F := Ideal) m ρ)

/-- The launch and the reference leave the same array. -/
theorem algebraic_kv : Cert.algebraic_KvRowsIdeal_KvRowsReferenceIdeal (hKvRowsIdeal := Cert.KvRowsIdeal.Gen.facts)
    (hKvRowsReferenceIdeal := Cert.KvRowsReferenceIdeal.Gen.facts) := by
  intro m ρ m' ρ' _ hag
  refine ⟨fun c => Cert.KvRowsIdeal.Value.G m c, ?_, ?_⟩
  · exact (θ_run Cert.KvRowsIdeal.defs _ _).mono
      (fun r h c => ⟨(h c).1.trans (Cert.KvRowsIdeal.Value.final m c), (h c).2⟩) (Cert.KvRowsIdeal.Value.run_blocks (F := Ideal) m ρ)
  · refine (θ_run Cert.KvRowsReferenceIdeal.defs _ _).mono
      (fun r h c => ⟨(h c).1.trans ((Cert.KvRowsReferenceIdeal.Read.val_main_v6_eq _ _ ).trans ?_), (h c).2⟩)
      (Cert.KvRowsReferenceIdeal.Value.run (F := Ideal) m' ρ')
    rw [(hag c).1, (hag c).2]

end Cert.Proof

end
-- ==== Proof.RowsWin.lean ====
/- The last rows of the window, laid out by head: what the launch leaves is the reference's. -/
module

public import proofs.«01_k».proof.Proof.Gen.WinRowsIdeal.Value
public import proofs.«01_k».proof.Proof.Gen.WinRowsReferenceIdeal.Read
public import Idealize.ShloMosaic.Lib.Pointwise
public import proofs.«01_k».proof.Defs
public import proofs.«01_k».proof.Proof.Gen.WinRows.Frame
public import proofs.«01_k».proof.Proof.Gen.WinRowsReferenceIdeal.Run
public import Idealize.ShloMosaic.Lib.Claim

@[expose] public section

noncomputable section

namespace Cert.WinRowsIdeal.Value

open Cert.WinRowsIdeal Cert.WinRowsIdeal.Gen Idealize.ShloMosaic Idealize.ShloMosaic.TcCoe Idealize.SL.Sem
open Idealize.ShloMosaic.Pipeline (Dat)

/-- The reference reads each head's columns of a row of its layer. -/
theorem ref_apply (x y : Vec Ideal S8192x9216 .f32) (l : Fin 2) (r : Fin 2048) (h : Fin 8) (d : Fin 128) :
    Cert.WinRowsReferenceIdeal.Read.val_main_v8 (F := Ideal) x y (ix4 l r h d)
      = if l.val < 1 then x (ix2 ⟨r.val / 512 * 2048 + (1536 + r.val % 512), by omega⟩ ⟨8192 + (h.val * 128 + d.val), by omega⟩)
        else y (ix2 ⟨r.val / 512 * 2048 + (1536 + r.val % 512), by omega⟩ ⟨8192 + (h.val * 128 + d.val), by omega⟩) := by
  pointwise [Cert.WinRowsReferenceIdeal.Read.val_main_v8, Cert.WinRowsReferenceIdeal.Read.val_main_v7, Cert.WinRowsReferenceIdeal.Read.val_main_v6, Cert.WinRowsReferenceIdeal.Read.val_main_v5, Cert.WinRowsReferenceIdeal.Read.val_main_v4, Cert.WinRowsReferenceIdeal.Read.val_main_v3, Cert.WinRowsReferenceIdeal.Read.val_main_v2, Cert.WinRowsReferenceIdeal.Read.val_main_v1, Cert.WinRowsReferenceIdeal.Read.val_main_v0]
  simp only [dite_eq_ite]

/-- A block of rows, laid out by head. -/
def lay (x : Vec Ideal S512x1024 .f32) : Vec Ideal S1x512x8x128 .f32 := fun i =>
  x (ix2 (i 1) ⟨(i 2).val * 128 + (i 3).val, by have h2 : (i 2).val < 8 := (i 2).isLt; have h3 : (i 3).val < 128 := (i 3).isLt; omega⟩)

/-- A head's columns, stored as that head's part of the block. -/
theorem piece (x0 : Vec Ideal S512x1024 .f32) (h o : Nat) (ho : o = h * 128)
    (p : ∀ a : Fin S512x1024.rank, (![0, o] : Fin 2 → Nat) a + (![512, 128] : Fin 2 → Nat) a ≤ S512x1024.size a)
    (q : ∀ a : Fin S1x512x8x128.rank, (![0, 0, h, 0] : Fin 4 → Nat) a + (![1, 512, 1, 128] : Fin 4 → Nat) a ≤ S1x512x8x128.size a)
    (y : S1x512x1x128.Idx) :
    shapeCast S1x512x1x128 (View.ld x0 (Rect.unit (s := S512x1024) ![0, o] ![512, 128] p) : Vec Ideal S512x128 .f32) shapeCasts_S512x128_S1x512x1x128 y
      = lay x0 ((Rect.unit (s := S1x512x8x128) ![0, 0, h, 0] ![1, 512, 1, 128] q).emb y) := by
  have h0 : (y 0).val < 1 := (y 0).isLt
  have h1 : (y 1).val < 512 := (y 1).isLt
  have h2 : (y 2).val < 1 := (y 2).isLt
  have h3 : (y 3).val < 128 := (y 3).isLt
  refine (shapeCast_apply _ _ y (ix2 (y 1) (y 3) : S512x128.Idx) ?_).trans ?_
  · rw [Shape.rowMajor_val_two, Shape.rowMajor_val_four]
    show (y 1).val * 128 + (y 3).val = (((y 0).val * 512 + (y 1).val) * 1 + (y 2).val) * 128 + (y 3).val
    omega
  · unfold lay
    refine congrArg x0 (funext fun a => Fin.ext ?_)
    match a with
    | ⟨0, _⟩ => show 0 + 1 * (y 1).val = 0 + 1 * (y 1).val; rfl
    | ⟨1, _⟩ => show o + 1 * (y 3).val = (h + 1 * (y 2).val) * 128 + (0 + 1 * (y 3).val); omega

/-- The block stored at a point of the first layer. -/
theorem outA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x512x8x128 .f32) (harg4 : arg4.IsWhole) (hc0 : cond0_0 i) (hc1 : ¬cond0_1 i)
    (x0 : Vec Ideal S512x1024 .f32) (x1 : Vec Ideal S512x1024 .f32) :
    out0_A_2 (F := Ideal) c i arg2 harg2 arg3 harg3 arg4 harg4 hc0 hc1 x0 x1 = lay x0 := by
  unfold out0_A_2
  rw [View.read_writes_eq_canon _ _ _ (cover0_A_2 c i arg2 harg2 arg3 harg3 arg4 harg4 hc0 hc1 x0 x1)]
  refine funext fun y => View.canon_apply_of_pieces (lay x0) _ ?_ y (cover0_A_2 c i arg2 harg2 arg3 harg3 arg4 harg4 hc0 hc1 x0 x1 y)
  unfold kernelRun0_A
  dsimp only
  sl_unfold_words
  simp only [View.readAt_eq_ld, harg2.read_unread]
  intro p hp
  rcases List.mem_cons.mp hp with rfl | hp
  · exact fun x => piece x0 7 896 rfl inb_S512x1024_S512x128_0_896 inb_S1x512x8x128_S1x512x1x128_0_0_7_0 x
  rcases List.mem_cons.mp hp with rfl | hp
  · exact fun x => piece x0 6 768 rfl inb_S512x1024_S512x128_0_768 inb_S1x512x8x128_S1x512x1x128_0_0_6_0 x
  rcases List.mem_cons.mp hp with rfl | hp
  · exact fun x => piece x0 5 640 rfl inb_S512x1024_S512x128_0_640 inb_S1x512x8x128_S1x512x1x128_0_0_5_0 x
  rcases List.mem_cons.mp hp with rfl | hp
  · exact fun x => piece x0 4 512 rfl inb_S512x1024_S512x128_0_512 inb_S1x512x8x128_S1x512x1x128_0_0_4_0 x
  rcases List.mem_cons.mp hp with rfl | hp
  · exact fun x => piece x0 3 384 rfl inb_S512x1024_S512x128_0_384 inb_S1x512x8x128_S1x512x1x128_0_0_3_0 x
  rcases List.mem_cons.mp hp with rfl | hp
  · exact fun x => piece x0 2 256 rfl inb_S512x1024_S512x128_0_256 inb_S1x512x8x128_S1x512x1x128_0_0_2_0 x
  rcases List.mem_cons.mp hp with rfl | hp
  · exact fun x => piece x0 1 128 rfl inb_S512x1024_S512x128_0_128 inb_S1x512x8x128_S1x512x1x128_0_0_1_0 x
  rcases List.mem_cons.mp hp with rfl | hp
  · exact fun x => piece x0 0 0 rfl inb_S512x1024_S512x128_0_0 inb_S1x512x8x128_S1x512x1x128_0_0_0_0 x
  nomatch hp

/-- The block stored at a point of the second layer. -/
theorem outB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x512x8x128 .f32) (harg4 : arg4.IsWhole) (hc0 : ¬cond0_0 i) (hc1 : cond0_1 i)
    (x0 : Vec Ideal S512x1024 .f32) (x1 : Vec Ideal S512x1024 .f32) :
    out0_B_2 (F := Ideal) c i arg2 harg2 arg3 harg3 arg4 harg4 hc0 hc1 x0 x1 = lay x1 := by
  unfold out0_B_2
  rw [View.read_writes_eq_canon _ _ _ (cover0_B_2 c i arg2 harg2 arg3 harg3 arg4 harg4 hc0 hc1 x0 x1)]
  refine funext fun y => View.canon_apply_of_pieces (lay x1) _ ?_ y (cover0_B_2 c i arg2 harg2 arg3 harg3 arg4 harg4 hc0 hc1 x0 x1 y)
  unfold kernelRun0_B
  dsimp only
  sl_unfold_words
  simp only [View.readAt_eq_ld, harg3.read_unread]
  intro p hp
  rcases List.mem_cons.mp hp with rfl | hp
  · exact fun x => piece x1 7 896 rfl inb_S512x1024_S512x128_0_896 inb_S1x512x8x128_S1x512x1x128_0_0_7_0 x
  rcases List.mem_cons.mp hp with rfl | hp
  · exact fun x => piece x1 6 768 rfl inb_S512x1024_S512x128_0_768 inb_S1x512x8x128_S1x512x1x128_0_0_6_0 x
  rcases List.mem_cons.mp hp with rfl | hp
  · exact fun x => piece x1 5 640 rfl inb_S512x1024_S512x128_0_640 inb_S1x512x8x128_S1x512x1x128_0_0_5_0 x
  rcases List.mem_cons.mp hp with rfl | hp
  · exact fun x => piece x1 4 512 rfl inb_S512x1024_S512x128_0_512 inb_S1x512x8x128_S1x512x1x128_0_0_4_0 x
  rcases List.mem_cons.mp hp with rfl | hp
  · exact fun x => piece x1 3 384 rfl inb_S512x1024_S512x128_0_384 inb_S1x512x8x128_S1x512x1x128_0_0_3_0 x
  rcases List.mem_cons.mp hp with rfl | hp
  · exact fun x => piece x1 2 256 rfl inb_S512x1024_S512x128_0_256 inb_S1x512x8x128_S1x512x1x128_0_0_2_0 x
  rcases List.mem_cons.mp hp with rfl | hp
  · exact fun x => piece x1 1 128 rfl inb_S512x1024_S512x128_0_128 inb_S1x512x8x128_S1x512x1x128_0_0_1_0 x
  rcases List.mem_cons.mp hp with rfl | hp
  · exact fun x => piece x1 0 0 rfl inb_S512x1024_S512x128_0_0 inb_S1x512x8x128_S1x512x1x128_0_0_0_0 x
  nomatch hp

variable (m : (ℓ : Loc nD τ sig) → Buf (Elt Ideal) ℓ) (ρ : Dev nD → PrngReg)

/-- The reference's array, from the arguments as launched. -/
abbrev G (c : Dev nD) : Buf (Elt Ideal) ((c : Thread nD τ).loc main_v0) :=
  Cert.WinRowsReferenceIdeal.Read.val_main_v8 (F := Ideal) (m ((c : Thread nD τ).loc main_arg0)) (m ((c : Thread nD τ).loc main_arg1))

/-- Where the blocks of a point lie. -/
theorem idx_facts : ∀ t : Fin cfg0.N, (t.val < 4 → win0_0.index t 0 = t.val % 4 * 4 + 3 ∧ win0_0.index t 1 = 8)
    ∧ (4 ≤ t.val → win0_1.index t 0 = t.val % 4 * 4 + 3 ∧ win0_1.index t 1 = 8)
    ∧ (win0_2.index t 0 = t.val / 4 ∧ win0_2.index t 1 = t.val % 4 ∧ win0_2.index t 2 = 0 ∧ win0_2.index t 3 = 0) :=
  (by decide +kernel : ∀ t : Fin grid0.N, (t.val < 4 → win0_0.index t 0 = t.val % 4 * 4 + 3 ∧ win0_0.index t 1 = 8)
    ∧ (4 ≤ t.val → win0_1.index t 0 = t.val % 4 * 4 + 3 ∧ win0_1.index t 1 = 8)
    ∧ (win0_2.index t 0 = t.val / 4 ∧ win0_2.index t 1 = t.val % 4 ∧ win0_2.index t 2 = 0 ∧ win0_2.index t 3 = 0))

theorem lt_N (t : Fin cfg0.N) : t.val < 8 := Nat.lt_of_lt_of_eq t.isLt N_0

/-- The rows of the first layer. -/
theorem blk0 (c : Dev nD) (t : Fin cfg0.N) (hl : t.val < 4) (r : Fin 512) (k : Fin 1024) :
    (iblk m c 0 t : Vec Ideal S512x1024 .f32) (ix2 r k)
      = (m ((c : Thread nD τ).loc main_arg0) : Vec Ideal S8192x9216 .f32) (ix2 ⟨(t.val % 4 * 4 + 3) * 512 + r.val, by have := lt_N t; have := r.isLt; omega⟩ ⟨8192 + k.val, by have := k.isLt; omega⟩) := by
  have e := (idx_facts t).1 hl
  refine (congrFun (V_main_arg0 m c) _).trans (congrArg (m ((c : Thread nD τ).loc main_arg0)) (funext fun a => Fin.ext ?_))
  match a with
  | ⟨0, _⟩ => show win0_0.index t 0 * 512 + 1 * r.val = (t.val % 4 * 4 + 3) * 512 + r.val; rw [e.1]; omega
  | ⟨1, _⟩ => show win0_0.index t 1 * 1024 + 1 * k.val = 8192 + k.val; rw [e.2]; omega

/-- The rows of the second layer. -/
theorem blk1 (c : Dev nD) (t : Fin cfg0.N) (hl : 4 ≤ t.val) (r : Fin 512) (k : Fin 1024) :
    (iblk m c 1 t : Vec Ideal S512x1024 .f32) (ix2 r k)
      = (m ((c : Thread nD τ).loc main_arg1) : Vec Ideal S8192x9216 .f32) (ix2 ⟨(t.val % 4 * 4 + 3) * 512 + r.val, by have := lt_N t; have := r.isLt; omega⟩ ⟨8192 + k.val, by have := k.isLt; omega⟩) := by
  have e := (idx_facts t).2.1 hl
  refine (congrFun (V_main_arg1 m c) _).trans (congrArg (m ((c : Thread nD τ).loc main_arg1)) (funext fun a => Fin.ext ?_))
  match a with
  | ⟨0, _⟩ => show win0_1.index t 0 * 512 + 1 * r.val = (t.val % 4 * 4 + 3) * 512 + r.val; rw [e.1]; omega
  | ⟨1, _⟩ => show win0_1.index t 1 * 1024 + 1 * k.val = 8192 + k.val; rw [e.2]; omega

/-- A point's block of the reference's array. -/
theorem read_G (c : Dev nD) (t : Fin cfg0.N) (j : S1x512x8x128.Idx) :
    ((cfg0.win 2).blk t).view.read (Elt Ideal) (G m c) j
      = G m c (ix4 ⟨t.val / 4, by have := lt_N t; omega⟩ ⟨t.val % 4 * 512 + (j 1).val, by have h : (j 1).val < 512 := (j 1).isLt; omega⟩ (j 2) (j 3)) := by
  have e := (idx_facts t).2.2
  have h0 : (j 0).val < 1 := (j 0).isLt
  refine congrArg (G m c) (funext fun a => Fin.ext ?_)
  match a with
  | ⟨0, _⟩ => show win0_2.index t 0 * 1 + 1 * (j 0).val = t.val / 4; rw [e.1]; omega
  | ⟨1, _⟩ => show win0_2.index t 1 * 512 + 1 * (j 1).val = t.val % 4 * 512 + (j 1).val; rw [e.2.1]; omega
  | ⟨2, _⟩ => show win0_2.index t 2 * 8 + 1 * (j 2).val = (j 2).val; rw [e.2.2.1]; omega
  | ⟨3, _⟩ => show win0_2.index t 3 * 128 + 1 * (j 3).val = (j 3).val; rw [e.2.2.2]; omega

/-- What a point writes back is its block of the reference's array. -/
theorem flushed_eq (c : Dev nD) (t : Fin cfg0.N) :
    (dats m 0 c).flushed 2 t = ((cfg0.win 2).blk t).view.read (Elt Ideal) (G m c) := by
  have ht := lt_N t
  by_cases hl : t.val < 4
  · rw [flushed2_A m c t hl (by omega), outA]
    refine funext fun (j : S1x512x8x128.Idx) => ?_
    have h1 : (j 1).val < 512 := (j 1).isLt
    have h2 : (j 2).val < 8 := (j 2).isLt
    have h3 : (j 3).val < 128 := (j 3).isLt
    rw [read_G]
    show lay (iblk m c 0 t) j = _
    refine ((blk0 m c t hl _ _).trans ?_).trans (ref_apply _ _ _ _ _ _).symm
    rw [if_pos (show t.val / 4 < 1 by omega)]
    refine congrArg (m ((c : Thread nD τ).loc main_arg0)) (funext fun a => Fin.ext ?_)
    match a with
    | ⟨0, _⟩ => show (t.val % 4 * 4 + 3) * 512 + (j 1).val = (t.val % 4 * 512 + (j 1).val) / 512 * 2048 + (1536 + (t.val % 4 * 512 + (j 1).val) % 512); omega
    | ⟨1, _⟩ => rfl
  · rw [flushed2_B m c t hl (by omega), outB]
    refine funext fun (j : S1x512x8x128.Idx) => ?_
    have h1 : (j 1).val < 512 := (j 1).isLt
    have h2 : (j 2).val < 8 := (j 2).isLt
    have h3 : (j 3).val < 128 := (j 3).isLt
    rw [read_G]
    show lay (iblk m c 1 t) j = _
    refine ((blk1 m c t (by omega) _ _).trans ?_).trans (ref_apply _ _ _ _ _ _).symm
    rw [if_neg (show ¬t.val / 4 < 1 by omega)]
    refine congrArg (m ((c : Thread nD τ).loc main_arg1)) (funext fun a => Fin.ext ?_)
    match a with
    | ⟨0, _⟩ => show (t.val % 4 * 4 + 3) * 512 + (j 1).val = (t.val % 4 * 512 + (j 1).val) / 512 * 2048 + (1536 + (t.val % 4 * 512 + (j 1).val) % 512); omega
    | ⟨1, _⟩ => rfl

/-- An index of the result is in the block of a point. -/
theorem mem_blk (t : Fin cfg0.N) (i : S2x2048x8x128.Idx) :
    i ∈ ((cfg0.win 2).blk t).view.set ↔ ∀ a : Fin 4, win0_2.index t a * S1x512x8x128.size a ≤ (i a).val
      ∧ (i a).val < win0_2.index t a * S1x512x8x128.size a + S1x512x8x128.size a := by
  show i ∈ ((View.whole main_v0).slice (win0_2.rect t)).set ↔ _
  rw [View.set_slice_whole, Rect.mem_set_unit]
  exact Iff.rfl

theorem cover (i : S2x2048x8x128.Idx) :
    ∃ t : Fin cfg0.N, (cfg0.win 2).flush t = true ∧ i ∈ ((cfg0.win 2).blk t).view.set := by
  have h0 : (i 0).val < 2 := (i 0).isLt
  have h1 : (i 1).val < 2048 := (i 1).isLt
  have h2 : (i 2).val < 8 := (i 2).isLt
  have h3 : (i 3).val < 128 := (i 3).isLt
  have hN : cfg0.N = 8 := N_0
  refine ⟨⟨(i 0).val * 4 + (i 1).val / 512, by omega⟩, flush0_2 _, ?_⟩
  have e := (idx_facts ⟨(i 0).val * 4 + (i 1).val / 512, by omega⟩).2.2
  rw [mem_blk]
  intro a
  match a with
  | ⟨0, _⟩ =>
    show win0_2.index _ 0 * 1 ≤ (i 0).val ∧ (i 0).val < win0_2.index _ 0 * 1 + 1
    rw [e.1]; dsimp only; omega
  | ⟨1, _⟩ =>
    show win0_2.index _ 1 * 512 ≤ (i 1).val ∧ (i 1).val < win0_2.index _ 1 * 512 + 512
    rw [e.2.1]; dsimp only; omega
  | ⟨2, _⟩ =>
    show win0_2.index _ 2 * 8 ≤ (i 2).val ∧ (i 2).val < win0_2.index _ 2 * 8 + 8
    rw [e.2.2.1]; omega
  | ⟨3, _⟩ =>
    show win0_2.index _ 3 * 128 ≤ (i 3).val ∧ (i 3).val < win0_2.index _ 3 * 128 + 128
    rw [e.2.2.2]; omega

/-- The result array ends holding the reference's. -/
theorem final (c : Dev nD) : (dats m 0 c).arrAt 2 cfg0.N = G m c :=
  (dats m 0 c).arrAt_eq_of_cover 2 (G m c) (fun t _ => flushed_eq m c t) cover

end Cert.WinRowsIdeal.Value

namespace Cert.Proof

open Idealize.ShloMosaic Idealize.SL.Sem

/-- The launch on machine words: it ends, its arguments unchanged, every counter at zero. -/
theorem frame_win : Cert.quiescent_WinRows (hWinRows := Cert.WinRows.Gen.facts) := fun m ρ _ => Cert.WinRows.Gen.frame (F := Bits) m ρ
theorem frame_winIdeal : Cert.quiescent_WinRowsIdeal (hWinRowsIdeal := Cert.WinRowsIdeal.Gen.facts) := fun m ρ _ => Cert.WinRowsIdeal.Gen.frame (F := Ideal) m ρ
theorem frame_winReference : Cert.quiescent_WinRowsReferenceIdeal (hWinRowsReferenceIdeal := Cert.WinRowsReferenceIdeal.Gen.facts) := fun m ρ _ =>
  (θ_run Cert.WinRowsReferenceIdeal.defs _ _).mono (fun r h => ⟨fun c => (h c).2,
      Idealize.ShloMosaic.sem_eq_zero_of_no_sems (by decide) r.2⟩)
    (Cert.WinRowsReferenceIdeal.Value.run (F := Ideal) m ρ)

/-- The launch and the reference leave the same array. -/
theorem algebraic_win : Cert.algebraic_WinRowsIdeal_WinRowsReferenceIdeal (hWinRowsIdeal := Cert.WinRowsIdeal.Gen.facts)
    (hWinRowsReferenceIdeal := Cert.WinRowsReferenceIdeal.Gen.facts) := by
  intro m ρ m' ρ' _ hag
  refine ⟨fun c => Cert.WinRowsIdeal.Value.G m c, ?_, ?_⟩
  · exact (θ_run Cert.WinRowsIdeal.defs _ _).mono
      (fun r h c => ⟨(h c).1.trans (Cert.WinRowsIdeal.Value.final m c), (h c).2⟩) (Cert.WinRowsIdeal.Value.run_blocks (F := Ideal) m ρ)
  · refine (θ_run Cert.WinRowsReferenceIdeal.defs _ _).mono
      (fun r h c => ⟨(h c).1.trans ((Cert.WinRowsReferenceIdeal.Read.val_main_v8_eq _ _ ).trans ?_), (h c).2⟩)
      (Cert.WinRowsReferenceIdeal.Value.run (F := Ideal) m' ρ')
    rw [(hag c).1, (hag c).2]

end Cert.Proof

end
-- ==== Proof.Gates.lean ====
/- The normed rows and the gates read off them: what the launch leaves is the reference's. -/
module

public import proofs.«01_k».proof.Proof.Gen.NormGatesIdeal.Value
public import proofs.«01_k».proof.Proof.Gen.NormGatesReferenceIdeal.Read
public import Idealize.ShloMosaic.Lib.Pointwise
public import proofs.«01_k».proof.Defs
public import proofs.«01_k».proof.Proof.Gen.NormGates.Frame
public import proofs.«01_k».proof.Proof.Gen.NormGatesReferenceIdeal.Run
public import Idealize.ShloMosaic.Lib.Claim

@[expose] public section

noncomputable section

namespace Cert.NormGatesIdeal.Value

open Cert.NormGatesIdeal Cert.NormGatesIdeal.Gen Idealize.ShloMosaic Idealize.ShloMosaic.TcCoe Idealize.SL.Sem
open Idealize.ShloMosaic.Pipeline (Dat)

/-- A row over the root of its mean square, weighted. -/
def rowN (xs gs : Fin 4096 → EReal) (l : Fin 4096) : EReal :=
  xs l * Ideal.rsqrt (Ideal.div (∑ k : Fin 4096, xs k * xs k) (FloatOps.ofBits (F := Ideal) .f32 0x45800000#32)
    + FloatOps.ofBits (F := Ideal) .f32 0x358637BD#32) * gs l

/-- The gate of a normed row and a column of weights. -/
def gateN (xs gs ws : Fin 4096 → EReal) : EReal :=
  Ideal.div 1 (1 + Ideal.exp (-(∑ k : Fin 4096, rowN xs gs k * ws k)))

theorem pay1_apply (x : Vec Ideal S256x4096 .f32) (g : Vec Ideal S1x4096 .f32) (r : Fin 256) (l : Fin 4096) :
    k0_pay1 (F := Ideal) x g (ix2 r l) = rowN (fun k => x (ix2 r k)) (fun k => g (ix2 0 k)) l := by
  unfold rowN
  pointwise [k0_pay1]

theorem pay2_apply (x : Vec Ideal S256x4096 .f32) (g : Vec Ideal S1x4096 .f32) (w : Vec Ideal S1x4096x512 .bf16) (r : Fin 256) (l : Fin 512) :
    k0_pay2 (F := Ideal) x g w (ix2 r l) = gateN (fun k => x (ix2 r k)) (fun k => g (ix2 0 k)) (fun k => w (ix3 0 k l)) := by
  have h : k0_pay2 (F := Ideal) x g w (ix2 r l) = Ideal.div 1 (1 + Ideal.exp (-(∑ k : Fin 4096, k0_pay1 (F := Ideal) x g (ix2 r k) * w (ix3 0 k l)))) := by
    pointwise [k0_pay2]
    rfl
  rw [h]
  unfold gateN
  exact congrArg (fun s : EReal => Ideal.div 1 (1 + Ideal.exp (-s)))
    (Finset.sum_congr rfl fun k _ => congrArg (fun s : EReal => s * w (ix3 0 k l)) (pay1_apply x g r k))

theorem ref1_apply (x : Vec Ideal S8192x4096 .f32) (g : Vec Ideal S1x4096 .f32) (r : Fin 8192) (l : Fin 4096) :
    Cert.NormGatesReferenceIdeal.Read.val_main_v12 (F := Ideal) x g (ix2 r l) = rowN (fun k => x (ix2 r k)) (fun k => g (ix2 0 k)) l := by
  unfold rowN
  pointwise [Cert.NormGatesReferenceIdeal.Read.val_main_v12, Cert.NormGatesReferenceIdeal.Read.val_main_v11, Cert.NormGatesReferenceIdeal.Read.val_main_v10, Cert.NormGatesReferenceIdeal.Read.val_main_v9, Cert.NormGatesReferenceIdeal.Read.val_main_v8, Cert.NormGatesReferenceIdeal.Read.val_main_v7, Cert.NormGatesReferenceIdeal.Read.val_main_v6, Cert.NormGatesReferenceIdeal.Read.val_main_v5, Cert.NormGatesReferenceIdeal.Read.val_main_v4, Cert.NormGatesReferenceIdeal.Read.val_main_v3, Cert.NormGatesReferenceIdeal.Read.val_main_v2, Cert.NormGatesReferenceIdeal.Read.val_main_v1, Cert.NormGatesReferenceIdeal.Read.val_main_v0, Cert.NormGatesReferenceIdeal.Read.val_main_cst, Cert.NormGatesReferenceIdeal.Read.val_main_cst_0, Cert.NormGatesReferenceIdeal.Read.val_main_cst_1]

theorem ref2_apply (x : Vec Ideal S8192x4096 .f32) (g : Vec Ideal S1x4096 .f32) (w : Vec Ideal S2x4096x512 .bf16) (r : Fin 8192) (l : Fin 512) :
    Cert.NormGatesReferenceIdeal.Read.val_main_v23 (F := Ideal) x g w (ix2 r l) = gateN (fun k => x (ix2 r k)) (fun k => g (ix2 0 k)) (fun k => w (ix3 0 k l)) := by
  unfold gateN rowN
  pointwise [Cert.NormGatesReferenceIdeal.Read.val_main_v23, Cert.NormGatesReferenceIdeal.Read.val_main_v22, Cert.NormGatesReferenceIdeal.Read.val_main_v21, Cert.NormGatesReferenceIdeal.Read.val_main_v20, Cert.NormGatesReferenceIdeal.Read.val_main_v19, Cert.NormGatesReferenceIdeal.Read.val_main_v18, Cert.NormGatesReferenceIdeal.Read.val_main_v17, Cert.NormGatesReferenceIdeal.Read.val_main_v16, Cert.NormGatesReferenceIdeal.Read.val_main_v15, Cert.NormGatesReferenceIdeal.Read.val_main_v14, Cert.NormGatesReferenceIdeal.Read.val_main_v13, Cert.NormGatesReferenceIdeal.Read.val_main_v12, Cert.NormGatesReferenceIdeal.Read.val_main_v11, Cert.NormGatesReferenceIdeal.Read.val_main_v10, Cert.NormGatesReferenceIdeal.Read.val_main_v9, Cert.NormGatesReferenceIdeal.Read.val_main_v8, Cert.NormGatesReferenceIdeal.Read.val_main_v7, Cert.NormGatesReferenceIdeal.Read.val_main_v6, Cert.NormGatesReferenceIdeal.Read.val_main_v5, Cert.NormGatesReferenceIdeal.Read.val_main_v4, Cert.NormGatesReferenceIdeal.Read.val_main_v3, Cert.NormGatesReferenceIdeal.Read.val_main_v2, Cert.NormGatesReferenceIdeal.Read.val_main_v1, Cert.NormGatesReferenceIdeal.Read.val_main_v0, Cert.NormGatesReferenceIdeal.Read.val_main_cst, Cert.NormGatesReferenceIdeal.Read.val_main_cst_0, Cert.NormGatesReferenceIdeal.Read.val_main_cst_1, Cert.NormGatesReferenceIdeal.Read.val_main_cst_2, Cert.NormGatesReferenceIdeal.Read.val_main_cst_3]

variable (m : (ℓ : Loc nD τ sig) → Buf (Elt Ideal) ℓ) (ρ : Dev nD → PrngReg)

/-- The reference's normed rows, from the arguments as launched. -/
abbrev G3 (c : Dev nD) : Buf (Elt Ideal) ((c : Thread nD τ).loc main_v0_0) :=
  Cert.NormGatesReferenceIdeal.Read.val_main_v12 (F := Ideal) (m ((c : Thread nD τ).loc main_arg0)) (m ((c : Thread nD τ).loc main_arg1))

/-- The reference's gates, from the arguments as launched. -/
abbrev G4 (c : Dev nD) : Buf (Elt Ideal) ((c : Thread nD τ).loc main_v0_1) :=
  Cert.NormGatesReferenceIdeal.Read.val_main_v23 (F := Ideal) (m ((c : Thread nD τ).loc main_arg0)) (m ((c : Thread nD τ).loc main_arg1)) (m ((c : Thread nD τ).loc main_arg2))

/-- Where the blocks of a point lie. -/
theorem idx_facts : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = t.val ∧ win0_3.index t 1 = 0)
    ∧ (win0_4.index t 0 = t.val ∧ win0_4.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = t.val ∧ win0_3.index t 1 = 0)
    ∧ (win0_4.index t 0 = t.val ∧ win0_4.index t 1 = 0))

theorem lt_N (t : Fin cfg0.N) : t.val < 32 := Nat.lt_of_lt_of_eq t.isLt N_0

/-- The rows. -/
theorem blk0 (c : Dev nD) (t : Fin cfg0.N) (r : Fin 256) (k : Fin 4096) :
    (iblk m c 0 t : Vec Ideal S256x4096 .f32) (ix2 r k)
      = (m ((c : Thread nD τ).loc main_arg0) : Vec Ideal S8192x4096 .f32) (ix2 ⟨t.val * 256 + r.val, by have := lt_N t; have := r.isLt; omega⟩ k) := by
  have e := (idx_facts t).1
  refine (congrFun (V_main_arg0 m c) _).trans (congrArg (m ((c : Thread nD τ).loc main_arg0)) (funext fun a => Fin.ext ?_))
  match a with
  | ⟨0, _⟩ => show win0_0.index t 0 * 256 + 1 * r.val = t.val * 256 + r.val; rw [e.1]; omega
  | ⟨1, _⟩ => show win0_0.index t 1 * 4096 + 1 * k.val = k.val; rw [e.2]; omega

/-- The weights of the norm. -/
theorem blk1 (c : Dev nD) (t : Fin cfg0.N) (k : Fin 4096) :
    (iblk m c 1 t : Vec Ideal S1x4096 .f32) (ix2 0 k)
      = (m ((c : Thread nD τ).loc main_arg1) : Vec Ideal S1x4096 .f32) (ix2 0 k) := by
  have e := (idx_facts t).2.1
  refine (congrFun (V_main_arg1 m c) _).trans (congrArg (m ((c : Thread nD τ).loc main_arg1)) (funext fun a => Fin.ext ?_))
  match a with
  | ⟨0, _⟩ => show win0_1.index t 0 * 1 + 1 * 0 = 0; rw [e.1]
  | ⟨1, _⟩ => show win0_1.index t 1 * 4096 + 1 * k.val = k.val; rw [e.2]; omega

/-- The weights of the gates: the first layer's. -/
theorem blk2 (c : Dev nD) (t : Fin cfg0.N) (k : Fin 4096) (l : Fin 512) :
    (iblk m c 2 t : Vec Ideal S1x4096x512 .bf16) (ix3 0 k l)
      = (m ((c : Thread nD τ).loc main_arg2) : Vec Ideal S2x4096x512 .bf16) (ix3 0 k l) := by
  have e := (idx_facts t).2.2.1
  refine (congrFun (V_main_arg2 m c) _).trans (congrArg (m ((c : Thread nD τ).loc main_arg2)) (funext fun a => Fin.ext ?_))
  match a with
  | ⟨0, _⟩ => show win0_2.index t 0 * 1 + 1 * 0 = 0; rw [e.1]
  | ⟨1, _⟩ => show win0_2.index t 1 * 4096 + 1 * k.val = k.val; rw [e.2.1]; omega
  | ⟨2, _⟩ => show win0_2.index t 2 * 512 + 1 * l.val = l.val; rw [e.2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The stored blocks are the payloads of the loaded ones. -/
theorem out3_eq (x0 : Vec Ideal S256x4096 .f32) (x1 : Vec Ideal S1x4096 .f32) (x2 : Vec Ideal S1x4096x512 .bf16) :
    out0_3 (F := Ideal) x0 x1 x2 = k0_pay1 x0 x1 := by
  unfold out0_3
  rw [View.canon_unit_zero hz2, View.ld_unit_zero hz2, View.ld_unit_zero hz2]

theorem out4_eq (x0 : Vec Ideal S256x4096 .f32) (x1 : Vec Ideal S1x4096 .f32) (x2 : Vec Ideal S1x4096x512 .bf16) :
    out0_4 (F := Ideal) x0 x1 x2 = k0_pay2 x0 x1 x2 := by
  unfold out0_4
  rw [View.canon_unit_zero hz2, View.ld_unit_zero hz2, View.ld_unit_zero hz2, View.ld_unit_zero hz3]

/-- What a point writes back of the normed rows is its block of the reference's array. -/
theorem flushed3_eq (c : Dev nD) (t : Fin cfg0.N) :
    (dats m 0 c).flushed 3 t = ((cfg0.win 3).blk t).view.read (Elt Ideal) (G3 m c) := by
  rw [flushed3, out3_eq]
  refine funext fun (j : S256x4096.Idx) => ?_
  have hj : j = ix2 (j 0) (j 1) := by ext a; match a with | ⟨0, _⟩ => rfl | ⟨1, _⟩ => rfl
  have ht := lt_N t
  have e := (idx_facts t).2.2.2.1
  have h0 : (j 0).val < 256 := (j 0).isLt
  have h1 : (j 1).val < 4096 := (j 1).isLt
  have hr : ((cfg0.win 3).blk t).view.read (Elt Ideal) (G3 m c) j
      = G3 m c (ix2 ⟨t.val * 256 + (j 0).val, by omega⟩ (j 1)) := by
    refine congrArg (G3 m c) (funext fun a => Fin.ext ?_)
    match a with
    | ⟨0, _⟩ => show win0_3.index t 0 * 256 + 1 * (j 0).val = t.val * 256 + (j 0).val; rw [e.1]; omega
    | ⟨1, _⟩ => show win0_3.index t 1 * 4096 + 1 * (j 1).val = (j 1).val; rw [e.2]; omega
  rw [hr]
  show k0_pay1 (F := Ideal) (iblk m c 0 t) (iblk m c 1 t) j = _
  refine (congrArg (k0_pay1 (F := Ideal) (iblk m c 0 t) (iblk m c 1 t)) hj).trans ((pay1_apply _ _ (j 0) (j 1)).trans ?_)
  refine Eq.trans ?_ (ref1_apply _ _ _ _).symm
  exact congrArg₂ (fun xs gs => rowN xs gs (j 1)) (funext fun k => blk0 m c t (j 0) k) (funext fun k => blk1 m c t k)

/-- What a point writes back of the gates is its block of the reference's array. -/
theorem flushed4_eq (c : Dev nD) (t : Fin cfg0.N) :
    (dats m 0 c).flushed 4 t = ((cfg0.win 4).blk t).view.read (Elt Ideal) (G4 m c) := by
  rw [flushed4, out4_eq]
  refine funext fun (j : S256x512.Idx) => ?_
  have hj : j = ix2 (j 0) (j 1) := by ext a; match a with | ⟨0, _⟩ => rfl | ⟨1, _⟩ => rfl
  have ht := lt_N t
  have e := (idx_facts t).2.2.2.2
  have h0 : (j 0).val < 256 := (j 0).isLt
  have h1 : (j 1).val < 512 := (j 1).isLt
  have hr : ((cfg0.win 4).blk t).view.read (Elt Ideal) (G4 m c) j
      = G4 m c (ix2 ⟨t.val * 256 + (j 0).val, by omega⟩ (j 1)) := by
    refine congrArg (G4 m c) (funext fun a => Fin.ext ?_)
    match a with
    | ⟨0, _⟩ => show win0_4.index t 0 * 256 + 1 * (j 0).val = t.val * 256 + (j 0).val; rw [e.1]; omega
    | ⟨1, _⟩ => show win0_4.index t 1 * 512 + 1 * (j 1).val = (j 1).val; rw [e.2]; omega
  rw [hr]
  show k0_pay2 (F := Ideal) (iblk m c 0 t) (iblk m c 1 t) (iblk m c 2 t) j = _
  refine (congrArg (k0_pay2 (F := Ideal) (iblk m c 0 t) (iblk m c 1 t) (iblk m c 2 t)) hj).trans ((pay2_apply _ _ _ (j 0) (j 1)).trans ?_)
  refine Eq.trans ?_ (ref2_apply _ _ _ _ _).symm
  exact (congrArg₂ (fun xs gs => gateN xs gs _) (funext fun k => blk0 m c t (j 0) k) (funext fun k => blk1 m c t k)).trans
    (congrArg (fun ws => gateN _ _ ws) (funext fun k => blk2 m c t k (j 1)))

/-- An index of the result is in the block of a point. -/
theorem mem_blk3 (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v0_0).slice (win0_3.rect t)).set ↔ _
  rw [View.set_slice_whole, Rect.mem_set_unit]
  exact Iff.rfl

theorem cover3 (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 32 := N_0
  refine ⟨⟨(i 0).val / 256, by omega⟩, flush0_3 _, ?_⟩
  have e := (idx_facts ⟨(i 0).val / 256, by omega⟩).2.2.2.1
  rw [mem_blk3]
  intro a
  match a with
  | ⟨0, _⟩ =>
    show win0_3.index _ 0 * 256 ≤ (i 0).val ∧ (i 0).val < win0_3.index _ 0 * 256 + 256
    rw [e.1]; dsimp only; omega
  | ⟨1, _⟩ =>
    show win0_3.index _ 1 * 4096 ≤ (i 1).val ∧ (i 1).val < win0_3.index _ 1 * 4096 + 4096
    rw [e.2]; omega

/-- The result array ends holding the reference's. -/
theorem final3 (c : Dev nD) : (dats m 0 c).arrAt 3 cfg0.N = G3 m c :=
  (dats m 0 c).arrAt_eq_of_cover 3 (G3 m c) (fun t _ => flushed3_eq m c t) cover3

/-- An index of the result is in the block of a point. -/
theorem mem_blk4 (t : Fin cfg0.N) (i : S8192x512.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v0_1).slice (win0_4.rect t)).set ↔ _
  rw [View.set_slice_whole, Rect.mem_set_unit]
  exact Iff.rfl

theorem cover4 (i : S8192x512.Idx) :
    ∃ t : Fin cfg0.N, (cfg0.win 4).flush t = true ∧ i ∈ ((cfg0.win 4).blk t).view.set := by
  have h0 : (i 0).val < 8192 := (i 0).isLt
  have h1 : (i 1).val < 512 := (i 1).isLt
  have hN : cfg0.N = 32 := N_0
  refine ⟨⟨(i 0).val / 256, by omega⟩, flush0_4 _, ?_⟩
  have e := (idx_facts ⟨(i 0).val / 256, by omega⟩).2.2.2.2
  rw [mem_blk4]
  intro a
  match a with
  | ⟨0, _⟩ =>
    show win0_4.index _ 0 * 256 ≤ (i 0).val ∧ (i 0).val < win0_4.index _ 0 * 256 + 256
    rw [e.1]; dsimp only; omega
  | ⟨1, _⟩ =>
    show win0_4.index _ 1 * 512 ≤ (i 1).val ∧ (i 1).val < win0_4.index _ 1 * 512 + 512
    rw [e.2]; omega

/-- The result array ends holding the reference's. -/
theorem final4 (c : Dev nD) : (dats m 0 c).arrAt 4 cfg0.N = G4 m c :=
  (dats m 0 c).arrAt_eq_of_cover 4 (G4 m c) (fun t _ => flushed4_eq m c t) cover4

end Cert.NormGatesIdeal.Value

namespace Cert.Proof

open Idealize.ShloMosaic Idealize.SL.Sem

/-- The launch on machine words: it ends, its arguments unchanged, every counter at zero. -/
theorem frame_gates : Cert.quiescent_NormGates (hNormGates := Cert.NormGates.Gen.facts) := fun m ρ _ => Cert.NormGates.Gen.frame (F := Bits) m ρ
theorem frame_gatesIdeal : Cert.quiescent_NormGatesIdeal (hNormGatesIdeal := Cert.NormGatesIdeal.Gen.facts) := fun m ρ _ => Cert.NormGatesIdeal.Gen.frame (F := Ideal) m ρ
theorem frame_gatesReference : Cert.quiescent_NormGatesReferenceIdeal (hNormGatesReferenceIdeal := Cert.NormGatesReferenceIdeal.Gen.facts) := fun m ρ _ =>
  (θ_run Cert.NormGatesReferenceIdeal.defs _ _).mono (fun r h => ⟨fun c => (h c).2.2,
      Idealize.ShloMosaic.sem_eq_zero_of_no_sems (by decide) r.2⟩)
    (Cert.NormGatesReferenceIdeal.Value.run (F := Ideal) m ρ)

/-- The launch and the reference leave the same arrays. -/
theorem algebraic_gates : Cert.algebraic_NormGatesIdeal_NormGatesReferenceIdeal (hNormGatesIdeal := Cert.NormGatesIdeal.Gen.facts)
    (hNormGatesReferenceIdeal := Cert.NormGatesReferenceIdeal.Gen.facts) := by
  intro m ρ m' ρ' _ hag
  refine ⟨fun c => Cert.NormGatesIdeal.Value.G3 m c, fun c => Cert.NormGatesIdeal.Value.G4 m c, ?_, ?_⟩
  · exact (θ_run Cert.NormGatesIdeal.defs _ _).mono
      (fun r h c => ⟨(h c).1.trans (Cert.NormGatesIdeal.Value.final3 m c), (h c).2.1.trans (Cert.NormGatesIdeal.Value.final4 m c), (h c).2.2⟩)
      (Cert.NormGatesIdeal.Value.run_blocks (F := Ideal) m ρ)
  · refine (θ_run Cert.NormGatesReferenceIdeal.defs _ _).mono
      (fun r h c => ⟨(h c).1.trans ((Cert.NormGatesReferenceIdeal.Read.val_main_v12_eq _ _).trans ?_),
        (h c).2.1.trans ((Cert.NormGatesReferenceIdeal.Read.val_main_v23_eq _ _ _).trans ?_), (h c).2.2⟩)
      (Cert.NormGatesReferenceIdeal.Value.run (F := Ideal) m' ρ')
    · rw [(hag c).1, (hag c).2.1]
    · rw [(hag c).1, (hag c).2.1, (hag c).2.2]

end Cert.Proof

end
-- ==== Proof.InRuns.lean ====
/- The four runs of the input projection's body: a tile whose heads are rotated or one that is not, and in each case
   whether the tile is also copied to the compressed branch's array. -/
module

public import proofs.«01_k».proof.Proof.Gen.InProjIdeal.Frame
public import proofs.«01_k».proof.Proof.Gen.InProjIdeal.Skeleton
public import proofs.«01_k».proof.Proof.Gen.InProjIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second grid coordinate of a point. -/
theorem coords1 (t : Fin cfg0.N) : (grid0.coords t 1).val = t.val % 18 := by
  have e : (grid0.coords t 1).val = t.val / 1 % 18 := Pipeline.Grid.coords_val t 1 (by decide) rfl
  rw [e, Nat.div_one]

/-- Whether the heads of column tile `j` are rotated. -/
abbrev Rot (j : ℕ) : Prop := (8 ≤ j ∧ j ≤ 12) ∨ j = 14 ∨ j = 16

theorem hcond1 (t : Fin cfg0.N) : k0_cond1 (grid0.coords t) = 1#1 ↔ Rot (t.val % 18) := by
  have h : ∀ i : Fin 18, (k0_cond1 (fun a => match a with | ⟨0, _⟩ => (0 : Fin 8) | ⟨1, _⟩ => i) = 1#1 ↔ Rot i.val) := by decide +kernel
  rw [← coords1 t]; exact h (grid0.coords t 1)
theorem hcond2 (t : Fin cfg0.N) : k0_cond2 (grid0.coords t) = 1#1 ↔ t.val % 18 = 12 := by
  have h : ∀ i : Fin 18, (k0_cond2 (fun a => match a with | ⟨0, _⟩ => (0 : Fin 8) | ⟨1, _⟩ => i) = 1#1 ↔ i.val = 12) := by decide +kernel
  rw [← coords1 t]; exact h (grid0.coords t 1)
theorem hcond3 (t : Fin cfg0.N) : k0_cond3 (grid0.coords t) = 1#1 ↔ ¬ Rot (t.val % 18) := by
  have h : ∀ i : Fin 18, (k0_cond3 (fun a => match a with | ⟨0, _⟩ => (0 : Fin 8) | ⟨1, _⟩ => i) = 1#1 ↔ ¬ Rot i.val) := by decide +kernel
  rw [← coords1 t]; exact h (grid0.coords t 1)
theorem hcond4 (t : Fin cfg0.N) : k0_cond4 (grid0.coords t) = 1#1 ↔ t.val % 18 = 13 := by
  have h : ∀ i : Fin 18, (k0_cond4 (fun a => match a with | ⟨0, _⟩ => (0 : Fin 8) | ⟨1, _⟩ => i) = 1#1 ↔ i.val = 13) := by decide +kernel
  rw [← coords1 t]; exact h (grid0.coords t 1)

/-- Each window's current staging memref at point `t`, and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x8x128 .f32 := win0_6.stage (cfg0.slots t 6)
abbrev hs0_6 (t : Fin cfg0.N) : (ms0_6 t).IsWhole := hstage0_6 ((cfg0.slots t 6).cast nbuf0_6)

set_option maxHeartbeats 1000000 in
/-- The pieces the body's stores leave in the tile (last first) in case A — a rotated tile, the compressed keys' one —, with the proof that on whole
    staging memrefs the body runs from the inputs' contents to the same contents and those pieces written, the
    compressed branch's array holding anything before and after. -/
noncomputable def runA (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : k0_cond1 i = 1#1) (hc2 : k0_cond2 i = 1#1) (hc3 : ¬k0_cond3 i = 1#1)
    (x0 : Vec F S1024x4096 .bf16) (x1 : Vec F S1x4096x512 .bf16) (x2 : Vec F S1024x128 .f32) (x3 : Vec F S1024x128 .f32) (x4 : Vec F S1024x128 .f32) :
    { L5 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr; swap; · iexact H6
    ipureintro; rfl

set_option maxHeartbeats 1000000 in
/-- The pieces the body's stores leave in the tile (last first) in case B — a rotated tile, not the compressed keys' one —, with the proof that on whole
    staging memrefs the body runs from the inputs' contents to the same contents and those pieces written, the
    compressed branch's array holding anything before and after. -/
noncomputable def runB (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : k0_cond1 i = 1#1) (hc2 : ¬k0_cond2 i = 1#1) (hc3 : ¬k0_cond3 i = 1#1)
    (x0 : Vec F S1024x4096 .bf16) (x1 : Vec F S1x4096x512 .bf16) (x2 : Vec F S1024x128 .f32) (x3 : Vec F S1024x128 .f32) (x4 : Vec F S1024x128 .f32) :
    { L5 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr; swap; · iexact H6
    ipureintro; rfl

set_option maxHeartbeats 1000000 in
/-- The pieces the body's stores leave in the tile (last first) in case C — a plain tile, the compressed values' one —, with the proof that on whole
    staging memrefs the body runs from the inputs' contents to the same contents and those pieces written, the
    compressed branch's array holding anything before and after. -/
noncomputable def runC (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : ¬k0_cond1 i = 1#1) (hc3 : k0_cond3 i = 1#1) (hc4 : k0_cond4 i = 1#1)
    (x0 : Vec F S1024x4096 .bf16) (x1 : Vec F S1x4096x512 .bf16) (x2 : Vec F S1024x128 .f32) (x3 : Vec F S1024x128 .f32) (x4 : Vec F S1024x128 .f32) :
    { L5 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr; swap; · iexact H6
    ipureintro; rfl

set_option maxHeartbeats 1000000 in
/-- The pieces the body's stores leave in the tile (last first) in case D — a plain tile, not the compressed values' one —, with the proof that on whole
    staging memrefs the body runs from the inputs' contents to the same contents and those pieces written, the
    compressed branch's array holding anything before and after. -/
noncomputable def runD (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : ¬k0_cond1 i = 1#1) (hc3 : k0_cond3 i = 1#1) (hc4 : ¬k0_cond4 i = 1#1)
    (x0 : Vec F S1024x4096 .bf16) (x1 : Vec F S1x4096x512 .bf16) (x2 : Vec F S1024x128 .f32) (x3 : Vec F S1024x128 .f32) (x4 : Vec F S1024x128 .f32) :
    { L5 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr; swap; · iexact H6
    ipureintro; rfl

end Cert.InProjIdeal.Gen

end
-- ==== Proof.InWhole.lean ====
/- The run of the whole input projection: the inputs as they were, the projected rows named, nothing stated of the copy the compressed branch reads. -/
module

public import proofs.«01_k».proof.Proof.InRuns
public import proofs.«01_k».proof.Proof.Body
public import Idealize.ShloMosaic.Lib.Claim

@[expose] public section

-- membership in a rectangle of production extents (`View.cover_of_tiled`): the elaborator's structural look
-- recurses once per coordinate of the long axes
set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of a rotated tile: its four heads, last stored first. -/
def rotPieces (x0 : Vec F S1024x4096 .bf16) (x1 : Vec F S1x4096x512 .bf16) (x2 x3 x4 : Vec F S1024x128 .f32) : List (View.Piece (Elt F) S1024x512 .f32) :=
  [⟨Rect.unit (s := S1024x512) ![0, 384] S1024x128.size inb_S1024x512_S1024x128_0_384, k0_pay2 (k0_pay15 (k0_pay1 x0 x1) x2 x3) (k0_pay16 (k0_pay1 x0 x1) x4)⟩,
   ⟨Rect.unit (s := S1024x512) ![0, 256] S1024x128.size inb_S1024x512_S1024x128_0_256, k0_pay13 (k0_pay1 x0 x1) x2 x3 x4⟩,
   ⟨Rect.unit (s := S1024x512) ![0, 128] S1024x128.size inb_S1024x512_S1024x128_0_128, k0_pay12 (k0_pay1 x0 x1) x2 x3 x4⟩,
   ⟨Rect.unit (s := S1024x512) ![0, 0] S1024x128.size inb_S1024x512_S1024x128_0_0, k0_pay11 (k0_pay1 x0 x1) x2 x3 x4⟩]

/-- They cover the tile. -/
theorem rotPieces_cover (x0 : Vec F S1024x4096 .bf16) (x1 : Vec F S1x4096x512 .bf16) (x2 x3 x4 : Vec F S1024x128 .f32) (y : S1024x512.Idx) :
    ∃ pc ∈ rotPieces x0 x1 x2 x3 x4, y ∈ pc.1.set :=
  View.cover_of_tiled (rotPieces x0 x1 x2 x3 x4) S1024x128.size (by sl_kernel_rfl) y

/-- The piece of a plain tile: all of it. -/
def plainPieces (x0 : Vec F S1024x4096 .bf16) (x1 : Vec F S1x4096x512 .bf16) : List (View.Piece (Elt F) S1024x512 .f32) :=
  [⟨Rect.unit (s := S1024x512) ![0, 0] S1024x512.size inb_S1024x512_S1024x512_0_0, k0_pay1 x0 x1⟩]

theorem plainPieces_cover (x0 : Vec F S1024x4096 .bf16) (x1 : Vec F S1x4096x512 .bf16) (y : S1024x512.Idx) :
    ∃ pc ∈ plainPieces x0 x1, y ∈ pc.1.set :=
  View.cover_of_tiled (plainPieces x0 x1) S1024x512.size (by sl_kernel_rfl) y

/-- The tile a point leaves. -/
def outBlk (j : ℕ) (x0 : Vec F S1024x4096 .bf16) (x1 : Vec F S1x4096x512 .bf16) (x2 x3 x4 : Vec F S1024x128 .f32) : Vec F S1024x512 .f32 :=
  if Rot j then View.canon (rotPieces x0 x1 x2 x3 x4) else View.canon (plainPieces x0 x1)

theorem runA_pieces (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : k0_cond1 i = 1#1) (hc2 : k0_cond2 i = 1#1) (hc3 : ¬k0_cond3 i = 1#1)
    (x0 : Vec F S1024x4096 .bf16) (x1 : Vec F S1x4096x512 .bf16) (x2 : Vec F S1024x128 .f32) (x3 : Vec F S1024x128 .f32) (x4 : Vec F S1024x128 .f32) :
    (runA c i arg2 harg2 arg3 harg3 arg4 harg4 arg5 harg5 arg6 harg6 arg7 harg7 arg8 harg8 hc1 hc2 hc3 x0 x1 x2 x3 x4).1 = rotPieces x0 x1 x2 x3 x4 := by
  unfold runA; sl_unfold_words
  simp (disch := decide) only [Cert.KernelIdeal.Gen.readAt_unread_ld, View.ld_unit_lit']
  rfl

theorem runA_read (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : k0_cond1 i = 1#1) (hc2 : k0_cond2 i = 1#1) (hc3 : ¬k0_cond3 i = 1#1)
    (x0 : Vec F S1024x4096 .bf16) (x1 : Vec F S1x4096x512 .bf16) (x2 : Vec F S1024x128 .f32) (x3 : Vec F S1024x128 .f32) (x4 : Vec F S1024x128 .f32) (j : ℕ) (hj : Rot j) (f : arg7.view.ty.Contents (Elt F)) :
    arg7.view.read (Elt F) (arg7.view.writes (Elt F) f (runA c i arg2 harg2 arg3 harg3 arg4 harg4 arg5 harg5 arg6 harg6 arg7 harg7 arg8 harg8 hc1 hc2 hc3 x0 x1 x2 x3 x4).1) = outBlk j x0 x1 x2 x3 x4 := by
  rw [runA_pieces, View.read_writes_eq_canon _ _ _ (rotPieces_cover x0 x1 x2 x3 x4)]
  unfold outBlk; rw [if_pos hj]

theorem runB_pieces (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : k0_cond1 i = 1#1) (hc2 : ¬k0_cond2 i = 1#1) (hc3 : ¬k0_cond3 i = 1#1)
    (x0 : Vec F S1024x4096 .bf16) (x1 : Vec F S1x4096x512 .bf16) (x2 : Vec F S1024x128 .f32) (x3 : Vec F S1024x128 .f32) (x4 : Vec F S1024x128 .f32) :
    (runB c i arg2 harg2 arg3 harg3 arg4 harg4 arg5 harg5 arg6 harg6 arg7 harg7 arg8 harg8 hc1 hc2 hc3 x0 x1 x2 x3 x4).1 = rotPieces x0 x1 x2 x3 x4 := by
  unfold runB; sl_unfold_words
  simp (disch := decide) only [Cert.KernelIdeal.Gen.readAt_unread_ld, View.ld_unit_lit']
  rfl

theorem runB_read (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : k0_cond1 i = 1#1) (hc2 : ¬k0_cond2 i = 1#1) (hc3 : ¬k0_cond3 i = 1#1)
    (x0 : Vec F S1024x4096 .bf16) (x1 : Vec F S1x4096x512 .bf16) (x2 : Vec F S1024x128 .f32) (x3 : Vec F S1024x128 .f32) (x4 : Vec F S1024x128 .f32) (j : ℕ) (hj : Rot j) (f : arg7.view.ty.Contents (Elt F)) :
    arg7.view.read (Elt F) (arg7.view.writes (Elt F) f (runB c i arg2 harg2 arg3 harg3 arg4 harg4 arg5 harg5 arg6 harg6 arg7 harg7 arg8 harg8 hc1 hc2 hc3 x0 x1 x2 x3 x4).1) = outBlk j x0 x1 x2 x3 x4 := by
  rw [runB_pieces, View.read_writes_eq_canon _ _ _ (rotPieces_cover x0 x1 x2 x3 x4)]
  unfold outBlk; rw [if_pos hj]

theorem runC_pieces (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : ¬k0_cond1 i = 1#1) (hc3 : k0_cond3 i = 1#1) (hc4 : k0_cond4 i = 1#1)
    (x0 : Vec F S1024x4096 .bf16) (x1 : Vec F S1x4096x512 .bf16) (x2 : Vec F S1024x128 .f32) (x3 : Vec F S1024x128 .f32) (x4 : Vec F S1024x128 .f32) :
    (runC c i arg2 harg2 arg3 harg3 arg4 harg4 arg5 harg5 arg6 harg6 arg7 harg7 arg8 harg8 hc1 hc3 hc4 x0 x1 x2 x3 x4).1 = plainPieces x0 x1 := by
  unfold runC; sl_unfold_words
  simp (disch := decide) only [Cert.KernelIdeal.Gen.readAt_unread_ld, View.ld_unit_lit']
  rfl

theorem runC_read (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : ¬k0_cond1 i = 1#1) (hc3 : k0_cond3 i = 1#1) (hc4 : k0_cond4 i = 1#1)
    (x0 : Vec F S1024x4096 .bf16) (x1 : Vec F S1x4096x512 .bf16) (x2 : Vec F S1024x128 .f32) (x3 : Vec F S1024x128 .f32) (x4 : Vec F S1024x128 .f32) (j : ℕ) (hj : ¬Rot j) (f : arg7.view.ty.Contents (Elt F)) :
    arg7.view.read (Elt F) (arg7.view.writes (Elt F) f (runC c i arg2 harg2 arg3 harg3 arg4 harg4 arg5 harg5 arg6 harg6 arg7 harg7 arg8 harg8 hc1 hc3 hc4 x0 x1 x2 x3 x4).1) = outBlk j x0 x1 x2 x3 x4 := by
  rw [runC_pieces, View.read_writes_eq_canon _ _ _ (plainPieces_cover x0 x1)]
  unfold outBlk; rw [if_neg hj]

theorem runD_pieces (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : ¬k0_cond1 i = 1#1) (hc3 : k0_cond3 i = 1#1) (hc4 : ¬k0_cond4 i = 1#1)
    (x0 : Vec F S1024x4096 .bf16) (x1 : Vec F S1x4096x512 .bf16) (x2 : Vec F S1024x128 .f32) (x3 : Vec F S1024x128 .f32) (x4 : Vec F S1024x128 .f32) :
    (runD c i arg2 harg2 arg3 harg3 arg4 harg4 arg5 harg5 arg6 harg6 arg7 harg7 arg8 harg8 hc1 hc3 hc4 x0 x1 x2 x3 x4).1 = plainPieces x0 x1 := by
  unfold runD; sl_unfold_words
  simp (disch := decide) only [Cert.KernelIdeal.Gen.readAt_unread_ld, View.ld_unit_lit']
  rfl

theorem runD_read (c : Dev nD) (i : grid0.Coords) (arg2 : Memref sig .tc .vmem S1024x4096 .bf16) (harg2 : arg2.IsWhole) (arg3 : Memref sig .tc .vmem S1x4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x8x128 .f32) (harg8 : arg8.IsWhole) (hc1 : ¬k0_cond1 i = 1#1) (hc3 : k0_cond3 i = 1#1) (hc4 : ¬k0_cond4 i = 1#1)
    (x0 : Vec F S1024x4096 .bf16) (x1 : Vec F S1x4096x512 .bf16) (x2 : Vec F S1024x128 .f32) (x3 : Vec F S1024x128 .f32) (x4 : Vec F S1024x128 .f32) (j : ℕ) (hj : ¬Rot j) (f : arg7.view.ty.Contents (Elt F)) :
    arg7.view.read (Elt F) (arg7.view.writes (Elt F) f (runD c i arg2 harg2 arg3 harg3 arg4 harg4 arg5 harg5 arg6 harg6 arg7 harg7 arg8 harg8 hc1 hc3 hc4 x0 x1 x2 x3 x4).1) = outBlk j x0 x1 x2 x3 x4 := by
  rw [runD_pieces, View.read_writes_eq_canon _ _ _ (plainPieces_cover x0 x1)]
  unfold outBlk; rw [if_neg hj]

/-- The tile of point `t`. -/
def outAt (c : Dev nD) (t : Fin cfg0.N) : Vec F S1024x512 .f32 :=
  outBlk (t.val % 18) (iblk m c 0 t) (iblk m c 1 t) (iblk m c 2 t) (iblk m c 3 t) (iblk m c 4 t)

/-- Every point stores its tile. -/
theorem idle5 (t : Fin cfg0.N) : cfg0.idle 5 (cfg0.grid.coords t) = false := by
  show (!(k0_cond1 (grid0.coords t) == 1#1) && !(k0_cond3 (grid0.coords t) == 1#1)) = false
  by_cases h : Rot (t.val % 18)
  · rw [(hcond1 t).mpr h]; rfl
  · rw [(hcond3 t).mpr h]; simp

/-- Nothing is stated of what these windows hold. -/
def forgets0 : Fin 7 → Bool := fun w => w.val == 6

/-- The pipeline's proof data: the arrays as found, every input window at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, h⟩ => Pipeline.Dat.unnamed (cfg := cfg0) ⟨6, h⟩ t
  Φ t := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl]
  by_cases h0 : Rot (t.val % 18)
  · by_cases h1 : t.val % 18 = 12
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ ((hcond1 t).mpr h0) ((hcond2 t).mpr h1) (fun h => (hcond3 t).mp h h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap; · iexact H5
        ipureintro; exact runA_read c _ _ _ _ _ _ _ _ _ _ _ _ _ _ _ ((hcond1 t).mpr h0) ((hcond2 t).mpr h1) (fun h => (hcond3 t).mp h h0) (iblk m c 0 t) (iblk m c 1 t) (iblk m c 2 t) (iblk m c 3 t) (iblk m c 4 t) _ h0 _
      iexact H6
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ ((hcond1 t).mpr h0) (fun h => h1 ((hcond2 t).mp h)) (fun h => (hcond3 t).mp h h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap; · iexact H5
        ipureintro; exact runB_read c _ _ _ _ _ _ _ _ _ _ _ _ _ _ _ ((hcond1 t).mpr h0) (fun h => h1 ((hcond2 t).mp h)) (fun h => (hcond3 t).mp h h0) (iblk m c 0 t) (iblk m c 1 t) (iblk m c 2 t) (iblk m c 3 t) (iblk m c 4 t) _ h0 _
      iexact H6
  · by_cases h1 : t.val % 18 = 13
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ (fun h => h0 ((hcond1 t).mp h)) ((hcond3 t).mpr h0) ((hcond4 t).mpr h1) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap; · iexact H5
        ipureintro; exact runC_read c _ _ _ _ _ _ _ _ _ _ _ _ _ _ _ (fun h => h0 ((hcond1 t).mp h)) ((hcond3 t).mpr h0) ((hcond4 t).mpr h1) (iblk m c 0 t) (iblk m c 1 t) (iblk m c 2 t) (iblk m c 3 t) (iblk m c 4 t) _ h0 _
      iexact H6
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runD c (grid0.coords t) _ _ _ _ _ _ _ _ _ _ _ _ _ _ (fun h => h0 ((hcond1 t).mp h)) ((hcond3 t).mpr h0) (fun h => h1 ((hcond4 t).mp h)) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap; · iexact H5
        ipureintro; exact runD_read c _ _ _ _ _ _ _ _ _ _ _ _ _ _ _ (fun h => h0 ((hcond1 t).mp h)) ((hcond3 t).mpr h0) (fun h => h1 ((hcond4 t).mp h)) (iblk m c 0 t) (iblk m c 1 t) (iblk m c 2 t) (iblk m c 3 t) (iblk m c 4 t) _ h0 _
      iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  refine triple_restated (sound_body m c t) rfl .rfl fun _ => ?_
  rw [idle5 t]
  exact .rfl

set_option backward.isDefEq.respectTransparency.types false in
/-- Every run ends, with the inputs as they were and every counter at zero, the projected rows at the tiles named. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c w => by fin_cases w <;> rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The pipeline's post, read at the argument arrays. -/
theorem args_of_post (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_of_post m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InProjIdeal.Gen

end
-- ==== Proof.Bits.InWhole.lean ====
/- The run of the whole input projection: the inputs as they were, nothing is stated of what the two outputs hold. -/
module

public import proofs.«01_k».proof.Proof.Bits.InRuns
public import Idealize.ShloMosaic.Lib.Claim

@[expose] public section

-- membership in a rectangle of production extents (`View.cover_of_tiled`): the elaborator's structural look
-- recurses once per coordinate of the long axes
set_option maxRecDepth 16384

noncomputable section

namespace Cert.InProj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stated of what these windows hold. -/
def forgets0 : Fin 7 → Bool := fun w => w.val == 5 || w.val == 6

/-- The pipeline's proof data: the arrays as found, every input window at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl]
  by_cases h0 : Rot (t.val % 18)
  · by_cases h1 : t.val % 18 = 12
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ ((hcond1 t).mpr h0) ((hcond2 t).mpr h1) (fun h => (hcond3 t).mp h h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _, _; isplitr; swap; · iexact H5
        ipureintro; rfl
      iexact H6
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ ((hcond1 t).mpr h0) (fun h => h1 ((hcond2 t).mp h)) (fun h => (hcond3 t).mp h h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _, _; isplitr; swap; · iexact H5
        ipureintro; rfl
      iexact H6
  · by_cases h1 : t.val % 18 = 13
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ (fun h => h0 ((hcond1 t).mp h)) ((hcond3 t).mpr h0) ((hcond4 t).mpr h1) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _, _; isplitr; swap; · iexact H5
        ipureintro; rfl
      iexact H6
    · iintro ⟨Hg, Ho, ⟨%d0, H0⟩, ⟨%d1, H1⟩, ⟨%d2, H2⟩, ⟨%d3, H3⟩, ⟨%d4, H4⟩, ⟨%d5, H5⟩, ⟨%d6, H6⟩⟩
      iapply ((runD c (grid0.coords t) _ _ _ _ _ _ _ _ _ _ _ _ _ _ (fun h => h0 ((hcond1 t).mp h)) ((hcond3 t).mpr h0) (fun h => h1 ((hcond4 t).mp h)) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%g5, H5⟩, H6⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _, _; isplitr; swap; · iexact H5
        ipureintro; rfl
      iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run ends, with the inputs as they were and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c w => by fin_cases w <;> rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The pipeline's post, read at the argument arrays. -/
theorem args_of_post (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_of_post m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InProj.Gen

end
-- ==== Proof.In.lean ====
/- The input projections: what the launch leaves is the reference's. -/
module

public import proofs.«01_k».proof.Proof.InWhole
public import proofs.«01_k».proof.Proof.Gen.InProjReferenceIdeal.Read
public import Idealize.ShloMosaic.Lib.Pointwise
public import proofs.«01_k».proof.Defs
public import proofs.«01_k».proof.Proof.Bits.InWhole
public import proofs.«01_k».proof.Proof.Gen.InProjReferenceIdeal.Run
public import Idealize.ShloMosaic.Lib.Claim

@[expose] public section

noncomputable section

namespace Cert.InProjIdeal.Value

open Cert.InProjIdeal Cert.InProjIdeal.Gen Idealize.ShloMosaic Idealize.ShloMosaic.TcCoe Idealize.SL.Sem
open Idealize.ShloMosaic.Pipeline (Dat)

/-- A row against a column of weights. -/
def dotN (xs ws : Fin 4096 → EReal) : EReal := ∑ k : Fin 4096, xs k * ws k

/-- A head turned by its tables: the coordinate, the one sixteen before it and the one sixteen after it. -/
def turnN (z : Fin 128 → EReal) (c s1 s2 : Fin 128 → EReal) (l : Fin 128) : EReal :=
  z l * c l + z ⟨(l.val + 112) % 128, Nat.mod_lt _ (by decide)⟩ * s1 l
    + z ⟨(l.val + 16) % 128, Nat.mod_lt _ (by decide)⟩ * s2 l

/-- The heads that are turned. -/
abbrev RotHead (h : Nat) : Prop := (32 ≤ h ∧ h < 52) ∨ (56 ≤ h ∧ h < 60) ∨ (64 ≤ h ∧ h < 68)

section Reference
open Cert.InProjReferenceIdeal.Read

variable (x : Vec Ideal S8192x4096 .bf16) (w : Vec Ideal S2x4096x9216 .bf16) (c s1 s2 : Vec Ideal S2048x128 .f32)

theorem v5_at (b : Fin 4) (t : Fin 2048) (h : Fin 72) (l : Fin 128) :
    val_main_v5 (F := Ideal) x w (ix4 b t h l) = dotN (fun k => x (ix2 ⟨b.val * 2048 + t.val, by omega⟩ k))
      (fun k => w (ix3 0 k ⟨h.val * 128 + l.val, by omega⟩)) := by
  have hb := b.isLt
  have ht := t.isLt
  have hh := h.isLt
  have hl := l.isLt
  rw [val_main_v5_apply, val_main_v4_apply]
  unfold dotN
  refine Finset.sum_congr rfl fun k _ => congrArg₂ (fun a b : EReal => a * b) ?_ ?_
  · pointwise [val_main_v0]
    refine congrArg x (funext fun a => Fin.ext ?_)
    match a with
    | ⟨0, _⟩ => dsimp [idx_main_v5]; omega
    | ⟨1, _⟩ => rfl
  · have hk := k.isLt
    rw [val_main_v3_apply]
    rw [val_main_v2_apply, val_main_v1_apply]
    refine congrArg w (funext fun a => Fin.ext ?_)
    match a with
    | ⟨0, _⟩ => dsimp [idx_main_v1, idx_main_v2, idx_main_v5] <;> omega
    | ⟨1, _⟩ => dsimp [idx_main_v1, idx_main_v2, idx_main_v5]; omega
    | ⟨2, _⟩ => dsimp [idx_main_v1, idx_main_v2, idx_main_v5]; omega

theorem v8_at (b : Fin 4) (t : Fin 2048) (h : Fin 72) (l : Fin 128) :
    val_main_v8 (F := Ideal) x w (ix4 b t h l) = val_main_v5 (F := Ideal) x w (ix4 b t h ⟨(l.val + 112) % 128, Nat.mod_lt _ (by decide)⟩) := by
  have hl := l.isLt
  generalize hy : val_main_v5 (F := Ideal) x w = y
  pointwise [val_main_v8, val_main_v7, val_main_v6, hy]
  split
  · exact congrArg (fun k => y (ix4 b t h k)) (Fin.ext (show 112 + l.val = (l.val + 112) % 128 by omega))
  · exact congrArg (fun k => y (ix4 b t h k)) (Fin.ext (show l.val - 16 = (l.val + 112) % 128 by omega))

theorem v11_at (b : Fin 4) (t : Fin 2048) (h : Fin 72) (l : Fin 128) :
    val_main_v11 (F := Ideal) x w (ix4 b t h l) = val_main_v5 (F := Ideal) x w (ix4 b t h ⟨(l.val + 16) % 128, Nat.mod_lt _ (by decide)⟩) := by
  have hl := l.isLt
  generalize hy : val_main_v5 (F := Ideal) x w = y
  pointwise [val_main_v11, val_main_v10, val_main_v9, hy]
  split
  · exact congrArg (fun k => y (ix4 b t h k)) (Fin.ext (show 16 + l.val = (l.val + 16) % 128 by omega))
  · exact congrArg (fun k => y (ix4 b t h k)) (Fin.ext (show l.val - 112 = (l.val + 16) % 128 by omega))

theorem v22_at (b : Fin 4) (t : Fin 2048) (h : Fin 72) (l : Fin 128) :
    val_main_v22 (F := Ideal) x w c s1 s2 (ix4 b t h l) = turnN (fun l => val_main_v5 (F := Ideal) x w (ix4 b t h l))
      (fun l => c (ix2 t l)) (fun l => s1 (ix2 t l)) (fun l => s2 (ix2 t l)) l := by
  have e13 : val_main_v13 (F := Ideal) c (ix4 b t h l) = c (ix2 t l) := by pointwise [val_main_v13, val_main_v12]
  have e16 : val_main_v16 (F := Ideal) s1 (ix4 b t h l) = s1 (ix2 t l) := by pointwise [val_main_v16, val_main_v15]
  have e20 : val_main_v20 (F := Ideal) s2 (ix4 b t h l) = s2 (ix2 t l) := by pointwise [val_main_v20, val_main_v19]
  rw [val_main_v22_apply, val_main_v18_apply, val_main_v14_apply, val_main_v17_apply, val_main_v21_apply, v8_at, v11_at, e13, e16, e20]
  rfl

theorem v30_at (b : Fin 4) (t : Fin 2048) (h : Fin 72) (l : Fin 128) :
    val_main_v30 (F := Ideal) x w c s1 s2 (ix4 b t h l) = if RotHead h.val then val_main_v22 (F := Ideal) x w c s1 s2 (ix4 b t h l)
      else val_main_v5 (F := Ideal) x w (ix4 b t h l) := by
  generalize hy : val_main_v5 (F := Ideal) x w = y
  generalize hz : val_main_v22 (F := Ideal) x w c s1 s2 = z
  pointwise [val_main_v30, val_main_v29, val_main_v28, val_main_v27, val_main_v26, val_main_v25, val_main_v24, val_main_v23, hy, hz]
  have hh := h.isLt
  split
  · exact (congrArg (fun k => y (ix4 b t k l)) (Fin.ext (by first | rfl | (dsimp only; omega)))).trans (if_neg (by unfold RotHead; omega)).symm
  split
  · exact (congrArg (fun k => z (ix4 b t k l)) (Fin.ext (by first | rfl | (dsimp only; omega)))).trans (if_pos (by unfold RotHead; omega)).symm
  split
  · exact (congrArg (fun k => y (ix4 b t k l)) (Fin.ext (by first | rfl | (dsimp only; omega)))).trans (if_neg (by unfold RotHead; omega)).symm
  split
  · exact (congrArg (fun k => z (ix4 b t k l)) (Fin.ext (by first | rfl | (dsimp only; omega)))).trans (if_pos (by unfold RotHead; omega)).symm
  split
  · exact (congrArg (fun k => y (ix4 b t k l)) (Fin.ext (by first | rfl | (dsimp only; omega)))).trans (if_neg (by unfold RotHead; omega)).symm
  split
  · exact (congrArg (fun k => z (ix4 b t k l)) (Fin.ext (by first | rfl | (dsimp only; omega)))).trans (if_pos (by unfold RotHead; omega)).symm
  · exact (congrArg (fun k => y (ix4 b t k l)) (Fin.ext (by first | rfl | (dsimp only; omega)))).trans (if_neg (by unfold RotHead; omega)).symm

/-- The projected row at a column: of a turned head, turned by the tables of its position. -/
theorem ref_apply (r : Fin 8192) (n : Fin 9216) :
    val_main_v31 (F := Ideal) x w c s1 s2 (ix2 r n) = if RotHead (n.val / 128) then
        turnN (fun l => dotN (fun k => x (ix2 r k)) (fun k => w (ix3 0 k ⟨n.val / 128 * 128 + l.val, by omega⟩)))
          (fun l => c (ix2 ⟨r.val % 2048, Nat.mod_lt _ (by decide)⟩ l)) (fun l => s1 (ix2 ⟨r.val % 2048, Nat.mod_lt _ (by decide)⟩ l))
          (fun l => s2 (ix2 ⟨r.val % 2048, Nat.mod_lt _ (by decide)⟩ l)) ⟨n.val % 128, Nat.mod_lt _ (by decide)⟩
      else dotN (fun k => x (ix2 r k)) (fun k => w (ix3 0 k n)) := by
  have hr := r.isLt
  have hn := n.isLt
  have ei : idx_main_v31 (ix2 r n) = ix4 (⟨r.val / 2048, by omega⟩ : Fin 4) (⟨r.val % 2048, Nat.mod_lt _ (by decide)⟩ : Fin 2048)
      (⟨n.val / 128, by omega⟩ : Fin 72) (⟨n.val % 128, Nat.mod_lt _ (by decide)⟩ : Fin 128) := by
    refine funext fun a => Fin.ext ?_
    match a with
    | ⟨0, _⟩ => dsimp [idx_main_v31]; omega
    | ⟨1, _⟩ => dsimp [idx_main_v31]; omega
    | ⟨2, _⟩ => dsimp [idx_main_v31]; omega
    | ⟨3, _⟩ => dsimp [idx_main_v31]; omega
  have er : (⟨r.val / 2048 * 2048 + r.val % 2048, by omega⟩ : Fin 8192) = r := Fin.ext (by dsimp only; omega)
  have en : (⟨n.val / 128 * 128 + n.val % 128, by omega⟩ : Fin 9216) = n := Fin.ext (by dsimp only; omega)
  rw [val_main_v31_apply, ei, v30_at, v22_at]
  simp only [v5_at, er, en]

end Reference

/-- A tile of the product. -/
theorem pay1_apply (x : Vec Ideal S1024x4096 .bf16) (w : Vec Ideal S1x4096x512 .bf16) (r : Fin 1024) (n : Fin 512) :
    k0_pay1 (F := Ideal) x w (ix2 r n) = dotN (fun k => x (ix2 r k)) (fun k => w (ix3 0 k n)) := by
  unfold dotN
  pointwise [k0_pay1]

/-- A tile with its heads turned. -/
def turnBlk (z : Vec Ideal S1024x512 .f32) (c s1 s2 : Vec Ideal S1024x128 .f32) : Vec Ideal S1024x512 .f32 := fun y =>
  turnN (fun l => z (ix2 (y 0) ⟨(y 1).val / 128 * 128 + l.val, by have h1 : (y 1).val < 512 := (y 1).isLt; have := l.isLt; omega⟩))
    (fun l => c (ix2 (y 0) l)) (fun l => s1 (ix2 (y 0) l)) (fun l => s2 (ix2 (y 0) l)) ⟨(y 1).val % 128, Nat.mod_lt _ (by decide)⟩

section Heads
variable (z : Vec Ideal S1024x512 .f32) (c s1 s2 : Vec Ideal S1024x128 .f32) (r : Fin 1024) (l : Fin 128)

theorem turn_at (o : ℕ) (ho : o + 128 ≤ 512) (a b d : Fin 512) (ha : a.val = o + l.val) (hb : b.val = o + (l.val + 112) % 128)
    (hd : d.val = o + (l.val + 16) % 128) :
    z (ix2 r a) * c (ix2 r l) + z (ix2 r b) * s1 (ix2 r l) + z (ix2 r d) * s2 (ix2 r l)
      = turnN (fun l => z (ix2 r ⟨o + l.val, by omega⟩)) (fun l => c (ix2 r l)) (fun l => s1 (ix2 r l)) (fun l => s2 (ix2 r l)) l := by
  unfold turnN
  exact congrArg₂ (fun p q : EReal => p + q) (congrArg₂ (fun p q : EReal => p + q) (congrArg (fun k => z (ix2 r k) * c (ix2 r l)) (Fin.ext ha))
    (congrArg (fun k => z (ix2 r k) * s1 (ix2 r l)) (Fin.ext hb))) (congrArg (fun k => z (ix2 r k) * s2 (ix2 r l)) (Fin.ext hd))

theorem head0_apply : k0_pay11 (F := Ideal) z c s1 s2 (ix2 r l)
    = turnN (fun l => z (ix2 r ⟨0 + l.val, by omega⟩)) (fun l => c (ix2 r l)) (fun l => s1 (ix2 r l)) (fun l => s2 (ix2 r l)) l := by
  have hl := l.isLt
  refine Eq.trans ?_ (turn_at z c s1 s2 r l 0 (by decide) ⟨l.val, by omega⟩ ⟨(l.val + 128 - 16) % 128, by omega⟩ ⟨(l.val + 128 - 112) % 128, by omega⟩
    (by dsimp only; omega) (by dsimp only; omega) (by dsimp only; omega))
  pointwise [k0_pay11]

theorem head1_apply : k0_pay12 (F := Ideal) z c s1 s2 (ix2 r l)
    = turnN (fun l => z (ix2 r ⟨128 + l.val, by omega⟩)) (fun l => c (ix2 r l)) (fun l => s1 (ix2 r l)) (fun l => s2 (ix2 r l)) l := by
  have hl := l.isLt
  pointwise [k0_pay12]
  exact turn_at z c s1 s2 r l 128 (by decide) _ _ _ (by first | omega | rfl | (dsimp only; done) | (dsimp only; omega)) (by first | omega | rfl | (dsimp only; done) | (dsimp only; omega)) (by first | omega | rfl | (dsimp only; done) | (dsimp only; omega))

theorem head2_apply : k0_pay13 (F := Ideal) z c s1 s2 (ix2 r l)
    = turnN (fun l => z (ix2 r ⟨256 + l.val, by omega⟩)) (fun l => c (ix2 r l)) (fun l => s1 (ix2 r l)) (fun l => s2 (ix2 r l)) l := by
  have hl := l.isLt
  pointwise [k0_pay13]
  exact turn_at z c s1 s2 r l 256 (by decide) _ _ _ (by first | omega | rfl | (dsimp only; done) | (dsimp only; omega)) (by first | omega | rfl | (dsimp only; done) | (dsimp only; omega)) (by first | omega | rfl | (dsimp only; done) | (dsimp only; omega))

theorem head3_apply : k0_pay2 (F := Ideal) (k0_pay15 z c s1) (k0_pay16 z s2) (ix2 r l)
    = turnN (fun l => z (ix2 r ⟨384 + l.val, by omega⟩)) (fun l => c (ix2 r l)) (fun l => s1 (ix2 r l)) (fun l => s2 (ix2 r l)) l := by
  have hl := l.isLt
  pointwise [k0_pay2, k0_pay15, k0_pay16, k0_pay14]
  exact turn_at z c s1 s2 r l 384 (by decide) _ _ _ (by first | omega | rfl | (dsimp only; done) | (dsimp only; omega)) (by first | omega | rfl | (dsimp only; done) | (dsimp only; omega)) (by first | omega | rfl | (dsimp only; done) | (dsimp only; omega))

end Heads

/-- A stored head is its part of the turned tile. -/
theorem head_piece (z : Vec Ideal S1024x512 .f32) (c s1 s2 : Vec Ideal S1024x128 .f32) (p : Vec Ideal S1024x128 .f32) (o : ℕ) (ho : o + 128 ≤ 512) (hm : o % 128 = 0)
    (hp : ∀ (r : Fin 1024) (l : Fin 128), p (ix2 r l)
      = turnN (fun l => z (ix2 r ⟨o + l.val, by omega⟩)) (fun l => c (ix2 r l)) (fun l => s1 (ix2 r l)) (fun l => s2 (ix2 r l)) l)
    (q : ∀ a : Fin S1024x512.rank, (![0, o] : Fin 2 → Nat) a + S1024x128.size a ≤ S1024x512.size a) (y : S1024x128.Idx) :
    p y = turnBlk z c s1 s2 ((Rect.unit (s := S1024x512) ![0, o] S1024x128.size q).emb y) := by
  have h0 : (y 0).val < 1024 := (y 0).isLt
  have h1 : (y 1).val < 128 := (y 1).isLt
  have hy : y = ix2 (y 0) (y 1) := by ext a; match a with | ⟨0, _⟩ => rfl | ⟨1, _⟩ => rfl
  have he : (Rect.unit (s := S1024x512) ![0, o] S1024x128.size q).emb y = ix2 (⟨(y 0).val, h0⟩ : Fin 1024) (⟨o + (y 1).val, by omega⟩ : Fin 512) := by
    refine funext fun a => Fin.ext ?_
    match a with
    | ⟨0, _⟩ => show 0 + 1 * (y 0).val = (y 0).val; omega
    | ⟨1, _⟩ => show o + 1 * (y 1).val = o + (y 1).val; omega
  rw [he]
  refine (congrArg p hy).trans ((hp (y 0) (y 1)).trans ?_)
  have e : ∀ l : Fin 128, (⟨o + l.val, by omega⟩ : Fin 512) = ⟨(o + (y 1).val) / 128 * 128 + l.val, by omega⟩ := fun l => Fin.ext (by dsimp only; omega)
  have e' : (⟨(o + (y 1).val) % 128, Nat.mod_lt _ (by decide)⟩ : Fin 128) = y 1 := Fin.ext (by dsimp only; omega)
  show turnN (fun l => z (ix2 (y 0) ⟨o + l.val, _⟩)) _ _ _ (y 1) = turnN (fun l => z (ix2 (y 0) ⟨(o + (y 1).val) / 128 * 128 + l.val, _⟩)) _ _ _ ⟨(o + (y 1).val) % 128, _⟩
  rw [e', show (fun l : Fin 128 => z (ix2 (y 0) ⟨o + l.val, by omega⟩)) = fun l => z (ix2 (y 0) ⟨(o + (y 1).val) / 128 * 128 + l.val, by omega⟩) from funext fun l => congrArg (fun k => z (ix2 (y 0) k)) (e l)]
  rfl

theorem outBlk_rot (j : ℕ) (hj : Rot j) (x0 : Vec Ideal S1024x4096 .bf16) (x1 : Vec Ideal S1x4096x512 .bf16) (x2 x3 x4 : Vec Ideal S1024x128 .f32) :
    outBlk (F := Ideal) j x0 x1 x2 x3 x4 = turnBlk (k0_pay1 x0 x1) x2 x3 x4 := by
  unfold outBlk
  rw [if_pos hj]
  refine funext fun y => View.canon_apply_of_pieces (turnBlk (k0_pay1 x0 x1) x2 x3 x4) _ ?_ y (rotPieces_cover x0 x1 x2 x3 x4 y)
  unfold rotPieces
  intro p hp
  rcases List.mem_cons.mp hp with rfl | hp
  · exact fun x => head_piece _ _ _ _ _ 384 (by decide) (by decide) (fun r l => head3_apply _ _ _ _ r l) inb_S1024x512_S1024x128_0_384 x
  rcases List.mem_cons.mp hp with rfl | hp
  · exact fun x => head_piece _ _ _ _ _ 256 (by decide) (by decide) (fun r l => head2_apply _ _ _ _ r l) inb_S1024x512_S1024x128_0_256 x
  rcases List.mem_cons.mp hp with rfl | hp
  · exact fun x => head_piece _ _ _ _ _ 128 (by decide) (by decide) (fun r l => head1_apply _ _ _ _ r l) inb_S1024x512_S1024x128_0_128 x
  rcases List.mem_cons.mp hp with rfl | hp
  · exact fun x => head_piece _ _ _ _ _ 0 (by decide) (by decide) (fun r l => head0_apply _ _ _ _ r l) inb_S1024x512_S1024x128_0_0 x
  nomatch hp

theorem hz2 : (![0, 0] : Fin 2 → Nat) = fun _ => 0 := funext fun a => by fin_cases a <;> rfl

theorem outBlk_plain (j : ℕ) (hj : ¬Rot j) (x0 : Vec Ideal S1024x4096 .bf16) (x1 : Vec Ideal S1x4096x512 .bf16) (x2 x3 x4 : Vec Ideal S1024x128 .f32) :
    outBlk (F := Ideal) j x0 x1 x2 x3 x4 = k0_pay1 x0 x1 := by
  unfold outBlk plainPieces
  rw [if_neg hj, View.canon_unit_zero hz2]

variable (m : (ℓ : Loc nD τ sig) → Buf (Elt Ideal) ℓ) (ρ : Dev nD → PrngReg)

/-- The reference's projected rows, from the arguments as launched. -/
abbrev G5 (c : Dev nD) : Buf (Elt Ideal) ((c : Thread nD τ).loc main_v0_0) :=
  Cert.InProjReferenceIdeal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where the blocks of a point lie. -/
theorem idx_facts : ∀ t : Fin cfg0.N, (win0_0.index t 0 = t.val / 18 ∧ win0_0.index t 1 = 0)
    ∧ (win0_1.index t 0 = 0 ∧ win0_1.index t 1 = 0 ∧ win0_1.index t 2 = t.val % 18)
    ∧ (win0_2.index t 0 = t.val / 18 % 2 ∧ win0_2.index t 1 = 0)
    ∧ (win0_3.index t 0 = t.val / 18 % 2 ∧ win0_3.index t 1 = 0)
    ∧ (win0_4.index t 0 = t.val / 18 % 2 ∧ win0_4.index t 1 = 0)
    ∧ (win0_5.index t 0 = t.val / 18 ∧ win0_5.index t 1 = t.val % 18) :=
  (by decide +kernel : ∀ t : Fin grid0.N, (win0_0.index t 0 = t.val / 18 ∧ win0_0.index t 1 = 0)
    ∧ (win0_1.index t 0 = 0 ∧ win0_1.index t 1 = 0 ∧ win0_1.index t 2 = t.val % 18)
    ∧ (win0_2.index t 0 = t.val / 18 % 2 ∧ win0_2.index t 1 = 0)
    ∧ (win0_3.index t 0 = t.val / 18 % 2 ∧ win0_3.index t 1 = 0)
    ∧ (win0_4.index t 0 = t.val / 18 % 2 ∧ win0_4.index t 1 = 0)
    ∧ (win0_5.index t 0 = t.val / 18 ∧ win0_5.index t 1 = t.val % 18))

theorem lt_N (t : Fin cfg0.N) : t.val < 144 := Nat.lt_of_lt_of_eq t.isLt N_0

/-- The rows. -/
theorem blk0 (c : Dev nD) (t : Fin cfg0.N) (r : Fin 1024) (k : Fin 4096) :
    (iblk m c 0 t : Vec Ideal S1024x4096 .bf16) (ix2 r k)
      = (m ((c : Thread nD τ).loc main_arg0) : Vec Ideal S8192x4096 .bf16) (ix2 ⟨t.val / 18 * 1024 + r.val, by have := lt_N t; have := r.isLt; omega⟩ k) := by
  have e := (idx_facts t).1
  refine (congrFun (V_main_arg0 m c) _).trans (congrArg (m ((c : Thread nD τ).loc main_arg0)) (funext fun a => Fin.ext ?_))
  match a with
  | ⟨0, _⟩ => show win0_0.index t 0 * 1024 + 1 * r.val = t.val / 18 * 1024 + r.val; rw [e.1]; omega
  | ⟨1, _⟩ => show win0_0.index t 1 * 4096 + 1 * k.val = k.val; rw [e.2]; omega

/-- The weights of the projections: the first layer's. -/
theorem blk1 (c : Dev nD) (t : Fin cfg0.N) (k : Fin 4096) (n : Fin 512) :
    (iblk m c 1 t : Vec Ideal S1x4096x512 .bf16) (ix3 0 k n)
      = (m ((c : Thread nD τ).loc main_arg1) : Vec Ideal S2x4096x9216 .bf16) (ix3 0 k ⟨t.val % 18 * 512 + n.val, by have := n.isLt; omega⟩) := by
  have e := (idx_facts t).2.1
  refine (congrFun (V_main_arg1 m c) _).trans (congrArg (m ((c : Thread nD τ).loc main_arg1)) (funext fun a => Fin.ext ?_))
  match a with
  | ⟨0, _⟩ => show win0_1.index t 0 * 1 + 1 * 0 = 0; rw [e.1]
  | ⟨1, _⟩ => show win0_1.index t 1 * 4096 + 1 * k.val = k.val; rw [e.2.1]; omega
  | ⟨2, _⟩ => show win0_1.index t 2 * 512 + 1 * n.val = t.val % 18 * 512 + n.val; rw [e.2.2]; omega

/-- A table of the rotation, at the positions of the rows. -/
theorem blk2 (c : Dev nD) (t : Fin cfg0.N) (r : Fin 1024) (l : Fin 128) :
    (iblk m c 2 t : Vec Ideal S1024x128 .f32) (ix2 r l)
      = (m ((c : Thread nD τ).loc main_arg2) : Vec Ideal S2048x128 .f32) (ix2 ⟨(t.val / 18 * 1024 + r.val) % 2048, Nat.mod_lt _ (by decide)⟩ l) := by
  have e := (idx_facts t).2.2.1
  have hr := r.isLt
  refine (congrFun (V_main_arg2 m c) _).trans (congrArg (m ((c : Thread nD τ).loc main_arg2)) (funext fun a => Fin.ext ?_))
  match a with
  | ⟨0, _⟩ => show win0_2.index t 0 * 1024 + 1 * r.val = (t.val / 18 * 1024 + r.val) % 2048; rw [e.1]; omega
  | ⟨1, _⟩ => show win0_2.index t 1 * 128 + 1 * l.val = l.val; rw [e.2]; omega

/-- A table of the rotation, at the positions of the rows. -/
theorem blk3 (c : Dev nD) (t : Fin cfg0.N) (r : Fin 1024) (l : Fin 128) :
    (iblk m c 3 t : Vec Ideal S1024x128 .f32) (ix2 r l)
      = (m ((c : Thread nD τ).loc main_arg3) : Vec Ideal S2048x128 .f32) (ix2 ⟨(t.val / 18 * 1024 + r.val) % 2048, Nat.mod_lt _ (by decide)⟩ l) := by
  have e := (idx_facts t).2.2.2.1
  have hr := r.isLt
  refine (congrFun (V_main_arg3 m c) _).trans (congrArg (m ((c : Thread nD τ).loc main_arg3)) (funext fun a => Fin.ext ?_))
  match a with
  | ⟨0, _⟩ => show win0_3.index t 0 * 1024 + 1 * r.val = (t.val / 18 * 1024 + r.val) % 2048; rw [e.1]; omega
  | ⟨1, _⟩ => show win0_3.index t 1 * 128 + 1 * l.val = l.val; rw [e.2]; omega

/-- A table of the rotation, at the positions of the rows. -/
theorem blk4 (c : Dev nD) (t : Fin cfg0.N) (r : Fin 1024) (l : Fin 128) :
    (iblk m c 4 t : Vec Ideal S1024x128 .f32) (ix2 r l)
      = (m ((c : Thread nD τ).loc main_arg4) : Vec Ideal S2048x128 .f32) (ix2 ⟨(t.val / 18 * 1024 + r.val) % 2048, Nat.mod_lt _ (by decide)⟩ l) := by
  have e := (idx_facts t).2.2.2.2.1
  have hr := r.isLt
  refine (congrFun (V_main_arg4 m c) _).trans (congrArg (m ((c : Thread nD τ).loc main_arg4)) (funext fun a => Fin.ext ?_))
  match a with
  | ⟨0, _⟩ => show win0_4.index t 0 * 1024 + 1 * r.val = (t.val / 18 * 1024 + r.val) % 2048; rw [e.1]; omega
  | ⟨1, _⟩ => show win0_4.index t 1 * 128 + 1 * l.val = l.val; rw [e.2]; omega

theorem turn_congr {z z' c c' s1 s1' s2 s2' : Fin 128 → EReal} {l l' : Fin 128} (hz : z = z') (hc : c = c') (h1 : s1 = s1') (h2 : s2 = s2') (hl : l = l') :
    turnN z c s1 s2 l = turnN z' c' s1' s2' l' := by
  subst hz hc h1 h2 hl; rfl

/-- The tile of a point, at a row and a column of it, is the reference's. -/
theorem outAt_apply (c : Dev nD) (t : Fin cfg0.N) (r : Fin 1024) (n : Fin 512) :
    outAt m c t (ix2 r n) = G5 m c (ix2 ⟨t.val / 18 * 1024 + r.val, by have := lt_N t; have := r.isLt; omega⟩ ⟨t.val % 18 * 512 + n.val, by have := n.isLt; omega⟩) := by
  have ht := lt_N t
  have hr := r.isLt
  have hn := n.isLt
  unfold G5
  rw [ref_apply]
  unfold outAt
  by_cases h : Rot (t.val % 18)
  · rw [outBlk_rot _ h, if_pos (by dsimp only; unfold RotHead; omega)]
    have e : ∀ l : Fin 128, (⟨t.val % 18 * 512 + (n.val / 128 * 128 + l.val), by omega⟩ : Fin 9216) = ⟨(t.val % 18 * 512 + n.val) / 128 * 128 + l.val, by omega⟩ := fun l => Fin.ext (by dsimp only; omega)
    have e' : (⟨n.val % 128, Nat.mod_lt _ (by decide)⟩ : Fin 128) = ⟨(t.val % 18 * 512 + n.val) % 128, Nat.mod_lt _ (by decide)⟩ := Fin.ext (by dsimp only; omega)
    exact turn_congr (funext fun l => (pay1_apply _ _ r _).trans ((congrArg₂ dotN (funext fun k => blk0 m c t r k) (funext fun k => blk1 m c t k _)).trans
        (congrArg (fun q => dotN _ (fun k => (m ((c : Thread nD τ).loc main_arg1) : Vec Ideal S2x4096x9216 .bf16) (ix3 0 k q))) (e l))))
      (funext fun l => blk2 m c t r l) (funext fun l => blk3 m c t r l) (funext fun l => blk4 m c t r l) e'
  · rw [outBlk_plain _ h, if_neg (by dsimp only; unfold RotHead; omega), pay1_apply]
    exact congrArg₂ dotN (funext fun k => blk0 m c t r k) (funext fun k => blk1 m c t k n)

/-- What a point writes back is its block of the reference's array. -/
theorem flushed5_eq (c : Dev nD) (t : Fin cfg0.N) :
    (dats m 0 c).flushed 5 t = ((cfg0.win 5).blk t).view.read (Elt Ideal) (G5 m c) := by
  show (dats m 0 c).after 5 t = _
  rw [after0_5]
  refine funext fun (j : S1024x512.Idx) => ?_
  have hj : j = ix2 (j 0) (j 1) := by ext a; match a with | ⟨0, _⟩ => rfl | ⟨1, _⟩ => rfl
  have ht := lt_N t
  have e := (idx_facts t).2.2.2.2.2
  have h0 : (j 0).val < 1024 := (j 0).isLt
  have h1 : (j 1).val < 512 := (j 1).isLt
  have hr : ((cfg0.win 5).blk t).view.read (Elt Ideal) (G5 m c) j
      = G5 m c (ix2 ⟨t.val / 18 * 1024 + (j 0).val, by omega⟩ ⟨t.val % 18 * 512 + (j 1).val, by omega⟩) := by
    refine congrArg (G5 m c) (funext fun a => Fin.ext ?_)
    match a with
    | ⟨0, _⟩ => show win0_5.index t 0 * 1024 + 1 * (j 0).val = t.val / 18 * 1024 + (j 0).val; rw [e.1]; omega
    | ⟨1, _⟩ => show win0_5.index t 1 * 512 + 1 * (j 1).val = t.val % 18 * 512 + (j 1).val; rw [e.2]; omega
  rw [hr]
  exact (congrArg (outAt m c t) hj).trans (outAt_apply m c t (j 0) (j 1))

/-- An index of the result is in the block of a point. -/
theorem mem_blk5 (t : Fin cfg0.N) (i : S8192x9216.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v0_0).slice (win0_5.rect t)).set ↔ _
  rw [View.set_slice_whole, Rect.mem_set_unit]
  exact Iff.rfl

theorem cover5 (i : S8192x9216.Idx) :
    ∃ t : Fin cfg0.N, (cfg0.win 5).flush t = true ∧ i ∈ ((cfg0.win 5).blk t).view.set := by
  have h0 : (i 0).val < 8192 := (i 0).isLt
  have h1 : (i 1).val < 9216 := (i 1).isLt
  have hN : cfg0.N = 144 := N_0
  refine ⟨⟨(i 0).val / 1024 * 18 + (i 1).val / 512, by omega⟩, flush0_5 _, ?_⟩
  have e := (idx_facts ⟨(i 0).val / 1024 * 18 + (i 1).val / 512, by omega⟩).2.2.2.2.2
  rw [mem_blk5]
  intro a
  match a with
  | ⟨0, _⟩ =>
    show win0_5.index _ 0 * 1024 ≤ (i 0).val ∧ (i 0).val < win0_5.index _ 0 * 1024 + 1024
    rw [e.1]; dsimp only; omega
  | ⟨1, _⟩ =>
    show win0_5.index _ 1 * 512 ≤ (i 1).val ∧ (i 1).val < win0_5.index _ 1 * 512 + 512
    rw [e.2]; dsimp only; omega

/-- The result array ends holding the reference's. -/
theorem final5 (c : Dev nD) : (dats m 0 c).arrAt 5 cfg0.N = G5 m c :=
  (dats m 0 c).arrAt_eq_of_cover 5 (G5 m c) (fun t _ => flushed5_eq m c t) cover5

/-- Every run leaves the reference's projected rows, and the arguments as they were. -/
theorem run_rows : θ_run defs (onTc (τ := τ) (main (F := Ideal))) ⟨m, fun _ => 0, ρ⟩ (fun r => ∀ c : Dev nD,
      r.2.mem ((c.tc : Thread nD τ).loc main_v0_0) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hz : θ_run defs (onTc (τ := τ) (main (F := Ideal))) ⟨m, fun _ => 0, ρ⟩ (fun r => ∀ c : Dev nD, r.2.mem ((c.tc : Thread nD τ).loc main_v0_0) = G5 m c) :=
    (θ_run defs _ _).mono (fun r h c => ((Dat.toRForget_arrAt_iff (dats m 0 c) rfl _ _).mp ((h c).1 5)).trans (final5 m c)) (run_main m ρ)
  exact (θ_run defs _ _).mono (fun r h c => ⟨h.1 c, h.2 c⟩) (θ_run_and hz (unchanged m ρ))

end Cert.InProjIdeal.Value

namespace Cert.Proof

open Idealize.ShloMosaic Idealize.SL.Sem

/-- The launch on machine words: it ends, its arguments unchanged, every counter at zero. -/
theorem frame_in : Cert.quiescent_InProj (hInProj := Cert.InProj.Gen.facts) := fun m ρ _ => Cert.InProj.Gen.frame (F := Bits) m ρ
theorem frame_inIdeal : Cert.quiescent_InProjIdeal (hInProjIdeal := Cert.InProjIdeal.Gen.facts) := fun m ρ _ => Cert.InProjIdeal.Gen.frame (F := Ideal) m ρ
theorem frame_inReference : Cert.quiescent_InProjReferenceIdeal (hInProjReferenceIdeal := Cert.InProjReferenceIdeal.Gen.facts) := fun m ρ _ =>
  (θ_run Cert.InProjReferenceIdeal.defs _ _).mono (fun r h => ⟨fun c => (h c).2,
      Idealize.ShloMosaic.sem_eq_zero_of_no_sems (by decide) r.2⟩)
    (Cert.InProjReferenceIdeal.Value.run (F := Ideal) m ρ)

/-- The launch and the reference leave the same rows. -/
theorem algebraic_in : Cert.algebraic_InProjIdeal_InProjReferenceIdeal (hInProjIdeal := Cert.InProjIdeal.Gen.facts)
    (hInProjReferenceIdeal := Cert.InProjReferenceIdeal.Gen.facts) := by
  intro m ρ m' ρ' _ hag
  refine ⟨fun c => Cert.InProjIdeal.Value.G5 m c, Cert.InProjIdeal.Value.run_rows m ρ, ?_⟩
  refine (θ_run Cert.InProjReferenceIdeal.defs _ _).mono
      (fun r h c => ⟨(h c).1.trans ((Cert.InProjReferenceIdeal.Read.val_main_v31_eq _ _).trans ?_), (h c).2⟩)
      (Cert.InProjReferenceIdeal.Value.run (F := Ideal) m' ρ')
  rw [(hag c).1, (hag c).2.1, (hag c).2.2.1, (hag c).2.2.2.1, (hag c).2.2.2.2]

end Cert.Proof

end
-- ==== Proof.lean ====
/- The claims of this certificate, from the modules under Proof/: the kernel's two runs (Proof/Bits/Whole.lean for the machine
   words, Proof/Whole.lean for the ideal program), the reference's generated run, and the two named constants. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpReferenceIdeal
public import proofs.«01_k».proof.Proof.Gen.FfnUpReferenceIdeal.Run
public import proofs.«01_k».proof.Proof.Gen.FfnUpReferenceIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.ReferenceIdeal.Read
public import proofs.«01_k».proof.Proof.Whole
public import proofs.«01_k».proof.Proof.Bits.Whole
public import proofs.«01_k».proof.Proof.Up
public import proofs.«01_k».proof.Proof.Down
public import proofs.«01_k».proof.Proof.Out
public import proofs.«01_k».proof.Proof.Norm
public import proofs.«01_k».proof.Proof.Attn
public import proofs.«01_k».proof.Proof.RowsKv
public import proofs.«01_k».proof.Proof.RowsWin
public import proofs.«01_k».proof.Proof.Gates
public import proofs.«01_k».proof.Proof.In
public import proofs.«01_k».proof.Proof.InWhole
public import proofs.«01_k».proof.Proof.Bits.InWhole
public import proofs.«01_k».proof.Proof.Gen.InProj.Frame
public import proofs.«01_k».proof.Proof.Gen.InProjIdeal.Frame
public import proofs.«01_k».proof.Proof.Gen.InProjReferenceIdeal.Run
public import proofs.«01_k».proof.Proof.Gen.InProjReferenceIdeal.Read
public import proofs.«01_k».proof.Proof.Gen.NormGates.Frame
public import proofs.«01_k».proof.Proof.Gen.WinRows.Frame
public import proofs.«01_k».proof.Proof.Gen.KvRows.Frame
public import proofs.«01_k».proof.Proof.Gen.WinRowsIdeal.Value
public import proofs.«01_k».proof.Proof.Gen.KvRowsIdeal.Value
public import proofs.«01_k».proof.Proof.Gen.NormGatesIdeal.Value
public import proofs.«01_k».proof.Proof.Gen.NormGatesReferenceIdeal.Run
public import proofs.«01_k».proof.Proof.Gen.WinRowsReferenceIdeal.Run
public import proofs.«01_k».proof.Proof.Gen.KvRowsReferenceIdeal.Run
public import proofs.«01_k».proof.Proof.Gen.NormGatesReferenceIdeal.Read
public import proofs.«01_k».proof.Proof.Gen.WinRowsReferenceIdeal.Read
public import proofs.«01_k».proof.Proof.Gen.KvRowsReferenceIdeal.Read
public import Idealize.ShloMosaic.Adequacy
public import Idealize.ShloMosaic.Init

@[expose] public section

noncomputable section

namespace Cert.Proof

open Idealize.ShloMosaic Idealize.SL.Sem

/-- The kernel on machine words: it ends, its arguments unchanged, every counter at zero. -/
theorem frame_kernel : Cert.quiescent_Kernel (hKernel := Cert.Kernel.Gen.facts) := fun m ρ _ =>
  Cert.Kernel.Gen.frame (F := Bits) m ρ

/-- The ideal kernel, likewise. -/
theorem frame_kernelIdeal : Cert.quiescent_KernelIdeal (hKernelIdeal := Cert.KernelIdeal.Gen.facts) := fun m ρ _ =>
  Cert.KernelIdeal.Gen.frame (F := Ideal) m ρ

/-- The reference: a straight line of host operations that declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same two runs, where the precondition holds. -/
theorem frame_kernelIdeal_pre : Cert.quiescent_KernelIdeal_pre_finite (hKernelIdeal := Cert.KernelIdeal.Gen.facts)
    (hPre_finite := Cert.Attn.pre_facts) := fun m ρ _ => Cert.KernelIdeal.Gen.frame (F := Ideal) m ρ
theorem frame_reference_pre : Cert.quiescent_ReferenceIdeal_pre_finite (hReferenceIdeal := Cert.ReferenceIdeal.Gen.facts)
    (hPre_finite := Cert.Attn.pre_facts) := fun m ρ _ => frame_reference m ρ trivial

/-- The two named constants are the ones the idealized program reads. -/
theorem preserves : Cert.preserves_Kernel_KernelIdeal :=
  ⟨IdealRules.named_const.statement Cert.KernelIdeal.κ "qscale" .f32 0x3E0293EE#32 (((Real.sqrt 128)⁻¹ * (Real.log 2)⁻¹ : ℝ) : EReal) rfl,
    IdealRules.named_const.statement Cert.KernelIdeal.κ "neg" .f32 0xF149F2CA#32 ⊥ rfl⟩

/-- These programs replace no operation. -/
theorem preserves_up : Cert.preserves_FfnUp_FfnUpIdeal := trivial
theorem preserves_down : Cert.preserves_FfnDown_FfnDownIdeal := trivial
theorem preserves_out : Cert.preserves_OutProj_OutProjIdeal := trivial
theorem preserves_norm : Cert.preserves_Norm_NormIdeal := trivial
theorem preserves_kv : Cert.preserves_KvRows_KvRowsIdeal := trivial
theorem preserves_win : Cert.preserves_WinRows_WinRowsIdeal := trivial
theorem preserves_gates : Cert.preserves_NormGates_NormGatesIdeal := trivial
theorem preserves_in : Cert.preserves_InProj_InProjIdeal := trivial

theorem claim : Cert.Claim :=
  ⟨Cert.Kernel.Gen.facts, Cert.KernelIdeal.Gen.facts, Cert.ReferenceIdeal.Gen.facts,
    Cert.FfnUp.Gen.facts, Cert.FfnUpIdeal.Gen.facts, Cert.FfnUpReferenceIdeal.Gen.facts,
    Cert.FfnDown.Gen.facts, Cert.FfnDownIdeal.Gen.facts, Cert.FfnDownReferenceIdeal.Gen.facts,
    Cert.OutProj.Gen.facts, Cert.OutProjIdeal.Gen.facts, Cert.OutProjReferenceIdeal.Gen.facts,
    Cert.Norm.Gen.facts, Cert.NormIdeal.Gen.facts, Cert.NormReferenceIdeal.Gen.facts,
    Cert.KvRows.Gen.facts, Cert.KvRowsIdeal.Gen.facts, Cert.KvRowsReferenceIdeal.Gen.facts,
    Cert.WinRows.Gen.facts, Cert.WinRowsIdeal.Gen.facts, Cert.WinRowsReferenceIdeal.Gen.facts,
    Cert.NormGates.Gen.facts, Cert.NormGatesIdeal.Gen.facts, Cert.NormGatesReferenceIdeal.Gen.facts,
    Cert.InProj.Gen.facts, Cert.InProjIdeal.Gen.facts, Cert.InProjReferenceIdeal.Gen.facts,
    Cert.Attn.pre_facts,
    frame_kernel, frame_kernelIdeal, frame_kernelIdeal_pre, frame_reference, frame_reference_pre,
    frame_up, frame_upIdeal, frame_upReference,
    frame_down, frame_downIdeal, frame_downReference,
    frame_out, frame_outIdeal, frame_outReference,
    frame_norm, frame_normIdeal, frame_normReference,
    frame_kv, frame_kvIdeal, frame_kvReference,
    frame_win, frame_winIdeal, frame_winReference,
    frame_gates, frame_gatesIdeal, frame_gatesReference,
    frame_in, frame_inIdeal, frame_inReference,
    preserves, algebraic_attn,
    preserves_up, algebraic_up,
    preserves_down, algebraic_down,
    preserves_out, algebraic_out,
    preserves_norm, algebraic_norm,
    preserves_kv, algebraic_kv, preserves_win, algebraic_win,
    preserves_gates, algebraic_gates,
    preserves_in, algebraic_in⟩

end Cert.Proof

end
